-- ==== Defs.lean ====
def Pre_Blk (m : (ℓ : Loc Cert.Blk.nD Cert.Blk.τ Cert.Blk.sig) → Buf (Elt Bits) ℓ) : Prop :=
  True

def Pre_BlkIdeal (m : (ℓ : Loc Cert.BlkIdeal.nD Cert.BlkIdeal.τ Cert.BlkIdeal.sig) → Buf (Elt Ideal) ℓ) : Prop :=
  True

def Pre_BlkIdeal_blk_finite [hPre_blk_finite : Cert.Pre_blk_finite.Facts] (m : (ℓ : Loc Cert.BlkIdeal.nD Cert.BlkIdeal.τ Cert.BlkIdeal.sig) → Buf (Elt Ideal) ℓ) : Prop :=
  ∀ c : Dev Cert.BlkIdeal.nD,
    (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.2.2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.2.2.2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.2.2.2.2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.2.2.2.2.2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.2.2.2.2.2.2.1 = (fun _ => 1#1)
    ∧ (Cert.Pre_blk_finite.fn (F := Ideal) (m ((c.tc : Thread Cert.BlkIdeal.nD Cert.BlkIdeal.τ).loc Cert.BlkIdeal.main_arg0)) (m ((c.tc : Thread Cert.BlkIdeal.nD Cert.BlkIdeal.τ).loc Cert.BlkIdeal.main_arg1)) (m ((c.tc : Thread Cert.BlkIdeal.nD Cert.BlkIdeal.τ).loc Cert.BlkIdeal.main_arg2)) (m ((c.tc : Thread Cert.BlkIdeal.nD Cert.BlkIdeal.τ).loc Cert.BlkIdeal.main_arg3)) (m ((c.tc : Thread Cert.BlkIdeal.nD Cert.BlkIdeal.τ).loc Cert.BlkIdeal.main_arg4)) (m ((c.tc : Thread Cert.BlkIdeal.nD Cert.BlkIdeal.τ).loc Cert.BlkIdeal.main_arg5)) (m ((c.tc : Thread Cert.BlkIdeal.nD Cert.BlkIdeal.τ).loc Cert.BlkIdeal.main_arg6)) (m ((c.tc : Thread Cert.BlkIdeal.nD Cert.BlkIdeal.τ).loc Cert.BlkIdeal.main_arg7)) (m ((c.tc : Thread Cert.BlkIdeal.nD Cert.BlkIdeal.τ).loc Cert.BlkIdeal.main_arg8)) (m ((c.tc : Thread Cert.BlkIdeal.nD Cert.BlkIdeal.τ).loc Cert.BlkIdeal.main_arg9))).2.2.2.2.2.2.2.2.2 = (fun _ => 1#1)

def Pre_BlkRefIdeal (m : (ℓ : Loc Cert.BlkRefIdeal.nD Cert.BlkRefIdeal.τ Cert.BlkRefIdeal.sig) → Buf (Elt Ideal) ℓ) : Prop :=
  True

def Pre_BlkRefIdeal_blk_finite [hPre_blk_finite : Cert.Pre_blk_finite.Facts] (m : (ℓ : Loc Cert.BlkRefIdeal.nD Cert.BlkRefIdeal.τ Cert.BlkRefIdeal.sig) → Buf (Elt Ideal) ℓ) : Prop :=
  ∀ c : Dev Cert.BlkRefIdeal.nD,
    (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.2.2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.2.2.2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.2.2.2.2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.2.2.2.2.2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.2.2.2.2.2.2.1 = (fun _ => 1#1)
    ∧ (Cert.Pre_blk_finite.fn (F := Ideal) (m ((c.tc : Thread Cert.BlkRefIdeal.nD Cert.BlkRefIdeal.τ).loc Cert.BlkRefIdeal.main_arg0)) (m ((c.tc : Thread Cert.BlkRefIdeal.nD Cert.BlkRefIdeal.τ).loc Cert.BlkRefIdeal.main_arg1)) (m ((c.tc : Thread Cert.BlkRefIdeal.nD Cert.BlkRefIdeal.τ).loc Cert.BlkRefIdeal.main_arg2)) (m ((c.tc : Thread Cert.BlkRefIdeal.nD Cert.BlkRefIdeal.τ).loc Cert.BlkRefIdeal.main_arg3)) (m ((c.tc : Thread Cert.BlkRefIdeal.nD Cert.BlkRefIdeal.τ).loc Cert.BlkRefIdeal.main_arg4)) (m ((c.tc : Thread Cert.BlkRefIdeal.nD Cert.BlkRefIdeal.τ).loc Cert.BlkRefIdeal.main_arg5)) (m ((c.tc : Thread Cert.BlkRefIdeal.nD Cert.BlkRefIdeal.τ).loc Cert.BlkRefIdeal.main_arg6)) (m ((c.tc : Thread Cert.BlkRefIdeal.nD Cert.BlkRefIdeal.τ).loc Cert.BlkRefIdeal.main_arg7)) (m ((c.tc : Thread Cert.BlkRefIdeal.nD Cert.BlkRefIdeal.τ).loc Cert.BlkRefIdeal.main_arg8)) (m ((c.tc : Thread Cert.BlkRefIdeal.nD Cert.BlkRefIdeal.τ).loc Cert.BlkRefIdeal.main_arg9))).2.2.2.2.2.2.2.2.2 = (fun _ => 1#1)

def Pre_Wd (m : (ℓ : Loc Cert.Wd.nD Cert.Wd.τ Cert.Wd.sig) → Buf (Elt Bits) ℓ) : Prop :=
  True

def Pre_WdIdeal (m : (ℓ : Loc Cert.WdIdeal.nD Cert.WdIdeal.τ Cert.WdIdeal.sig) → Buf (Elt Ideal) ℓ) : Prop :=
  True

def Pre_WdRefIdeal (m : (ℓ : Loc Cert.WdRefIdeal.nD Cert.WdRefIdeal.τ Cert.WdRefIdeal.sig) → Buf (Elt Ideal) ℓ) : Prop :=
  True

def Pre_Wg (m : (ℓ : Loc Cert.Wg.nD Cert.Wg.τ Cert.Wg.sig) → Buf (Elt Bits) ℓ) : Prop :=
  True

def Pre_WgIdeal (m : (ℓ : Loc Cert.WgIdeal.nD Cert.WgIdeal.τ Cert.WgIdeal.sig) → Buf (Elt Ideal) ℓ) : Prop :=
  True

def Pre_WgRefIdeal (m : (ℓ : Loc Cert.WgRefIdeal.nD Cert.WgRefIdeal.τ Cert.WgRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Wi (m : (ℓ : Loc Cert.Wi.nD Cert.Wi.τ Cert.Wi.sig) → Buf (Elt Bits) ℓ) : Prop :=
  True

def Pre_WiIdeal (m : (ℓ : Loc Cert.WiIdeal.nD Cert.WiIdeal.τ Cert.WiIdeal.sig) → Buf (Elt Ideal) ℓ) : Prop :=
  True

def Pre_WiRefIdeal (m : (ℓ : Loc Cert.WiRefIdeal.nD Cert.WiRefIdeal.τ Cert.WiRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.2.2.2 = (fun _ => 1#1)

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def Pre_HalvesMix [hPre_halves_of_pair : Cert.Pre_halves_of_pair.Facts] (m : (ℓ : Loc Cert.HalvesMix.nD Cert.HalvesMix.τ Cert.HalvesMix.sig) → Buf (Elt Bits) ℓ) : Prop :=
  ∀ c : Dev Cert.HalvesMix.nD,
    (Cert.Pre_halves_of_pair.fn (F := Bits) (m ((c.tc : Thread Cert.HalvesMix.nD Cert.HalvesMix.τ).loc Cert.HalvesMix.main_arg0)) (m ((c.tc : Thread Cert.HalvesMix.nD Cert.HalvesMix.τ).loc Cert.HalvesMix.main_arg1)) (m ((c.tc : Thread Cert.HalvesMix.nD Cert.HalvesMix.τ).loc Cert.HalvesMix.main_arg2)) (m ((c.tc : Thread Cert.HalvesMix.nD Cert.HalvesMix.τ).loc Cert.HalvesMix.main_arg3)) (m ((c.tc : Thread Cert.HalvesMix.nD Cert.HalvesMix.τ).loc Cert.HalvesMix.main_arg4))) = (fun _ => 1#1)

def Pre_HalvesMixIdeal [hPre_halves_of_pair : Cert.Pre_halves_of_pair.Facts] (m : (ℓ : Loc Cert.HalvesMixIdeal.nD Cert.HalvesMixIdeal.τ Cert.HalvesMixIdeal.sig) → Buf (Elt Ideal) ℓ) : Prop :=
  ∀ c : Dev Cert.HalvesMixIdeal.nD,
    (Cert.Pre_halves_of_pair.fn (F := Ideal) (m ((c.tc : Thread Cert.HalvesMixIdeal.nD Cert.HalvesMixIdeal.τ).loc Cert.HalvesMixIdeal.main_arg0)) (m ((c.tc : Thread Cert.HalvesMixIdeal.nD Cert.HalvesMixIdeal.τ).loc Cert.HalvesMixIdeal.main_arg1)) (m ((c.tc : Thread Cert.HalvesMixIdeal.nD Cert.HalvesMixIdeal.τ).loc Cert.HalvesMixIdeal.main_arg2)) (m ((c.tc : Thread Cert.HalvesMixIdeal.nD Cert.HalvesMixIdeal.τ).loc Cert.HalvesMixIdeal.main_arg3)) (m ((c.tc : Thread Cert.HalvesMixIdeal.nD Cert.HalvesMixIdeal.τ).loc Cert.HalvesMixIdeal.main_arg4))) = (fun _ => 1#1)

def Pre_HalvesMixRefIdeal (m : (ℓ : Loc Cert.HalvesMixRefIdeal.nD Cert.HalvesMixRefIdeal.τ Cert.HalvesMixRefIdeal.sig) → Buf (Elt Ideal) ℓ) : Prop :=
  True

def Pre_HalvesMixRefIdeal_halves_of_pair [hPre_halves_of_pair : Cert.Pre_halves_of_pair.Facts] (m : (ℓ : Loc Cert.HalvesMixRefIdeal.nD Cert.HalvesMixRefIdeal.τ Cert.HalvesMixRefIdeal.sig) → Buf (Elt Ideal) ℓ) : Prop :=
  ∀ c : Dev Cert.HalvesMixRefIdeal.nD,
    (Cert.Pre_halves_of_pair.fn (F := Ideal) (m ((c.tc : Thread Cert.HalvesMixRefIdeal.nD Cert.HalvesMixRefIdeal.τ).loc Cert.HalvesMixRefIdeal.main_arg0)) (m ((c.tc : Thread Cert.HalvesMixRefIdeal.nD Cert.HalvesMixRefIdeal.τ).loc Cert.HalvesMixRefIdeal.main_arg1)) (m ((c.tc : Thread Cert.HalvesMixRefIdeal.nD Cert.HalvesMixRefIdeal.τ).loc Cert.HalvesMixRefIdeal.main_arg2)) (m ((c.tc : Thread Cert.HalvesMixRefIdeal.nD Cert.HalvesMixRefIdeal.τ).loc Cert.HalvesMixRefIdeal.main_arg3)) (m ((c.tc : Thread Cert.HalvesMixRefIdeal.nD Cert.HalvesMixRefIdeal.τ).loc Cert.HalvesMixRefIdeal.main_arg4))) = (fun _ => 1#1)

def Pre_HalvesFfn [hPre_halves_of_pair_ffn : Cert.Pre_halves_of_pair_ffn.Facts] (m : (ℓ : Loc Cert.HalvesFfn.nD Cert.HalvesFfn.τ Cert.HalvesFfn.sig) → Buf (Elt Bits) ℓ) : Prop :=
  ∀ c : Dev Cert.HalvesFfn.nD,
    (Cert.Pre_halves_of_pair_ffn.fn (F := Bits) (m ((c.tc : Thread Cert.HalvesFfn.nD Cert.HalvesFfn.τ).loc Cert.HalvesFfn.main_arg0)) (m ((c.tc : Thread Cert.HalvesFfn.nD Cert.HalvesFfn.τ).loc Cert.HalvesFfn.main_arg1)) (m ((c.tc : Thread Cert.HalvesFfn.nD Cert.HalvesFfn.τ).loc Cert.HalvesFfn.main_arg2)) (m ((c.tc : Thread Cert.HalvesFfn.nD Cert.HalvesFfn.τ).loc Cert.HalvesFfn.main_arg3)) (m ((c.tc : Thread Cert.HalvesFfn.nD Cert.HalvesFfn.τ).loc Cert.HalvesFfn.main_arg4)) (m ((c.tc : Thread Cert.HalvesFfn.nD Cert.HalvesFfn.τ).loc Cert.HalvesFfn.main_arg5)) (m ((c.tc : Thread Cert.HalvesFfn.nD Cert.HalvesFfn.τ).loc Cert.HalvesFfn.main_arg6)) (m ((c.tc : Thread Cert.HalvesFfn.nD Cert.HalvesFfn.τ).loc Cert.HalvesFfn.main_arg7)) (m ((c.tc : Thread Cert.HalvesFfn.nD Cert.HalvesFfn.τ).loc Cert.HalvesFfn.main_arg8))) = (fun _ => 1#1)

def Pre_HalvesFfnIdeal [hPre_halves_of_pair_ffn : Cert.Pre_halves_of_pair_ffn.Facts] (m : (ℓ : Loc Cert.HalvesFfnIdeal.nD Cert.HalvesFfnIdeal.τ Cert.HalvesFfnIdeal.sig) → Buf (Elt Ideal) ℓ) : Prop :=
  ∀ c : Dev Cert.HalvesFfnIdeal.nD,
    (Cert.Pre_halves_of_pair_ffn.fn (F := Ideal) (m ((c.tc : Thread Cert.HalvesFfnIdeal.nD Cert.HalvesFfnIdeal.τ).loc Cert.HalvesFfnIdeal.main_arg0)) (m ((c.tc : Thread Cert.HalvesFfnIdeal.nD Cert.HalvesFfnIdeal.τ).loc Cert.HalvesFfnIdeal.main_arg1)) (m ((c.tc : Thread Cert.HalvesFfnIdeal.nD Cert.HalvesFfnIdeal.τ).loc Cert.HalvesFfnIdeal.main_arg2)) (m ((c.tc : Thread Cert.HalvesFfnIdeal.nD Cert.HalvesFfnIdeal.τ).loc Cert.HalvesFfnIdeal.main_arg3)) (m ((c.tc : Thread Cert.HalvesFfnIdeal.nD Cert.HalvesFfnIdeal.τ).loc Cert.HalvesFfnIdeal.main_arg4)) (m ((c.tc : Thread Cert.HalvesFfnIdeal.nD Cert.HalvesFfnIdeal.τ).loc Cert.HalvesFfnIdeal.main_arg5)) (m ((c.tc : Thread Cert.HalvesFfnIdeal.nD Cert.HalvesFfnIdeal.τ).loc Cert.HalvesFfnIdeal.main_arg6)) (m ((c.tc : Thread Cert.HalvesFfnIdeal.nD Cert.HalvesFfnIdeal.τ).loc Cert.HalvesFfnIdeal.main_arg7)) (m ((c.tc : Thread Cert.HalvesFfnIdeal.nD Cert.HalvesFfnIdeal.τ).loc Cert.HalvesFfnIdeal.main_arg8))) = (fun _ => 1#1)

def Pre_HalvesFfnRefIdeal (m : (ℓ : Loc Cert.HalvesFfnRefIdeal.nD Cert.HalvesFfnRefIdeal.τ Cert.HalvesFfnRefIdeal.sig) → Buf (Elt Ideal) ℓ) : Prop :=
  True

def Pre_HalvesFfnRefIdeal_halves_of_pair_ffn [hPre_halves_of_pair_ffn : Cert.Pre_halves_of_pair_ffn.Facts] (m : (ℓ : Loc Cert.HalvesFfnRefIdeal.nD Cert.HalvesFfnRefIdeal.τ Cert.HalvesFfnRefIdeal.sig) → Buf (Elt Ideal) ℓ) : Prop :=
  ∀ c : Dev Cert.HalvesFfnRefIdeal.nD,
    (Cert.Pre_halves_of_pair_ffn.fn (F := Ideal) (m ((c.tc : Thread Cert.HalvesFfnRefIdeal.nD Cert.HalvesFfnRefIdeal.τ).loc Cert.HalvesFfnRefIdeal.main_arg0)) (m ((c.tc : Thread Cert.HalvesFfnRefIdeal.nD Cert.HalvesFfnRefIdeal.τ).loc Cert.HalvesFfnRefIdeal.main_arg1)) (m ((c.tc : Thread Cert.HalvesFfnRefIdeal.nD Cert.HalvesFfnRefIdeal.τ).loc Cert.HalvesFfnRefIdeal.main_arg2)) (m ((c.tc : Thread Cert.HalvesFfnRefIdeal.nD Cert.HalvesFfnRefIdeal.τ).loc Cert.HalvesFfnRefIdeal.main_arg3)) (m ((c.tc : Thread Cert.HalvesFfnRefIdeal.nD Cert.HalvesFfnRefIdeal.τ).loc Cert.HalvesFfnRefIdeal.main_arg4)) (m ((c.tc : Thread Cert.HalvesFfnRefIdeal.nD Cert.HalvesFfnRefIdeal.τ).loc Cert.HalvesFfnRefIdeal.main_arg5)) (m ((c.tc : Thread Cert.HalvesFfnRefIdeal.nD Cert.HalvesFfnRefIdeal.τ).loc Cert.HalvesFfnRefIdeal.main_arg6)) (m ((c.tc : Thread Cert.HalvesFfnRefIdeal.nD Cert.HalvesFfnRefIdeal.τ).loc Cert.HalvesFfnRefIdeal.main_arg7)) (m ((c.tc : Thread Cert.HalvesFfnRefIdeal.nD Cert.HalvesFfnRefIdeal.τ).loc Cert.HalvesFfnRefIdeal.main_arg8))) = (fun _ => 1#1)

def quiescent_Blk [hBlk : Cert.Blk.Facts] : Prop :=
  ∀ (m : (ℓ : Loc Cert.Blk.nD Cert.Blk.τ Cert.Blk.sig) → Buf (Elt Bits) ℓ) (g : Dev Cert.Blk.nD → PrngReg), Pre_Blk m →
    θ_run (Cert.Blk.defs (F := Bits)) (onTc (τ := Cert.Blk.τ) (Cert.Blk.main (F := Bits))) ⟨m, fun _ => 0, g⟩ (fun r => (∀ c : Dev Cert.Blk.nD,
      r.2.mem ((c.tc : Thread Cert.Blk.nD Cert.Blk.τ).loc Cert.Blk.main_arg0) = m ((c.tc : Thread Cert.Blk.nD Cert.Blk.τ).loc Cert.Blk.main_arg0)
      ∧ r.2.mem ((c.tc : Thread Cert.Blk.nD Cert.Blk.τ).loc Cert.Blk.main_arg1) = m ((c.tc : Thread Cert.Blk.nD Cert.Blk.τ).loc Cert.Blk.main_arg1)
      ∧ r.2.mem ((c.tc : Thread Cert.Blk.nD Cert.Blk.τ).loc Cert.Blk.main_arg2) = m ((c.tc : Thread Cert.Blk.nD Cert.Blk.τ).loc Cert.Blk.main_arg2)
      ∧ r.2.mem ((c.tc : Thread Cert.Blk.nD Cert.Blk.τ).loc Cert.Blk.main_arg3) = m ((c.tc : Thread Cert.Blk.nD Cert.Blk.τ).loc Cert.Blk.main_arg3)
      ∧ r.2.mem ((c.tc : Thread Cert.Blk.nD Cert.Blk.τ).loc Cert.Blk.main_arg4) = m ((c.tc : Thread Cert.Blk.nD Cert.Blk.τ).loc Cert.Blk.main_arg4)
      ∧ r.2.mem ((c.tc : Thread Cert.Blk.nD Cert.Blk.τ).loc Cert.Blk.main_arg5) = m ((c.tc : Thread Cert.Blk.nD Cert.Blk.τ).loc Cert.Blk.main_arg5)
      ∧ r.2.mem ((c.tc : Thread Cert.Blk.nD Cert.Blk.τ).loc Cert.Blk.main_arg6) = m ((c.tc : Thread Cert.Blk.nD Cert.Blk.τ).loc Cert.Blk.main_arg6)
      ∧ r.2.mem ((c.tc : Thread Cert.Blk.nD Cert.Blk.τ).loc Cert.Blk.main_arg7) = m ((c.tc : Thread Cert.Blk.nD Cert.Blk.τ).loc Cert.Blk.main_arg7)
      ∧ r.2.mem ((c.tc : Thread Cert.Blk.nD Cert.Blk.τ).loc Cert.Blk.main_arg8) = m ((c.tc : Thread Cert.Blk.nD Cert.Blk.τ).loc Cert.Blk.main_arg8)
      ∧ r.2.mem ((c.tc : Thread Cert.Blk.nD Cert.Blk.τ).loc Cert.Blk.main_arg9) = m ((c.tc : Thread Cert.Blk.nD Cert.Blk.τ).loc Cert.Blk.main_arg9))
      ∧ r.2.sem = fun _ => 0)

def quiescent_BlkIdeal [hBlkIdeal : Cert.BlkIdeal.Facts] : Prop :=
  ∀ (m : (ℓ : Loc Cert.BlkIdeal.nD Cert.BlkIdeal.τ Cert.BlkIdeal.sig) → Buf (Elt Ideal) ℓ) (g : Dev Cert.BlkIdeal.nD → PrngReg), Pre_BlkIdeal m →
    θ_run (Cert.BlkIdeal.defs (F := Ideal)) (onTc (τ := Cert.BlkIdeal.τ) (Cert.BlkIdeal.main (F := Ideal))) ⟨m, fun _ => 0, g⟩ (fun r => (∀ c : Dev Cert.BlkIdeal.nD,
      r.2.mem ((c.tc : Thread Cert.BlkIdeal.nD Cert.BlkIdeal.τ).loc Cert.BlkIdeal.main_arg0) = m ((c.tc : Thread Cert.BlkIdeal.nD Cert.BlkIdeal.τ).loc Cert.BlkIdeal.main_arg0)
      ∧ r.2.mem ((c.tc : Thread Cert.BlkIdeal.nD Cert.BlkIdeal.τ).loc Cert.BlkIdeal.main_arg1) = m ((c.tc : Thread Cert.BlkIdeal.nD Cert.BlkIdeal.τ).loc Cert.BlkIdeal.main_arg1)
      ∧ r.2.mem ((c.tc : Thread Cert.BlkIdeal.nD Cert.BlkIdeal.τ).loc Cert.BlkIdeal.main_arg2) = m ((c.tc : Thread Cert.BlkIdeal.nD Cert.BlkIdeal.τ).loc Cert.BlkIdeal.main_arg2)
      ∧ r.2.mem ((c.tc : Thread Cert.BlkIdeal.nD Cert.BlkIdeal.τ).loc Cert.BlkIdeal.main_arg3) = m ((c.tc : Thread Cert.BlkIdeal.nD Cert.BlkIdeal.τ).loc Cert.BlkIdeal.main_arg3)
      ∧ r.2.mem ((c.tc : Thread Cert.BlkIdeal.nD Cert.BlkIdeal.τ).loc Cert.BlkIdeal.main_arg4) = m ((c.tc : Thread Cert.BlkIdeal.nD Cert.BlkIdeal.τ).loc Cert.BlkIdeal.main_arg4)
      ∧ r.2.mem ((c.tc : Thread Cert.BlkIdeal.nD Cert.BlkIdeal.τ).loc Cert.BlkIdeal.main_arg5) = m ((c.tc : Thread Cert.BlkIdeal.nD Cert.BlkIdeal.τ).loc Cert.BlkIdeal.main_arg5)
      ∧ r.2.mem ((c.tc : Thread Cert.BlkIdeal.nD Cert.BlkIdeal.τ).loc Cert.BlkIdeal.main_arg6) = m ((c.tc : Thread Cert.BlkIdeal.nD Cert.BlkIdeal.τ).loc Cert.BlkIdeal.main_arg6)
      ∧ r.2.mem ((c.tc : Thread Cert.BlkIdeal.nD Cert.BlkIdeal.τ).loc Cert.BlkIdeal.main_arg7) = m ((c.tc : Thread Cert.BlkIdeal.nD Cert.BlkIdeal.τ).loc Cert.BlkIdeal.main_arg7)
      ∧ r.2.mem ((c.tc : Thread Cert.BlkIdeal.nD Cert.BlkIdeal.τ).loc Cert.BlkIdeal.main_arg8) = m ((c.tc : Thread Cert.BlkIdeal.nD Cert.BlkIdeal.τ).loc Cert.BlkIdeal.main_arg8)
      ∧ r.2.mem ((c.tc : Thread Cert.BlkIdeal.nD Cert.BlkIdeal.τ).loc Cert.BlkIdeal.main_arg9) = m ((c.tc : Thread Cert.BlkIdeal.nD Cert.BlkIdeal.τ).loc Cert.BlkIdeal.main_arg9))
      ∧ r.2.sem = fun _ => 0)

def quiescent_BlkIdeal_pre_blk_finite [hBlkIdeal : Cert.BlkIdeal.Facts] [hPre_blk_finite : Cert.Pre_blk_finite.Facts] : Prop :=
  ∀ (m : (ℓ : Loc Cert.BlkIdeal.nD Cert.BlkIdeal.τ Cert.BlkIdeal.sig) → Buf (Elt Ideal) ℓ) (g : Dev Cert.BlkIdeal.nD → PrngReg), Pre_BlkIdeal_blk_finite m →
    θ_run (Cert.BlkIdeal.defs (F := Ideal)) (onTc (τ := Cert.BlkIdeal.τ) (Cert.BlkIdeal.main (F := Ideal))) ⟨m, fun _ => 0, g⟩ (fun r => (∀ c : Dev Cert.BlkIdeal.nD,
      r.2.mem ((c.tc : Thread Cert.BlkIdeal.nD Cert.BlkIdeal.τ).loc Cert.BlkIdeal.main_arg0) = m ((c.tc : Thread Cert.BlkIdeal.nD Cert.BlkIdeal.τ).loc Cert.BlkIdeal.main_arg0)
      ∧ r.2.mem ((c.tc : Thread Cert.BlkIdeal.nD Cert.BlkIdeal.τ).loc Cert.BlkIdeal.main_arg1) = m ((c.tc : Thread Cert.BlkIdeal.nD Cert.BlkIdeal.τ).loc Cert.BlkIdeal.main_arg1)
      ∧ r.2.mem ((c.tc : Thread Cert.BlkIdeal.nD Cert.BlkIdeal.τ).loc Cert.BlkIdeal.main_arg2) = m ((c.tc : Thread Cert.BlkIdeal.nD Cert.BlkIdeal.τ).loc Cert.BlkIdeal.main_arg2)
      ∧ r.2.mem ((c.tc : Thread Cert.BlkIdeal.nD Cert.BlkIdeal.τ).loc Cert.BlkIdeal.main_arg3) = m ((c.tc : Thread Cert.BlkIdeal.nD Cert.BlkIdeal.τ).loc Cert.BlkIdeal.main_arg3)
      ∧ r.2.mem ((c.tc : Thread Cert.BlkIdeal.nD Cert.BlkIdeal.τ).loc Cert.BlkIdeal.main_arg4) = m ((c.tc : Thread Cert.BlkIdeal.nD Cert.BlkIdeal.τ).loc Cert.BlkIdeal.main_arg4)
      ∧ r.2.mem ((c.tc : Thread Cert.BlkIdeal.nD Cert.BlkIdeal.τ).loc Cert.BlkIdeal.main_arg5) = m ((c.tc : Thread Cert.BlkIdeal.nD Cert.BlkIdeal.τ).loc Cert.BlkIdeal.main_arg5)
      ∧ r.2.mem ((c.tc : Thread Cert.BlkIdeal.nD Cert.BlkIdeal.τ).loc Cert.BlkIdeal.main_arg6) = m ((c.tc : Thread Cert.BlkIdeal.nD Cert.BlkIdeal.τ).loc Cert.BlkIdeal.main_arg6)
      ∧ r.2.mem ((c.tc : Thread Cert.BlkIdeal.nD Cert.BlkIdeal.τ).loc Cert.BlkIdeal.main_arg7) = m ((c.tc : Thread Cert.BlkIdeal.nD Cert.BlkIdeal.τ).loc Cert.BlkIdeal.main_arg7)
      ∧ r.2.mem ((c.tc : Thread Cert.BlkIdeal.nD Cert.BlkIdeal.τ).loc Cert.BlkIdeal.main_arg8) = m ((c.tc : Thread Cert.BlkIdeal.nD Cert.BlkIdeal.τ).loc Cert.BlkIdeal.main_arg8)
      ∧ r.2.mem ((c.tc : Thread Cert.BlkIdeal.nD Cert.BlkIdeal.τ).loc Cert.BlkIdeal.main_arg9) = m ((c.tc : Thread Cert.BlkIdeal.nD Cert.BlkIdeal.τ).loc Cert.BlkIdeal.main_arg9))
      ∧ r.2.sem = fun _ => 0)

def quiescent_BlkRefIdeal [hBlkRefIdeal : Cert.BlkRefIdeal.Facts] : Prop :=
  ∀ (m : (ℓ : Loc Cert.BlkRefIdeal.nD Cert.BlkRefIdeal.τ Cert.BlkRefIdeal.sig) → Buf (Elt Ideal) ℓ) (g : Dev Cert.BlkRefIdeal.nD → PrngReg), Pre_BlkRefIdeal m →
    θ_run (Cert.BlkRefIdeal.defs (F := Ideal)) (onTc (τ := Cert.BlkRefIdeal.τ) (Cert.BlkRefIdeal.main (F := Ideal))) ⟨m, fun _ => 0, g⟩ (fun r => (∀ c : Dev Cert.BlkRefIdeal.nD,
      r.2.mem ((c.tc : Thread Cert.BlkRefIdeal.nD Cert.BlkRefIdeal.τ).loc Cert.BlkRefIdeal.main_arg0) = m ((c.tc : Thread Cert.BlkRefIdeal.nD Cert.BlkRefIdeal.τ).loc Cert.BlkRefIdeal.main_arg0)
      ∧ r.2.mem ((c.tc : Thread Cert.BlkRefIdeal.nD Cert.BlkRefIdeal.τ).loc Cert.BlkRefIdeal.main_arg1) = m ((c.tc : Thread Cert.BlkRefIdeal.nD Cert.BlkRefIdeal.τ).loc Cert.BlkRefIdeal.main_arg1)
      ∧ r.2.mem ((c.tc : Thread Cert.BlkRefIdeal.nD Cert.BlkRefIdeal.τ).loc Cert.BlkRefIdeal.main_arg2) = m ((c.tc : Thread Cert.BlkRefIdeal.nD Cert.BlkRefIdeal.τ).loc Cert.BlkRefIdeal.main_arg2)
      ∧ r.2.mem ((c.tc : Thread Cert.BlkRefIdeal.nD Cert.BlkRefIdeal.τ).loc Cert.BlkRefIdeal.main_arg3) = m ((c.tc : Thread Cert.BlkRefIdeal.nD Cert.BlkRefIdeal.τ).loc Cert.BlkRefIdeal.main_arg3)
      ∧ r.2.mem ((c.tc : Thread Cert.BlkRefIdeal.nD Cert.BlkRefIdeal.τ).loc Cert.BlkRefIdeal.main_arg4) = m ((c.tc : Thread Cert.BlkRefIdeal.nD Cert.BlkRefIdeal.τ).loc Cert.BlkRefIdeal.main_arg4)
      ∧ r.2.mem ((c.tc : Thread Cert.BlkRefIdeal.nD Cert.BlkRefIdeal.τ).loc Cert.BlkRefIdeal.main_arg5) = m ((c.tc : Thread Cert.BlkRefIdeal.nD Cert.BlkRefIdeal.τ).loc Cert.BlkRefIdeal.main_arg5)
      ∧ r.2.mem ((c.tc : Thread Cert.BlkRefIdeal.nD Cert.BlkRefIdeal.τ).loc Cert.BlkRefIdeal.main_arg6) = m ((c.tc : Thread Cert.BlkRefIdeal.nD Cert.BlkRefIdeal.τ).loc Cert.BlkRefIdeal.main_arg6)
      ∧ r.2.mem ((c.tc : Thread Cert.BlkRefIdeal.nD Cert.BlkRefIdeal.τ).loc Cert.BlkRefIdeal.main_arg7) = m ((c.tc : Thread Cert.BlkRefIdeal.nD Cert.BlkRefIdeal.τ).loc Cert.BlkRefIdeal.main_arg7)
      ∧ r.2.mem ((c.tc : Thread Cert.BlkRefIdeal.nD Cert.BlkRefIdeal.τ).loc Cert.BlkRefIdeal.main_arg8) = m ((c.tc : Thread Cert.BlkRefIdeal.nD Cert.BlkRefIdeal.τ).loc Cert.BlkRefIdeal.main_arg8)
      ∧ r.2.mem ((c.tc : Thread Cert.BlkRefIdeal.nD Cert.BlkRefIdeal.τ).loc Cert.BlkRefIdeal.main_arg9) = m ((c.tc : Thread Cert.BlkRefIdeal.nD Cert.BlkRefIdeal.τ).loc Cert.BlkRefIdeal.main_arg9))
      ∧ r.2.sem = fun _ => 0)

def quiescent_BlkRefIdeal_pre_blk_finite [hBlkRefIdeal : Cert.BlkRefIdeal.Facts] [hPre_blk_finite : Cert.Pre_blk_finite.Facts] : Prop :=
  ∀ (m : (ℓ : Loc Cert.BlkRefIdeal.nD Cert.BlkRefIdeal.τ Cert.BlkRefIdeal.sig) → Buf (Elt Ideal) ℓ) (g : Dev Cert.BlkRefIdeal.nD → PrngReg), Pre_BlkRefIdeal_blk_finite m →
    θ_run (Cert.BlkRefIdeal.defs (F := Ideal)) (onTc (τ := Cert.BlkRefIdeal.τ) (Cert.BlkRefIdeal.main (F := Ideal))) ⟨m, fun _ => 0, g⟩ (fun r => (∀ c : Dev Cert.BlkRefIdeal.nD,
      r.2.mem ((c.tc : Thread Cert.BlkRefIdeal.nD Cert.BlkRefIdeal.τ).loc Cert.BlkRefIdeal.main_arg0) = m ((c.tc : Thread Cert.BlkRefIdeal.nD Cert.BlkRefIdeal.τ).loc Cert.BlkRefIdeal.main_arg0)
      ∧ r.2.mem ((c.tc : Thread Cert.BlkRefIdeal.nD Cert.BlkRefIdeal.τ).loc Cert.BlkRefIdeal.main_arg1) = m ((c.tc : Thread Cert.BlkRefIdeal.nD Cert.BlkRefIdeal.τ).loc Cert.BlkRefIdeal.main_arg1)
      ∧ r.2.mem ((c.tc : Thread Cert.BlkRefIdeal.nD Cert.BlkRefIdeal.τ).loc Cert.BlkRefIdeal.main_arg2) = m ((c.tc : Thread Cert.BlkRefIdeal.nD Cert.BlkRefIdeal.τ).loc Cert.BlkRefIdeal.main_arg2)
      ∧ r.2.mem ((c.tc : Thread Cert.BlkRefIdeal.nD Cert.BlkRefIdeal.τ).loc Cert.BlkRefIdeal.main_arg3) = m ((c.tc : Thread Cert.BlkRefIdeal.nD Cert.BlkRefIdeal.τ).loc Cert.BlkRefIdeal.main_arg3)
      ∧ r.2.mem ((c.tc : Thread Cert.BlkRefIdeal.nD Cert.BlkRefIdeal.τ).loc Cert.BlkRefIdeal.main_arg4) = m ((c.tc : Thread Cert.BlkRefIdeal.nD Cert.BlkRefIdeal.τ).loc Cert.BlkRefIdeal.main_arg4)
      ∧ r.2.mem ((c.tc : Thread Cert.BlkRefIdeal.nD Cert.BlkRefIdeal.τ).loc Cert.BlkRefIdeal.main_arg5) = m ((c.tc : Thread Cert.BlkRefIdeal.nD Cert.BlkRefIdeal.τ).loc Cert.BlkRefIdeal.main_arg5)
      ∧ r.2.mem ((c.tc : Thread Cert.BlkRefIdeal.nD Cert.BlkRefIdeal.τ).loc Cert.BlkRefIdeal.main_arg6) = m ((c.tc : Thread Cert.BlkRefIdeal.nD Cert.BlkRefIdeal.τ).loc Cert.BlkRefIdeal.main_arg6)
      ∧ r.2.mem ((c.tc : Thread Cert.BlkRefIdeal.nD Cert.BlkRefIdeal.τ).loc Cert.BlkRefIdeal.main_arg7) = m ((c.tc : Thread Cert.BlkRefIdeal.nD Cert.BlkRefIdeal.τ).loc Cert.BlkRefIdeal.main_arg7)
      ∧ r.2.mem ((c.tc : Thread Cert.BlkRefIdeal.nD Cert.BlkRefIdeal.τ).loc Cert.BlkRefIdeal.main_arg8) = m ((c.tc : Thread Cert.BlkRefIdeal.nD Cert.BlkRefIdeal.τ).loc Cert.BlkRefIdeal.main_arg8)
      ∧ r.2.mem ((c.tc : Thread Cert.BlkRefIdeal.nD Cert.BlkRefIdeal.τ).loc Cert.BlkRefIdeal.main_arg9) = m ((c.tc : Thread Cert.BlkRefIdeal.nD Cert.BlkRefIdeal.τ).loc Cert.BlkRefIdeal.main_arg9))
      ∧ r.2.sem = fun _ => 0)

def quiescent_Wd [hWd : Cert.Wd.Facts] : Prop :=
  ∀ (m : (ℓ : Loc Cert.Wd.nD Cert.Wd.τ Cert.Wd.sig) → Buf (Elt Bits) ℓ) (g : Dev Cert.Wd.nD → PrngReg), Pre_Wd m →
    θ_run (Cert.Wd.defs (F := Bits)) (onTc (τ := Cert.Wd.τ) (Cert.Wd.main (F := Bits))) ⟨m, fun _ => 0, g⟩ (fun r => (∀ c : Dev Cert.Wd.nD,
      r.2.mem ((c.tc : Thread Cert.Wd.nD Cert.Wd.τ).loc Cert.Wd.main_arg0) = m ((c.tc : Thread Cert.Wd.nD Cert.Wd.τ).loc Cert.Wd.main_arg0)
      ∧ r.2.mem ((c.tc : Thread Cert.Wd.nD Cert.Wd.τ).loc Cert.Wd.main_arg1) = m ((c.tc : Thread Cert.Wd.nD Cert.Wd.τ).loc Cert.Wd.main_arg1))
      ∧ r.2.sem = fun _ => 0)

def quiescent_WdIdeal [hWdIdeal : Cert.WdIdeal.Facts] : Prop :=
  ∀ (m : (ℓ : Loc Cert.WdIdeal.nD Cert.WdIdeal.τ Cert.WdIdeal.sig) → Buf (Elt Ideal) ℓ) (g : Dev Cert.WdIdeal.nD → PrngReg), Pre_WdIdeal m →
    θ_run (Cert.WdIdeal.defs (F := Ideal)) (onTc (τ := Cert.WdIdeal.τ) (Cert.WdIdeal.main (F := Ideal))) ⟨m, fun _ => 0, g⟩ (fun r => (∀ c : Dev Cert.WdIdeal.nD,
      r.2.mem ((c.tc : Thread Cert.WdIdeal.nD Cert.WdIdeal.τ).loc Cert.WdIdeal.main_arg0) = m ((c.tc : Thread Cert.WdIdeal.nD Cert.WdIdeal.τ).loc Cert.WdIdeal.main_arg0)
      ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ r.2.sem = fun _ => 0)

def quiescent_WdRefIdeal [hWdRefIdeal : Cert.WdRefIdeal.Facts] : Prop :=
  ∀ (m : (ℓ : Loc Cert.WdRefIdeal.nD Cert.WdRefIdeal.τ Cert.WdRefIdeal.sig) → Buf (Elt Ideal) ℓ) (g : Dev Cert.WdRefIdeal.nD → PrngReg), Pre_WdRefIdeal m →
    θ_run (Cert.WdRefIdeal.defs (F := Ideal)) (onTc (τ := Cert.WdRefIdeal.τ) (Cert.WdRefIdeal.main (F := Ideal))) ⟨m, fun _ => 0, g⟩ (fun r => (∀ c : Dev Cert.WdRefIdeal.nD,
      r.2.mem ((c.tc : Thread Cert.WdRefIdeal.nD Cert.WdRefIdeal.τ).loc Cert.WdRefIdeal.main_arg0) = m ((c.tc : Thread Cert.WdRefIdeal.nD Cert.WdRefIdeal.τ).loc Cert.WdRefIdeal.main_arg0)
      ∧ r.2.mem ((c.tc : Thread Cert.WdRefIdeal.nD Cert.WdRefIdeal.τ).loc Cert.WdRefIdeal.main_arg1) = m ((c.tc : Thread Cert.WdRefIdeal.nD Cert.WdRefIdeal.τ).loc Cert.WdRefIdeal.main_arg1))
      ∧ r.2.sem = fun _ => 0)

def quiescent_Wg [hWg : Cert.Wg.Facts] : Prop :=
  ∀ (m : (ℓ : Loc Cert.Wg.nD Cert.Wg.τ Cert.Wg.sig) → Buf (Elt Bits) ℓ) (g : Dev Cert.Wg.nD → PrngReg), Pre_Wg m →
    θ_run (Cert.Wg.defs (F := Bits)) (onTc (τ := Cert.Wg.τ) (Cert.Wg.main (F := Bits))) ⟨m, fun _ => 0, g⟩ (fun r => (∀ c : Dev Cert.Wg.nD,
      r.2.mem ((c.tc : Thread Cert.Wg.nD Cert.Wg.τ).loc Cert.Wg.main_arg0) = m ((c.tc : Thread Cert.Wg.nD Cert.Wg.τ).loc Cert.Wg.main_arg0)
      ∧ r.2.mem ((c.tc : Thread Cert.Wg.nD Cert.Wg.τ).loc Cert.Wg.main_arg1) = m ((c.tc : Thread Cert.Wg.nD Cert.Wg.τ).loc Cert.Wg.main_arg1))
      ∧ r.2.sem = fun _ => 0)

def quiescent_WgIdeal [hWgIdeal : Cert.WgIdeal.Facts] : Prop :=
  ∀ (m : (ℓ : Loc Cert.WgIdeal.nD Cert.WgIdeal.τ Cert.WgIdeal.sig) → Buf (Elt Ideal) ℓ) (g : Dev Cert.WgIdeal.nD → PrngReg), Pre_WgIdeal m →
    θ_run (Cert.WgIdeal.defs (F := Ideal)) (onTc (τ := Cert.WgIdeal.τ) (Cert.WgIdeal.main (F := Ideal))) ⟨m, fun _ => 0, g⟩ (fun r => (∀ c : Dev Cert.WgIdeal.nD,
      r.2.mem ((c.tc : Thread Cert.WgIdeal.nD Cert.WgIdeal.τ).loc Cert.WgIdeal.main_arg0) = m ((c.tc : Thread Cert.WgIdeal.nD Cert.WgIdeal.τ).loc Cert.WgIdeal.main_arg0)
      ∧ r.2.mem ((c.tc : Thread Cert.WgIdeal.nD Cert.WgIdeal.τ).loc Cert.WgIdeal.main_arg1) = m ((c.tc : Thread Cert.WgIdeal.nD Cert.WgIdeal.τ).loc Cert.WgIdeal.main_arg1))
      ∧ r.2.sem = fun _ => 0)

def quiescent_WgRefIdeal [hWgRefIdeal : Cert.WgRefIdeal.Facts] : Prop :=
  ∀ (m : (ℓ : Loc Cert.WgRefIdeal.nD Cert.WgRefIdeal.τ Cert.WgRefIdeal.sig) → Buf (Elt Ideal) ℓ) (g : Dev Cert.WgRefIdeal.nD → PrngReg), Pre_WgRefIdeal m →
    θ_run (Cert.WgRefIdeal.defs (F := Ideal)) (onTc (τ := Cert.WgRefIdeal.τ) (Cert.WgRefIdeal.main (F := Ideal))) ⟨m, fun _ => 0, g⟩ (fun r => (∀ c : Dev Cert.WgRefIdeal.nD,
      r.2.mem ((c.tc : Thread Cert.WgRefIdeal.nD Cert.WgRefIdeal.τ).loc Cert.WgRefIdeal.main_arg0) = m ((c.tc : Thread Cert.WgRefIdeal.nD Cert.WgRefIdeal.τ).loc Cert.WgRefIdeal.main_arg0)
      ∧ r.2.mem ((c.tc : Thread Cert.WgRefIdeal.nD Cert.WgRefIdeal.τ).loc Cert.WgRefIdeal.main_arg1) = m ((c.tc : Thread Cert.WgRefIdeal.nD Cert.WgRefIdeal.τ).loc Cert.WgRefIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1))
      ∧ r.2.sem = fun _ => 0)

def quiescent_Wi [hWi : Cert.Wi.Facts] : Prop :=
  ∀ (m : (ℓ : Loc Cert.Wi.nD Cert.Wi.τ Cert.Wi.sig) → Buf (Elt Bits) ℓ) (g : Dev Cert.Wi.nD → PrngReg), Pre_Wi m →
    θ_run (Cert.Wi.defs (F := Bits)) (onTc (τ := Cert.Wi.τ) (Cert.Wi.main (F := Bits))) ⟨m, fun _ => 0, g⟩ (fun r => (∀ c : Dev Cert.Wi.nD,
      r.2.mem ((c.tc : Thread Cert.Wi.nD Cert.Wi.τ).loc Cert.Wi.main_arg0) = m ((c.tc : Thread Cert.Wi.nD Cert.Wi.τ).loc Cert.Wi.main_arg0)
      ∧ r.2.mem ((c.tc : Thread Cert.Wi.nD Cert.Wi.τ).loc Cert.Wi.main_arg1) = m ((c.tc : Thread Cert.Wi.nD Cert.Wi.τ).loc Cert.Wi.main_arg1))
      ∧ r.2.sem = fun _ => 0)

def quiescent_WiIdeal [hWiIdeal : Cert.WiIdeal.Facts] : Prop :=
  ∀ (m : (ℓ : Loc Cert.WiIdeal.nD Cert.WiIdeal.τ Cert.WiIdeal.sig) → Buf (Elt Ideal) ℓ) (g : Dev Cert.WiIdeal.nD → PrngReg), Pre_WiIdeal m →
    θ_run (Cert.WiIdeal.defs (F := Ideal)) (onTc (τ := Cert.WiIdeal.τ) (Cert.WiIdeal.main (F := Ideal))) ⟨m, fun _ => 0, g⟩ (fun r => (∀ c : Dev Cert.WiIdeal.nD,
      r.2.mem ((c.tc : Thread Cert.WiIdeal.nD Cert.WiIdeal.τ).loc Cert.WiIdeal.main_arg0) = m ((c.tc : Thread Cert.WiIdeal.nD Cert.WiIdeal.τ).loc Cert.WiIdeal.main_arg0)
      ∧ r.2.mem ((c.tc : Thread Cert.WiIdeal.nD Cert.WiIdeal.τ).loc Cert.WiIdeal.main_arg1) = m ((c.tc : Thread Cert.WiIdeal.nD Cert.WiIdeal.τ).loc Cert.WiIdeal.main_arg1))
      ∧ r.2.sem = fun _ => 0)

def quiescent_WiRefIdeal [hWiRefIdeal : Cert.WiRefIdeal.Facts] : Prop :=
  ∀ (m : (ℓ : Loc Cert.WiRefIdeal.nD Cert.WiRefIdeal.τ Cert.WiRefIdeal.sig) → Buf (Elt Ideal) ℓ) (g : Dev Cert.WiRefIdeal.nD → PrngReg), Pre_WiRefIdeal m →
    θ_run (Cert.WiRefIdeal.defs (F := Ideal)) (onTc (τ := Cert.WiRefIdeal.τ) (Cert.WiRefIdeal.main (F := Ideal))) ⟨m, fun _ => 0, g⟩ (fun r => (∀ c : Dev Cert.WiRefIdeal.nD,
      r.2.mem ((c.tc : Thread Cert.WiRefIdeal.nD Cert.WiRefIdeal.τ).loc Cert.WiRefIdeal.main_arg0) = m ((c.tc : Thread Cert.WiRefIdeal.nD Cert.WiRefIdeal.τ).loc Cert.WiRefIdeal.main_arg0)
      ∧ r.2.mem ((c.tc : Thread Cert.WiRefIdeal.nD Cert.WiRefIdeal.τ).loc Cert.WiRefIdeal.main_arg1) = m ((c.tc : Thread Cert.WiRefIdeal.nD Cert.WiRefIdeal.τ).loc Cert.WiRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1))
      ∧ r.2.sem = fun _ => 0)

def quiescent_HalvesMix [hHalvesMix : Cert.HalvesMix.Facts] [hPre_halves_of_pair : Cert.Pre_halves_of_pair.Facts] : Prop :=
  ∀ (m : (ℓ : Loc Cert.HalvesMix.nD Cert.HalvesMix.τ Cert.HalvesMix.sig) → Buf (Elt Bits) ℓ) (g : Dev Cert.HalvesMix.nD → PrngReg), Pre_HalvesMix m →
    θ_run (Cert.HalvesMix.defs (F := Bits)) (onTc (τ := Cert.HalvesMix.τ) (Cert.HalvesMix.main (F := Bits))) ⟨m, fun _ => 0, g⟩ (fun r => (∀ c : Dev Cert.HalvesMix.nD,
      r.2.mem ((c.tc : Thread Cert.HalvesMix.nD Cert.HalvesMix.τ).loc Cert.HalvesMix.main_arg0) = m ((c.tc : Thread Cert.HalvesMix.nD Cert.HalvesMix.τ).loc Cert.HalvesMix.main_arg0)
      ∧ r.2.mem ((c.tc : Thread Cert.HalvesMix.nD Cert.HalvesMix.τ).loc Cert.HalvesMix.main_arg1) = m ((c.tc : Thread Cert.HalvesMix.nD Cert.HalvesMix.τ).loc Cert.HalvesMix.main_arg1)
      ∧ r.2.mem ((c.tc : Thread Cert.HalvesMix.nD Cert.HalvesMix.τ).loc Cert.HalvesMix.main_arg2) = m ((c.tc : Thread Cert.HalvesMix.nD Cert.HalvesMix.τ).loc Cert.HalvesMix.main_arg2)
      ∧ r.2.mem ((c.tc : Thread Cert.HalvesMix.nD Cert.HalvesMix.τ).loc Cert.HalvesMix.main_arg3) = m ((c.tc : Thread Cert.HalvesMix.nD Cert.HalvesMix.τ).loc Cert.HalvesMix.main_arg3)
      ∧ r.2.mem ((c.tc : Thread Cert.HalvesMix.nD Cert.HalvesMix.τ).loc Cert.HalvesMix.main_arg4) = m ((c.tc : Thread Cert.HalvesMix.nD Cert.HalvesMix.τ).loc Cert.HalvesMix.main_arg4))
      ∧ r.2.sem = fun _ => 0)

def quiescent_HalvesMixIdeal [hHalvesMixIdeal : Cert.HalvesMixIdeal.Facts] [hPre_halves_of_pair : Cert.Pre_halves_of_pair.Facts] : Prop :=
  ∀ (m : (ℓ : Loc Cert.HalvesMixIdeal.nD Cert.HalvesMixIdeal.τ Cert.HalvesMixIdeal.sig) → Buf (Elt Ideal) ℓ) (g : Dev Cert.HalvesMixIdeal.nD → PrngReg), Pre_HalvesMixIdeal m →
    θ_run (Cert.HalvesMixIdeal.defs (F := Ideal)) (onTc (τ := Cert.HalvesMixIdeal.τ) (Cert.HalvesMixIdeal.main (F := Ideal))) ⟨m, fun _ => 0, g⟩ (fun r => (∀ c : Dev Cert.HalvesMixIdeal.nD,
      r.2.mem ((c.tc : Thread Cert.HalvesMixIdeal.nD Cert.HalvesMixIdeal.τ).loc Cert.HalvesMixIdeal.main_arg0) = m ((c.tc : Thread Cert.HalvesMixIdeal.nD Cert.HalvesMixIdeal.τ).loc Cert.HalvesMixIdeal.main_arg0)
      ∧ r.2.mem ((c.tc : Thread Cert.HalvesMixIdeal.nD Cert.HalvesMixIdeal.τ).loc Cert.HalvesMixIdeal.main_arg1) = m ((c.tc : Thread Cert.HalvesMixIdeal.nD Cert.HalvesMixIdeal.τ).loc Cert.HalvesMixIdeal.main_arg1)
      ∧ r.2.mem ((c.tc : Thread Cert.HalvesMixIdeal.nD Cert.HalvesMixIdeal.τ).loc Cert.HalvesMixIdeal.main_arg2) = m ((c.tc : Thread Cert.HalvesMixIdeal.nD Cert.HalvesMixIdeal.τ).loc Cert.HalvesMixIdeal.main_arg2)
      ∧ r.2.mem ((c.tc : Thread Cert.HalvesMixIdeal.nD Cert.HalvesMixIdeal.τ).loc Cert.HalvesMixIdeal.main_arg3) = m ((c.tc : Thread Cert.HalvesMixIdeal.nD Cert.HalvesMixIdeal.τ).loc Cert.HalvesMixIdeal.main_arg3)
      ∧ r.2.mem ((c.tc : Thread Cert.HalvesMixIdeal.nD Cert.HalvesMixIdeal.τ).loc Cert.HalvesMixIdeal.main_arg4) = m ((c.tc : Thread Cert.HalvesMixIdeal.nD Cert.HalvesMixIdeal.τ).loc Cert.HalvesMixIdeal.main_arg4))
      ∧ r.2.sem = fun _ => 0)

def quiescent_HalvesMixRefIdeal [hHalvesMixRefIdeal : Cert.HalvesMixRefIdeal.Facts] : Prop :=
  ∀ (m : (ℓ : Loc Cert.HalvesMixRefIdeal.nD Cert.HalvesMixRefIdeal.τ Cert.HalvesMixRefIdeal.sig) → Buf (Elt Ideal) ℓ) (g : Dev Cert.HalvesMixRefIdeal.nD → PrngReg), Pre_HalvesMixRefIdeal m →
    θ_run (Cert.HalvesMixRefIdeal.defs (F := Ideal)) (onTc (τ := Cert.HalvesMixRefIdeal.τ) (Cert.HalvesMixRefIdeal.main (F := Ideal))) ⟨m, fun _ => 0, g⟩ (fun r => (∀ c : Dev Cert.HalvesMixRefIdeal.nD,
      r.2.mem ((c.tc : Thread Cert.HalvesMixRefIdeal.nD Cert.HalvesMixRefIdeal.τ).loc Cert.HalvesMixRefIdeal.main_arg0) = m ((c.tc : Thread Cert.HalvesMixRefIdeal.nD Cert.HalvesMixRefIdeal.τ).loc Cert.HalvesMixRefIdeal.main_arg0)
      ∧ r.2.mem ((c.tc : Thread Cert.HalvesMixRefIdeal.nD Cert.HalvesMixRefIdeal.τ).loc Cert.HalvesMixRefIdeal.main_arg1) = m ((c.tc : Thread Cert.HalvesMixRefIdeal.nD Cert.HalvesMixRefIdeal.τ).loc Cert.HalvesMixRefIdeal.main_arg1)
      ∧ r.2.mem ((c.tc : Thread Cert.HalvesMixRefIdeal.nD Cert.HalvesMixRefIdeal.τ).loc Cert.HalvesMixRefIdeal.main_arg2) = m ((c.tc : Thread Cert.HalvesMixRefIdeal.nD Cert.HalvesMixRefIdeal.τ).loc Cert.HalvesMixRefIdeal.main_arg2)
      ∧ r.2.mem ((c.tc : Thread Cert.HalvesMixRefIdeal.nD Cert.HalvesMixRefIdeal.τ).loc Cert.HalvesMixRefIdeal.main_arg3) = m ((c.tc : Thread Cert.HalvesMixRefIdeal.nD Cert.HalvesMixRefIdeal.τ).loc Cert.HalvesMixRefIdeal.main_arg3)
      ∧ r.2.mem ((c.tc : Thread Cert.HalvesMixRefIdeal.nD Cert.HalvesMixRefIdeal.τ).loc Cert.HalvesMixRefIdeal.main_arg4) = m ((c.tc : Thread Cert.HalvesMixRefIdeal.nD Cert.HalvesMixRefIdeal.τ).loc Cert.HalvesMixRefIdeal.main_arg4))
      ∧ r.2.sem = fun _ => 0)

def quiescent_HalvesMixRefIdeal_pre_halves_of_pair [hHalvesMixRefIdeal : Cert.HalvesMixRefIdeal.Facts] [hPre_halves_of_pair : Cert.Pre_halves_of_pair.Facts] : Prop :=
  ∀ (m : (ℓ : Loc Cert.HalvesMixRefIdeal.nD Cert.HalvesMixRefIdeal.τ Cert.HalvesMixRefIdeal.sig) → Buf (Elt Ideal) ℓ) (g : Dev Cert.HalvesMixRefIdeal.nD → PrngReg), Pre_HalvesMixRefIdeal_halves_of_pair m →
    θ_run (Cert.HalvesMixRefIdeal.defs (F := Ideal)) (onTc (τ := Cert.HalvesMixRefIdeal.τ) (Cert.HalvesMixRefIdeal.main (F := Ideal))) ⟨m, fun _ => 0, g⟩ (fun r => (∀ c : Dev Cert.HalvesMixRefIdeal.nD,
      r.2.mem ((c.tc : Thread Cert.HalvesMixRefIdeal.nD Cert.HalvesMixRefIdeal.τ).loc Cert.HalvesMixRefIdeal.main_arg0) = m ((c.tc : Thread Cert.HalvesMixRefIdeal.nD Cert.HalvesMixRefIdeal.τ).loc Cert.HalvesMixRefIdeal.main_arg0)
      ∧ r.2.mem ((c.tc : Thread Cert.HalvesMixRefIdeal.nD Cert.HalvesMixRefIdeal.τ).loc Cert.HalvesMixRefIdeal.main_arg1) = m ((c.tc : Thread Cert.HalvesMixRefIdeal.nD Cert.HalvesMixRefIdeal.τ).loc Cert.HalvesMixRefIdeal.main_arg1)
      ∧ r.2.mem ((c.tc : Thread Cert.HalvesMixRefIdeal.nD Cert.HalvesMixRefIdeal.τ).loc Cert.HalvesMixRefIdeal.main_arg2) = m ((c.tc : Thread Cert.HalvesMixRefIdeal.nD Cert.HalvesMixRefIdeal.τ).loc Cert.HalvesMixRefIdeal.main_arg2)
      ∧ r.2.mem ((c.tc : Thread Cert.HalvesMixRefIdeal.nD Cert.HalvesMixRefIdeal.τ).loc Cert.HalvesMixRefIdeal.main_arg3) = m ((c.tc : Thread Cert.HalvesMixRefIdeal.nD Cert.HalvesMixRefIdeal.τ).loc Cert.HalvesMixRefIdeal.main_arg3)
      ∧ r.2.mem ((c.tc : Thread Cert.HalvesMixRefIdeal.nD Cert.HalvesMixRefIdeal.τ).loc Cert.HalvesMixRefIdeal.main_arg4) = m ((c.tc : Thread Cert.HalvesMixRefIdeal.nD Cert.HalvesMixRefIdeal.τ).loc Cert.HalvesMixRefIdeal.main_arg4))
      ∧ r.2.sem = fun _ => 0)

def quiescent_HalvesFfn [hHalvesFfn : Cert.HalvesFfn.Facts] [hPre_halves_of_pair_ffn : Cert.Pre_halves_of_pair_ffn.Facts] : Prop :=
  ∀ (m : (ℓ : Loc Cert.HalvesFfn.nD Cert.HalvesFfn.τ Cert.HalvesFfn.sig) → Buf (Elt Bits) ℓ) (g : Dev Cert.HalvesFfn.nD → PrngReg), Pre_HalvesFfn m →
    θ_run (Cert.HalvesFfn.defs (F := Bits)) (onTc (τ := Cert.HalvesFfn.τ) (Cert.HalvesFfn.main (F := Bits))) ⟨m, fun _ => 0, g⟩ (fun r => (∀ c : Dev Cert.HalvesFfn.nD,
      r.2.mem ((c.tc : Thread Cert.HalvesFfn.nD Cert.HalvesFfn.τ).loc Cert.HalvesFfn.main_arg0) = m ((c.tc : Thread Cert.HalvesFfn.nD Cert.HalvesFfn.τ).loc Cert.HalvesFfn.main_arg0)
      ∧ r.2.mem ((c.tc : Thread Cert.HalvesFfn.nD Cert.HalvesFfn.τ).loc Cert.HalvesFfn.main_arg1) = m ((c.tc : Thread Cert.HalvesFfn.nD Cert.HalvesFfn.τ).loc Cert.HalvesFfn.main_arg1)
      ∧ r.2.mem ((c.tc : Thread Cert.HalvesFfn.nD Cert.HalvesFfn.τ).loc Cert.HalvesFfn.main_arg2) = m ((c.tc : Thread Cert.HalvesFfn.nD Cert.HalvesFfn.τ).loc Cert.HalvesFfn.main_arg2)
      ∧ r.2.mem ((c.tc : Thread Cert.HalvesFfn.nD Cert.HalvesFfn.τ).loc Cert.HalvesFfn.main_arg3) = m ((c.tc : Thread Cert.HalvesFfn.nD Cert.HalvesFfn.τ).loc Cert.HalvesFfn.main_arg3)
      ∧ r.2.mem ((c.tc : Thread Cert.HalvesFfn.nD Cert.HalvesFfn.τ).loc Cert.HalvesFfn.main_arg4) = m ((c.tc : Thread Cert.HalvesFfn.nD Cert.HalvesFfn.τ).loc Cert.HalvesFfn.main_arg4)
      ∧ r.2.mem ((c.tc : Thread Cert.HalvesFfn.nD Cert.HalvesFfn.τ).loc Cert.HalvesFfn.main_arg5) = m ((c.tc : Thread Cert.HalvesFfn.nD Cert.HalvesFfn.τ).loc Cert.HalvesFfn.main_arg5)
      ∧ r.2.mem ((c.tc : Thread Cert.HalvesFfn.nD Cert.HalvesFfn.τ).loc Cert.HalvesFfn.main_arg6) = m ((c.tc : Thread Cert.HalvesFfn.nD Cert.HalvesFfn.τ).loc Cert.HalvesFfn.main_arg6)
      ∧ r.2.mem ((c.tc : Thread Cert.HalvesFfn.nD Cert.HalvesFfn.τ).loc Cert.HalvesFfn.main_arg7) = m ((c.tc : Thread Cert.HalvesFfn.nD Cert.HalvesFfn.τ).loc Cert.HalvesFfn.main_arg7)
      ∧ r.2.mem ((c.tc : Thread Cert.HalvesFfn.nD Cert.HalvesFfn.τ).loc Cert.HalvesFfn.main_arg8) = m ((c.tc : Thread Cert.HalvesFfn.nD Cert.HalvesFfn.τ).loc Cert.HalvesFfn.main_arg8))
      ∧ r.2.sem = fun _ => 0)

def quiescent_HalvesFfnIdeal [hHalvesFfnIdeal : Cert.HalvesFfnIdeal.Facts] [hPre_halves_of_pair_ffn : Cert.Pre_halves_of_pair_ffn.Facts] : Prop :=
  ∀ (m : (ℓ : Loc Cert.HalvesFfnIdeal.nD Cert.HalvesFfnIdeal.τ Cert.HalvesFfnIdeal.sig) → Buf (Elt Ideal) ℓ) (g : Dev Cert.HalvesFfnIdeal.nD → PrngReg), Pre_HalvesFfnIdeal m →
    θ_run (Cert.HalvesFfnIdeal.defs (F := Ideal)) (onTc (τ := Cert.HalvesFfnIdeal.τ) (Cert.HalvesFfnIdeal.main (F := Ideal))) ⟨m, fun _ => 0, g⟩ (fun r => (∀ c : Dev Cert.HalvesFfnIdeal.nD,
      r.2.mem ((c.tc : Thread Cert.HalvesFfnIdeal.nD Cert.HalvesFfnIdeal.τ).loc Cert.HalvesFfnIdeal.main_arg0) = m ((c.tc : Thread Cert.HalvesFfnIdeal.nD Cert.HalvesFfnIdeal.τ).loc Cert.HalvesFfnIdeal.main_arg0)
      ∧ r.2.mem ((c.tc : Thread Cert.HalvesFfnIdeal.nD Cert.HalvesFfnIdeal.τ).loc Cert.HalvesFfnIdeal.main_arg1) = m ((c.tc : Thread Cert.HalvesFfnIdeal.nD Cert.HalvesFfnIdeal.τ).loc Cert.HalvesFfnIdeal.main_arg1)
      ∧ r.2.mem ((c.tc : Thread Cert.HalvesFfnIdeal.nD Cert.HalvesFfnIdeal.τ).loc Cert.HalvesFfnIdeal.main_arg2) = m ((c.tc : Thread Cert.HalvesFfnIdeal.nD Cert.HalvesFfnIdeal.τ).loc Cert.HalvesFfnIdeal.main_arg2)
      ∧ r.2.mem ((c.tc : Thread Cert.HalvesFfnIdeal.nD Cert.HalvesFfnIdeal.τ).loc Cert.HalvesFfnIdeal.main_arg3) = m ((c.tc : Thread Cert.HalvesFfnIdeal.nD Cert.HalvesFfnIdeal.τ).loc Cert.HalvesFfnIdeal.main_arg3)
      ∧ r.2.mem ((c.tc : Thread Cert.HalvesFfnIdeal.nD Cert.HalvesFfnIdeal.τ).loc Cert.HalvesFfnIdeal.main_arg4) = m ((c.tc : Thread Cert.HalvesFfnIdeal.nD Cert.HalvesFfnIdeal.τ).loc Cert.HalvesFfnIdeal.main_arg4)
      ∧ r.2.mem ((c.tc : Thread Cert.HalvesFfnIdeal.nD Cert.HalvesFfnIdeal.τ).loc Cert.HalvesFfnIdeal.main_arg5) = m ((c.tc : Thread Cert.HalvesFfnIdeal.nD Cert.HalvesFfnIdeal.τ).loc Cert.HalvesFfnIdeal.main_arg5)
      ∧ r.2.mem ((c.tc : Thread Cert.HalvesFfnIdeal.nD Cert.HalvesFfnIdeal.τ).loc Cert.HalvesFfnIdeal.main_arg6) = m ((c.tc : Thread Cert.HalvesFfnIdeal.nD Cert.HalvesFfnIdeal.τ).loc Cert.HalvesFfnIdeal.main_arg6)
      ∧ r.2.mem ((c.tc : Thread Cert.HalvesFfnIdeal.nD Cert.HalvesFfnIdeal.τ).loc Cert.HalvesFfnIdeal.main_arg7) = m ((c.tc : Thread Cert.HalvesFfnIdeal.nD Cert.HalvesFfnIdeal.τ).loc Cert.HalvesFfnIdeal.main_arg7)
      ∧ r.2.mem ((c.tc : Thread Cert.HalvesFfnIdeal.nD Cert.HalvesFfnIdeal.τ).loc Cert.HalvesFfnIdeal.main_arg8) = m ((c.tc : Thread Cert.HalvesFfnIdeal.nD Cert.HalvesFfnIdeal.τ).loc Cert.HalvesFfnIdeal.main_arg8))
      ∧ r.2.sem = fun _ => 0)

def quiescent_HalvesFfnRefIdeal [hHalvesFfnRefIdeal : Cert.HalvesFfnRefIdeal.Facts] : Prop :=
  ∀ (m : (ℓ : Loc Cert.HalvesFfnRefIdeal.nD Cert.HalvesFfnRefIdeal.τ Cert.HalvesFfnRefIdeal.sig) → Buf (Elt Ideal) ℓ) (g : Dev Cert.HalvesFfnRefIdeal.nD → PrngReg), Pre_HalvesFfnRefIdeal m →
    θ_run (Cert.HalvesFfnRefIdeal.defs (F := Ideal)) (onTc (τ := Cert.HalvesFfnRefIdeal.τ) (Cert.HalvesFfnRefIdeal.main (F := Ideal))) ⟨m, fun _ => 0, g⟩ (fun r => (∀ c : Dev Cert.HalvesFfnRefIdeal.nD,
      r.2.mem ((c.tc : Thread Cert.HalvesFfnRefIdeal.nD Cert.HalvesFfnRefIdeal.τ).loc Cert.HalvesFfnRefIdeal.main_arg0) = m ((c.tc : Thread Cert.HalvesFfnRefIdeal.nD Cert.HalvesFfnRefIdeal.τ).loc Cert.HalvesFfnRefIdeal.main_arg0)
      ∧ r.2.mem ((c.tc : Thread Cert.HalvesFfnRefIdeal.nD Cert.HalvesFfnRefIdeal.τ).loc Cert.HalvesFfnRefIdeal.main_arg1) = m ((c.tc : Thread Cert.HalvesFfnRefIdeal.nD Cert.HalvesFfnRefIdeal.τ).loc Cert.HalvesFfnRefIdeal.main_arg1)
      ∧ r.2.mem ((c.tc : Thread Cert.HalvesFfnRefIdeal.nD Cert.HalvesFfnRefIdeal.τ).loc Cert.HalvesFfnRefIdeal.main_arg2) = m ((c.tc : Thread Cert.HalvesFfnRefIdeal.nD Cert.HalvesFfnRefIdeal.τ).loc Cert.HalvesFfnRefIdeal.main_arg2)
      ∧ r.2.mem ((c.tc : Thread Cert.HalvesFfnRefIdeal.nD Cert.HalvesFfnRefIdeal.τ).loc Cert.HalvesFfnRefIdeal.main_arg3) = m ((c.tc : Thread Cert.HalvesFfnRefIdeal.nD Cert.HalvesFfnRefIdeal.τ).loc Cert.HalvesFfnRefIdeal.main_arg3)
      ∧ r.2.mem ((c.tc : Thread Cert.HalvesFfnRefIdeal.nD Cert.HalvesFfnRefIdeal.τ).loc Cert.HalvesFfnRefIdeal.main_arg4) = m ((c.tc : Thread Cert.HalvesFfnRefIdeal.nD Cert.HalvesFfnRefIdeal.τ).loc Cert.HalvesFfnRefIdeal.main_arg4)
      ∧ r.2.mem ((c.tc : Thread Cert.HalvesFfnRefIdeal.nD Cert.HalvesFfnRefIdeal.τ).loc Cert.HalvesFfnRefIdeal.main_arg5) = m ((c.tc : Thread Cert.HalvesFfnRefIdeal.nD Cert.HalvesFfnRefIdeal.τ).loc Cert.HalvesFfnRefIdeal.main_arg5)
      ∧ r.2.mem ((c.tc : Thread Cert.HalvesFfnRefIdeal.nD Cert.HalvesFfnRefIdeal.τ).loc Cert.HalvesFfnRefIdeal.main_arg6) = m ((c.tc : Thread Cert.HalvesFfnRefIdeal.nD Cert.HalvesFfnRefIdeal.τ).loc Cert.HalvesFfnRefIdeal.main_arg6)
      ∧ r.2.mem ((c.tc : Thread Cert.HalvesFfnRefIdeal.nD Cert.HalvesFfnRefIdeal.τ).loc Cert.HalvesFfnRefIdeal.main_arg7) = m ((c.tc : Thread Cert.HalvesFfnRefIdeal.nD Cert.HalvesFfnRefIdeal.τ).loc Cert.HalvesFfnRefIdeal.main_arg7)
      ∧ r.2.mem ((c.tc : Thread Cert.HalvesFfnRefIdeal.nD Cert.HalvesFfnRefIdeal.τ).loc Cert.HalvesFfnRefIdeal.main_arg8) = m ((c.tc : Thread Cert.HalvesFfnRefIdeal.nD Cert.HalvesFfnRefIdeal.τ).loc Cert.HalvesFfnRefIdeal.main_arg8))
      ∧ r.2.sem = fun _ => 0)

def quiescent_HalvesFfnRefIdeal_pre_halves_of_pair_ffn [hHalvesFfnRefIdeal : Cert.HalvesFfnRefIdeal.Facts] [hPre_halves_of_pair_ffn : Cert.Pre_halves_of_pair_ffn.Facts] : Prop :=
  ∀ (m : (ℓ : Loc Cert.HalvesFfnRefIdeal.nD Cert.HalvesFfnRefIdeal.τ Cert.HalvesFfnRefIdeal.sig) → Buf (Elt Ideal) ℓ) (g : Dev Cert.HalvesFfnRefIdeal.nD → PrngReg), Pre_HalvesFfnRefIdeal_halves_of_pair_ffn m →
    θ_run (Cert.HalvesFfnRefIdeal.defs (F := Ideal)) (onTc (τ := Cert.HalvesFfnRefIdeal.τ) (Cert.HalvesFfnRefIdeal.main (F := Ideal))) ⟨m, fun _ => 0, g⟩ (fun r => (∀ c : Dev Cert.HalvesFfnRefIdeal.nD,
      r.2.mem ((c.tc : Thread Cert.HalvesFfnRefIdeal.nD Cert.HalvesFfnRefIdeal.τ).loc Cert.HalvesFfnRefIdeal.main_arg0) = m ((c.tc : Thread Cert.HalvesFfnRefIdeal.nD Cert.HalvesFfnRefIdeal.τ).loc Cert.HalvesFfnRefIdeal.main_arg0)
      ∧ r.2.mem ((c.tc : Thread Cert.HalvesFfnRefIdeal.nD Cert.HalvesFfnRefIdeal.τ).loc Cert.HalvesFfnRefIdeal.main_arg1) = m ((c.tc : Thread Cert.HalvesFfnRefIdeal.nD Cert.HalvesFfnRefIdeal.τ).loc Cert.HalvesFfnRefIdeal.main_arg1)
      ∧ r.2.mem ((c.tc : Thread Cert.HalvesFfnRefIdeal.nD Cert.HalvesFfnRefIdeal.τ).loc Cert.HalvesFfnRefIdeal.main_arg2) = m ((c.tc : Thread Cert.HalvesFfnRefIdeal.nD Cert.HalvesFfnRefIdeal.τ).loc Cert.HalvesFfnRefIdeal.main_arg2)
      ∧ r.2.mem ((c.tc : Thread Cert.HalvesFfnRefIdeal.nD Cert.HalvesFfnRefIdeal.τ).loc Cert.HalvesFfnRefIdeal.main_arg3) = m ((c.tc : Thread Cert.HalvesFfnRefIdeal.nD Cert.HalvesFfnRefIdeal.τ).loc Cert.HalvesFfnRefIdeal.main_arg3)
      ∧ r.2.mem ((c.tc : Thread Cert.HalvesFfnRefIdeal.nD Cert.HalvesFfnRefIdeal.τ).loc Cert.HalvesFfnRefIdeal.main_arg4) = m ((c.tc : Thread Cert.HalvesFfnRefIdeal.nD Cert.HalvesFfnRefIdeal.τ).loc Cert.HalvesFfnRefIdeal.main_arg4)
      ∧ r.2.mem ((c.tc : Thread Cert.HalvesFfnRefIdeal.nD Cert.HalvesFfnRefIdeal.τ).loc Cert.HalvesFfnRefIdeal.main_arg5) = m ((c.tc : Thread Cert.HalvesFfnRefIdeal.nD Cert.HalvesFfnRefIdeal.τ).loc Cert.HalvesFfnRefIdeal.main_arg5)
      ∧ r.2.mem ((c.tc : Thread Cert.HalvesFfnRefIdeal.nD Cert.HalvesFfnRefIdeal.τ).loc Cert.HalvesFfnRefIdeal.main_arg6) = m ((c.tc : Thread Cert.HalvesFfnRefIdeal.nD Cert.HalvesFfnRefIdeal.τ).loc Cert.HalvesFfnRefIdeal.main_arg6)
      ∧ r.2.mem ((c.tc : Thread Cert.HalvesFfnRefIdeal.nD Cert.HalvesFfnRefIdeal.τ).loc Cert.HalvesFfnRefIdeal.main_arg7) = m ((c.tc : Thread Cert.HalvesFfnRefIdeal.nD Cert.HalvesFfnRefIdeal.τ).loc Cert.HalvesFfnRefIdeal.main_arg7)
      ∧ r.2.mem ((c.tc : Thread Cert.HalvesFfnRefIdeal.nD Cert.HalvesFfnRefIdeal.τ).loc Cert.HalvesFfnRefIdeal.main_arg8) = m ((c.tc : Thread Cert.HalvesFfnRefIdeal.nD Cert.HalvesFfnRefIdeal.τ).loc Cert.HalvesFfnRefIdeal.main_arg8))
      ∧ r.2.sem = fun _ => 0)

def preserves_Blk_BlkIdeal : Prop :=
  True

def algebraic_BlkIdeal_BlkRefIdeal_pre_blk_finite [hBlkIdeal : Cert.BlkIdeal.Facts] [hBlkRefIdeal : Cert.BlkRefIdeal.Facts] [hPre_blk_finite : Cert.Pre_blk_finite.Facts] : Prop :=
  ∀ (m : (ℓ : Loc Cert.BlkIdeal.nD Cert.BlkIdeal.τ Cert.BlkIdeal.sig) → Buf (Elt Ideal) ℓ) (g : Dev Cert.BlkIdeal.nD → PrngReg)
    (m' : (ℓ : Loc Cert.BlkRefIdeal.nD Cert.BlkRefIdeal.τ Cert.BlkRefIdeal.sig) → Buf (Elt Ideal) ℓ) (g' : Dev Cert.BlkRefIdeal.nD → PrngReg), Pre_BlkIdeal_blk_finite m →
    (∀ c : Dev Cert.BlkIdeal.nD,
      m' ((c.tc : Thread Cert.BlkRefIdeal.nD Cert.BlkRefIdeal.τ).loc Cert.BlkRefIdeal.main_arg0) = m ((c.tc : Thread Cert.BlkIdeal.nD Cert.BlkIdeal.τ).loc Cert.BlkIdeal.main_arg0)
      ∧ m' ((c.tc : Thread Cert.BlkRefIdeal.nD Cert.BlkRefIdeal.τ).loc Cert.BlkRefIdeal.main_arg1) = m ((c.tc : Thread Cert.BlkIdeal.nD Cert.BlkIdeal.τ).loc Cert.BlkIdeal.main_arg1)
      ∧ m' ((c.tc : Thread Cert.BlkRefIdeal.nD Cert.BlkRefIdeal.τ).loc Cert.BlkRefIdeal.main_arg2) = m ((c.tc : Thread Cert.BlkIdeal.nD Cert.BlkIdeal.τ).loc Cert.BlkIdeal.main_arg2)
      ∧ m' ((c.tc : Thread Cert.BlkRefIdeal.nD Cert.BlkRefIdeal.τ).loc Cert.BlkRefIdeal.main_arg3) = m ((c.tc : Thread Cert.BlkIdeal.nD Cert.BlkIdeal.τ).loc Cert.BlkIdeal.main_arg3)
      ∧ m' ((c.tc : Thread Cert.BlkRefIdeal.nD Cert.BlkRefIdeal.τ).loc Cert.BlkRefIdeal.main_arg4) = m ((c.tc : Thread Cert.BlkIdeal.nD Cert.BlkIdeal.τ).loc Cert.BlkIdeal.main_arg4)
      ∧ m' ((c.tc : Thread Cert.BlkRefIdeal.nD Cert.BlkRefIdeal.τ).loc Cert.BlkRefIdeal.main_arg5) = m ((c.tc : Thread Cert.BlkIdeal.nD Cert.BlkIdeal.τ).loc Cert.BlkIdeal.main_arg5)
      ∧ m' ((c.tc : Thread Cert.BlkRefIdeal.nD Cert.BlkRefIdeal.τ).loc Cert.BlkRefIdeal.main_arg6) = m ((c.tc : Thread Cert.BlkIdeal.nD Cert.BlkIdeal.τ).loc Cert.BlkIdeal.main_arg6)
      ∧ m' ((c.tc : Thread Cert.BlkRefIdeal.nD Cert.BlkRefIdeal.τ).loc Cert.BlkRefIdeal.main_arg7) = m ((c.tc : Thread Cert.BlkIdeal.nD Cert.BlkIdeal.τ).loc Cert.BlkIdeal.main_arg7)
      ∧ m' ((c.tc : Thread Cert.BlkRefIdeal.nD Cert.BlkRefIdeal.τ).loc Cert.BlkRefIdeal.main_arg8) = m ((c.tc : Thread Cert.BlkIdeal.nD Cert.BlkIdeal.τ).loc Cert.BlkIdeal.main_arg8)
      ∧ m' ((c.tc : Thread Cert.BlkRefIdeal.nD Cert.BlkRefIdeal.τ).loc Cert.BlkRefIdeal.main_arg9) = m ((c.tc : Thread Cert.BlkIdeal.nD Cert.BlkIdeal.τ).loc Cert.BlkIdeal.main_arg9)) →
    ∃ (v0 : (c : Dev Cert.BlkIdeal.nD) → Buf (Elt Ideal) ((c.tc : Thread Cert.BlkIdeal.nD Cert.BlkIdeal.τ).loc Cert.BlkIdeal.main_v27_0)) (v1 : (c : Dev Cert.BlkIdeal.nD) → Buf (Elt Ideal) ((c.tc : Thread Cert.BlkIdeal.nD Cert.BlkIdeal.τ).loc Cert.BlkIdeal.main_v27_1)) (v2 : (c : Dev Cert.BlkIdeal.nD) → Buf (Elt Ideal) ((c.tc : Thread Cert.BlkIdeal.nD Cert.BlkIdeal.τ).loc Cert.BlkIdeal.main_v27_2)) (v3 : (c : Dev Cert.BlkIdeal.nD) → Buf (Elt Ideal) ((c.tc : Thread Cert.BlkIdeal.nD Cert.BlkIdeal.τ).loc Cert.BlkIdeal.main_v27_3)) (v4 : (c : Dev Cert.BlkIdeal.nD) → Buf (Elt Ideal) ((c.tc : Thread Cert.BlkIdeal.nD Cert.BlkIdeal.τ).loc Cert.BlkIdeal.main_v27_4)) (v5 : (c : Dev Cert.BlkIdeal.nD) → Buf (Elt Ideal) ((c.tc : Thread Cert.BlkIdeal.nD Cert.BlkIdeal.τ).loc Cert.BlkIdeal.main_v27_5)) (v6 : (c : Dev Cert.BlkIdeal.nD) → Buf (Elt Ideal) ((c.tc : Thread Cert.BlkIdeal.nD Cert.BlkIdeal.τ).loc Cert.BlkIdeal.main_v27_6)) (v7 : (c : Dev Cert.BlkIdeal.nD) → Buf (Elt Ideal) ((c.tc : Thread Cert.BlkIdeal.nD Cert.BlkIdeal.τ).loc Cert.BlkIdeal.main_v28)),
      θ_run (Cert.BlkIdeal.defs (F := Ideal)) (onTc (τ := Cert.BlkIdeal.τ) (Cert.BlkIdeal.main (F := Ideal))) ⟨m, fun _ => 0, g⟩ (fun r => ∀ c : Dev Cert.BlkIdeal.nD,
          r.2.mem ((c.tc : Thread Cert.BlkIdeal.nD Cert.BlkIdeal.τ).loc Cert.BlkIdeal.main_v27_0) = v0 c
          ∧ r.2.mem ((c.tc : Thread Cert.BlkIdeal.nD Cert.BlkIdeal.τ).loc Cert.BlkIdeal.main_v27_1) = v1 c
          ∧ r.2.mem ((c.tc : Thread Cert.BlkIdeal.nD Cert.BlkIdeal.τ).loc Cert.BlkIdeal.main_v27_2) = v2 c
          ∧ r.2.mem ((c.tc : Thread Cert.BlkIdeal.nD Cert.BlkIdeal.τ).loc Cert.BlkIdeal.main_v27_3) = v3 c
          ∧ r.2.mem ((c.tc : Thread Cert.BlkIdeal.nD Cert.BlkIdeal.τ).loc Cert.BlkIdeal.main_v27_4) = v4 c
          ∧ r.2.mem ((c.tc : Thread Cert.BlkIdeal.nD Cert.BlkIdeal.τ).loc Cert.BlkIdeal.main_v27_5) = v5 c
          ∧ r.2.mem ((c.tc : Thread Cert.BlkIdeal.nD Cert.BlkIdeal.τ).loc Cert.BlkIdeal.main_v27_6) = v6 c
          ∧ r.2.mem ((c.tc : Thread Cert.BlkIdeal.nD Cert.BlkIdeal.τ).loc Cert.BlkIdeal.main_v28) = v7 c
          ∧ r.2.mem ((c.tc : Thread Cert.BlkIdeal.nD Cert.BlkIdeal.τ).loc Cert.BlkIdeal.main_arg0) = m ((c.tc : Thread Cert.BlkIdeal.nD Cert.BlkIdeal.τ).loc Cert.BlkIdeal.main_arg0)
          ∧ r.2.mem ((c.tc : Thread Cert.BlkIdeal.nD Cert.BlkIdeal.τ).loc Cert.BlkIdeal.main_arg1) = m ((c.tc : Thread Cert.BlkIdeal.nD Cert.BlkIdeal.τ).loc Cert.BlkIdeal.main_arg1)
          ∧ r.2.mem ((c.tc : Thread Cert.BlkIdeal.nD Cert.BlkIdeal.τ).loc Cert.BlkIdeal.main_arg2) = m ((c.tc : Thread Cert.BlkIdeal.nD Cert.BlkIdeal.τ).loc Cert.BlkIdeal.main_arg2)
          ∧ r.2.mem ((c.tc : Thread Cert.BlkIdeal.nD Cert.BlkIdeal.τ).loc Cert.BlkIdeal.main_arg3) = m ((c.tc : Thread Cert.BlkIdeal.nD Cert.BlkIdeal.τ).loc Cert.BlkIdeal.main_arg3)
          ∧ r.2.mem ((c.tc : Thread Cert.BlkIdeal.nD Cert.BlkIdeal.τ).loc Cert.BlkIdeal.main_arg4) = m ((c.tc : Thread Cert.BlkIdeal.nD Cert.BlkIdeal.τ).loc Cert.BlkIdeal.main_arg4)
          ∧ r.2.mem ((c.tc : Thread Cert.BlkIdeal.nD Cert.BlkIdeal.τ).loc Cert.BlkIdeal.main_arg5) = m ((c.tc : Thread Cert.BlkIdeal.nD Cert.BlkIdeal.τ).loc Cert.BlkIdeal.main_arg5)
          ∧ r.2.mem ((c.tc : Thread Cert.BlkIdeal.nD Cert.BlkIdeal.τ).loc Cert.BlkIdeal.main_arg6) = m ((c.tc : Thread Cert.BlkIdeal.nD Cert.BlkIdeal.τ).loc Cert.BlkIdeal.main_arg6)
          ∧ r.2.mem ((c.tc : Thread Cert.BlkIdeal.nD Cert.BlkIdeal.τ).loc Cert.BlkIdeal.main_arg7) = m ((c.tc : Thread Cert.BlkIdeal.nD Cert.BlkIdeal.τ).loc Cert.BlkIdeal.main_arg7)
          ∧ r.2.mem ((c.tc : Thread Cert.BlkIdeal.nD Cert.BlkIdeal.τ).loc Cert.BlkIdeal.main_arg8) = m ((c.tc : Thread Cert.BlkIdeal.nD Cert.BlkIdeal.τ).loc Cert.BlkIdeal.main_arg8)
          ∧ r.2.mem ((c.tc : Thread Cert.BlkIdeal.nD Cert.BlkIdeal.τ).loc Cert.BlkIdeal.main_arg9) = m ((c.tc : Thread Cert.BlkIdeal.nD Cert.BlkIdeal.τ).loc Cert.BlkIdeal.main_arg9))
      ∧ θ_run (Cert.BlkRefIdeal.defs (F := Ideal)) (onTc (τ := Cert.BlkRefIdeal.τ) (Cert.BlkRefIdeal.main (F := Ideal))) ⟨m', fun _ => 0, g'⟩ (fun r => ∀ c : Dev Cert.BlkRefIdeal.nD,
          r.2.mem ((c.tc : Thread Cert.BlkRefIdeal.nD Cert.BlkRefIdeal.τ).loc Cert.BlkRefIdeal.main_v72) = v0 c
          ∧ r.2.mem ((c.tc : Thread Cert.BlkRefIdeal.nD Cert.BlkRefIdeal.τ).loc Cert.BlkRefIdeal.main_v74) = v1 c
          ∧ r.2.mem ((c.tc : Thread Cert.BlkRefIdeal.nD Cert.BlkRefIdeal.τ).loc Cert.BlkRefIdeal.main_v75) = v2 c
          ∧ r.2.mem ((c.tc : Thread Cert.BlkRefIdeal.nD Cert.BlkRefIdeal.τ).loc Cert.BlkRefIdeal.main_v76) = v3 c
          ∧ r.2.mem ((c.tc : Thread Cert.BlkRefIdeal.nD Cert.BlkRefIdeal.τ).loc Cert.BlkRefIdeal.main_v84) = v4 c
          ∧ r.2.mem ((c.tc : Thread Cert.BlkRefIdeal.nD Cert.BlkRefIdeal.τ).loc Cert.BlkRefIdeal.main_v85) = v5 c
          ∧ r.2.mem ((c.tc : Thread Cert.BlkRefIdeal.nD Cert.BlkRefIdeal.τ).loc Cert.BlkRefIdeal.main_v88) = v6 c
          ∧ r.2.mem ((c.tc : Thread Cert.BlkRefIdeal.nD Cert.BlkRefIdeal.τ).loc Cert.BlkRefIdeal.main_v57) = v7 c
          ∧ r.2.mem ((c.tc : Thread Cert.BlkRefIdeal.nD Cert.BlkRefIdeal.τ).loc Cert.BlkRefIdeal.main_arg0) = m' ((c.tc : Thread Cert.BlkRefIdeal.nD Cert.BlkRefIdeal.τ).loc Cert.BlkRefIdeal.main_arg0)
          ∧ r.2.mem ((c.tc : Thread Cert.BlkRefIdeal.nD Cert.BlkRefIdeal.τ).loc Cert.BlkRefIdeal.main_arg1) = m' ((c.tc : Thread Cert.BlkRefIdeal.nD Cert.BlkRefIdeal.τ).loc Cert.BlkRefIdeal.main_arg1)
          ∧ r.2.mem ((c.tc : Thread Cert.BlkRefIdeal.nD Cert.BlkRefIdeal.τ).loc Cert.BlkRefIdeal.main_arg2) = m' ((c.tc : Thread Cert.BlkRefIdeal.nD Cert.BlkRefIdeal.τ).loc Cert.BlkRefIdeal.main_arg2)
          ∧ r.2.mem ((c.tc : Thread Cert.BlkRefIdeal.nD Cert.BlkRefIdeal.τ).loc Cert.BlkRefIdeal.main_arg3) = m' ((c.tc : Thread Cert.BlkRefIdeal.nD Cert.BlkRefIdeal.τ).loc Cert.BlkRefIdeal.main_arg3)
          ∧ r.2.mem ((c.tc : Thread Cert.BlkRefIdeal.nD Cert.BlkRefIdeal.τ).loc Cert.BlkRefIdeal.main_arg4) = m' ((c.tc : Thread Cert.BlkRefIdeal.nD Cert.BlkRefIdeal.τ).loc Cert.BlkRefIdeal.main_arg4)
          ∧ r.2.mem ((c.tc : Thread Cert.BlkRefIdeal.nD Cert.BlkRefIdeal.τ).loc Cert.BlkRefIdeal.main_arg5) = m' ((c.tc : Thread Cert.BlkRefIdeal.nD Cert.BlkRefIdeal.τ).loc Cert.BlkRefIdeal.main_arg5)
          ∧ r.2.mem ((c.tc : Thread Cert.BlkRefIdeal.nD Cert.BlkRefIdeal.τ).loc Cert.BlkRefIdeal.main_arg6) = m' ((c.tc : Thread Cert.BlkRefIdeal.nD Cert.BlkRefIdeal.τ).loc Cert.BlkRefIdeal.main_arg6)
          ∧ r.2.mem ((c.tc : Thread Cert.BlkRefIdeal.nD Cert.BlkRefIdeal.τ).loc Cert.BlkRefIdeal.main_arg7) = m' ((c.tc : Thread Cert.BlkRefIdeal.nD Cert.BlkRefIdeal.τ).loc Cert.BlkRefIdeal.main_arg7)
          ∧ r.2.mem ((c.tc : Thread Cert.BlkRefIdeal.nD Cert.BlkRefIdeal.τ).loc Cert.BlkRefIdeal.main_arg8) = m' ((c.tc : Thread Cert.BlkRefIdeal.nD Cert.BlkRefIdeal.τ).loc Cert.BlkRefIdeal.main_arg8)
          ∧ r.2.mem ((c.tc : Thread Cert.BlkRefIdeal.nD Cert.BlkRefIdeal.τ).loc Cert.BlkRefIdeal.main_arg9) = m' ((c.tc : Thread Cert.BlkRefIdeal.nD Cert.BlkRefIdeal.τ).loc Cert.BlkRefIdeal.main_arg9))

def preserves_Wd_WdIdeal : Prop :=
  True

def algebraic_WdIdeal_WdRefIdeal [hWdIdeal : Cert.WdIdeal.Facts] [hWdRefIdeal : Cert.WdRefIdeal.Facts] : Prop :=
  ∀ (m : (ℓ : Loc Cert.WdIdeal.nD Cert.WdIdeal.τ Cert.WdIdeal.sig) → Buf (Elt Ideal) ℓ) (g : Dev Cert.WdIdeal.nD → PrngReg)
    (m' : (ℓ : Loc Cert.WdRefIdeal.nD Cert.WdRefIdeal.τ Cert.WdRefIdeal.sig) → Buf (Elt Ideal) ℓ) (g' : Dev Cert.WdRefIdeal.nD → PrngReg), Pre_WdIdeal m →
    (∀ c : Dev Cert.WdIdeal.nD,
      m' ((c.tc : Thread Cert.WdRefIdeal.nD Cert.WdRefIdeal.τ).loc Cert.WdRefIdeal.main_arg0) = m ((c.tc : Thread Cert.WdIdeal.nD Cert.WdIdeal.τ).loc Cert.WdIdeal.main_arg0)
      ∧ m' ((c.tc : Thread Cert.WdRefIdeal.nD Cert.WdRefIdeal.τ).loc Cert.WdRefIdeal.main_arg1) = m ((c.tc : Thread Cert.WdIdeal.nD Cert.WdIdeal.τ).loc Cert.WdIdeal.main_arg1)) →
    ∃ (v0 : (c : Dev Cert.WdIdeal.nD) → Buf (Elt Ideal) ((c.tc : Thread Cert.WdIdeal.nD Cert.WdIdeal.τ).loc Cert.WdIdeal.main_v0)),
      θ_run (Cert.WdIdeal.defs (F := Ideal)) (onTc (τ := Cert.WdIdeal.τ) (Cert.WdIdeal.main (F := Ideal))) ⟨m, fun _ => 0, g⟩ (fun r => ∀ c : Dev Cert.WdIdeal.nD,
          r.2.mem ((c.tc : Thread Cert.WdIdeal.nD Cert.WdIdeal.τ).loc Cert.WdIdeal.main_v0) = v0 c
          ∧ r.2.mem ((c.tc : Thread Cert.WdIdeal.nD Cert.WdIdeal.τ).loc Cert.WdIdeal.main_arg0) = m ((c.tc : Thread Cert.WdIdeal.nD Cert.WdIdeal.τ).loc Cert.WdIdeal.main_arg0)
          ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ θ_run (Cert.WdRefIdeal.defs (F := Ideal)) (onTc (τ := Cert.WdRefIdeal.τ) (Cert.WdRefIdeal.main (F := Ideal))) ⟨m', fun _ => 0, g'⟩ (fun r => ∀ c : Dev Cert.WdRefIdeal.nD,
          r.2.mem ((c.tc : Thread Cert.WdRefIdeal.nD Cert.WdRefIdeal.τ).loc Cert.WdRefIdeal.main_v4) = v0 c
          ∧ r.2.mem ((c.tc : Thread Cert.WdRefIdeal.nD Cert.WdRefIdeal.τ).loc Cert.WdRefIdeal.main_arg0) = m' ((c.tc : Thread Cert.WdRefIdeal.nD Cert.WdRefIdeal.τ).loc Cert.WdRefIdeal.main_arg0)
          ∧ r.2.mem ((c.tc : Thread Cert.WdRefIdeal.nD Cert.WdRefIdeal.τ).loc Cert.WdRefIdeal.main_arg1) = m' ((c.tc : Thread Cert.WdRefIdeal.nD Cert.WdRefIdeal.τ).loc Cert.WdRefIdeal.main_arg1))

def preserves_Wg_WgIdeal : Prop :=
  True

def algebraic_WgIdeal_WgRefIdeal [hWgIdeal : Cert.WgIdeal.Facts] [hWgRefIdeal : Cert.WgRefIdeal.Facts] : Prop :=
  ∀ (m : (ℓ : Loc Cert.WgIdeal.nD Cert.WgIdeal.τ Cert.WgIdeal.sig) → Buf (Elt Ideal) ℓ) (g : Dev Cert.WgIdeal.nD → PrngReg)
    (m' : (ℓ : Loc Cert.WgRefIdeal.nD Cert.WgRefIdeal.τ Cert.WgRefIdeal.sig) → Buf (Elt Ideal) ℓ) (g' : Dev Cert.WgRefIdeal.nD → PrngReg), Pre_WgIdeal m →
    (∀ c : Dev Cert.WgIdeal.nD,
      m' ((c.tc : Thread Cert.WgRefIdeal.nD Cert.WgRefIdeal.τ).loc Cert.WgRefIdeal.main_arg0) = m ((c.tc : Thread Cert.WgIdeal.nD Cert.WgIdeal.τ).loc Cert.WgIdeal.main_arg0)
      ∧ m' ((c.tc : Thread Cert.WgRefIdeal.nD Cert.WgRefIdeal.τ).loc Cert.WgRefIdeal.main_arg1) = m ((c.tc : Thread Cert.WgIdeal.nD Cert.WgIdeal.τ).loc Cert.WgIdeal.main_arg1)) →
    ∃ (v0 : (c : Dev Cert.WgIdeal.nD) → Buf (Elt Ideal) ((c.tc : Thread Cert.WgIdeal.nD Cert.WgIdeal.τ).loc Cert.WgIdeal.main_v0)),
      θ_run (Cert.WgIdeal.defs (F := Ideal)) (onTc (τ := Cert.WgIdeal.τ) (Cert.WgIdeal.main (F := Ideal))) ⟨m, fun _ => 0, g⟩ (fun r => ∀ c : Dev Cert.WgIdeal.nD,
          r.2.mem ((c.tc : Thread Cert.WgIdeal.nD Cert.WgIdeal.τ).loc Cert.WgIdeal.main_v0) = v0 c
          ∧ r.2.mem ((c.tc : Thread Cert.WgIdeal.nD Cert.WgIdeal.τ).loc Cert.WgIdeal.main_arg0) = m ((c.tc : Thread Cert.WgIdeal.nD Cert.WgIdeal.τ).loc Cert.WgIdeal.main_arg0)
          ∧ r.2.mem ((c.tc : Thread Cert.WgIdeal.nD Cert.WgIdeal.τ).loc Cert.WgIdeal.main_arg1) = m ((c.tc : Thread Cert.WgIdeal.nD Cert.WgIdeal.τ).loc Cert.WgIdeal.main_arg1))
      ∧ θ_run (Cert.WgRefIdeal.defs (F := Ideal)) (onTc (τ := Cert.WgRefIdeal.τ) (Cert.WgRefIdeal.main (F := Ideal))) ⟨m', fun _ => 0, g'⟩ (fun r => ∀ c : Dev Cert.WgRefIdeal.nD,
          r.2.mem ((c.tc : Thread Cert.WgRefIdeal.nD Cert.WgRefIdeal.τ).loc Cert.WgRefIdeal.main_v6) = v0 c
          ∧ r.2.mem ((c.tc : Thread Cert.WgRefIdeal.nD Cert.WgRefIdeal.τ).loc Cert.WgRefIdeal.main_arg0) = m' ((c.tc : Thread Cert.WgRefIdeal.nD Cert.WgRefIdeal.τ).loc Cert.WgRefIdeal.main_arg0)
          ∧ r.2.mem ((c.tc : Thread Cert.WgRefIdeal.nD Cert.WgRefIdeal.τ).loc Cert.WgRefIdeal.main_arg1) = m' ((c.tc : Thread Cert.WgRefIdeal.nD Cert.WgRefIdeal.τ).loc Cert.WgRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v4) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1))

def preserves_Wi_WiIdeal : Prop :=
  True

def algebraic_WiIdeal_WiRefIdeal [hWiIdeal : Cert.WiIdeal.Facts] [hWiRefIdeal : Cert.WiRefIdeal.Facts] : Prop :=
  ∀ (m : (ℓ : Loc Cert.WiIdeal.nD Cert.WiIdeal.τ Cert.WiIdeal.sig) → Buf (Elt Ideal) ℓ) (g : Dev Cert.WiIdeal.nD → PrngReg)
    (m' : (ℓ : Loc Cert.WiRefIdeal.nD Cert.WiRefIdeal.τ Cert.WiRefIdeal.sig) → Buf (Elt Ideal) ℓ) (g' : Dev Cert.WiRefIdeal.nD → PrngReg), Pre_WiIdeal m →
    (∀ c : Dev Cert.WiIdeal.nD,
      m' ((c.tc : Thread Cert.WiRefIdeal.nD Cert.WiRefIdeal.τ).loc Cert.WiRefIdeal.main_arg0) = m ((c.tc : Thread Cert.WiIdeal.nD Cert.WiIdeal.τ).loc Cert.WiIdeal.main_arg0)
      ∧ m' ((c.tc : Thread Cert.WiRefIdeal.nD Cert.WiRefIdeal.τ).loc Cert.WiRefIdeal.main_arg1) = m ((c.tc : Thread Cert.WiIdeal.nD Cert.WiIdeal.τ).loc Cert.WiIdeal.main_arg1)) →
    ∃ (v0 : (c : Dev Cert.WiIdeal.nD) → Buf (Elt Ideal) ((c.tc : Thread Cert.WiIdeal.nD Cert.WiIdeal.τ).loc Cert.WiIdeal.main_v0)),
      θ_run (Cert.WiIdeal.defs (F := Ideal)) (onTc (τ := Cert.WiIdeal.τ) (Cert.WiIdeal.main (F := Ideal))) ⟨m, fun _ => 0, g⟩ (fun r => ∀ c : Dev Cert.WiIdeal.nD,
          r.2.mem ((c.tc : Thread Cert.WiIdeal.nD Cert.WiIdeal.τ).loc Cert.WiIdeal.main_v0) = v0 c
          ∧ r.2.mem ((c.tc : Thread Cert.WiIdeal.nD Cert.WiIdeal.τ).loc Cert.WiIdeal.main_arg0) = m ((c.tc : Thread Cert.WiIdeal.nD Cert.WiIdeal.τ).loc Cert.WiIdeal.main_arg0)
          ∧ r.2.mem ((c.tc : Thread Cert.WiIdeal.nD Cert.WiIdeal.τ).loc Cert.WiIdeal.main_arg1) = m ((c.tc : Thread Cert.WiIdeal.nD Cert.WiIdeal.τ).loc Cert.WiIdeal.main_arg1))
      ∧ θ_run (Cert.WiRefIdeal.defs (F := Ideal)) (onTc (τ := Cert.WiRefIdeal.τ) (Cert.WiRefIdeal.main (F := Ideal))) ⟨m', fun _ => 0, g'⟩ (fun r => ∀ c : Dev Cert.WiRefIdeal.nD,
          r.2.mem ((c.tc : Thread Cert.WiRefIdeal.nD Cert.WiRefIdeal.τ).loc Cert.WiRefIdeal.main_v6) = v0 c
          ∧ r.2.mem ((c.tc : Thread Cert.WiRefIdeal.nD Cert.WiRefIdeal.τ).loc Cert.WiRefIdeal.main_arg0) = m' ((c.tc : Thread Cert.WiRefIdeal.nD Cert.WiRefIdeal.τ).loc Cert.WiRefIdeal.main_arg0)
          ∧ r.2.mem ((c.tc : Thread Cert.WiRefIdeal.nD Cert.WiRefIdeal.τ).loc Cert.WiRefIdeal.main_arg1) = m' ((c.tc : Thread Cert.WiRefIdeal.nD Cert.WiRefIdeal.τ).loc Cert.WiRefIdeal.main_arg1))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)) →
    ∃ (v0 : (c : Dev Cert.FwdIdeal.nD) → Buf (Elt Ideal) ((c.tc : Thread Cert.FwdIdeal.nD Cert.FwdIdeal.τ).loc Cert.FwdIdeal.main_v10_0)) (v1 : (c : Dev Cert.FwdIdeal.nD) → Buf (Elt Ideal) ((c.tc : Thread Cert.FwdIdeal.nD Cert.FwdIdeal.τ).loc Cert.FwdIdeal.main_v10_1)) (v2 : (c : Dev Cert.FwdIdeal.nD) → Buf (Elt Ideal) ((c.tc : Thread Cert.FwdIdeal.nD Cert.FwdIdeal.τ).loc Cert.FwdIdeal.main_v10_2)) (v3 : (c : Dev Cert.FwdIdeal.nD) → Buf (Elt Ideal) ((c.tc : Thread Cert.FwdIdeal.nD Cert.FwdIdeal.τ).loc Cert.FwdIdeal.main_v10_3)) (v4 : (c : Dev Cert.FwdIdeal.nD) → Buf (Elt Ideal) ((c.tc : Thread Cert.FwdIdeal.nD Cert.FwdIdeal.τ).loc Cert.FwdIdeal.main_v10_4)) (v5 : (c : Dev Cert.FwdIdeal.nD) → Buf (Elt Ideal) ((c.tc : Thread Cert.FwdIdeal.nD Cert.FwdIdeal.τ).loc Cert.FwdIdeal.main_v10_5)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v10_0) = v0 c
          ∧ r.2.mem ((c.tc : Thread Cert.FwdIdeal.nD Cert.FwdIdeal.τ).loc Cert.FwdIdeal.main_v10_1) = v1 c
          ∧ r.2.mem ((c.tc : Thread Cert.FwdIdeal.nD Cert.FwdIdeal.τ).loc Cert.FwdIdeal.main_v10_2) = v2 c
          ∧ r.2.mem ((c.tc : Thread Cert.FwdIdeal.nD Cert.FwdIdeal.τ).loc Cert.FwdIdeal.main_v10_3) = v3 c
          ∧ r.2.mem ((c.tc : Thread Cert.FwdIdeal.nD Cert.FwdIdeal.τ).loc Cert.FwdIdeal.main_v10_4) = v4 c
          ∧ r.2.mem ((c.tc : Thread Cert.FwdIdeal.nD Cert.FwdIdeal.τ).loc Cert.FwdIdeal.main_v10_5) = v5 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v2) = v0 c
          ∧ r.2.mem ((c.tc : Thread Cert.FwdRefIdeal.nD Cert.FwdRefIdeal.τ).loc Cert.FwdRefIdeal.main_v21) = v1 c
          ∧ r.2.mem ((c.tc : Thread Cert.FwdRefIdeal.nD Cert.FwdRefIdeal.τ).loc Cert.FwdRefIdeal.main_v22) = v2 c
          ∧ r.2.mem ((c.tc : Thread Cert.FwdRefIdeal.nD Cert.FwdRefIdeal.τ).loc Cert.FwdRefIdeal.main_v23) = v3 c
          ∧ r.2.mem ((c.tc : Thread Cert.FwdRefIdeal.nD Cert.FwdRefIdeal.τ).loc Cert.FwdRefIdeal.main_v24) = v4 c
          ∧ r.2.mem ((c.tc : Thread Cert.FwdRefIdeal.nD Cert.FwdRefIdeal.τ).loc Cert.FwdRefIdeal.main_v25) = v5 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v11_0)) (v1 : (c : Dev Cert.HeadIdeal.nD) → Buf (Elt Ideal) ((c.tc : Thread Cert.HeadIdeal.nD Cert.HeadIdeal.τ).loc Cert.HeadIdeal.main_v11_1)) (v2 : (c : Dev Cert.HeadIdeal.nD) → Buf (Elt Ideal) ((c.tc : Thread Cert.HeadIdeal.nD Cert.HeadIdeal.τ).loc Cert.HeadIdeal.main_v11_2)) (v3 : (c : Dev Cert.HeadIdeal.nD) → Buf (Elt Ideal) ((c.tc : Thread Cert.HeadIdeal.nD Cert.HeadIdeal.τ).loc Cert.HeadIdeal.main_v11_3)) (v4 : (c : Dev Cert.HeadIdeal.nD) → Buf (Elt Ideal) ((c.tc : Thread Cert.HeadIdeal.nD Cert.HeadIdeal.τ).loc Cert.HeadIdeal.main_v11_4)) (v5 : (c : Dev Cert.HeadIdeal.nD) → Buf (Elt Ideal) ((c.tc : Thread Cert.HeadIdeal.nD Cert.HeadIdeal.τ).loc Cert.HeadIdeal.main_v11_5)) (v6 : (c : Dev Cert.HeadIdeal.nD) → Buf (Elt Ideal) ((c.tc : Thread Cert.HeadIdeal.nD Cert.HeadIdeal.τ).loc Cert.HeadIdeal.main_v13)) (v7 : (c : Dev Cert.HeadIdeal.nD) → Buf (Elt Ideal) ((c.tc : Thread Cert.HeadIdeal.nD Cert.HeadIdeal.τ).loc Cert.HeadIdeal.main_v14)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v11_0) = v0 c
          ∧ r.2.mem ((c.tc : Thread Cert.HeadIdeal.nD Cert.HeadIdeal.τ).loc Cert.HeadIdeal.main_v11_1) = v1 c
          ∧ r.2.mem ((c.tc : Thread Cert.HeadIdeal.nD Cert.HeadIdeal.τ).loc Cert.HeadIdeal.main_v11_2) = v2 c
          ∧ r.2.mem ((c.tc : Thread Cert.HeadIdeal.nD Cert.HeadIdeal.τ).loc Cert.HeadIdeal.main_v11_3) = v3 c
          ∧ r.2.mem ((c.tc : Thread Cert.HeadIdeal.nD Cert.HeadIdeal.τ).loc Cert.HeadIdeal.main_v11_4) = v4 c
          ∧ r.2.mem ((c.tc : Thread Cert.HeadIdeal.nD Cert.HeadIdeal.τ).loc Cert.HeadIdeal.main_v11_5) = v5 c
          ∧ r.2.mem ((c.tc : Thread Cert.HeadIdeal.nD Cert.HeadIdeal.τ).loc Cert.HeadIdeal.main_v13) = v6 c
          ∧ r.2.mem ((c.tc : Thread Cert.HeadIdeal.nD Cert.HeadIdeal.τ).loc Cert.HeadIdeal.main_v14) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v2) = v0 c
          ∧ r.2.mem ((c.tc : Thread Cert.HeadRefIdeal.nD Cert.HeadRefIdeal.τ).loc Cert.HeadRefIdeal.main_v76) = v1 c
          ∧ r.2.mem ((c.tc : Thread Cert.HeadRefIdeal.nD Cert.HeadRefIdeal.τ).loc Cert.HeadRefIdeal.main_v22) = v2 c
          ∧ r.2.mem ((c.tc : Thread Cert.HeadRefIdeal.nD Cert.HeadRefIdeal.τ).loc Cert.HeadRefIdeal.main_v23) = v3 c
          ∧ r.2.mem ((c.tc : Thread Cert.HeadRefIdeal.nD Cert.HeadRefIdeal.τ).loc Cert.HeadRefIdeal.main_v24) = v4 c
          ∧ r.2.mem ((c.tc : Thread Cert.HeadRefIdeal.nD Cert.HeadRefIdeal.τ).loc Cert.HeadRefIdeal.main_v25) = v5 c
          ∧ r.2.mem ((c.tc : Thread Cert.HeadRefIdeal.nD Cert.HeadRefIdeal.τ).loc Cert.HeadRefIdeal.main_v50) = v6 c
          ∧ r.2.mem ((c.tc : Thread Cert.HeadRefIdeal.nD Cert.HeadRefIdeal.τ).loc Cert.HeadRefIdeal.main_v62) = v7 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)
      ∧ m' ((c.tc : Thread Cert.SumsRefIdeal.nD Cert.SumsRefIdeal.τ).loc Cert.SumsRefIdeal.main_arg1) = m ((c.tc : Thread Cert.SumsIdeal.nD Cert.SumsIdeal.τ).loc Cert.SumsIdeal.main_arg1)) →
    ∃ (v0 : (c : Dev Cert.SumsIdeal.nD) → Buf (Elt Ideal) ((c.tc : Thread Cert.SumsIdeal.nD Cert.SumsIdeal.τ).loc Cert.SumsIdeal.main_v67)) (v1 : (c : Dev Cert.SumsIdeal.nD) → Buf (Elt Ideal) ((c.tc : Thread Cert.SumsIdeal.nD Cert.SumsIdeal.τ).loc Cert.SumsIdeal.main_v3)) (v2 : (c : Dev Cert.SumsIdeal.nD) → Buf (Elt Ideal) ((c.tc : Thread Cert.SumsIdeal.nD Cert.SumsIdeal.τ).loc Cert.SumsIdeal.main_v7)) (v3 : (c : Dev Cert.SumsIdeal.nD) → Buf (Elt Ideal) ((c.tc : Thread Cert.SumsIdeal.nD Cert.SumsIdeal.τ).loc Cert.SumsIdeal.main_v11)) (v4 : (c : Dev Cert.SumsIdeal.nD) → Buf (Elt Ideal) ((c.tc : Thread Cert.SumsIdeal.nD Cert.SumsIdeal.τ).loc Cert.SumsIdeal.main_v15)) (v5 : (c : Dev Cert.SumsIdeal.nD) → Buf (Elt Ideal) ((c.tc : Thread Cert.SumsIdeal.nD Cert.SumsIdeal.τ).loc Cert.SumsIdeal.main_v68)) (v6 : (c : Dev Cert.SumsIdeal.nD) → Buf (Elt Ideal) ((c.tc : Thread Cert.SumsIdeal.nD Cert.SumsIdeal.τ).loc Cert.SumsIdeal.main_v69)) (v7 : (c : Dev Cert.SumsIdeal.nD) → Buf (Elt Ideal) ((c.tc : Thread Cert.SumsIdeal.nD Cert.SumsIdeal.τ).loc Cert.SumsIdeal.main_v24)) (v8 : (c : Dev Cert.SumsIdeal.nD) → Buf (Elt Ideal) ((c.tc : Thread Cert.SumsIdeal.nD Cert.SumsIdeal.τ).loc Cert.SumsIdeal.main_v27)) (v9 : (c : Dev Cert.SumsIdeal.nD) → Buf (Elt Ideal) ((c.tc : Thread Cert.SumsIdeal.nD Cert.SumsIdeal.τ).loc Cert.SumsIdeal.main_v31)) (v10 : (c : Dev Cert.SumsIdeal.nD) → Buf (Elt Ideal) ((c.tc : Thread Cert.SumsIdeal.nD Cert.SumsIdeal.τ).loc Cert.SumsIdeal.main_v35)) (v11 : (c : Dev Cert.SumsIdeal.nD) → Buf (Elt Ideal) ((c.tc : Thread Cert.SumsIdeal.nD Cert.SumsIdeal.τ).loc Cert.SumsIdeal.main_v38)) (v12 : (c : Dev Cert.SumsIdeal.nD) → Buf (Elt Ideal) ((c.tc : Thread Cert.SumsIdeal.nD Cert.SumsIdeal.τ).loc Cert.SumsIdeal.main_v42)) (v13 : (c : Dev Cert.SumsIdeal.nD) → Buf (Elt Ideal) ((c.tc : Thread Cert.SumsIdeal.nD Cert.SumsIdeal.τ).loc Cert.SumsIdeal.main_v46)) (v14 : (c : Dev Cert.SumsIdeal.nD) → Buf (Elt Ideal) ((c.tc : Thread Cert.SumsIdeal.nD Cert.SumsIdeal.τ).loc Cert.SumsIdeal.main_v50)) (v15 : (c : Dev Cert.SumsIdeal.nD) → Buf (Elt Ideal) ((c.tc : Thread Cert.SumsIdeal.nD Cert.SumsIdeal.τ).loc Cert.SumsIdeal.main_v53)) (v16 : (c : Dev Cert.SumsIdeal.nD) → Buf (Elt Ideal) ((c.tc : Thread Cert.SumsIdeal.nD Cert.SumsIdeal.τ).loc Cert.SumsIdeal.main_v70)) (v17 : (c : Dev Cert.SumsIdeal.nD) → Buf (Elt Ideal) ((c.tc : Thread Cert.SumsIdeal.nD Cert.SumsIdeal.τ).loc Cert.SumsIdeal.main_v60)) (v18 : (c : Dev Cert.SumsIdeal.nD) → Buf (Elt Ideal) ((c.tc : Thread Cert.SumsIdeal.nD Cert.SumsIdeal.τ).loc Cert.SumsIdeal.main_v64)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v67) = v0 c
          ∧ r.2.mem ((c.tc : Thread Cert.SumsIdeal.nD Cert.SumsIdeal.τ).loc Cert.SumsIdeal.main_v3) = v1 c
          ∧ r.2.mem ((c.tc : Thread Cert.SumsIdeal.nD Cert.SumsIdeal.τ).loc Cert.SumsIdeal.main_v7) = v2 c
          ∧ r.2.mem ((c.tc : Thread Cert.SumsIdeal.nD Cert.SumsIdeal.τ).loc Cert.SumsIdeal.main_v11) = v3 c
          ∧ r.2.mem ((c.tc : Thread Cert.SumsIdeal.nD Cert.SumsIdeal.τ).loc Cert.SumsIdeal.main_v15) = v4 c
          ∧ r.2.mem ((c.tc : Thread Cert.SumsIdeal.nD Cert.SumsIdeal.τ).loc Cert.SumsIdeal.main_v68) = v5 c
          ∧ r.2.mem ((c.tc : Thread Cert.SumsIdeal.nD Cert.SumsIdeal.τ).loc Cert.SumsIdeal.main_v69) = v6 c
          ∧ r.2.mem ((c.tc : Thread Cert.SumsIdeal.nD Cert.SumsIdeal.τ).loc Cert.SumsIdeal.main_v24) = v7 c
          ∧ r.2.mem ((c.tc : Thread Cert.SumsIdeal.nD Cert.SumsIdeal.τ).loc Cert.SumsIdeal.main_v27) = v8 c
          ∧ r.2.mem ((c.tc : Thread Cert.SumsIdeal.nD Cert.SumsIdeal.τ).loc Cert.SumsIdeal.main_v31) = v9 c
          ∧ r.2.mem ((c.tc : Thread Cert.SumsIdeal.nD Cert.SumsIdeal.τ).loc Cert.SumsIdeal.main_v35) = v10 c
          ∧ r.2.mem ((c.tc : Thread Cert.SumsIdeal.nD Cert.SumsIdeal.τ).loc Cert.SumsIdeal.main_v38) = v11 c
          ∧ r.2.mem ((c.tc : Thread Cert.SumsIdeal.nD Cert.SumsIdeal.τ).loc Cert.SumsIdeal.main_v42) = v12 c
          ∧ r.2.mem ((c.tc : Thread Cert.SumsIdeal.nD Cert.SumsIdeal.τ).loc Cert.SumsIdeal.main_v46) = v13 c
          ∧ r.2.mem ((c.tc : Thread Cert.SumsIdeal.nD Cert.SumsIdeal.τ).loc Cert.SumsIdeal.main_v50) = v14 c
          ∧ r.2.mem ((c.tc : Thread Cert.SumsIdeal.nD Cert.SumsIdeal.τ).loc Cert.SumsIdeal.main_v53) = v15 c
          ∧ r.2.mem ((c.tc : Thread Cert.SumsIdeal.nD Cert.SumsIdeal.τ).loc Cert.SumsIdeal.main_v70) = v16 c
          ∧ r.2.mem ((c.tc : Thread Cert.SumsIdeal.nD Cert.SumsIdeal.τ).loc Cert.SumsIdeal.main_v60) = v17 c
          ∧ r.2.mem ((c.tc : Thread Cert.SumsIdeal.nD Cert.SumsIdeal.τ).loc Cert.SumsIdeal.main_v64) = v18 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v68) = v0 c
          ∧ r.2.mem ((c.tc : Thread Cert.SumsRefIdeal.nD Cert.SumsRefIdeal.τ).loc Cert.SumsRefIdeal.main_v5) = v1 c
          ∧ r.2.mem ((c.tc : Thread Cert.SumsRefIdeal.nD Cert.SumsRefIdeal.τ).loc Cert.SumsRefIdeal.main_v9) = v2 c
          ∧ r.2.mem ((c.tc : Thread Cert.SumsRefIdeal.nD Cert.SumsRefIdeal.τ).loc Cert.SumsRefIdeal.main_v13) = v3 c
          ∧ r.2.mem ((c.tc : Thread Cert.SumsRefIdeal.nD Cert.SumsRefIdeal.τ).loc Cert.SumsRefIdeal.main_v17) = v4 c
          ∧ r.2.mem ((c.tc : Thread Cert.SumsRefIdeal.nD Cert.SumsRefIdeal.τ).loc Cert.SumsRefIdeal.main_v69) = v5 c
          ∧ r.2.mem ((c.tc : Thread Cert.SumsRefIdeal.nD Cert.SumsRefIdeal.τ).loc Cert.SumsRefIdeal.main_v70) = v6 c
          ∧ r.2.mem ((c.tc : Thread Cert.SumsRefIdeal.nD Cert.SumsRefIdeal.τ).loc Cert.SumsRefIdeal.main_v26) = v7 c
          ∧ r.2.mem ((c.tc : Thread Cert.SumsRefIdeal.nD Cert.SumsRefIdeal.τ).loc Cert.SumsRefIdeal.main_v29) = v8 c
          ∧ r.2.mem ((c.tc : Thread Cert.SumsRefIdeal.nD Cert.SumsRefIdeal.τ).loc Cert.SumsRefIdeal.main_v33) = v9 c
          ∧ r.2.mem ((c.tc : Thread Cert.SumsRefIdeal.nD Cert.SumsRefIdeal.τ).loc Cert.SumsRefIdeal.main_v37) = v10 c
          ∧ r.2.mem ((c.tc : Thread Cert.SumsRefIdeal.nD Cert.SumsRefIdeal.τ).loc Cert.SumsRefIdeal.main_v40) = v11 c
          ∧ r.2.mem ((c.tc : Thread Cert.SumsRefIdeal.nD Cert.SumsRefIdeal.τ).loc Cert.SumsRefIdeal.main_v44) = v12 c
          ∧ r.2.mem ((c.tc : Thread Cert.SumsRefIdeal.nD Cert.SumsRefIdeal.τ).loc Cert.SumsRefIdeal.main_v48) = v13 c
          ∧ r.2.mem ((c.tc : Thread Cert.SumsRefIdeal.nD Cert.SumsRefIdeal.τ).loc Cert.SumsRefIdeal.main_v52) = v14 c
          ∧ r.2.mem ((c.tc : Thread Cert.SumsRefIdeal.nD Cert.SumsRefIdeal.τ).loc Cert.SumsRefIdeal.main_v55) = v15 c
          ∧ r.2.mem ((c.tc : Thread Cert.SumsRefIdeal.nD Cert.SumsRefIdeal.τ).loc Cert.SumsRefIdeal.main_v71) = v16 c
          ∧ r.2.mem ((c.tc : Thread Cert.SumsRefIdeal.nD Cert.SumsRefIdeal.τ).loc Cert.SumsRefIdeal.main_v62) = v17 c
          ∧ r.2.mem ((c.tc : Thread Cert.SumsRefIdeal.nD Cert.SumsRefIdeal.τ).loc Cert.SumsRefIdeal.main_v65) = v18 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0)
          ∧ r.2.mem ((c.tc : Thread Cert.SumsRefIdeal.nD Cert.SumsRefIdeal.τ).loc Cert.SumsRefIdeal.main_arg1) = m' ((c.tc : Thread Cert.SumsRefIdeal.nD Cert.SumsRefIdeal.τ).loc Cert.SumsRefIdeal.main_arg1))

def preserves_HalvesMix_HalvesMixIdeal : Prop :=
  True

def algebraic_HalvesMixIdeal_HalvesMixRefIdeal [hHalvesMixIdeal : Cert.HalvesMixIdeal.Facts] [hHalvesMixRefIdeal : Cert.HalvesMixRefIdeal.Facts] [hPre_halves_of_pair : Cert.Pre_halves_of_pair.Facts] : Prop :=
  ∀ (m : (ℓ : Loc Cert.HalvesMixIdeal.nD Cert.HalvesMixIdeal.τ Cert.HalvesMixIdeal.sig) → Buf (Elt Ideal) ℓ) (g : Dev Cert.HalvesMixIdeal.nD → PrngReg)
    (m' : (ℓ : Loc Cert.HalvesMixRefIdeal.nD Cert.HalvesMixRefIdeal.τ Cert.HalvesMixRefIdeal.sig) → Buf (Elt Ideal) ℓ) (g' : Dev Cert.HalvesMixRefIdeal.nD → PrngReg), Pre_HalvesMixIdeal m →
    (∀ c : Dev Cert.HalvesMixIdeal.nD,
      m' ((c.tc : Thread Cert.HalvesMixRefIdeal.nD Cert.HalvesMixRefIdeal.τ).loc Cert.HalvesMixRefIdeal.main_arg0) = m ((c.tc : Thread Cert.HalvesMixIdeal.nD Cert.HalvesMixIdeal.τ).loc Cert.HalvesMixIdeal.main_arg0)
      ∧ m' ((c.tc : Thread Cert.HalvesMixRefIdeal.nD Cert.HalvesMixRefIdeal.τ).loc Cert.HalvesMixRefIdeal.main_arg1) = m ((c.tc : Thread Cert.HalvesMixIdeal.nD Cert.HalvesMixIdeal.τ).loc Cert.HalvesMixIdeal.main_arg1)
      ∧ m' ((c.tc : Thread Cert.HalvesMixRefIdeal.nD Cert.HalvesMixRefIdeal.τ).loc Cert.HalvesMixRefIdeal.main_arg2) = m ((c.tc : Thread Cert.HalvesMixIdeal.nD Cert.HalvesMixIdeal.τ).loc Cert.HalvesMixIdeal.main_arg2)
      ∧ m' ((c.tc : Thread Cert.HalvesMixRefIdeal.nD Cert.HalvesMixRefIdeal.τ).loc Cert.HalvesMixRefIdeal.main_arg3) = m ((c.tc : Thread Cert.HalvesMixIdeal.nD Cert.HalvesMixIdeal.τ).loc Cert.HalvesMixIdeal.main_arg3)
      ∧ m' ((c.tc : Thread Cert.HalvesMixRefIdeal.nD Cert.HalvesMixRefIdeal.τ).loc Cert.HalvesMixRefIdeal.main_arg4) = m ((c.tc : Thread Cert.HalvesMixIdeal.nD Cert.HalvesMixIdeal.τ).loc Cert.HalvesMixIdeal.main_arg4)) →
    ∃ (v0 : (c : Dev Cert.HalvesMixIdeal.nD) → Buf (Elt Ideal) ((c.tc : Thread Cert.HalvesMixIdeal.nD Cert.HalvesMixIdeal.τ).loc Cert.HalvesMixIdeal.main_v0_0)) (v1 : (c : Dev Cert.HalvesMixIdeal.nD) → Buf (Elt Ideal) ((c.tc : Thread Cert.HalvesMixIdeal.nD Cert.HalvesMixIdeal.τ).loc Cert.HalvesMixIdeal.main_v0_1)),
      θ_run (Cert.HalvesMixIdeal.defs (F := Ideal)) (onTc (τ := Cert.HalvesMixIdeal.τ) (Cert.HalvesMixIdeal.main (F := Ideal))) ⟨m, fun _ => 0, g⟩ (fun r => ∀ c : Dev Cert.HalvesMixIdeal.nD,
          r.2.mem ((c.tc : Thread Cert.HalvesMixIdeal.nD Cert.HalvesMixIdeal.τ).loc Cert.HalvesMixIdeal.main_v0_0) = v0 c
          ∧ r.2.mem ((c.tc : Thread Cert.HalvesMixIdeal.nD Cert.HalvesMixIdeal.τ).loc Cert.HalvesMixIdeal.main_v0_1) = v1 c
          ∧ r.2.mem ((c.tc : Thread Cert.HalvesMixIdeal.nD Cert.HalvesMixIdeal.τ).loc Cert.HalvesMixIdeal.main_arg0) = m ((c.tc : Thread Cert.HalvesMixIdeal.nD Cert.HalvesMixIdeal.τ).loc Cert.HalvesMixIdeal.main_arg0)
          ∧ r.2.mem ((c.tc : Thread Cert.HalvesMixIdeal.nD Cert.HalvesMixIdeal.τ).loc Cert.HalvesMixIdeal.main_arg1) = m ((c.tc : Thread Cert.HalvesMixIdeal.nD Cert.HalvesMixIdeal.τ).loc Cert.HalvesMixIdeal.main_arg1)
          ∧ r.2.mem ((c.tc : Thread Cert.HalvesMixIdeal.nD Cert.HalvesMixIdeal.τ).loc Cert.HalvesMixIdeal.main_arg2) = m ((c.tc : Thread Cert.HalvesMixIdeal.nD Cert.HalvesMixIdeal.τ).loc Cert.HalvesMixIdeal.main_arg2)
          ∧ r.2.mem ((c.tc : Thread Cert.HalvesMixIdeal.nD Cert.HalvesMixIdeal.τ).loc Cert.HalvesMixIdeal.main_arg3) = m ((c.tc : Thread Cert.HalvesMixIdeal.nD Cert.HalvesMixIdeal.τ).loc Cert.HalvesMixIdeal.main_arg3)
          ∧ r.2.mem ((c.tc : Thread Cert.HalvesMixIdeal.nD Cert.HalvesMixIdeal.τ).loc Cert.HalvesMixIdeal.main_arg4) = m ((c.tc : Thread Cert.HalvesMixIdeal.nD Cert.HalvesMixIdeal.τ).loc Cert.HalvesMixIdeal.main_arg4))
      ∧ θ_run (Cert.HalvesMixRefIdeal.defs (F := Ideal)) (onTc (τ := Cert.HalvesMixRefIdeal.τ) (Cert.HalvesMixRefIdeal.main (F := Ideal))) ⟨m', fun _ => 0, g'⟩ (fun r => ∀ c : Dev Cert.HalvesMixRefIdeal.nD,
          r.2.mem ((c.tc : Thread Cert.HalvesMixRefIdeal.nD Cert.HalvesMixRefIdeal.τ).loc Cert.HalvesMixRefIdeal.main_v9) = v0 c
          ∧ r.2.mem ((c.tc : Thread Cert.HalvesMixRefIdeal.nD Cert.HalvesMixRefIdeal.τ).loc Cert.HalvesMixRefIdeal.main_v19) = v1 c
          ∧ r.2.mem ((c.tc : Thread Cert.HalvesMixRefIdeal.nD Cert.HalvesMixRefIdeal.τ).loc Cert.HalvesMixRefIdeal.main_arg0) = m' ((c.tc : Thread Cert.HalvesMixRefIdeal.nD Cert.HalvesMixRefIdeal.τ).loc Cert.HalvesMixRefIdeal.main_arg0)
          ∧ r.2.mem ((c.tc : Thread Cert.HalvesMixRefIdeal.nD Cert.HalvesMixRefIdeal.τ).loc Cert.HalvesMixRefIdeal.main_arg1) = m' ((c.tc : Thread Cert.HalvesMixRefIdeal.nD Cert.HalvesMixRefIdeal.τ).loc Cert.HalvesMixRefIdeal.main_arg1)
          ∧ r.2.mem ((c.tc : Thread Cert.HalvesMixRefIdeal.nD Cert.HalvesMixRefIdeal.τ).loc Cert.HalvesMixRefIdeal.main_arg2) = m' ((c.tc : Thread Cert.HalvesMixRefIdeal.nD Cert.HalvesMixRefIdeal.τ).loc Cert.HalvesMixRefIdeal.main_arg2)
          ∧ r.2.mem ((c.tc : Thread Cert.HalvesMixRefIdeal.nD Cert.HalvesMixRefIdeal.τ).loc Cert.HalvesMixRefIdeal.main_arg3) = m' ((c.tc : Thread Cert.HalvesMixRefIdeal.nD Cert.HalvesMixRefIdeal.τ).loc Cert.HalvesMixRefIdeal.main_arg3)
          ∧ r.2.mem ((c.tc : Thread Cert.HalvesMixRefIdeal.nD Cert.HalvesMixRefIdeal.τ).loc Cert.HalvesMixRefIdeal.main_arg4) = m' ((c.tc : Thread Cert.HalvesMixRefIdeal.nD Cert.HalvesMixRefIdeal.τ).loc Cert.HalvesMixRefIdeal.main_arg4))

def preserves_HalvesFfn_HalvesFfnIdeal : Prop :=
  True

def algebraic_HalvesFfnIdeal_HalvesFfnRefIdeal [hHalvesFfnIdeal : Cert.HalvesFfnIdeal.Facts] [hHalvesFfnRefIdeal : Cert.HalvesFfnRefIdeal.Facts] [hPre_halves_of_pair_ffn : Cert.Pre_halves_of_pair_ffn.Facts] : Prop :=
  ∀ (m : (ℓ : Loc Cert.HalvesFfnIdeal.nD Cert.HalvesFfnIdeal.τ Cert.HalvesFfnIdeal.sig) → Buf (Elt Ideal) ℓ) (g : Dev Cert.HalvesFfnIdeal.nD → PrngReg)
    (m' : (ℓ : Loc Cert.HalvesFfnRefIdeal.nD Cert.HalvesFfnRefIdeal.τ Cert.HalvesFfnRefIdeal.sig) → Buf (Elt Ideal) ℓ) (g' : Dev Cert.HalvesFfnRefIdeal.nD → PrngReg), Pre_HalvesFfnIdeal m →
    (∀ c : Dev Cert.HalvesFfnIdeal.nD,
      m' ((c.tc : Thread Cert.HalvesFfnRefIdeal.nD Cert.HalvesFfnRefIdeal.τ).loc Cert.HalvesFfnRefIdeal.main_arg0) = m ((c.tc : Thread Cert.HalvesFfnIdeal.nD Cert.HalvesFfnIdeal.τ).loc Cert.HalvesFfnIdeal.main_arg0)
      ∧ m' ((c.tc : Thread Cert.HalvesFfnRefIdeal.nD Cert.HalvesFfnRefIdeal.τ).loc Cert.HalvesFfnRefIdeal.main_arg1) = m ((c.tc : Thread Cert.HalvesFfnIdeal.nD Cert.HalvesFfnIdeal.τ).loc Cert.HalvesFfnIdeal.main_arg1)
      ∧ m' ((c.tc : Thread Cert.HalvesFfnRefIdeal.nD Cert.HalvesFfnRefIdeal.τ).loc Cert.HalvesFfnRefIdeal.main_arg2) = m ((c.tc : Thread Cert.HalvesFfnIdeal.nD Cert.HalvesFfnIdeal.τ).loc Cert.HalvesFfnIdeal.main_arg2)
      ∧ m' ((c.tc : Thread Cert.HalvesFfnRefIdeal.nD Cert.HalvesFfnRefIdeal.τ).loc Cert.HalvesFfnRefIdeal.main_arg3) = m ((c.tc : Thread Cert.HalvesFfnIdeal.nD Cert.HalvesFfnIdeal.τ).loc Cert.HalvesFfnIdeal.main_arg3)
      ∧ m' ((c.tc : Thread Cert.HalvesFfnRefIdeal.nD Cert.HalvesFfnRefIdeal.τ).loc Cert.HalvesFfnRefIdeal.main_arg4) = m ((c.tc : Thread Cert.HalvesFfnIdeal.nD Cert.HalvesFfnIdeal.τ).loc Cert.HalvesFfnIdeal.main_arg4)
      ∧ m' ((c.tc : Thread Cert.HalvesFfnRefIdeal.nD Cert.HalvesFfnRefIdeal.τ).loc Cert.HalvesFfnRefIdeal.main_arg5) = m ((c.tc : Thread Cert.HalvesFfnIdeal.nD Cert.HalvesFfnIdeal.τ).loc Cert.HalvesFfnIdeal.main_arg5)
      ∧ m' ((c.tc : Thread Cert.HalvesFfnRefIdeal.nD Cert.HalvesFfnRefIdeal.τ).loc Cert.HalvesFfnRefIdeal.main_arg6) = m ((c.tc : Thread Cert.HalvesFfnIdeal.nD Cert.HalvesFfnIdeal.τ).loc Cert.HalvesFfnIdeal.main_arg6)
      ∧ m' ((c.tc : Thread Cert.HalvesFfnRefIdeal.nD Cert.HalvesFfnRefIdeal.τ).loc Cert.HalvesFfnRefIdeal.main_arg7) = m ((c.tc : Thread Cert.HalvesFfnIdeal.nD Cert.HalvesFfnIdeal.τ).loc Cert.HalvesFfnIdeal.main_arg7)
      ∧ m' ((c.tc : Thread Cert.HalvesFfnRefIdeal.nD Cert.HalvesFfnRefIdeal.τ).loc Cert.HalvesFfnRefIdeal.main_arg8) = m ((c.tc : Thread Cert.HalvesFfnIdeal.nD Cert.HalvesFfnIdeal.τ).loc Cert.HalvesFfnIdeal.main_arg8)) →
    ∃ (v0 : (c : Dev Cert.HalvesFfnIdeal.nD) → Buf (Elt Ideal) ((c.tc : Thread Cert.HalvesFfnIdeal.nD Cert.HalvesFfnIdeal.τ).loc Cert.HalvesFfnIdeal.main_v0_0)) (v1 : (c : Dev Cert.HalvesFfnIdeal.nD) → Buf (Elt Ideal) ((c.tc : Thread Cert.HalvesFfnIdeal.nD Cert.HalvesFfnIdeal.τ).loc Cert.HalvesFfnIdeal.main_v0_1)) (v2 : (c : Dev Cert.HalvesFfnIdeal.nD) → Buf (Elt Ideal) ((c.tc : Thread Cert.HalvesFfnIdeal.nD Cert.HalvesFfnIdeal.τ).loc Cert.HalvesFfnIdeal.main_v0_2)) (v3 : (c : Dev Cert.HalvesFfnIdeal.nD) → Buf (Elt Ideal) ((c.tc : Thread Cert.HalvesFfnIdeal.nD Cert.HalvesFfnIdeal.τ).loc Cert.HalvesFfnIdeal.main_v0_3)),
      θ_run (Cert.HalvesFfnIdeal.defs (F := Ideal)) (onTc (τ := Cert.HalvesFfnIdeal.τ) (Cert.HalvesFfnIdeal.main (F := Ideal))) ⟨m, fun _ => 0, g⟩ (fun r => ∀ c : Dev Cert.HalvesFfnIdeal.nD,
          r.2.mem ((c.tc : Thread Cert.HalvesFfnIdeal.nD Cert.HalvesFfnIdeal.τ).loc Cert.HalvesFfnIdeal.main_v0_0) = v0 c
          ∧ r.2.mem ((c.tc : Thread Cert.HalvesFfnIdeal.nD Cert.HalvesFfnIdeal.τ).loc Cert.HalvesFfnIdeal.main_v0_1) = v1 c
          ∧ r.2.mem ((c.tc : Thread Cert.HalvesFfnIdeal.nD Cert.HalvesFfnIdeal.τ).loc Cert.HalvesFfnIdeal.main_v0_2) = v2 c
          ∧ r.2.mem ((c.tc : Thread Cert.HalvesFfnIdeal.nD Cert.HalvesFfnIdeal.τ).loc Cert.HalvesFfnIdeal.main_v0_3) = v3 c
          ∧ r.2.mem ((c.tc : Thread Cert.HalvesFfnIdeal.nD Cert.HalvesFfnIdeal.τ).loc Cert.HalvesFfnIdeal.main_arg0) = m ((c.tc : Thread Cert.HalvesFfnIdeal.nD Cert.HalvesFfnIdeal.τ).loc Cert.HalvesFfnIdeal.main_arg0)
          ∧ r.2.mem ((c.tc : Thread Cert.HalvesFfnIdeal.nD Cert.HalvesFfnIdeal.τ).loc Cert.HalvesFfnIdeal.main_arg1) = m ((c.tc : Thread Cert.HalvesFfnIdeal.nD Cert.HalvesFfnIdeal.τ).loc Cert.HalvesFfnIdeal.main_arg1)
          ∧ r.2.mem ((c.tc : Thread Cert.HalvesFfnIdeal.nD Cert.HalvesFfnIdeal.τ).loc Cert.HalvesFfnIdeal.main_arg2) = m ((c.tc : Thread Cert.HalvesFfnIdeal.nD Cert.HalvesFfnIdeal.τ).loc Cert.HalvesFfnIdeal.main_arg2)
          ∧ r.2.mem ((c.tc : Thread Cert.HalvesFfnIdeal.nD Cert.HalvesFfnIdeal.τ).loc Cert.HalvesFfnIdeal.main_arg3) = m ((c.tc : Thread Cert.HalvesFfnIdeal.nD Cert.HalvesFfnIdeal.τ).loc Cert.HalvesFfnIdeal.main_arg3)
          ∧ r.2.mem ((c.tc : Thread Cert.HalvesFfnIdeal.nD Cert.HalvesFfnIdeal.τ).loc Cert.HalvesFfnIdeal.main_arg4) = m ((c.tc : Thread Cert.HalvesFfnIdeal.nD Cert.HalvesFfnIdeal.τ).loc Cert.HalvesFfnIdeal.main_arg4)
          ∧ r.2.mem ((c.tc : Thread Cert.HalvesFfnIdeal.nD Cert.HalvesFfnIdeal.τ).loc Cert.HalvesFfnIdeal.main_arg5) = m ((c.tc : Thread Cert.HalvesFfnIdeal.nD Cert.HalvesFfnIdeal.τ).loc Cert.HalvesFfnIdeal.main_arg5)
          ∧ r.2.mem ((c.tc : Thread Cert.HalvesFfnIdeal.nD Cert.HalvesFfnIdeal.τ).loc Cert.HalvesFfnIdeal.main_arg6) = m ((c.tc : Thread Cert.HalvesFfnIdeal.nD Cert.HalvesFfnIdeal.τ).loc Cert.HalvesFfnIdeal.main_arg6)
          ∧ r.2.mem ((c.tc : Thread Cert.HalvesFfnIdeal.nD Cert.HalvesFfnIdeal.τ).loc Cert.HalvesFfnIdeal.main_arg7) = m ((c.tc : Thread Cert.HalvesFfnIdeal.nD Cert.HalvesFfnIdeal.τ).loc Cert.HalvesFfnIdeal.main_arg7)
          ∧ r.2.mem ((c.tc : Thread Cert.HalvesFfnIdeal.nD Cert.HalvesFfnIdeal.τ).loc Cert.HalvesFfnIdeal.main_arg8) = m ((c.tc : Thread Cert.HalvesFfnIdeal.nD Cert.HalvesFfnIdeal.τ).loc Cert.HalvesFfnIdeal.main_arg8))
      ∧ θ_run (Cert.HalvesFfnRefIdeal.defs (F := Ideal)) (onTc (τ := Cert.HalvesFfnRefIdeal.τ) (Cert.HalvesFfnRefIdeal.main (F := Ideal))) ⟨m', fun _ => 0, g'⟩ (fun r => ∀ c : Dev Cert.HalvesFfnRefIdeal.nD,
          r.2.mem ((c.tc : Thread Cert.HalvesFfnRefIdeal.nD Cert.HalvesFfnRefIdeal.τ).loc Cert.HalvesFfnRefIdeal.main_v9) = v0 c
          ∧ r.2.mem ((c.tc : Thread Cert.HalvesFfnRefIdeal.nD Cert.HalvesFfnRefIdeal.τ).loc Cert.HalvesFfnRefIdeal.main_v19) = v1 c
          ∧ r.2.mem ((c.tc : Thread Cert.HalvesFfnRefIdeal.nD Cert.HalvesFfnRefIdeal.τ).loc Cert.HalvesFfnRefIdeal.main_v29) = v2 c
          ∧ r.2.mem ((c.tc : Thread Cert.HalvesFfnRefIdeal.nD Cert.HalvesFfnRefIdeal.τ).loc Cert.HalvesFfnRefIdeal.main_v39) = v3 c
          ∧ r.2.mem ((c.tc : Thread Cert.HalvesFfnRefIdeal.nD Cert.HalvesFfnRefIdeal.τ).loc Cert.HalvesFfnRefIdeal.main_arg0) = m' ((c.tc : Thread Cert.HalvesFfnRefIdeal.nD Cert.HalvesFfnRefIdeal.τ).loc Cert.HalvesFfnRefIdeal.main_arg0)
          ∧ r.2.mem ((c.tc : Thread Cert.HalvesFfnRefIdeal.nD Cert.HalvesFfnRefIdeal.τ).loc Cert.HalvesFfnRefIdeal.main_arg1) = m' ((c.tc : Thread Cert.HalvesFfnRefIdeal.nD Cert.HalvesFfnRefIdeal.τ).loc Cert.HalvesFfnRefIdeal.main_arg1)
          ∧ r.2.mem ((c.tc : Thread Cert.HalvesFfnRefIdeal.nD Cert.HalvesFfnRefIdeal.τ).loc Cert.HalvesFfnRefIdeal.main_arg2) = m' ((c.tc : Thread Cert.HalvesFfnRefIdeal.nD Cert.HalvesFfnRefIdeal.τ).loc Cert.HalvesFfnRefIdeal.main_arg2)
          ∧ r.2.mem ((c.tc : Thread Cert.HalvesFfnRefIdeal.nD Cert.HalvesFfnRefIdeal.τ).loc Cert.HalvesFfnRefIdeal.main_arg3) = m' ((c.tc : Thread Cert.HalvesFfnRefIdeal.nD Cert.HalvesFfnRefIdeal.τ).loc Cert.HalvesFfnRefIdeal.main_arg3)
          ∧ r.2.mem ((c.tc : Thread Cert.HalvesFfnRefIdeal.nD Cert.HalvesFfnRefIdeal.τ).loc Cert.HalvesFfnRefIdeal.main_arg4) = m' ((c.tc : Thread Cert.HalvesFfnRefIdeal.nD Cert.HalvesFfnRefIdeal.τ).loc Cert.HalvesFfnRefIdeal.main_arg4)
          ∧ r.2.mem ((c.tc : Thread Cert.HalvesFfnRefIdeal.nD Cert.HalvesFfnRefIdeal.τ).loc Cert.HalvesFfnRefIdeal.main_arg5) = m' ((c.tc : Thread Cert.HalvesFfnRefIdeal.nD Cert.HalvesFfnRefIdeal.τ).loc Cert.HalvesFfnRefIdeal.main_arg5)
          ∧ r.2.mem ((c.tc : Thread Cert.HalvesFfnRefIdeal.nD Cert.HalvesFfnRefIdeal.τ).loc Cert.HalvesFfnRefIdeal.main_arg6) = m' ((c.tc : Thread Cert.HalvesFfnRefIdeal.nD Cert.HalvesFfnRefIdeal.τ).loc Cert.HalvesFfnRefIdeal.main_arg6)
          ∧ r.2.mem ((c.tc : Thread Cert.HalvesFfnRefIdeal.nD Cert.HalvesFfnRefIdeal.τ).loc Cert.HalvesFfnRefIdeal.main_arg7) = m' ((c.tc : Thread Cert.HalvesFfnRefIdeal.nD Cert.HalvesFfnRefIdeal.τ).loc Cert.HalvesFfnRefIdeal.main_arg7)
          ∧ r.2.mem ((c.tc : Thread Cert.HalvesFfnRefIdeal.nD Cert.HalvesFfnRefIdeal.τ).loc Cert.HalvesFfnRefIdeal.main_arg8) = m' ((c.tc : Thread Cert.HalvesFfnRefIdeal.nD Cert.HalvesFfnRefIdeal.τ).loc Cert.HalvesFfnRefIdeal.main_arg8))

def Claim : Prop :=
  ∃ (hBlk : Cert.Blk.Facts) (hBlkIdeal : Cert.BlkIdeal.Facts) (hBlkRefIdeal : Cert.BlkRefIdeal.Facts) (hWd : Cert.Wd.Facts) (hWdIdeal : Cert.WdIdeal.Facts) (hWdRefIdeal : Cert.WdRefIdeal.Facts) (hWg : Cert.Wg.Facts) (hWgIdeal : Cert.WgIdeal.Facts) (hWgRefIdeal : Cert.WgRefIdeal.Facts) (hWo : Cert.Wo.Facts) (hWoIdeal : Cert.WoIdeal.Facts) (hWoRefIdeal : Cert.WoRefIdeal.Facts) (hWi : Cert.Wi.Facts) (hWiIdeal : Cert.WiIdeal.Facts) (hWiRefIdeal : Cert.WiRefIdeal.Facts) (hFwd : Cert.Fwd.Facts) (hFwdIdeal : Cert.FwdIdeal.Facts) (hFwdRefIdeal : Cert.FwdRefIdeal.Facts) (hHead : Cert.Head.Facts) (hHeadIdeal : Cert.HeadIdeal.Facts) (hHeadRefIdeal : Cert.HeadRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGlu : Cert.AdamGlu.Facts) (hAdamGluIdeal : Cert.AdamGluIdeal.Facts) (hAdamGluRefIdeal : Cert.AdamGluRefIdeal.Facts) (hSums : Cert.Sums.Facts) (hSumsIdeal : Cert.SumsIdeal.Facts) (hSumsRefIdeal : Cert.SumsRefIdeal.Facts) (hHalvesMix : Cert.HalvesMix.Facts) (hHalvesMixIdeal : Cert.HalvesMixIdeal.Facts) (hHalvesMixRefIdeal : Cert.HalvesMixRefIdeal.Facts) (hHalvesFfn : Cert.HalvesFfn.Facts) (hHalvesFfnIdeal : Cert.HalvesFfnIdeal.Facts) (hHalvesFfnRefIdeal : Cert.HalvesFfnRefIdeal.Facts) (hPre_blk_finite : Cert.Pre_blk_finite.Facts) (hPre_head_finite : Cert.Pre_head_finite.Facts) (hPre_halves_of_pair : Cert.Pre_halves_of_pair.Facts) (hPre_halves_of_pair_ffn : Cert.Pre_halves_of_pair_ffn.Facts),
    quiescent_Blk (hBlk := hBlk)
    ∧ quiescent_BlkIdeal (hBlkIdeal := hBlkIdeal)
    ∧ quiescent_BlkIdeal_pre_blk_finite (hBlkIdeal := hBlkIdeal) (hPre_blk_finite := hPre_blk_finite)
    ∧ quiescent_BlkRefIdeal (hBlkRefIdeal := hBlkRefIdeal)
    ∧ quiescent_BlkRefIdeal_pre_blk_finite (hBlkRefIdeal := hBlkRefIdeal) (hPre_blk_finite := hPre_blk_finite)
    ∧ quiescent_Wd (hWd := hWd)
    ∧ quiescent_WdIdeal (hWdIdeal := hWdIdeal)
    ∧ quiescent_WdRefIdeal (hWdRefIdeal := hWdRefIdeal)
    ∧ quiescent_Wg (hWg := hWg)
    ∧ quiescent_WgIdeal (hWgIdeal := hWgIdeal)
    ∧ quiescent_WgRefIdeal (hWgRefIdeal := hWgRefIdeal)
    ∧ quiescent_Wo (hWo := hWo)
    ∧ quiescent_WoIdeal (hWoIdeal := hWoIdeal)
    ∧ quiescent_WoRefIdeal (hWoRefIdeal := hWoRefIdeal)
    ∧ quiescent_Wi (hWi := hWi)
    ∧ quiescent_WiIdeal (hWiIdeal := hWiIdeal)
    ∧ quiescent_WiRefIdeal (hWiRefIdeal := hWiRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_Sums (hSums := hSums)
    ∧ quiescent_SumsIdeal (hSumsIdeal := hSumsIdeal)
    ∧ quiescent_SumsRefIdeal (hSumsRefIdeal := hSumsRefIdeal)
    ∧ quiescent_HalvesMix (hHalvesMix := hHalvesMix) (hPre_halves_of_pair := hPre_halves_of_pair)
    ∧ quiescent_HalvesMixIdeal (hHalvesMixIdeal := hHalvesMixIdeal) (hPre_halves_of_pair := hPre_halves_of_pair)
    ∧ quiescent_HalvesMixRefIdeal (hHalvesMixRefIdeal := hHalvesMixRefIdeal)
    ∧ quiescent_HalvesMixRefIdeal_pre_halves_of_pair (hHalvesMixRefIdeal := hHalvesMixRefIdeal) (hPre_halves_of_pair := hPre_halves_of_pair)
    ∧ quiescent_HalvesFfn (hHalvesFfn := hHalvesFfn) (hPre_halves_of_pair_ffn := hPre_halves_of_pair_ffn)
    ∧ quiescent_HalvesFfnIdeal (hHalvesFfnIdeal := hHalvesFfnIdeal) (hPre_halves_of_pair_ffn := hPre_halves_of_pair_ffn)
    ∧ quiescent_HalvesFfnRefIdeal (hHalvesFfnRefIdeal := hHalvesFfnRefIdeal)
    ∧ quiescent_HalvesFfnRefIdeal_pre_halves_of_pair_ffn (hHalvesFfnRefIdeal := hHalvesFfnRefIdeal) (hPre_halves_of_pair_ffn := hPre_halves_of_pair_ffn)
    ∧ preserves_Blk_BlkIdeal
    ∧ algebraic_BlkIdeal_BlkRefIdeal_pre_blk_finite (hBlkIdeal := hBlkIdeal) (hBlkRefIdeal := hBlkRefIdeal) (hPre_blk_finite := hPre_blk_finite)
    ∧ preserves_Wd_WdIdeal
    ∧ algebraic_WdIdeal_WdRefIdeal (hWdIdeal := hWdIdeal) (hWdRefIdeal := hWdRefIdeal)
    ∧ preserves_Wg_WgIdeal
    ∧ algebraic_WgIdeal_WgRefIdeal (hWgIdeal := hWgIdeal) (hWgRefIdeal := hWgRefIdeal)
    ∧ preserves_Wo_WoIdeal
    ∧ algebraic_WoIdeal_WoRefIdeal (hWoIdeal := hWoIdeal) (hWoRefIdeal := hWoRefIdeal)
    ∧ preserves_Wi_WiIdeal
    ∧ algebraic_WiIdeal_WiRefIdeal (hWiIdeal := hWiIdeal) (hWiRefIdeal := hWiRefIdeal)
    ∧ preserves_Fwd_FwdIdeal
    ∧ algebraic_FwdIdeal_FwdRefIdeal (hFwdIdeal := hFwdIdeal) (hFwdRefIdeal := hFwdRefIdeal)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_Sums_SumsIdeal
    ∧ algebraic_SumsIdeal_SumsRefIdeal (hSumsIdeal := hSumsIdeal) (hSumsRefIdeal := hSumsRefIdeal)
    ∧ preserves_HalvesMix_HalvesMixIdeal
    ∧ algebraic_HalvesMixIdeal_HalvesMixRefIdeal (hHalvesMixIdeal := hHalvesMixIdeal) (hHalvesMixRefIdeal := hHalvesMixRefIdeal) (hPre_halves_of_pair := hPre_halves_of_pair)
    ∧ preserves_HalvesFfn_HalvesFfnIdeal
    ∧ algebraic_HalvesFfnIdeal_HalvesFfnRefIdeal (hHalvesFfnIdeal := hHalvesFfnIdeal) (hHalvesFfnRefIdeal := hHalvesFfnRefIdeal) (hPre_halves_of_pair_ffn := hPre_halves_of_pair_ffn)
-- ==== Pre_blk_finite.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x384 : S_.BroadcastsInDim S8192x384 (![] : Fin 0 → Fin S8192x384.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024x2816 .f32) (main_arg7 : FVec F S1024x2816 .f32) (main_arg8 : FVec F S2816x1024 .f32) (main_arg9 : FVec F S8192x1024 .f32) (main_v2 : IVec S8192x1024 1) (main_v5 : IVec S8192x384 1) (main_v8 : IVec S8192x256 1) (main_v11 : IVec S8192x384 1) (main_v14 : IVec S1024x1024 1) (main_v17 : IVec S1024 1) : IVec S8192x1024 1 × IVec S8192x384 1 × IVec S8192x256 1 × IVec S8192x384 1 × IVec S1024x1024 1 × IVec S1024 1 × IVec S1024x2816 1 × IVec S1024x2816 1 × IVec S2816x1024 1 × IVec S8192x1024 1 :=
  let main_v18 : FVec F S1024x2816 .f32 := Host.absf main_arg6
  let main_cst_5 : FVec F S_ .f32 := constant S_ .f32 0x7F800000#32
  let main_v19 : FVec F S1024x2816 .f32 := broadcastInDim S1024x2816 ![] bcast_S_S1024x2816 main_cst_5
  let main_v20 : IVec S1024x2816 1 := cmpf .olt main_v18 main_v19
  let main_v21 : FVec F S1024x2816 .f32 := Host.absf main_arg7
  let main_cst_6 : FVec F S_ .f32 := constant S_ .f32 0x7F800000#32
  let main_v22 : FVec F S1024x2816 .f32 := broadcastInDim S1024x2816 ![] bcast_S_S1024x2816 main_cst_6
  let main_v23 : IVec S1024x2816 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x384 .f32) (main_arg2 : FVec F S8192x256 .f32) (main_arg3 : FVec F S8192x384 .f32) (main_arg4 : FVec F S1024x1024 .f32) (main_arg5 : FVec F S1024 .f32) (main_arg6 : FVec F S1024x2816 .f32) (main_arg7 : FVec F S1024x2816 .f32) (main_arg8 : FVec F S2816x1024 .f32) (main_arg9 : FVec F S8192x1024 .f32) : IVec S8192x1024 1 × IVec S8192x384 1 × IVec S8192x256 1 × IVec S8192x384 1 × IVec S1024x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x384 .f32 := Host.absf main_arg1
  let main_cst_0 : FVec F S_ .f32 := constant S_ .f32 0x7F800000#32
  let main_v4 : FVec F S8192x384 .f32 := broadcastInDim S8192x384 ![] bcast_S_S8192x384 main_cst_0
  let main_v5 : IVec S8192x384 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x384 .f32 := Host.absf main_arg3
  let main_cst_2 : FVec F S_ .f32 := constant S_ .f32 0x7F800000#32
  let main_v10 : FVec F S8192x384 .f32 := broadcastInDim S8192x384 ![] bcast_S_S8192x384 main_cst_2
  let main_v11 : IVec S8192x384 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_v2 main_v5 main_v8 main_v11 main_v14 main_v17
-- ==== Pre_halves_of_pair.lean ====
abbrev S2 : Shape := ⟨1, ![2]⟩
abbrev S4x2x176x1024 : Shape := ⟨4, ![4, 2, 176, 1024]⟩
abbrev S4x2x48x384 : Shape := ⟨4, ![4, 2, 48, 384]⟩
abbrev S4x176x1024 : Shape := ⟨3, ![4, 176, 1024]⟩
abbrev S4x48x384 : Shape := ⟨3, ![4, 48, 384]⟩
abbrev S1 : Shape := ⟨1, ![1]⟩
abbrev S_ : Shape := ⟨0, ![]⟩

class Facts : Prop where
  slices_S2_S1_0 : S2.Slices ![0] S1
  bcast_S_S1 : S_.BroadcastsInDim S1 (![] : Fin 0 → Fin S1.rank)

variable [Facts]

def fn {F : FTy → Type} [FloatOps F] (main_arg0 : IVec S2 32) (main_arg1 : FVec F S4x2x176x1024 .f32) (main_arg2 : FVec F S4x2x48x384 .f32) (main_arg3 : FVec F S4x176x1024 .f32) (main_arg4 : FVec F S4x48x384 .f32) : IVec S1 1 :=
  let main_v0 : IVec S1 32 := (extractStridedSlice S1 ![0] · slices_S2_S1_0) main_arg0
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S2_S1_0) main_arg0
  let main_c_0 : IVec S_ 32 := constantI S_ 32 1#32
  let main_v4 : IVec S1 32 := broadcastInDim S1 ![] bcast_S_S1 main_c_0
  let main_v5 : IVec S1 1 := cmpi .sle main_v3 main_v4
  let main_v6 : IVec S1 1 := andi main_v2 main_v5
  main_v6
-- ==== Pre_halves_of_pair_ffn.lean ====
abbrev S2 : Shape := ⟨1, ![2]⟩
abbrev S4x2x352x1024 : Shape := ⟨4, ![4, 2, 352, 1024]⟩
abbrev S4x2x128x1024 : Shape := ⟨4, ![4, 2, 128, 1024]⟩
abbrev S4x352x1024 : Shape := ⟨3, ![4, 352, 1024]⟩
abbrev S4x128x1024 : Shape := ⟨3, ![4, 128, 1024]⟩
abbrev S1 : Shape := ⟨1, ![1]⟩
abbrev S_ : Shape := ⟨0, ![]⟩

class Facts : Prop where
  slices_S2_S1_0 : S2.Slices ![0] S1
  bcast_S_S1 : S_.BroadcastsInDim S1 (![] : Fin 0 → Fin S1.rank)

variable [Facts]

def fn {F : FTy → Type} [FloatOps F] (main_arg0 : IVec S2 32) (main_arg1 : FVec F S4x2x352x1024 .f32) (main_arg2 : FVec F S4x2x352x1024 .f32) (main_arg3 : FVec F S4x2x352x1024 .f32) (main_arg4 : FVec F S4x2x128x1024 .f32) (main_arg5 : FVec F S4x352x1024 .f32) (main_arg6 : FVec F S4x352x1024 .f32) (main_arg7 : FVec F S4x352x1024 .f32) (main_arg8 : FVec F S4x128x1024 .f32) : IVec S1 1 :=
  let main_v0 : IVec S1 32 := (extractStridedSlice S1 ![0] · slices_S2_S1_0) main_arg0
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S2_S1_0) main_arg0
  let main_c_0 : IVec S_ 32 := constantI S_ 32 1#32
  let main_v4 : IVec S1 32 := broadcastInDim S1 ![] bcast_S_S1 main_c_0
  let main_v5 : IVec S1 1 := cmpi .sle main_v3 main_v4
  let main_v6 : IVec S1 1 := andi main_v2 main_v5
  main_v6
-- ==== Pre_head_finite.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x384 : S_.BroadcastsInDim S8192x384 (![] : Fin 0 → Fin S8192x384.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024x2816 .f32) (main_arg7 : FVec F S1024x2816 .f32) (main_arg8 : FVec F S2816x1024 .f32) (main_arg9 : FVec F S8192x1024 .f32) (main_arg10 : FVec F S1024 .f32) (main_v2 : IVec S8192x1024 1) (main_v5 : IVec S8192x384 1) (main_v8 : IVec S8192x256 1) (main_v11 : IVec S8192x384 1) (main_v14 : IVec S1024x1024 1) (main_v17 : IVec S1024 1) : IVec S8192x1024 1 × IVec S8192x384 1 × IVec S8192x256 1 × IVec S8192x384 1 × IVec S1024x1024 1 × IVec S1024 1 × IVec S1024x2816 1 × IVec S1024x2816 1 × IVec S2816x1024 1 × IVec S8192x1024 1 × IVec S1024 1 :=
  let main_v18 : FVec F S1024x2816 .f32 := Host.absf main_arg6
  let main_cst_5 : FVec F S_ .f32 := constant S_ .f32 0x7F800000#32
  let main_v19 : FVec F S1024x2816 .f32 := broadcastInDim S1024x2816 ![] bcast_S_S1024x2816 main_cst_5
  let main_v20 : IVec S1024x2816 1 := cmpf .olt main_v18 main_v19
  let main_v21 : FVec F S1024x2816 .f32 := Host.absf main_arg7
  let main_cst_6 : FVec F S_ .f32 := constant S_ .f32 0x7F800000#32
  let main_v22 : FVec F S1024x2816 .f32 := broadcastInDim S1024x2816 ![] bcast_S_S1024x2816 main_cst_6
  let main_v23 : IVec S1024x2816 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_v30 : FVec F S1024 .f32 := Host.absf main_arg10
  let main_cst_9 : FVec F S_ .f32 := constant S_ .f32 0x7F800000#32
  let main_v31 : FVec F S1024 .f32 := broadcastInDim S1024 ![] bcast_S_S1024 main_cst_9
  let main_v32 : IVec S1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x384 .f32) (main_arg2 : FVec F S8192x256 .f32) (main_arg3 : FVec F S8192x384 .f32) (main_arg4 : FVec F S1024x1024 .f32) (main_arg5 : FVec F S1024 .f32) (main_arg6 : FVec F S1024x2816 .f32) (main_arg7 : FVec F S1024x2816 .f32) (main_arg8 : FVec F S2816x1024 .f32) (main_arg9 : FVec F S8192x1024 .f32) (main_arg10 : FVec F S1024 .f32) : IVec S8192x1024 1 × IVec S8192x384 1 × IVec S8192x256 1 × IVec S8192x384 1 × IVec S1024x1024 1 × IVec S1024 1 × IVec S1024x2816 1 × IVec S1024x2816 1 × IVec S2816x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x384 .f32 := Host.absf main_arg1
  let main_cst_0 : FVec F S_ .f32 := constant S_ .f32 0x7F800000#32
  let main_v4 : FVec F S8192x384 .f32 := broadcastInDim S8192x384 ![] bcast_S_S8192x384 main_cst_0
  let main_v5 : IVec S8192x384 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x384 .f32 := Host.absf main_arg3
  let main_cst_2 : FVec F S_ .f32 := constant S_ .f32 0x7F800000#32
  let main_v10 : FVec F S8192x384 .f32 := broadcastInDim S8192x384 ![] bcast_S_S8192x384 main_cst_2
  let main_v11 : IVec S8192x384 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_arg10 main_v2 main_v5 main_v8 main_v11 main_v14 main_v17
-- ==== Blk.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S256x384 : Shape := ⟨2, ![256, 384]⟩
abbrev S256x256 : Shape := ⟨2, ![256, 256]⟩
abbrev S256 : Shape := ⟨1, ![256]⟩
abbrev S256x1 : Shape := ⟨2, ![256, 1]⟩
abbrev S32x8x1024 : Shape := ⟨3, ![32, 8, 1024]⟩

abbrev nBuf : Space → Nat
  | .hbm => 50
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x256, .f32⟩
  | .hbm, ⟨3, _⟩ => ⟨S8192x384, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S2816x1024, .bf16⟩
  | .hbm, ⟨32, _⟩ => ⟨S2816x1024, .f32⟩
  | .hbm, ⟨33, _⟩ => ⟨S2816x1024, .bf16⟩
  | .hbm, ⟨34, _⟩ => ⟨S2816x1024, .f32⟩
  | .hbm, ⟨35, _⟩ => ⟨S2816x1024, .bf16⟩
  | .hbm, ⟨36, _⟩ => ⟨S1024x1024, .bf16⟩
  | .hbm, ⟨37, _⟩ => ⟨S1x1024, .f32⟩
  | .hbm, ⟨38, _⟩ => ⟨S8192x2816, .bf16⟩
  | .hbm, ⟨39, _⟩ => ⟨S8192x2816, .bf16⟩
  | .hbm, ⟨40, _⟩ => ⟨S8192x1024, .f32⟩
  | .hbm, ⟨41, _⟩ => ⟨S8192x384, .f32⟩
  | .hbm, ⟨42, _⟩ => ⟨S8192x256, .f32⟩
  | .hbm, ⟨43, _⟩ => ⟨S8192x384, .f32⟩
  | .hbm, ⟨44, _⟩ => ⟨S8192x2816, .bf16⟩
  | .hbm, ⟨45, _⟩ => ⟨S8192x2816, .bf16⟩
  | .hbm, ⟨46, _⟩ => ⟨S8192x2816, .bf16⟩
  | .hbm, ⟨47, _⟩ => ⟨S8x1024, .f32⟩
  | .hbm, ⟨48, _⟩ => ⟨S_, .f32⟩
  | .hbm, ⟨49, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S2816x1024, .bf16⟩
  | .local _ .vmem, ⟨9, _⟩ => ⟨S2816x1024, .bf16⟩
  | .local _ .vmem, ⟨10, _⟩ => ⟨S2816x1024, .bf16⟩
  | .local _ .vmem, ⟨11, _⟩ => ⟨S1024x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x384, .f32⟩
  | .local _ .vmem, ⟨16, _⟩ => ⟨S256x384, .f32⟩
  | .local _ .vmem, ⟨17, _⟩ => ⟨S256x256, .f32⟩
  | .local _ .vmem, ⟨18, _⟩ => ⟨S256x256, .f32⟩
  | .local _ .vmem, ⟨19, _⟩ => ⟨S256x384, .f32⟩
  | .local _ .vmem, ⟨20, _⟩ => ⟨S256x384, .f32⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v27_5 : Ref sig .tc := ⟨.hbm, 45, rfl⟩
abbrev main_v27_6 : Ref sig .tc := ⟨.hbm, 46, rfl⟩
abbrev main_v27_7 : Ref sig .tc := ⟨.hbm, 47, rfl⟩
abbrev main_cst_2 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== BlkRefIdeal.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S8192x384, .f32⟩
  | 2 => ⟨S8192x256, .f32⟩
  | 3 => ⟨S8192x384, .f32⟩
  | 4 => ⟨S1024x1024, .f32⟩
  | 5 => ⟨S1024, .f32⟩
  | 6 => ⟨S1024x2816, .f32⟩
  | 7 => ⟨S1024x2816, .f32⟩
  | 8 => ⟨S2816x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x2816, .f32⟩
  | 30 => ⟨S8192x2816, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S8192x2816, .f32⟩
  | 55 => ⟨S8192x2816, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S8192x2816, .f32⟩
  | 68 => ⟨S8192x2816, .f32⟩
  | 69 => ⟨S8192x2816, .f32⟩
  | 70 => ⟨S8192x1024, .f32⟩
  | 71 => ⟨S8192x1024, .f32⟩
  | 72 => ⟨S8192x1024, .f32⟩
  | 73 => ⟨S8192x1024, .f32⟩
  | 74 => ⟨S8192x2816, .f32⟩
  | 75 => ⟨S8192x2816, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S_, .f32⟩
  | 91 => ⟨S1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1024, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x384, .f32⟩
  | 112 => ⟨S8192x256, .f32⟩
  | 113 => ⟨S8192x384, .f32⟩
  | 114 => ⟨S8192x2816, .f32⟩
  | 115 => ⟨S8192x2816, .f32⟩
  | 116 => ⟨S_, .f32⟩
  | 117 => ⟨S8192x2816, .f32⟩
  | 118 => ⟨S8192x2816, .f32⟩
  | 119 => ⟨S_, .f32⟩
  | 120 => ⟨S8192x2816, .f32⟩
  | 121 => ⟨S8192x2816, .f32⟩
  | 122 => ⟨S_, .f32⟩
  | 123 => ⟨S8192x2816, .f32⟩
  | 124 => ⟨S8192x2816, .f32⟩
  | 125 => ⟨S8192x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x1024, .f32⟩
  | 1 => ⟨S8192x2816, .f32⟩
  | 2 => ⟨S8192x2816, .f32⟩
  | 3 => ⟨S8192x2816, .f32⟩
  | 4 => ⟨S8192x2816, .f32⟩
  | 5 => ⟨S8192x2816, .f32⟩
  | 6 => ⟨S8192x2816, .f32⟩
  | 7 => ⟨S8192x2816, .f32⟩
  | 8 => ⟨S8192x2816, .bf16⟩
  | 9 => ⟨S8192x2816, .bf16⟩
  | 10 => ⟨S8192x2816, .f32⟩
  | 11 => ⟨S8192x2816, .f32⟩
  | 12 => ⟨S_, .f32⟩
  | 13 => ⟨S8192x2816, .f32⟩
  | 14 => ⟨S8192x2816, .f32⟩
  | 15 => ⟨S_, .f32⟩
  | 16 => ⟨S8192x2816, .f32⟩
  | 17 => ⟨S8192x2816, .f32⟩
  | 18 => ⟨S8192x2816, .f32⟩
  | 19 => ⟨S8192x2816, .f32⟩
  | 20 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v39_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v39_1 : Ref sig .tc := ⟨.hbm, 67, rfl⟩
abbrev main_v39_0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_cst_8 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩
abbrev main_cst_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_v77_2 : Ref sig .tc := ⟨.hbm, 121, rfl⟩
abbrev main_call2_cst_1 : Ref sig .tc := ⟨.hbm, 122, rfl⟩
abbrev main_call2_v6 : Ref sig .tc := ⟨.hbm, 123, rfl⟩
abbrev main_call2_v7 : Ref sig .tc := ⟨.hbm, 124, rfl⟩
abbrev main_v77_1 : Ref sig .tc := ⟨.hbm, 125, rfl⟩
abbrev main_v77_0 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_call4_v0 : Ref sig .tc := ⟨.hbm, 138, rfl⟩
abbrev main_call4_v1 : Ref sig .tc := ⟨.hbm, 139, rfl⟩
abbrev main_call4_cst : Ref sig .tc := ⟨.hbm, 140, rfl⟩
abbrev main_call4_v2 : Ref sig .tc := ⟨.hbm, 141, rfl⟩
abbrev main_call4_v3 : Ref sig .tc := ⟨.hbm, 142, rfl⟩
abbrev main_call4_cst_0 : Ref sig .tc := ⟨.hbm, 143, rfl⟩
abbrev main_call4_v4 : Ref sig .tc := ⟨.hbm, 144, rfl⟩
abbrev main_call4_v5 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩

abbrev nD : Nat := 1
abbrev τ : Topo := Topo.v7x

variable {F : FTy → Type} [FloatOps F]
-- ==== Wd.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WdRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wg.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Wo.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wi.lean ====
abbrev S8192x1024 : Shape := ⟨2, ![8192, 1024]⟩
abbrev S8192x1408 : Shape := ⟨2, ![8192, 1408]⟩
abbrev S1408x1024 : Shape := ⟨2, ![1408, 1024]⟩
abbrev S1024x1408 : Shape := ⟨2, ![1024, 1408]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1408, .bf16⟩
  | .hbm, ⟨2, _⟩ => ⟨S1408x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1408x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WiRefIdeal.lean ====
abbrev S8192x1024 : Shape := ⟨2, ![8192, 1024]⟩
abbrev S8192x1408 : Shape := ⟨2, ![8192, 1408]⟩
abbrev S_ : Shape := ⟨0, ![]⟩
abbrev S1024x1408 : Shape := ⟨2, ![1024, 1408]⟩
abbrev S1408x1024 : Shape := ⟨2, ![1408, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1408, .bf16⟩
  | .hbm, ⟨2, _⟩ => ⟨S_, .f32⟩
  | .hbm, ⟨3, _⟩ => ⟨S1024x1408, .f32⟩
  | .hbm, ⟨4, _⟩ => ⟨S8192x1024, .f32⟩
  | .hbm, ⟨5, _⟩ => ⟨S8192x1408, .f32⟩
  | .hbm, ⟨6, _⟩ => ⟨S8192x1408, .f32⟩
  | .hbm, ⟨7, _⟩ => ⟨S1408x1024, .f32⟩
  | .hbm, ⟨8, _⟩ => ⟨S1024x1408, .f32⟩
  | .hbm, ⟨9, _⟩ => ⟨S1408x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Fwd.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S256x1024 : Shape := ⟨2, ![256, 1024]⟩
abbrev S256x384 : Shape := ⟨2, ![256, 384]⟩
abbrev S256x256 : Shape := ⟨2, ![256, 256]⟩
abbrev S256x2816 : Shape := ⟨2, ![256, 2816]⟩
abbrev S256 : Shape := ⟨1, ![256]⟩
abbrev S256x1 : Shape := ⟨2, ![256, 1]⟩

abbrev nBuf : Space → Nat
  | .hbm => 25
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x256, .f32⟩
  | .hbm, ⟨3, _⟩ => ⟨S8192x384, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S1024x1024, .bf16⟩
  | .hbm, ⟨15, _⟩ => ⟨S1x1024, .f32⟩
  | .hbm, ⟨16, _⟩ => ⟨S8192x384, .bf16⟩
  | .hbm, ⟨17, _⟩ => ⟨S8192x256, .bf16⟩
  | .hbm, ⟨18, _⟩ => ⟨S8192x384, .bf16⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x2816, .bf16⟩
  | .hbm, ⟨23, _⟩ => ⟨S8192x2816, .bf16⟩
  | .hbm, ⟨24, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x384, .bf16⟩
  | .local _ .vmem, ⟨3, _⟩ => ⟨S256x384, .bf16⟩
  | .local _ .vmem, ⟨4, _⟩ => ⟨S256x256, .bf16⟩
  | .local _ .vmem, ⟨5, _⟩ => ⟨S256x256, .bf16⟩
  | .local _ .vmem, ⟨6, _⟩ => ⟨S256x384, .bf16⟩
  | .local _ .vmem, ⟨7, _⟩ => ⟨S256x384, .bf16⟩
  | .local _ .vmem, ⟨8, _⟩ => ⟨S1024x1024, .bf16⟩
  | .local _ .vmem, ⟨9, _⟩ => ⟨S1x1024, .f32⟩
  | .local _ .vmem, ⟨10, _⟩ => ⟨S2816x1024, .bf16⟩
  | .local _ .vmem, ⟨11, _⟩ => ⟨S2816x1024, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .bf16⟩
  | .local _ .vmem, ⟨24, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FwdRefIdeal.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x256, .f32⟩
  | .hbm, ⟨3, _⟩ => ⟨S8192x384, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x2816, .bf16⟩
  | .hbm, ⟨44, _⟩ => ⟨S8192x2816, .bf16⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Head.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S8x128 : Shape := ⟨2, ![8, 128]⟩
abbrev S8x1024 : Shape := ⟨2, ![8, 1024]⟩
abbrev S256x1024 : Shape := ⟨2, ![256, 1024]⟩
abbrev S256x384 : Shape := ⟨2, ![256, 384]⟩
abbrev S256x256 : Shape := ⟨2, ![256, 256]⟩
abbrev S256x2816 : Shape := ⟨2, ![256, 2816]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S32x8x1024 : Shape := ⟨3, ![32, 8, 1024]⟩
abbrev S1x1 : Shape := ⟨2, ![1, 1]⟩
abbrev S_ : Shape := ⟨0, ![]⟩

abbrev nBuf : Space → Nat
  | .hbm => 34
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x256, .f32⟩
  | .hbm, ⟨3, _⟩ => ⟨S8192x384, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S1024x1024, .bf16⟩
  | .hbm, ⟨17, _⟩ => ⟨S1x1024, .f32⟩
  | .hbm, ⟨18, _⟩ => ⟨S8192x384, .bf16⟩
  | .hbm, ⟨19, _⟩ => ⟨S8192x256, .bf16⟩
  | .hbm, ⟨20, _⟩ => ⟨S8192x384, .bf16⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x2816, .bf16⟩
  | .hbm, ⟨26, _⟩ => ⟨S8192x2816, .bf16⟩
  | .hbm, ⟨27, _⟩ => ⟨S8192x1024, .bf16⟩
  | .hbm, ⟨28, _⟩ => ⟨S8x128, .f32⟩
  | .hbm, ⟨29, _⟩ => ⟨S8x1024, .f32⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x384, .bf16⟩
  | .local _ .vmem, ⟨3, _⟩ => ⟨S256x384, .bf16⟩
  | .local _ .vmem, ⟨4, _⟩ => ⟨S256x256, .bf16⟩
  | .local _ .vmem, ⟨5, _⟩ => ⟨S256x256, .bf16⟩
  | .local _ .vmem, ⟨6, _⟩ => ⟨S256x384, .bf16⟩
  | .local _ .vmem, ⟨7, _⟩ => ⟨S256x384, .bf16⟩
  | .local _ .vmem, ⟨8, _⟩ => ⟨S1024x1024, .bf16⟩
  | .local _ .vmem, ⟨9, _⟩ => ⟨S1x1024, .f32⟩
  | .local _ .vmem, ⟨10, _⟩ => ⟨S2816x1024, .bf16⟩
  | .local _ .vmem, ⟨11, _⟩ => ⟨S2816x1024, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S256x1024, .bf16⟩
  | .local _ .vmem, ⟨27, _⟩ => ⟨S256x1024, .bf16⟩
  | .local _ .vmem, ⟨28, _⟩ => ⟨S8x128, .f32⟩
  | .local _ .vmem, ⟨29, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev main_v11_7 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== HeadRefIdeal.lean ====
abbrev S8192x1024 : Shape := ⟨2, ![8192, 1024]⟩
abbrev S8192x384 : Shape := ⟨2, ![8192, 384]⟩
abbrev S8192x256 : Shape := ⟨2, ![8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x256, .f32⟩
  | .hbm, ⟨3, _⟩ => ⟨S8192x384, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x2816, .bf16⟩
  | .hbm, ⟨46, _⟩ => ⟨S8192x2816, .bf16⟩
  | .hbm, ⟨47, _⟩ => ⟨S8192x1024, .bf16⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S8192x1024, .f32⟩
  | .hbm, ⟨104, _⟩ => ⟨S8192x1024, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S_, .f32⟩
  | .hbm, ⟨110, _⟩ => ⟨S8192, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_cst_11 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_cst_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_v70 : Ref sig .tc := ⟨.hbm, 108, rfl⟩
abbrev main_cst_18 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]
-- ==== AdamFfn.lean ====
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamFfnRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInRefIdeal.lean ====
abbrev S2x352x1024 : Shape := ⟨3, ![2, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S2x96x384 : Shape := ⟨3, ![2, 96, 384]⟩
abbrev S1x96x384 : Shape := ⟨3, ![1, 96, 384]⟩
abbrev S96x384 : Shape := ⟨2, ![96, 384]⟩

abbrev nBuf : Space → Nat
  | .hbm => 7
  | .vmem => 14
  | .smem => 0
  | _ => 0

abbrev bufTy : (tb : Table) → Fin (tcTables nBuf tb) → BufTy
  | .hbm, ⟨0, _⟩ => ⟨S2x96x384, .f32⟩
  | .hbm, ⟨1, _⟩ => ⟨S2x96x384, .f32⟩
  | .hbm, ⟨2, _⟩ => ⟨S2x96x384, .f32⟩
  | .hbm, ⟨3, _⟩ => ⟨S2x96x384, .f32⟩
  | .hbm, ⟨4, _⟩ => ⟨S2x96x384, .f32⟩
  | .hbm, ⟨5, _⟩ => ⟨S2x96x384, .f32⟩
  | .hbm, ⟨6, _⟩ => ⟨S2x96x384, .f32⟩
  | .local _ .vmem, ⟨0, _⟩ => ⟨S1x96x384, .f32⟩
  | .local _ .vmem, ⟨1, _⟩ => ⟨S1x96x384, .f32⟩
  | .local _ .vmem, ⟨2, _⟩ => ⟨S1x96x384, .f32⟩
  | .local _ .vmem, ⟨3, _⟩ => ⟨S1x96x384, .f32⟩
  | .local _ .vmem, ⟨4, _⟩ => ⟨S1x96x384, .f32⟩
  | .local _ .vmem, ⟨5, _⟩ => ⟨S1x96x384, .f32⟩
  | .local _ .vmem, ⟨6, _⟩ => ⟨S1x96x384, .f32⟩
  | .local _ .vmem, ⟨7, _⟩ => ⟨S1x96x384, .f32⟩
  | .local _ .vmem, ⟨8, _⟩ => ⟨S1x96x384, .f32⟩
  | .local _ .vmem, ⟨9, _⟩ => ⟨S1x96x384, .f32⟩
  | .local _ .vmem, ⟨10, _⟩ => ⟨S1x96x384, .f32⟩
  | .local _ .vmem, ⟨11, _⟩ => ⟨S1x96x384, .f32⟩
  | .local _ .vmem, ⟨12, _⟩ => ⟨S1x96x384, .f32⟩
  | .local _ .vmem, ⟨13, _⟩ => ⟨S1x96x384, .f32⟩
  | _, _ => ⟨S2x96x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamGluRefIdeal.lean ====
abbrev S2x96x384 : Shape := ⟨3, ![2, 96, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x96x384, .f32⟩
  | .hbm, ⟨1, _⟩ => ⟨S2x96x384, .f32⟩
  | .hbm, ⟨2, _⟩ => ⟨S2x96x384, .f32⟩
  | .hbm, ⟨3, _⟩ => ⟨S2x96x384, .f32⟩
  | .hbm, ⟨4, _⟩ => ⟨S_, .f32⟩
  | .hbm, ⟨5, _⟩ => ⟨S2x96x384, .f32⟩
  | .hbm, ⟨6, _⟩ => ⟨S2x96x384, .f32⟩
  | .hbm, ⟨7, _⟩ => ⟨S_, .f32⟩
  | .hbm, ⟨8, _⟩ => ⟨S2x96x384, .f32⟩
  | .hbm, ⟨9, _⟩ => ⟨S2x96x384, .f32⟩
  | .hbm, ⟨10, _⟩ => ⟨S2x96x384, .f32⟩
  | .hbm, ⟨11, _⟩ => ⟨S_, .f32⟩
  | .hbm, ⟨12, _⟩ => ⟨S2x96x384, .f32⟩
  | .hbm, ⟨13, _⟩ => ⟨S2x96x384, .f32⟩
  | .hbm, ⟨14, _⟩ => ⟨S2x96x384, .f32⟩
  | .hbm, ⟨15, _⟩ => ⟨S_, .f32⟩
  | .hbm, ⟨16, _⟩ => ⟨S2x96x384, .f32⟩
  | .hbm, ⟨17, _⟩ => ⟨S2x96x384, .f32⟩
  | .hbm, ⟨18, _⟩ => ⟨S2x96x384, .f32⟩
  | .hbm, ⟨19, _⟩ => ⟨S_, .f32⟩
  | .hbm, ⟨20, _⟩ => ⟨S2x96x384, .f32⟩
  | .hbm, ⟨21, _⟩ => ⟨S2x96x384, .f32⟩
  | .hbm, ⟨22, _⟩ => ⟨S_, .f32⟩
  | .hbm, ⟨23, _⟩ => ⟨S2x96x384, .f32⟩
  | .hbm, ⟨24, _⟩ => ⟨S2x96x384, .f32⟩
  | .hbm, ⟨25, _⟩ => ⟨S2x96x384, .f32⟩
  | .hbm, ⟨26, _⟩ => ⟨S_, .f32⟩
  | .hbm, ⟨27, _⟩ => ⟨S2x96x384, .f32⟩
  | .hbm, ⟨28, _⟩ => ⟨S2x96x384, .f32⟩
  | .hbm, ⟨29, _⟩ => ⟨S2x96x384, .f32⟩
  | .hbm, ⟨30, _⟩ => ⟨S_, .f32⟩
  | .hbm, ⟨31, _⟩ => ⟨S2x96x384, .f32⟩
  | .hbm, ⟨32, _⟩ => ⟨S2x96x384, .f32⟩
  | .hbm, ⟨33, _⟩ => ⟨S2x96x384, .f32⟩
  | .hbm, ⟨34, _⟩ => ⟨S_, .f32⟩
  | .hbm, ⟨35, _⟩ => ⟨S2x96x384, .f32⟩
  | .hbm, ⟨36, _⟩ => ⟨S2x96x384, .f32⟩
  | _, _ => ⟨S2x96x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sums.lean ====
abbrev S8x3584x128 : Shape := ⟨3, ![8, 3584, 128]⟩
abbrev S8x32x128 : Shape := ⟨3, ![8, 32, 128]⟩
abbrev S3584x128 : Shape := ⟨2, ![3584, 128]⟩
abbrev S32x128 : Shape := ⟨2, ![32, 128]⟩
abbrev S1x3584x128 : Shape := ⟨3, ![1, 3584, 128]⟩
abbrev S1x32x128 : Shape := ⟨3, ![1, 32, 128]⟩
abbrev S16x128 : Shape := ⟨2, ![16, 128]⟩
abbrev S2048 : Shape := ⟨1, ![2048]⟩
abbrev S2x1024 : Shape := ⟨2, ![2, 1024]⟩
abbrev S4096 : Shape := ⟨1, ![4096]⟩
abbrev S3072 : Shape := ⟨1, ![3072]⟩
abbrev S2x24x64 : Shape := ⟨3, ![2, 24, 64]⟩
abbrev S48 : Shape := ⟨1, ![48]⟩
abbrev S2x24 : Shape := ⟨2, ![2, 24]⟩
abbrev S384x128 : Shape := ⟨2, ![384, 128]⟩
abbrev S49152 : Shape := ⟨1, ![49152]⟩
abbrev S2x24x16x64 : Shape := ⟨4, ![2, 24, 16, 64]⟩
abbrev S768 : Shape := ⟨1, ![768]⟩
abbrev S2x384 : Shape := ⟨2, ![2, 384]⟩
abbrev S256x128 : Shape := ⟨2, ![256, 128]⟩
abbrev S32768 : Shape := ⟨1, ![32768]⟩
abbrev S2x4x64x64 : Shape := ⟨4, ![2, 4, 64, 64]⟩
abbrev S512 : Shape := ⟨1, ![512]⟩
abbrev S2x256 : Shape := ⟨2, ![2, 256]⟩
abbrev S1536x128 : Shape := ⟨2, ![1536, 128]⟩
abbrev S196608 : Shape := ⟨1, ![196608]⟩
abbrev S2x6x128x128 : Shape := ⟨4, ![2, 6, 128, 128]⟩
abbrev S1536 : Shape := ⟨1, ![1536]⟩
abbrev S6x2x128 : Shape := ⟨3, ![6, 2, 128]⟩
abbrev S48x128 : Shape := ⟨2, ![48, 128]⟩
abbrev S1024 : Shape := ⟨1, ![1024]⟩
abbrev S1x1 : Shape := ⟨2, ![1, 1]⟩
abbrev S_ : Shape := ⟨0, ![]⟩
abbrev S2x24x64x16 : Shape := ⟨4, ![2, 24, 64, 16]⟩
abbrev S2x6x128 : Shape := ⟨3, ![2, 6, 128]⟩

abbrev nBuf : Space → Nat
  | .hbm => 74
  | .vmem => 4
  | .smem => 0
  | _ => 0

abbrev bufTy : (tb : Table) → Fin (tcTables nBuf tb) → BufTy
  | .hbm, ⟨0, _⟩ => ⟨S8x3584x128, .bf16⟩
  | .hbm, ⟨1, _⟩ => ⟨S8x32x128, .f32⟩
  | .hbm, ⟨2, _⟩ => ⟨S3584x128, .f32⟩
  | .hbm, ⟨3, _⟩ => ⟨S32x128, .f32⟩
  | .hbm, ⟨4, _⟩ => ⟨S16x128, .f32⟩
  | .hbm, ⟨5, _⟩ => ⟨S2048, .f32⟩
  | .hbm, ⟨6, _⟩ => ⟨S2x1024, .f32⟩
  | .hbm, ⟨7, _⟩ => ⟨S32x128, .f32⟩
  | .hbm, ⟨8, _⟩ => ⟨S4096, .f32⟩
  | .hbm, ⟨9, _⟩ => ⟨S3072, .f32⟩
  | .hbm, ⟨10, _⟩ => ⟨S2x24x64, .f32⟩
  | .hbm, ⟨11, _⟩ => ⟨S32x128, .f32⟩
  | .hbm, ⟨12, _⟩ => ⟨S4096, .f32⟩
  | .hbm, ⟨13, _⟩ => ⟨S3072, .f32⟩
  | .hbm, ⟨14, _⟩ => ⟨S2x24x64, .f32⟩
  | .hbm, ⟨15, _⟩ => ⟨S16x128, .f32⟩
  | .hbm, ⟨16, _⟩ => ⟨S2048, .f32⟩
  | .hbm, ⟨17, _⟩ => ⟨S48, .f32⟩
  | .hbm, ⟨18, _⟩ => ⟨S2x24, .f32⟩
  | .hbm, ⟨19, _⟩ => ⟨S384x128, .f32⟩
  | .hbm, ⟨20, _⟩ => ⟨S49152, .f32⟩
  | .hbm, ⟨21, _⟩ => ⟨S2x24x16x64, .f32⟩
  | .hbm, ⟨22, _⟩ => ⟨S384x128, .f32⟩
  | .hbm, ⟨23, _⟩ => ⟨S49152, .f32⟩
  | .hbm, ⟨24, _⟩ => ⟨S2x24x16x64, .f32⟩
  | .hbm, ⟨25, _⟩ => ⟨S384x128, .f32⟩
  | .hbm, ⟨26, _⟩ => ⟨S49152, .f32⟩
  | .hbm, ⟨27, _⟩ => ⟨S2x24x16x64, .f32⟩
  | .hbm, ⟨28, _⟩ => ⟨S384x128, .f32⟩
  | .hbm, ⟨29, _⟩ => ⟨S49152, .f32⟩
  | .hbm, ⟨30, _⟩ => ⟨S2x24x16x64, .f32⟩
  | .hbm, ⟨31, _⟩ => ⟨S16x128, .f32⟩
  | .hbm, ⟨32, _⟩ => ⟨S2048, .f32⟩
  | .hbm, ⟨33, _⟩ => ⟨S768, .f32⟩
  | .hbm, ⟨34, _⟩ => ⟨S2x384, .f32⟩
  | .hbm, ⟨35, _⟩ => ⟨S16x128, .f32⟩
  | .hbm, ⟨36, _⟩ => ⟨S2048, .f32⟩
  | .hbm, ⟨37, _⟩ => ⟨S768, .f32⟩
  | .hbm, ⟨38, _⟩ => ⟨S2x384, .f32⟩
  | .hbm, ⟨39, _⟩ => ⟨S256x128, .f32⟩
  | .hbm, ⟨40, _⟩ => ⟨S32768, .f32⟩
  | .hbm, ⟨41, _⟩ => ⟨S2x4x64x64, .f32⟩
  | .hbm, ⟨42, _⟩ => ⟨S16x128, .f32⟩
  | .hbm, ⟨43, _⟩ => ⟨S2048, .f32⟩
  | .hbm, ⟨44, _⟩ => ⟨S512, .f32⟩
  | .hbm, ⟨45, _⟩ => ⟨S2x256, .f32⟩
  | .hbm, ⟨46, _⟩ => ⟨S16x128, .f32⟩
  | .hbm, ⟨47, _⟩ => ⟨S2048, .f32⟩
  | .hbm, ⟨48, _⟩ => ⟨S768, .f32⟩
  | .hbm, ⟨49, _⟩ => ⟨S2x384, .f32⟩
  | .hbm, ⟨50, _⟩ => ⟨S16x128, .f32⟩
  | .hbm, ⟨51, _⟩ => ⟨S2048, .f32⟩
  | .hbm, ⟨52, _⟩ => ⟨S768, .f32⟩
  | .hbm, ⟨53, _⟩ => ⟨S2x384, .f32⟩
  | .hbm, ⟨54, _⟩ => ⟨S1536x128, .f32⟩
  | .hbm, ⟨55, _⟩ => ⟨S196608, .f32⟩
  | .hbm, ⟨56, _⟩ => ⟨S2x6x128x128, .f32⟩
  | .hbm, ⟨57, _⟩ => ⟨S16x128, .f32⟩
  | .hbm, ⟨58, _⟩ => ⟨S2048, .f32⟩
  | .hbm, ⟨59, _⟩ => ⟨S1536, .f32⟩
  | .hbm, ⟨60, _⟩ => ⟨S6x2x128, .f32⟩
  | .hbm, ⟨61, _⟩ => ⟨S16x128, .f32⟩
  | .hbm, ⟨62, _⟩ => ⟨S2048, .f32⟩
  | .hbm, ⟨63, _⟩ => ⟨S2x1024, .f32⟩
  | .hbm, ⟨64, _⟩ => ⟨S48x128, .f32⟩
  | .hbm, ⟨65, _⟩ => ⟨S16x128, .f32⟩
  | .hbm, ⟨66, _⟩ => ⟨S2048, .f32⟩
  | .hbm, ⟨67, _⟩ => ⟨S1024, .f32⟩
  | .hbm, ⟨68, _⟩ => ⟨S16x128, .f32⟩
  | .hbm, ⟨69, _⟩ => ⟨S1x1, .f32⟩
  | .hbm, ⟨70, _⟩ => ⟨S_, .f32⟩
  | .hbm, ⟨71, _⟩ => ⟨S2x24x64x16, .f32⟩
  | .hbm, ⟨72, _⟩ => ⟨S2x24x64x16, .f32⟩
  | .hbm, ⟨73, _⟩ => ⟨S2x6x128, .f32⟩
  | .local _ .vmem, ⟨0, _⟩ => ⟨S8x3584x128, .bf16⟩
  | .local _ .vmem, ⟨1, _⟩ => ⟨S8x32x128, .f32⟩
  | .local _ .vmem, ⟨2, _⟩ => ⟨S3584x128, .f32⟩
  | .local _ .vmem, ⟨3, _⟩ => ⟨S32x128, .f32⟩
  | _, _ => ⟨S8x3584x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x3584x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SumsRefIdeal.lean ====
abbrev S8x3584x128 : Shape := ⟨3, ![8, 3584, 128]⟩
abbrev S8x32x128 : Shape := ⟨3, ![8, 32, 128]⟩
abbrev S_ : Shape := ⟨0, ![]⟩
abbrev S3584x128 : Shape := ⟨2, ![3584, 128]⟩
abbrev S32x128 : Shape := ⟨2, ![32, 128]⟩
abbrev S16x128 : Shape := ⟨2, ![16, 128]⟩
abbrev S2048 : Shape := ⟨1, ![2048]⟩
abbrev S2x1024 : Shape := ⟨2, ![2, 1024]⟩
abbrev S4096 : Shape := ⟨1, ![4096]⟩
abbrev S3072 : Shape := ⟨1, ![3072]⟩
abbrev S2x24x64 : Shape := ⟨3, ![2, 24, 64]⟩
abbrev S48 : Shape := ⟨1, ![48]⟩
abbrev S2x24 : Shape := ⟨2, ![2, 24]⟩
abbrev S384x128 : Shape := ⟨2, ![384, 128]⟩
abbrev S49152 : Shape := ⟨1, ![49152]⟩
abbrev S2x24x16x64 : Shape := ⟨4, ![2, 24, 16, 64]⟩
abbrev S768 : Shape := ⟨1, ![768]⟩
abbrev S2x384 : Shape := ⟨2, ![2, 384]⟩
abbrev S256x128 : Shape := ⟨2, ![256, 128]⟩
abbrev S32768 : Shape := ⟨1, ![32768]⟩
abbrev S2x4x64x64 : Shape := ⟨4, ![2, 4, 64, 64]⟩
abbrev S512 : Shape := ⟨1, ![512]⟩
abbrev S2x256 : Shape := ⟨2, ![2, 256]⟩
abbrev S1536x128 : Shape := ⟨2, ![1536, 128]⟩
abbrev S196608 : Shape := ⟨1, ![196608]⟩
abbrev S2x6x128x128 : Shape := ⟨4, ![2, 6, 128, 128]⟩
abbrev S1536 : Shape := ⟨1, ![1536]⟩
abbrev S6x2x128 : Shape := ⟨3, ![6, 2, 128]⟩
abbrev S1024 : Shape := ⟨1, ![1024]⟩
abbrev S1x1 : Shape := ⟨2, ![1, 1]⟩
abbrev S2x24x64x16 : Shape := ⟨4, ![2, 24, 64, 16]⟩
abbrev S2x6x128 : Shape := ⟨3, ![2, 6, 128]⟩

abbrev nBuf : Space → Nat
  | .hbm => 76
  | .vmem => 0
  | .smem => 0
  | _ => 0

abbrev bufTy : (tb : Table) → Fin (tcTables nBuf tb) → BufTy
  | .hbm, ⟨0, _⟩ => ⟨S8x3584x128, .bf16⟩
  | .hbm, ⟨1, _⟩ => ⟨S8x32x128, .f32⟩
  | .hbm, ⟨2, _⟩ => ⟨S8x3584x128, .f32⟩
  | .hbm, ⟨3, _⟩ => ⟨S_, .f32⟩
  | .hbm, ⟨4, _⟩ => ⟨S3584x128, .f32⟩
  | .hbm, ⟨5, _⟩ => ⟨S_, .f32⟩
  | .hbm, ⟨6, _⟩ => ⟨S32x128, .f32⟩
  | .hbm, ⟨7, _⟩ => ⟨S16x128, .f32⟩
  | .hbm, ⟨8, _⟩ => ⟨S2048, .f32⟩
  | .hbm, ⟨9, _⟩ => ⟨S2x1024, .f32⟩
  | .hbm, ⟨10, _⟩ => ⟨S32x128, .f32⟩
  | .hbm, ⟨11, _⟩ => ⟨S4096, .f32⟩
  | .hbm, ⟨12, _⟩ => ⟨S3072, .f32⟩
  | .hbm, ⟨13, _⟩ => ⟨S2x24x64, .f32⟩
  | .hbm, ⟨14, _⟩ => ⟨S32x128, .f32⟩
  | .hbm, ⟨15, _⟩ => ⟨S4096, .f32⟩
  | .hbm, ⟨16, _⟩ => ⟨S3072, .f32⟩
  | .hbm, ⟨17, _⟩ => ⟨S2x24x64, .f32⟩
  | .hbm, ⟨18, _⟩ => ⟨S16x128, .f32⟩
  | .hbm, ⟨19, _⟩ => ⟨S2048, .f32⟩
  | .hbm, ⟨20, _⟩ => ⟨S48, .f32⟩
  | .hbm, ⟨21, _⟩ => ⟨S2x24, .f32⟩
  | .hbm, ⟨22, _⟩ => ⟨S384x128, .f32⟩
  | .hbm, ⟨23, _⟩ => ⟨S49152, .f32⟩
  | .hbm, ⟨24, _⟩ => ⟨S2x24x16x64, .f32⟩
  | .hbm, ⟨25, _⟩ => ⟨S384x128, .f32⟩
  | .hbm, ⟨26, _⟩ => ⟨S49152, .f32⟩
  | .hbm, ⟨27, _⟩ => ⟨S2x24x16x64, .f32⟩
  | .hbm, ⟨28, _⟩ => ⟨S384x128, .f32⟩
  | .hbm, ⟨29, _⟩ => ⟨S49152, .f32⟩
  | .hbm, ⟨30, _⟩ => ⟨S2x24x16x64, .f32⟩
  | .hbm, ⟨31, _⟩ => ⟨S384x128, .f32⟩
  | .hbm, ⟨32, _⟩ => ⟨S49152, .f32⟩
  | .hbm, ⟨33, _⟩ => ⟨S2x24x16x64, .f32⟩
  | .hbm, ⟨34, _⟩ => ⟨S16x128, .f32⟩
  | .hbm, ⟨35, _⟩ => ⟨S2048, .f32⟩
  | .hbm, ⟨36, _⟩ => ⟨S768, .f32⟩
  | .hbm, ⟨37, _⟩ => ⟨S2x384, .f32⟩
  | .hbm, ⟨38, _⟩ => ⟨S16x128, .f32⟩
  | .hbm, ⟨39, _⟩ => ⟨S2048, .f32⟩
  | .hbm, ⟨40, _⟩ => ⟨S768, .f32⟩
  | .hbm, ⟨41, _⟩ => ⟨S2x384, .f32⟩
  | .hbm, ⟨42, _⟩ => ⟨S256x128, .f32⟩
  | .hbm, ⟨43, _⟩ => ⟨S32768, .f32⟩
  | .hbm, ⟨44, _⟩ => ⟨S2x4x64x64, .f32⟩
  | .hbm, ⟨45, _⟩ => ⟨S16x128, .f32⟩
  | .hbm, ⟨46, _⟩ => ⟨S2048, .f32⟩
  | .hbm, ⟨47, _⟩ => ⟨S512, .f32⟩
  | .hbm, ⟨48, _⟩ => ⟨S2x256, .f32⟩
  | .hbm, ⟨49, _⟩ => ⟨S16x128, .f32⟩
  | .hbm, ⟨50, _⟩ => ⟨S2048, .f32⟩
  | .hbm, ⟨51, _⟩ => ⟨S768, .f32⟩
  | .hbm, ⟨52, _⟩ => ⟨S2x384, .f32⟩
  | .hbm, ⟨53, _⟩ => ⟨S16x128, .f32⟩
  | .hbm, ⟨54, _⟩ => ⟨S2048, .f32⟩
  | .hbm, ⟨55, _⟩ => ⟨S768, .f32⟩
  | .hbm, ⟨56, _⟩ => ⟨S2x384, .f32⟩
  | .hbm, ⟨57, _⟩ => ⟨S1536x128, .f32⟩
  | .hbm, ⟨58, _⟩ => ⟨S196608, .f32⟩
  | .hbm, ⟨59, _⟩ => ⟨S2x6x128x128, .f32⟩
  | .hbm, ⟨60, _⟩ => ⟨S16x128, .f32⟩
  | .hbm, ⟨61, _⟩ => ⟨S2048, .f32⟩
  | .hbm, ⟨62, _⟩ => ⟨S1536, .f32⟩
  | .hbm, ⟨63, _⟩ => ⟨S6x2x128, .f32⟩
  | .hbm, ⟨64, _⟩ => ⟨S16x128, .f32⟩
  | .hbm, ⟨65, _⟩ => ⟨S2048, .f32⟩
  | .hbm, ⟨66, _⟩ => ⟨S2x1024, .f32⟩
  | .hbm, ⟨67, _⟩ => ⟨S16x128, .f32⟩
  | .hbm, ⟨68, _⟩ => ⟨S2048, .f32⟩
  | .hbm, ⟨69, _⟩ => ⟨S1024, .f32⟩
  | .hbm, ⟨70, _⟩ => ⟨S16x128, .f32⟩
  | .hbm, ⟨71, _⟩ => ⟨S1x1, .f32⟩
  | .hbm, ⟨72, _⟩ => ⟨S_, .f32⟩
  | .hbm, ⟨73, _⟩ => ⟨S2x24x64x16, .f32⟩
  | .hbm, ⟨74, _⟩ => ⟨S2x24x64x16, .f32⟩
  | .hbm, ⟨75, _⟩ => ⟨S2x6x128, .f32⟩
  | _, _ => ⟨S8x3584x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩

abbrev nD : Nat := 1
abbrev τ : Topo := Topo.v7x

variable {F : FTy → Type} [FloatOps F]
-- ==== HalvesMix.lean ====
abbrev S2 : Shape := ⟨1, ![2]⟩
abbrev S4x2x176x1024 : Shape := ⟨4, ![4, 2, 176, 1024]⟩
abbrev S4x2x48x384 : Shape := ⟨4, ![4, 2, 48, 384]⟩
abbrev S4x176x1024 : Shape := ⟨3, ![4, 176, 1024]⟩
abbrev S4x48x384 : Shape := ⟨3, ![4, 48, 384]⟩
abbrev S1x1x176x1024 : Shape := ⟨4, ![1, 1, 176, 1024]⟩
abbrev S1 : Shape := ⟨1, ![1]⟩
abbrev S1x1x48x384 : Shape := ⟨4, ![1, 1, 48, 384]⟩
abbrev S1x176x1024 : Shape := ⟨3, ![1, 176, 1024]⟩
abbrev S1x48x384 : Shape := ⟨3, ![1, 48, 384]⟩
abbrev S176x1024 : Shape := ⟨2, ![176, 1024]⟩
abbrev S48x384 : Shape := ⟨2, ![48, 384]⟩

abbrev nBuf : Space → Nat
  | .hbm => 6
  | .vmem => 12
  | .smem => 1
  | _ => 0

abbrev bufTy : (tb : Table) → Fin (tcTables nBuf tb) → BufTy
  | .hbm, ⟨0, _⟩ => ⟨S4x2x176x1024, .f32⟩
  | .hbm, ⟨1, _⟩ => ⟨S4x2x48x384, .f32⟩
  | .hbm, ⟨2, _⟩ => ⟨S4x176x1024, .f32⟩
  | .hbm, ⟨3, _⟩ => ⟨S4x48x384, .f32⟩
  | .hbm, ⟨4, _⟩ => ⟨S4x176x1024, .bf16⟩
  | .hbm, ⟨5, _⟩ => ⟨S4x48x384, .bf16⟩
  | .local _ .vmem, ⟨0, _⟩ => ⟨S1x1x176x1024, .f32⟩
  | .local _ .vmem, ⟨1, _⟩ => ⟨S1x1x176x1024, .f32⟩
  | .local _ .vmem, ⟨2, _⟩ => ⟨S1x1x48x384, .f32⟩
  | .local _ .vmem, ⟨3, _⟩ => ⟨S1x1x48x384, .f32⟩
  | .local _ .vmem, ⟨4, _⟩ => ⟨S1x176x1024, .f32⟩
  | .local _ .vmem, ⟨5, _⟩ => ⟨S1x176x1024, .f32⟩
  | .local _ .vmem, ⟨6, _⟩ => ⟨S1x48x384, .f32⟩
  | .local _ .vmem, ⟨7, _⟩ => ⟨S1x48x384, .f32⟩
  | .local _ .vmem, ⟨8, _⟩ => ⟨S1x176x1024, .bf16⟩
  | .local _ .vmem, ⟨9, _⟩ => ⟨S1x176x1024, .bf16⟩
  | .local _ .vmem, ⟨10, _⟩ => ⟨S1x48x384, .bf16⟩
  | .local _ .vmem, ⟨11, _⟩ => ⟨S1x48x384, .bf16⟩
  | .local _ .smem, ⟨0, _⟩ => ⟨S2, .i32⟩
  | _, _ => ⟨S4x2x176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x48x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x48x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HalvesMixRefIdeal.lean ====
abbrev S2 : Shape := ⟨1, ![2]⟩
abbrev S4x2x176x1024 : Shape := ⟨4, ![4, 2, 176, 1024]⟩
abbrev S4x2x48x384 : Shape := ⟨4, ![4, 2, 48, 384]⟩
abbrev S4x176x1024 : Shape := ⟨3, ![4, 176, 1024]⟩
abbrev S4x48x384 : Shape := ⟨3, ![4, 48, 384]⟩
abbrev S1 : Shape := ⟨1, ![1]⟩
abbrev S_ : Shape := ⟨0, ![]⟩
abbrev S4x1x176x1024 : Shape := ⟨4, ![4, 1, 176, 1024]⟩
abbrev S4x1x48x384 : Shape := ⟨4, ![4, 1, 48, 384]⟩

abbrev nBuf : Space → Nat
  | .hbm => 27
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x176x1024, .f32⟩
  | .hbm, ⟨2, _⟩ => ⟨S4x2x48x384, .f32⟩
  | .hbm, ⟨3, _⟩ => ⟨S4x176x1024, .f32⟩
  | .hbm, ⟨4, _⟩ => ⟨S4x48x384, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x1x176x1024, .f32⟩
  | .hbm, ⟨10, _⟩ => ⟨S4x176x1024, .f32⟩
  | .hbm, ⟨11, _⟩ => ⟨S4x1x176x1024, .f32⟩
  | .hbm, ⟨12, _⟩ => ⟨S4x176x1024, .f32⟩
  | .hbm, ⟨13, _⟩ => ⟨S4x176x1024, .f32⟩
  | .hbm, ⟨14, _⟩ => ⟨S4x176x1024, .f32⟩
  | .hbm, ⟨15, _⟩ => ⟨S4x176x1024, .bf16⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S4x1x48x384, .f32⟩
  | .hbm, ⟨21, _⟩ => ⟨S4x48x384, .f32⟩
  | .hbm, ⟨22, _⟩ => ⟨S4x1x48x384, .f32⟩
  | .hbm, ⟨23, _⟩ => ⟨S4x48x384, .f32⟩
  | .hbm, ⟨24, _⟩ => ⟨S4x48x384, .f32⟩
  | .hbm, ⟨25, _⟩ => ⟨S4x48x384, .f32⟩
  | .hbm, ⟨26, _⟩ => ⟨S4x48x384, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== HalvesFfn.lean ====
abbrev S2 : Shape := ⟨1, ![2]⟩
abbrev S4x2x352x1024 : Shape := ⟨4, ![4, 2, 352, 1024]⟩
abbrev S4x2x128x1024 : Shape := ⟨4, ![4, 2, 128, 1024]⟩
abbrev S4x352x1024 : Shape := ⟨3, ![4, 352, 1024]⟩
abbrev S4x128x1024 : Shape := ⟨3, ![4, 128, 1024]⟩
abbrev S1x1x352x1024 : Shape := ⟨4, ![1, 1, 352, 1024]⟩
abbrev S1 : Shape := ⟨1, ![1]⟩
abbrev S1x1x128x1024 : Shape := ⟨4, ![1, 1, 128, 1024]⟩
abbrev S1x352x1024 : Shape := ⟨3, ![1, 352, 1024]⟩
abbrev S1x128x1024 : Shape := ⟨3, ![1, 128, 1024]⟩
abbrev S352x1024 : Shape := ⟨2, ![352, 1024]⟩
abbrev S128x1024 : Shape := ⟨2, ![128, 1024]⟩

abbrev nBuf : Space → Nat
  | .hbm => 12
  | .vmem => 24
  | .smem => 1
  | _ => 0

abbrev bufTy : (tb : Table) → Fin (tcTables nBuf tb) → BufTy
  | .hbm, ⟨0, _⟩ => ⟨S4x2x352x1024, .f32⟩
  | .hbm, ⟨1, _⟩ => ⟨S4x2x352x1024, .f32⟩
  | .hbm, ⟨2, _⟩ => ⟨S4x2x352x1024, .f32⟩
  | .hbm, ⟨3, _⟩ => ⟨S4x2x128x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x128x1024, .f32⟩
  | .hbm, ⟨8, _⟩ => ⟨S4x352x1024, .bf16⟩
  | .hbm, ⟨9, _⟩ => ⟨S4x352x1024, .bf16⟩
  | .hbm, ⟨10, _⟩ => ⟨S4x352x1024, .bf16⟩
  | .hbm, ⟨11, _⟩ => ⟨S4x128x1024, .bf16⟩
  | .local _ .vmem, ⟨0, _⟩ => ⟨S1x1x352x1024, .f32⟩
  | .local _ .vmem, ⟨1, _⟩ => ⟨S1x1x352x1024, .f32⟩
  | .local _ .vmem, ⟨2, _⟩ => ⟨S1x1x352x1024, .f32⟩
  | .local _ .vmem, ⟨3, _⟩ => ⟨S1x1x352x1024, .f32⟩
  | .local _ .vmem, ⟨4, _⟩ => ⟨S1x1x352x1024, .f32⟩
  | .local _ .vmem, ⟨5, _⟩ => ⟨S1x1x352x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x352x1024, .bf16⟩
  | .local _ .vmem, ⟨17, _⟩ => ⟨S1x352x1024, .bf16⟩
  | .local _ .vmem, ⟨18, _⟩ => ⟨S1x352x1024, .bf16⟩
  | .local _ .vmem, ⟨19, _⟩ => ⟨S1x352x1024, .bf16⟩
  | .local _ .vmem, ⟨20, _⟩ => ⟨S1x352x1024, .bf16⟩
  | .local _ .vmem, ⟨21, _⟩ => ⟨S1x352x1024, .bf16⟩
  | .local _ .vmem, ⟨22, _⟩ => ⟨S1x128x1024, .bf16⟩
  | .local _ .vmem, ⟨23, _⟩ => ⟨S1x128x1024, .bf16⟩
  | .local _ .smem, ⟨0, _⟩ => ⟨S2, .i32⟩
  | _, _ => ⟨S4x2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_3 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x352x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== HalvesFfnRefIdeal.lean ====
abbrev S2 : Shape := ⟨1, ![2]⟩
abbrev S4x2x352x1024 : Shape := ⟨4, ![4, 2, 352, 1024]⟩
abbrev S4x2x128x1024 : Shape := ⟨4, ![4, 2, 128, 1024]⟩
abbrev S4x352x1024 : Shape := ⟨3, ![4, 352, 1024]⟩
abbrev S4x128x1024 : Shape := ⟨3, ![4, 128, 1024]⟩
abbrev S1 : Shape := ⟨1, ![1]⟩
abbrev S_ : Shape := ⟨0, ![]⟩
abbrev S4x1x352x1024 : Shape := ⟨4, ![4, 1, 352, 1024]⟩
abbrev S4x1x128x1024 : Shape := ⟨4, ![4, 1, 128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x352x1024, .f32⟩
  | .hbm, ⟨2, _⟩ => ⟨S4x2x352x1024, .f32⟩
  | .hbm, ⟨3, _⟩ => ⟨S4x2x352x1024, .f32⟩
  | .hbm, ⟨4, _⟩ => ⟨S4x2x128x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x128x1024, .f32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x352x1024, .f32⟩
  | .hbm, ⟨14, _⟩ => ⟨S4x352x1024, .f32⟩
  | .hbm, ⟨15, _⟩ => ⟨S4x1x352x1024, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S4x352x1024, .bf16⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S4x1x352x1024, .f32⟩
  | .hbm, ⟨25, _⟩ => ⟨S4x352x1024, .f32⟩
  | .hbm, ⟨26, _⟩ => ⟨S4x1x352x1024, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S4x352x1024, .bf16⟩
  | .hbm, ⟨31, _⟩ => ⟨S1, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S4x1x352x1024, .f32⟩
  | .hbm, ⟨36, _⟩ => ⟨S4x352x1024, .f32⟩
  | .hbm, ⟨37, _⟩ => ⟨S4x1x352x1024, .f32⟩
  | .hbm, ⟨38, _⟩ => ⟨S4x352x1024, .f32⟩
  | .hbm, ⟨39, _⟩ => ⟨S4x352x1024, .f32⟩
  | .hbm, ⟨40, _⟩ => ⟨S4x352x1024, .f32⟩
  | .hbm, ⟨41, _⟩ => ⟨S4x352x1024, .bf16⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S4x1x128x1024, .f32⟩
  | .hbm, ⟨47, _⟩ => ⟨S4x128x1024, .f32⟩
  | .hbm, ⟨48, _⟩ => ⟨S4x1x128x1024, .f32⟩
  | .hbm, ⟨49, _⟩ => ⟨S4x128x1024, .f32⟩
  | .hbm, ⟨50, _⟩ => ⟨S4x128x1024, .f32⟩
  | .hbm, ⟨51, _⟩ => ⟨S4x128x1024, .f32⟩
  | .hbm, ⟨52, _⟩ => ⟨S4x128x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Finite.lean ====
/- Arrays of finite extended reals: an array given by a real function of its coordinates, and the rules by which
   sums, products, quotients, the exponential and the reciprocal square root of such entries stay real. -/
module

public import Idealize.ShloMosaic.Lib.Pipeline.ValueKit
public import Idealize.ShloMosaic.Lib.Pointwise

@[expose] public section

set_option maxRecDepth 16384

noncomputable section

namespace Cert.Finite

open Idealize.ShloMosaic

/-- The one-, two- and three-axis arrays with the given real entries. -/
def arr1 {a : ℕ} (f : Fin a → ℝ) : (⟨1, ![a]⟩ : Shape).Idx → EReal := fun j => ((f (j 0) : ℝ) : EReal)
def arr2 {a b : ℕ} (f : Fin a → Fin b → ℝ) : (⟨2, ![a, b]⟩ : Shape).Idx → EReal := fun j => ((f (j 0) (j 1) : ℝ) : EReal)

/-- The real entries of an array. -/
def re1 {a : ℕ} (x : (⟨1, ![a]⟩ : Shape).Idx → EReal) : Fin a → ℝ := fun i => (x (ix1 i)).toReal
def re2 {a b : ℕ} (x : (⟨2, ![a, b]⟩ : Shape).Idx → EReal) : Fin a → Fin b → ℝ := fun i k => (x (ix2 i k)).toReal

theorem arr1_re1 {a : ℕ} (x : (⟨1, ![a]⟩ : Shape).Idx → EReal) (h : ∀ j, x j ≠ ⊤ ∧ x j ≠ ⊥) : arr1 (re1 x) = x := by
  funext j
  obtain ⟨i, rfl⟩ : ∃ i : Fin a, j = ix1 i := ⟨j 0, eq_ix1 j⟩
  exact EReal.coe_toReal (h (ix1 i)).1 (h (ix1 i)).2

theorem arr2_re2 {a b : ℕ} (x : (⟨2, ![a, b]⟩ : Shape).Idx → EReal) (h : ∀ j, x j ≠ ⊤ ∧ x j ≠ ⊥) : arr2 (re2 x) = x := by
  funext j
  obtain ⟨i, k, rfl⟩ : ∃ (i : Fin a) (k : Fin b), j = ix2 i k := ⟨j 0, j 1, eq_ix2 j⟩
  exact EReal.coe_toReal (h (ix2 i k)).1 (h (ix2 i k)).2

theorem sum_coe {ι : Type} [Fintype ι] (f : ι → ℝ) : ∑ k, ((f k : ℝ) : EReal) = ((∑ k, f k : ℝ) : EReal) := by
  classical
  refine Finset.induction_on (Finset.univ : Finset ι) (by simp) fun a s ha ih => ?_
  rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  rw [Ideal.rsqrt_coe, if_neg (not_lt.mpr h.le), if_neg h.ne']

/-- The epsilon of the norm, as the real its word denotes. -/
def eps : ℝ := (Ideal.ofBits .f32 0x358637BD#32).toReal

theorem ofBits_eps : Ideal.ofBits .f32 0x358637BD#32 = ((eps : ℝ) : EReal) ∧ 0 < eps := by
  have h : ∃ r : ℝ, 0 < r ∧ Ideal.ofBits .f32 0x358637BD#32 = (r : EReal) := by
    refine ⟨_, ?_, by simp [Ideal.ofBits, Ideal.ieee, -EReal.coe_mul]; rfl⟩
    positivity
  obtain ⟨r, h0, h⟩ := h
  unfold eps
  rw [h]
  exact ⟨by simp, by simpa using h0⟩

theorem ofBits_1024 : Ideal.ofBits .f32 0x44800000#32 = ((1024 : ℝ) : EReal) := by
  simp [Ideal.ofBits, Ideal.ieee, -EReal.coe_mul]; norm_num

theorem ofBits_half : Ideal.ofBits .f32 0xBF000000#32 = ((-(1 / 2) : ℝ) : EReal) := by
  simp [Ideal.ofBits, Ideal.ieee, -EReal.coe_mul]; norm_num

end Cert.Finite

end
-- ==== Proof.BlkSpec.lean ====
/- The gradient of the residual block as real functions of a row: the gradient that arrives (`D`), the row of the
   residual stream (`X`), the two pre-activations (`G`, `U`), the weights and the gain. -/
module

public import proofs.«01_k».proof.Proof.Finite

@[expose] public section

noncomputable section

namespace Cert.BlkSpec

open Cert.Finite

variable {n : ℕ}

/-- the logistic function -/
def sg (v : ℝ) : ℝ := (1 + Real.exp (-v))⁻¹

/-- the gradient of the activation's product -/
def dA (D : Fin n → Fin 1024 → ℝ) (Wd : Fin 2816 → Fin 1024 → ℝ) (i : Fin n) (f : Fin 2816) : ℝ := ∑ k, D i k * Wd f k

def dG (D : Fin n → Fin 1024 → ℝ) (Wd : Fin 2816 → Fin 1024 → ℝ) (G U : Fin n → Fin 2816 → ℝ) (i : Fin n) (f : Fin 2816) : ℝ :=
  dA D Wd i f * U i f * (sg (G i f) * (1 + G i f * (1 - sg (G i f))))

def dU (D : Fin n → Fin 1024 → ℝ) (Wd : Fin 2816 → Fin 1024 → ℝ) (G : Fin n → Fin 2816 → ℝ) (i : Fin n) (f : Fin 2816) : ℝ :=
  dA D Wd i f * (G i f * sg (G i f))

def act (G U : Fin n → Fin 2816 → ℝ) (i : Fin n) (f : Fin 2816) : ℝ := G i f * sg (G i f) * U i f

/-- the gradient of the normed row, from the gradients of the two pre-activations -/
def dH (P Q : Fin n → Fin 2816 → ℝ) (Wg Wu : Fin 2816 → Fin 1024 → ℝ) (i : Fin n) (k : Fin 1024) : ℝ :=
  (∑ f, P i f * Wg f k) + ∑ f, Q i f * Wu f k

/-- the mean square of a row, and its reciprocal root -/
def ms (X : Fin n → Fin 1024 → ℝ) (i : Fin n) : ℝ := (∑ k, X i k * X i k) / 1024 + eps
def rr (X : Fin n → Fin 1024 → ℝ) (i : Fin n) : ℝ := (Real.sqrt (ms X i))⁻¹

/-- the gradient through the norm -/
def dN (H X : Fin n → Fin 1024 → ℝ) (g : Fin 1 → Fin 1024 → ℝ) (i : Fin n) (k : Fin 1024) : ℝ :=
  rr X i * (H i k * g 0 k - X i k * rr X i * ((∑ l, H i l * g 0 l * (X i l * rr X i)) / 1024))

/-- a row times a transposed square weight -/
def dY (E : Fin n → Fin 1024 → ℝ) (Wo : Fin 1024 → Fin 1024 → ℝ) (i : Fin n) (j : Fin 1024) : ℝ := ∑ k, E i k * Wo j k

/-- a row's part of the gain's gradient -/
def dGain (H X : Fin n → Fin 1024 → ℝ) (i : Fin n) (k : Fin 1024) : ℝ := H i k * (X i k * rr X i)

theorem ms_pos (X : Fin n → Fin 1024 → ℝ) (i : Fin n) : 0 < ms X i :=
  add_pos_of_nonneg_of_pos (div_nonneg (Finset.sum_nonneg fun k _ => mul_self_nonneg _) (by norm_num)) ofBits_eps.2

/-- the forward lines: the three streams side by side, the residual, the normed row, a pre-activation -/
def cat (A : Fin n → Fin 384 → ℝ) (B : Fin n → Fin 256 → ℝ) (C : Fin n → Fin 384 → ℝ) (i : Fin n) (k : Fin 1024) : ℝ :=
  if h : k.val < 384 then A i ⟨k.val, h⟩
  else if h' : k.val - 384 < 256 then B i ⟨k.val - 384, h'⟩ else C i ⟨k.val - 384 - 256, by omega⟩

def xr (X : Fin n → Fin 1024 → ℝ) (A : Fin n → Fin 384 → ℝ) (B : Fin n → Fin 256 → ℝ) (C : Fin n → Fin 384 → ℝ)
    (Wo : Fin 1024 → Fin 1024 → ℝ) (i : Fin n) (k : Fin 1024) : ℝ := X i k + ∑ l, cat A B C i l * Wo l k

def hr (X : Fin n → Fin 1024 → ℝ) (g : Fin 1024 → ℝ) (i : Fin n) (k : Fin 1024) : ℝ := X i k * rr X i * g k

def pr (H : Fin n → Fin 1024 → ℝ) (W : Fin 1024 → Fin 2816 → ℝ) (i : Fin n) (f : Fin 2816) : ℝ := ∑ k, H i k * W k f

theorem rr_cube (X : Fin n → Fin 1024 → ℝ) (i : Fin n) : rr X i / ms X i = rr X i * (rr X i * rr X i) := by
  have h : Real.sqrt (ms X i) * Real.sqrt (ms X i) = ms X i := Real.mul_self_sqrt (ms_pos X i).le
  rw [rr, ← mul_inv, h, div_eq_mul_inv]

/-- The derivative of the norm as the chain rule writes it is the kernel's form. -/
theorem norm_grad (D H X : Fin n → Fin 1024 → ℝ) (g : Fin 1024 → ℝ) (i : Fin n) (k : Fin 1024) :
    D i k + H i k * g k * rr X i
        + X i k * ((∑ l, X i l * (H i l * g l)) * (-(1 / 2) * (rr X i / ms X i)) / 1024)
        + (∑ l, X i l * (H i l * g l)) * (-(1 / 2) * (rr X i / ms X i)) / 1024 * X i k
      = D i k + dN H X (fun _ k => g k) i k := by
  have e : ∑ l, H i l * g l * (X i l * rr X i) = (∑ l, X i l * (H i l * g l)) * rr X i := by
    rw [Finset.sum_mul]; exact Finset.sum_congr rfl fun l _ => by ring
  rw [dN, e, rr_cube]
  ring

theorem one_add_exp_ne (v : ℝ) : 1 + Real.exp (-v) ≠ 0 := (add_pos one_pos (Real.exp_pos _)).ne'

end Cert.BlkSpec

end
-- ==== Proof.BlkPre.lean ====
/- The precondition read: every entry of every argument is a real number. -/
module

public import proofs.«01_k».proof.Defs
public import proofs.«01_k».proof.Proof.Gen.Pre_blk_finite
public import proofs.«01_k».proof.Proof.BlkSpec
public import Idealize.ShloMosaic.Lib.Claim

@[expose] public section

set_option maxRecDepth 16384

noncomputable section

namespace Cert.BlkPre

open Idealize.ShloMosaic Cert.Finite

theorem cmp_fin (a : EReal) (h : Ideal.cmp .olt (max a (-a)) (Ideal.ofBits .f32 0x7F800000#32) = 1#1) : a ≠ ⊤ ∧ a ≠ ⊥ := by
  have htop : Ideal.ofBits .f32 0x7F800000#32 = ⊤ := by simp [Ideal.ofBits, Ideal.ieee]
  rw [htop] at h
  constructor
  · rintro rfl; simp [Ideal.cmp] at h
  · rintro rfl; simp [Ideal.cmp] at h

theorem fin2 {a b : ℕ} (h0 : (⟨0, ![]⟩ : Shape).BroadcastsInDim ⟨2, ![a, b]⟩ (![] : Fin 0 → Fin 2)) (x : FVec Ideal ⟨2, ![a, b]⟩ .f32)
    (h : cmpf .olt (Host.absf x) (broadcastInDim ⟨2, ![a, b]⟩ ![] h0 (constant (F := Ideal) ⟨0, ![]⟩ .f32 0x7F800000#32)) = fun _ => 1#1) (j) :
    x j ≠ ⊤ ∧ x j ≠ ⊥ := cmp_fin _ (congrFun h j)

theorem fin1 {a : ℕ} (h0 : (⟨0, ![]⟩ : Shape).BroadcastsInDim ⟨1, ![a]⟩ (![] : Fin 0 → Fin 1)) (x : FVec Ideal ⟨1, ![a]⟩ .f32)
    (h : cmpf .olt (Host.absf x) (broadcastInDim ⟨1, ![a]⟩ ![] h0 (constant (F := Ideal) ⟨0, ![]⟩ .f32 0x7F800000#32)) = fun _ => 1#1) (j) :
    x j ≠ ⊤ ∧ x j ≠ ⊥ := cmp_fin _ (congrFun h j)

end Cert.BlkPre

end
-- ==== Proof.BlkPay.lean ====
/- What the kernel's body computes on blocks of finite entries: each payload as a real function of its rows. -/
module

public import proofs.«01_k».proof.Proof.Gen.BlkIdeal.Skeleton
public import proofs.«01_k».proof.Proof.BlkSpec

@[expose] public section

set_option maxRecDepth 16384

noncomputable section

namespace Cert.BlkPay

open Idealize.ShloMosaic Cert.BlkIdeal Cert.BlkIdeal.Gen Cert.Finite Cert.BlkSpec

variable (D X E H N : Fin 256 → Fin 1024 → ℝ) (G U P Q : Fin 256 → Fin 2816 → ℝ)
  (Wd Wg Wu : Fin 2816 → Fin 1024 → ℝ) (Wo : Fin 1024 → Fin 1024 → ℝ) (g : Fin 1 → Fin 1024 → ℝ)

theorem p8 : k0_pay8 (F := Ideal) (arr2 D) (arr2 Wd) = arr2 (dA D Wd) := by
  funext j
  idx_vars j
  pointwise [k0_pay8, arr2, dA]
  simp only [← EReal.coe_mul, ← EReal.coe_add, sum_coe, zero_add]

theorem p9 : k0_pay9 (F := Ideal) (arr2 G) = arr2 G := by
  funext j; idx_vars j
  pointwise [k0_pay9, arr2]

theorem p10 : k0_pay10 (F := Ideal) (arr2 U) = arr2 U := by
  funext j; idx_vars j
  pointwise [k0_pay10, arr2]

theorem p11 : k0_pay11 (F := Ideal) (arr2 G) = arr2 fun i f => sg (G i f) := by
  unfold k0_pay11
  rw [p9]
  funext j
  idx_vars j
  pointwise [arr2, sg]
  rw [← EReal.coe_zero, ← EReal.coe_one, ← EReal.coe_sub, Ideal.exp_coe, ← EReal.coe_add, zero_sub, div_real _ _ (one_add_exp_ne _), one_div]

theorem p12 : k0_pay12 (F := Ideal) (arr2 G) = arr2 fun i f => G i f * sg (G i f) := by
  unfold k0_pay12
  rw [p9, p11]
  funext j
  idx_vars j
  pointwise [arr2]
  rw [EReal.coe_mul]

theorem p13 : k0_pay13 (F := Ideal) (arr2 G) (arr2 U) = arr2 (act G U) := by
  unfold k0_pay13
  rw [p12, p10]
  funext j
  idx_vars j
  pointwise [arr2, act]
  rw [← EReal.coe_mul]

theorem p14 : k0_pay14 (F := Ideal) (arr2 D) (arr2 Wd) (arr2 G) (arr2 U) = arr2 (dG D Wd G U) := by
  unfold k0_pay14
  rw [p8, p9, p10, p11]
  funext j
  idx_vars j
  pointwise [arr2, dG]
  simp only [← EReal.coe_one, ← EReal.coe_mul, ← EReal.coe_add, ← EReal.coe_sub]

theorem p15 : k0_pay15 (F := Ideal) (arr2 D) (arr2 Wd) (arr2 G) = arr2 (dU D Wd G) := by
  unfold k0_pay15
  rw [p8, p12]
  funext j
  idx_vars j
  pointwise [arr2, dU]
  simp only [← EReal.coe_mul]

theorem p16 : k0_pay16 (F := Ideal) (arr2 P) (arr2 Q) (arr2 Wg) (arr2 Wu) = arr2 (dH P Q Wg Wu) := by
  funext j
  idx_vars j
  pointwise [k0_pay16, arr2, dH]
  simp only [← EReal.coe_mul, ← EReal.coe_add, sum_coe, zero_add]

theorem p17 : k0_pay17 (F := Ideal) (arr2 X) = arr2 X := by
  funext j; idx_vars j
  pointwise [k0_pay17, arr2]

theorem p18 : k0_pay18 (F := Ideal) (arr2 X) = arr2 fun i _ => rr X i := by
  unfold k0_pay18
  rw [p17]
  funext j
  idx_vars j
  pointwise [arr2, rr, ms]
  simp only [← EReal.coe_mul, sum_coe, ofBits_1024, ofBits_eps.1]
  rw [div_real _ _ (by norm_num), ← EReal.coe_add]
  exact rsqrt_real _ (ms_pos X j0)

theorem p19 : k0_pay19 (F := Ideal) (arr2 X) = arr2 fun i k => X i k * rr X i := by
  unfold k0_pay19
  rw [p17, p18]
  funext j
  idx_vars j
  pointwise [arr2]
  rw [EReal.coe_mul]

theorem p20 : k0_pay20 (F := Ideal) (arr2 P) (arr2 Q) (arr2 Wg) (arr2 Wu) (arr2 X) (arr2 g) = arr2 (dN (dH P Q Wg Wu) X g) := by
  unfold k0_pay20
  rw [p16, p18, p19]
  funext j
  idx_vars j
  pointwise [arr2, dN]
  simp only [← EReal.coe_mul, sum_coe, ofBits_1024]
  rw [div_real _ _ (by norm_num)]
  simp only [← EReal.coe_mul, ← EReal.coe_sub]

theorem p2 : k0_pay2 (F := Ideal) (arr2 D) (arr2 N) = arr2 fun i k => D i k + N i k := by
  funext j; idx_vars j
  pointwise [k0_pay2, arr2]
  rw [EReal.coe_add]

theorem p3 : k0_pay3 (F := Ideal) (arr2 D) (arr2 N) (arr2 Wo) = arr2 (dY (fun i k => D i k + N i k) Wo) := by
  unfold k0_pay3
  rw [p2]
  funext j; idx_vars j
  pointwise [arr2, dY]
  simp only [← EReal.coe_mul, ← EReal.coe_add, sum_coe, zero_add]

theorem p4 : k0_pay4 (F := Ideal) (arr2 D) (arr2 N) (arr2 Wo)
    = arr2 fun i (j : Fin 384) => dY (fun i k => D i k + N i k) Wo i ⟨j.val, by omega⟩ := by
  unfold k0_pay4
  rw [p3]
  funext j; idx_vars j
  pointwise [arr2]

theorem p5 : k0_pay5 (F := Ideal) (arr2 D) (arr2 N) (arr2 Wo)
    = arr2 fun i (j : Fin 256) => dY (fun i k => D i k + N i k) Wo i ⟨384 + j.val, by omega⟩ := by
  unfold k0_pay5
  rw [p3]
  funext j; idx_vars j
  pointwise [arr2]

theorem p6 : k0_pay6 (F := Ideal) (arr2 D) (arr2 N) (arr2 Wo)
    = arr2 fun i (j : Fin 384) => dY (fun i k => D i k + N i k) Wo i ⟨640 + j.val, by omega⟩ := by
  unfold k0_pay6
  rw [p3]
  funext j; idx_vars j
  pointwise [arr2]

theorem p7 (j : S8x1024.Idx) : k0_pay7 (F := Ideal) j = 0 := by pointwise [k0_pay7]

/-- The gain's accumulator after a point: what it held plus the sum of the point's rows, thirty-two to each of its
    eight rows. -/
theorem p1 (acc : Vec Ideal S8x1024 .f32) (j : S8x1024.Idx) :
    k0_pay1 (F := Ideal) (k0_pay21 acc) (k0_pay22 (arr2 P) (arr2 Q) (arr2 Wg) (arr2 Wu) (arr2 X)) j
      = acc j + ((∑ q : Fin 32, dGain (dH P Q Wg Wu) X ⟨q.val * 8 + (j 0).val, by have := (j 0).isLt; simp at this; omega⟩ (j 1) : ℝ) : EReal) := by
  unfold k0_pay22
  rw [p16, p19]
  pointwise [k0_pay1, k0_pay21, arr2, dGain]
  simp only [← EReal.coe_mul, sum_coe]

end Cert.BlkPay

end
-- ==== Proof.BlkFin.lean ====
module

public import proofs.«01_k».proof.Proof.Gen.BlkIdeal.Frame
public import proofs.«01_k».proof.Proof.BlkPay
public import Idealize.ShloMosaic.Lib.Pipeline.ValueKit

@[expose] public section

set_option maxRecDepth 16384

noncomputable section

namespace Cert.BlkFin

open Idealize.ShloMosaic Idealize.ShloMosaic.TcCoe Idealize.SL.Sem
open Idealize.ShloMosaic.Pipeline (Dat)
open Cert.BlkIdeal Cert.BlkIdeal.Gen Cert.Finite Cert.BlkSpec Cert.BlkPay

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem odx : ∀ t : Fin cfg0.N, win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![0, 0] :=
  (by decide +kernel : ∀ t : Fin grid0.N, _)

theorem row_lt (t : Fin cfg0.N) (i : Fin 256) : t.val * 256 + i.val < 8192 := by
  have := t.isLt
  have h : cfg0.N = 32 := rfl
  omega

variable {D X : Fin 8192 → Fin 1024 → ℝ} {G U : Fin 8192 → Fin 2816 → ℝ} {Wd Wg Wu : Fin 2816 → Fin 1024 → ℝ}
  {Wo : Fin 1024 → Fin 1024 → ℝ} {g : Fin 1 → Fin 1024 → ℝ}

abbrev cut {w : ℕ} (A : Fin 8192 → Fin w → ℝ) (t : Fin cfg0.N) : Fin 256 → Fin w → ℝ := fun i k => A ⟨t.val * 256 + i.val, row_lt t i⟩ k

/-- what the region finds in its operands -/
structure Ops (c : Dev nD) (D X : Fin 8192 → Fin 1024 → ℝ) (G U : Fin 8192 → Fin 2816 → ℝ) (Wd Wg Wu : Fin 2816 → Fin 1024 → ℝ)
    (Wo : Fin 1024 → Fin 1024 → ℝ) (g : Fin 1 → Fin 1024 → ℝ) : Prop where
  h0 : V m c (Pipeline.arrRef spec0 0) = arr2 D
  h1 : V m c (Pipeline.arrRef spec0 1) = arr2 X
  h2 : V m c (Pipeline.arrRef spec0 2) = arr2 G
  h3 : V m c (Pipeline.arrRef spec0 3) = arr2 U
  h4 : V m c (Pipeline.arrRef spec0 4) = arr2 Wd
  h5 : V m c (Pipeline.arrRef spec0 5) = arr2 Wg
  h6 : V m c (Pipeline.arrRef spec0 6) = arr2 Wu
  h7 : V m c (Pipeline.arrRef spec0 7) = arr2 Wo
  h8 : V m c (Pipeline.arrRef spec0 8) = arr2 g

variable {m} {c : Dev nD}

theorem b0 (o : Ops m c D X G U Wd Wg Wu Wo g) (t : Fin cfg0.N) : iblk m c 0 t = arr2 (cut D t) := by
  funext y
  rw [iblk, o.h0]
  idx_vars y
  show arr2 D _ = arr2 D (ix2 ⟨t.val * 256 + y0.val, row_lt t y0⟩ y1)
  blk_ext [idx t]

theorem b1 (o : Ops m c D X G U Wd Wg Wu Wo g) (t : Fin cfg0.N) : iblk m c 1 t = arr2 (cut X t) := by
  funext y
  rw [iblk, o.h1]
  idx_vars y
  show arr2 X _ = arr2 X (ix2 ⟨t.val * 256 + y0.val, row_lt t y0⟩ y1)
  blk_ext [idx t]

theorem b2 (o : Ops m c D X G U Wd Wg Wu Wo g) (t : Fin cfg0.N) : iblk m c 2 t = arr2 (cut G t) := by
  funext y
  rw [iblk, o.h2]
  idx_vars y
  show arr2 G _ = arr2 G (ix2 ⟨t.val * 256 + y0.val, row_lt t y0⟩ y1)
  blk_ext [idx t]

theorem b3 (o : Ops m c D X G U Wd Wg Wu Wo g) (t : Fin cfg0.N) : iblk m c 3 t = arr2 (cut U t) := by
  funext y
  rw [iblk, o.h3]
  idx_vars y
  show arr2 U _ = arr2 U (ix2 ⟨t.val * 256 + y0.val, row_lt t y0⟩ y1)
  blk_ext [idx t]

theorem b4 (o : Ops m c D X G U Wd Wg Wu Wo g) (t : Fin cfg0.N) : iblk m c 4 t = arr2 Wd := by
  funext y
  rw [iblk, o.h4]
  idx_vars y
  show arr2 Wd _ = arr2 Wd (ix2 y0 y1)
  blk_ext [idx t]

theorem b5 (o : Ops m c D X G U Wd Wg Wu Wo g) (t : Fin cfg0.N) : iblk m c 5 t = arr2 Wg := by
  funext y
  rw [iblk, o.h5]
  idx_vars y
  show arr2 Wg _ = arr2 Wg (ix2 y0 y1)
  blk_ext [idx t]

theorem b6 (o : Ops m c D X G U Wd Wg Wu Wo g) (t : Fin cfg0.N) : iblk m c 6 t = arr2 Wu := by
  funext y
  rw [iblk, o.h6]
  idx_vars y
  show arr2 Wu _ = arr2 Wu (ix2 y0 y1)
  blk_ext [idx t]

theorem b7 (o : Ops m c D X G U Wd Wg Wu Wo g) (t : Fin cfg0.N) : iblk m c 7 t = arr2 Wo := by
  funext y
  rw [iblk, o.h7]
  idx_vars y
  show arr2 Wo _ = arr2 Wo (ix2 y0 y1)
  blk_ext [idx t]

theorem b8 (o : Ops m c D X G U Wd Wg Wu Wo g) (t : Fin cfg0.N) : iblk m c 8 t = arr2 g := by
  funext y
  rw [iblk, o.h8]
  idx_vars y
  show arr2 g _ = arr2 g (ix2 y0 y1)
  blk_ext [idx t]

theorem e9 (A : Fin 8192 → Fin 1024 → ℝ) (t : Fin cfg0.N) (y : ((cfg0.win 9).xblock (cfg0.grid.coords t)).Idx) :
    arr2 (cut A t) y = arr2 A (((cfg0.win 9).blk t).view.emb y) := by
  show arr2 A (ix2 ⟨t.val * 256 + (y 0).val, row_lt t (y 0)⟩ (y 1)) = arr2 A _
  blk_ext [odx t]

theorem e10 (A : Fin 8192 → Fin 384 → ℝ) (t : Fin cfg0.N) (y : ((cfg0.win 10).xblock (cfg0.grid.coords t)).Idx) :
    arr2 (cut A t) y = arr2 A (((cfg0.win 10).blk t).view.emb y) := by
  show arr2 A (ix2 ⟨t.val * 256 + (y 0).val, row_lt t (y 0)⟩ (y 1)) = arr2 A _
  blk_ext [odx t]

theorem e11 (A : Fin 8192 → Fin 256 → ℝ) (t : Fin cfg0.N) (y : ((cfg0.win 11).xblock (cfg0.grid.coords t)).Idx) :
    arr2 (cut A t) y = arr2 A (((cfg0.win 11).blk t).view.emb y) := by
  show arr2 A (ix2 ⟨t.val * 256 + (y 0).val, row_lt t (y 0)⟩ (y 1)) = arr2 A _
  blk_ext [odx t]

theorem e12 (A : Fin 8192 → Fin 384 → ℝ) (t : Fin cfg0.N) (y : ((cfg0.win 12).xblock (cfg0.grid.coords t)).Idx) :
    arr2 (cut A t) y = arr2 A (((cfg0.win 12).blk t).view.emb y) := by
  show arr2 A (ix2 ⟨t.val * 256 + (y 0).val, row_lt t (y 0)⟩ (y 1)) = arr2 A _
  blk_ext [odx t]

theorem e13 (A : Fin 8192 → Fin 2816 → ℝ) (t : Fin cfg0.N) (y : ((cfg0.win 13).xblock (cfg0.grid.coords t)).Idx) :
    arr2 (cut A t) y = arr2 A (((cfg0.win 13).blk t).view.emb y) := by
  show arr2 A (ix2 ⟨t.val * 256 + (y 0).val, row_lt t (y 0)⟩ (y 1)) = arr2 A _
  blk_ext [odx t]

theorem e14 (A : Fin 8192 → Fin 2816 → ℝ) (t : Fin cfg0.N) (y : ((cfg0.win 14).xblock (cfg0.grid.coords t)).Idx) :
    arr2 (cut A t) y = arr2 A (((cfg0.win 14).blk t).view.emb y) := by
  show arr2 A (ix2 ⟨t.val * 256 + (y 0).val, row_lt t (y 0)⟩ (y 1)) = arr2 A _
  blk_ext [odx t]

theorem e15 (A : Fin 8192 → Fin 2816 → ℝ) (t : Fin cfg0.N) (y : ((cfg0.win 15).xblock (cfg0.grid.coords t)).Idx) :
    arr2 (cut A t) y = arr2 A (((cfg0.win 15).blk t).view.emb y) := by
  show arr2 A (ix2 ⟨t.val * 256 + (y 0).val, row_lt t (y 0)⟩ (y 1)) = arr2 A _
  blk_ext [odx t]

end Cert.BlkFin

end
-- ==== Proof.BlkOut.lean ====
module

public import proofs.«01_k».proof.Proof.Gen.BlkIdeal.Frame
public import proofs.«01_k».proof.Proof.BlkPay
public import proofs.«01_k».proof.Proof.BlkFin
public import Idealize.ShloMosaic.Lib.Pipeline.ValueKit

@[expose] public section

set_option maxRecDepth 16384

noncomputable section

namespace Cert.BlkFin

open Idealize.ShloMosaic Idealize.ShloMosaic.TcCoe Idealize.SL.Sem
open Idealize.ShloMosaic.Pipeline (Dat)
open Cert.BlkIdeal Cert.BlkIdeal.Gen Cert.Finite Cert.BlkSpec Cert.BlkPay

variable {m : (ℓ : Loc nD τ sig) → Buf (Elt Ideal) ℓ} {c : Dev nD}

variable {D X : Fin 8192 → Fin 1024 → ℝ} {G U : Fin 8192 → Fin 2816 → ℝ} {Wd Wg Wu : Fin 2816 → Fin 1024 → ℝ}
  {Wo : Fin 1024 → Fin 1024 → ℝ} {g : Fin 1 → Fin 1024 → ℝ}

theorem f9 (o : Ops m c D X G U Wd Wg Wu Wo g) : (dats m 0 c).arrAt 9 (cfgs 0).N
    = arr2 (fun i k => D i k + dN (dH (dG D Wd G U) (dU D Wd G) Wg Wu) X g i k) := by
  refine (dats m 0 c).arrAt_eq_of_covers 9 _ (by decide +kernel) fun t _ y => ?_
  rw [← e9]
  by_cases h : t.val % 32 = 0
  · blk_simp
    rw [after0_9, outsAt0_A m c t h]
    frame_out
    rw [b0 o, b1 o, b2 o, b3 o, b4 o, b5 o, b6 o, b8 o, p14, p15, p20, p2]
    rfl
  · blk_simp
    rw [after0_9, outsAt0_B m c t h]
    frame_out
    rw [b0 o, b1 o, b2 o, b3 o, b4 o, b5 o, b6 o, b8 o, p14, p15, p20, p2]
    rfl

theorem f10 (o : Ops m c D X G U Wd Wg Wu Wo g) : (dats m 0 c).arrAt 10 (cfgs 0).N
    = arr2 fun i (j : Fin 384) => dY (fun i k => D i k + dN (dH (dG D Wd G U) (dU D Wd G) Wg Wu) X g i k) Wo i ⟨j.val, by omega⟩ := by
  refine (dats m 0 c).arrAt_eq_of_covers 10 _ (by decide +kernel) fun t _ y => ?_
  rw [← e10]
  by_cases h : t.val % 32 = 0
  · blk_simp
    rw [after0_10, outsAt0_A m c t h]
    frame_out
    rw [b0 o, b1 o, b2 o, b3 o, b4 o, b5 o, b6 o, b8 o, p14, p15, p20, b7 o, p4]
    rfl
  · blk_simp
    rw [after0_10, outsAt0_B m c t h]
    frame_out
    rw [b0 o, b1 o, b2 o, b3 o, b4 o, b5 o, b6 o, b8 o, p14, p15, p20, b7 o, p4]
    rfl

theorem f11 (o : Ops m c D X G U Wd Wg Wu Wo g) : (dats m 0 c).arrAt 11 (cfgs 0).N
    = arr2 fun i (j : Fin 256) => dY (fun i k => D i k + dN (dH (dG D Wd G U) (dU D Wd G) Wg Wu) X g i k) Wo i ⟨384 + j.val, by omega⟩ := by
  refine (dats m 0 c).arrAt_eq_of_covers 11 _ (by decide +kernel) fun t _ y => ?_
  rw [← e11]
  by_cases h : t.val % 32 = 0
  · blk_simp
    rw [after0_11, outsAt0_A m c t h]
    frame_out
    rw [b0 o, b1 o, b2 o, b3 o, b4 o, b5 o, b6 o, b8 o, p14, p15, p20, b7 o, p5]
    rfl
  · blk_simp
    rw [after0_11, outsAt0_B m c t h]
    frame_out
    rw [b0 o, b1 o, b2 o, b3 o, b4 o, b5 o, b6 o, b8 o, p14, p15, p20, b7 o, p5]
    rfl

theorem f12 (o : Ops m c D X G U Wd Wg Wu Wo g) : (dats m 0 c).arrAt 12 (cfgs 0).N
    = arr2 fun i (j : Fin 384) => dY (fun i k => D i k + dN (dH (dG D Wd G U) (dU D Wd G) Wg Wu) X g i k) Wo i ⟨640 + j.val, by omega⟩ := by
  refine (dats m 0 c).arrAt_eq_of_covers 12 _ (by decide +kernel) fun t _ y => ?_
  rw [← e12]
  by_cases h : t.val % 32 = 0
  · blk_simp
    rw [after0_12, outsAt0_A m c t h]
    frame_out
    rw [b0 o, b1 o, b2 o, b3 o, b4 o, b5 o, b6 o, b8 o, p14, p15, p20, b7 o, p6]
    rfl
  · blk_simp
    rw [after0_12, outsAt0_B m c t h]
    frame_out
    rw [b0 o, b1 o, b2 o, b3 o, b4 o, b5 o, b6 o, b8 o, p14, p15, p20, b7 o, p6]
    rfl

theorem f13 (o : Ops m c D X G U Wd Wg Wu Wo g) : (dats m 0 c).arrAt 13 (cfgs 0).N
    = arr2 (dG D Wd G U) := by
  refine (dats m 0 c).arrAt_eq_of_covers 13 _ (by decide +kernel) fun t _ y => ?_
  rw [← e13]
  by_cases h : t.val % 32 = 0
  · blk_simp
    rw [after0_13, outsAt0_A m c t h]
    frame_out
    rw [b0 o, b2 o, b3 o, b4 o, p14]
    rfl
  · blk_simp
    rw [after0_13, outsAt0_B m c t h]
    frame_out
    rw [b0 o, b2 o, b3 o, b4 o, p14]
    rfl

theorem f14 (o : Ops m c D X G U Wd Wg Wu Wo g) : (dats m 0 c).arrAt 14 (cfgs 0).N
    = arr2 (dU D Wd G) := by
  refine (dats m 0 c).arrAt_eq_of_covers 14 _ (by decide +kernel) fun t _ y => ?_
  rw [← e14]
  by_cases h : t.val % 32 = 0
  · blk_simp
    rw [after0_14, outsAt0_A m c t h]
    frame_out
    rw [b0 o, b2 o, b4 o, p15]
    rfl
  · blk_simp
    rw [after0_14, outsAt0_B m c t h]
    frame_out
    rw [b0 o, b2 o, b4 o, p15]
    rfl

theorem f15 (o : Ops m c D X G U Wd Wg Wu Wo g) : (dats m 0 c).arrAt 15 (cfgs 0).N
    = arr2 (act G U) := by
  refine (dats m 0 c).arrAt_eq_of_covers 15 _ (by decide +kernel) fun t _ y => ?_
  rw [← e15]
  by_cases h : t.val % 32 = 0
  · blk_simp
    rw [after0_15, outsAt0_A m c t h]
    frame_out
    rw [b2 o, b3 o, p13]
    rfl
  · blk_simp
    rw [after0_15, outsAt0_B m c t h]
    frame_out
    rw [b2 o, b3 o, p13]
    rfl

end Cert.BlkFin

end
-- ==== Proof.BlkAcc.lean ====
module

public import proofs.«01_k».proof.Proof.Gen.BlkIdeal.Frame
public import proofs.«01_k».proof.Proof.BlkPay
public import proofs.«01_k».proof.Proof.BlkFin
public import Idealize.ShloMosaic.Lib.Pipeline.ValueKit

@[expose] public section

set_option maxRecDepth 16384

noncomputable section

namespace Cert.BlkFin

open Idealize.ShloMosaic Idealize.ShloMosaic.TcCoe Idealize.SL.Sem
open Idealize.ShloMosaic.Pipeline (Dat)
open Cert.BlkIdeal Cert.BlkIdeal.Gen Cert.Finite Cert.BlkSpec Cert.BlkPay

variable {m : (ℓ : Loc nD τ sig) → Buf (Elt Ideal) ℓ} {c : Dev nD}

variable {D X : Fin 8192 → Fin 1024 → ℝ} {G U : Fin 8192 → Fin 2816 → ℝ} {Wd Wg Wu : Fin 2816 → Fin 1024 → ℝ}
  {Wo : Fin 1024 → Fin 1024 → ℝ} {g : Fin 1 → Fin 1024 → ℝ}

theorem acc_lt (t : Fin cfg0.N) (q : Fin 32) (r : Fin 8) : t.val * 256 + (q.val * 8 + r.val) < 8192 := by
  have := t.isLt
  have h : cfg0.N = 32 := rfl
  omega

/-- what a point adds to the gain's accumulator -/
abbrev part (H X : Fin 8192 → Fin 1024 → ℝ) (t : Fin cfg0.N) (j : S8x1024.Idx) : EReal :=
  ((∑ q : Fin 32, dGain H X ⟨t.val * 256 + (q.val * 8 + (j 0).val), acc_lt t q (j 0)⟩ (j 1) : ℝ) : EReal)

theorem e16 (A : Fin 8 → Fin 1024 → ℝ) (t : Fin cfg0.N) (y : ((cfg0.win 16).xblock (cfg0.grid.coords t)).Idx) :
    arr2 A (((cfg0.win 16).blk t).view.emb y) = (A (y 0) (y 1) : EReal) := by
  show arr2 A _ = arr2 A (ix2 (y 0) (y 1))
  blk_ext [odx t]

theorem part_eq (H X : Fin 8192 → Fin 1024 → ℝ) (t : Fin cfg0.N) (s : Fin 32) (h : 32 * (t.val / 32) + s.val < cfg0.N) (j : S8x1024.Idx) :
    part H X ⟨32 * (t.val / 32) + s.val, h⟩ j
      = ((∑ q : Fin 32, dGain H X ⟨s.val * 256 + (q.val * 8 + (j 0).val), by have := (j 0).isLt; simp at this; omega⟩ (j 1) : ℝ) : EReal) := by
  have e : t.val / 32 = 0 := Nat.div_eq_of_lt t.isLt
  simp only [part, e, Nat.mul_zero, Nat.zero_add]

theorem p1cut (acc : Vec Ideal S8x1024 .f32) (t : Fin cfg0.N) (j : S8x1024.Idx) :
    k0_pay1 (F := Ideal) (k0_pay21 acc) (k0_pay22 (arr2 (dG (cut D t) Wd (cut G t) (cut U t))) (arr2 (dU (cut D t) Wd (cut G t))) (arr2 Wg) (arr2 Wu) (arr2 (cut X t))) j
      = acc j + part (dH (dG D Wd G U) (dU D Wd G) Wg Wu) X t j := p1 _ _ _ _ _ acc j

set_option maxHeartbeats 1600000 in
theorem f16 (o : Ops m c D X G U Wd Wg Wu Wo g) : (dats m 0 c).arrAt 16 (cfgs 0).N
    = arr2 fun (r : Fin 8) k => ∑ t : Fin 32, ∑ q : Fin 32, dGain (dH (dG D Wd G U) (dU D Wd G) Wg Wu) X ⟨t.val * 256 + (q.val * 8 + r.val), by omega⟩ k := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.2) 32 (fun _ => 0)
    (part (dH (dG D Wd G U) (dU D Wd G) Wg Wu) X)
    (fun t h j => by
      rw [outsAt0_A m c t h]; frame_out
      rw [b0 o, b1 o, b2 o, b3 o, b4 o, b5 o, b6 o, p14, p15, p1cut, p7])
    (fun t h j => by
      rw [outsAt0_B m c t h]; frame_out
      rw [b0 o, b1 o, b2 o, b3 o, b4 o, b5 o, b6 o, p14, p15, p1cut])
    t ((flush0_16 t).mp hf) _, zero_add]
  refine Eq.trans ?_ (e16 _ t y).symm
  exact (Finset.sum_congr rfl fun s _ => part_eq (dH (dG D Wd G U) (dU D Wd G) Wg Wu) X t s _ y).trans (sum_coe _)

end Cert.BlkFin

end
-- ==== Proof.BlkRef.lean ====
/- The reference, line by line, on arguments of finite entries: each value as a real function of its rows. -/
module

public import proofs.«01_k».proof.Proof.Gen.BlkRefIdeal.Read
public import proofs.«01_k».proof.Proof.BlkSpec

@[expose] public section

set_option maxRecDepth 16384

noncomputable section

namespace Cert.BlkRef

open Idealize.ShloMosaic Cert.BlkRefIdeal Cert.BlkRefIdeal.Gen Cert.BlkRefIdeal.Read Cert.Finite Cert.BlkSpec

variable {X0 : Fin 8192 → Fin 1024 → ℝ}
variable {Ya : Fin 8192 → Fin 384 → ℝ}
variable {Yb : Fin 8192 → Fin 256 → ℝ}
variable {Yc : Fin 8192 → Fin 384 → ℝ}
variable {Wo : Fin 1024 → Fin 1024 → ℝ}
variable {g : Fin 1024 → ℝ}
variable {Wg : Fin 1024 → Fin 2816 → ℝ}
variable {Wu : Fin 1024 → Fin 2816 → ℝ}
variable {Wd : Fin 2816 → Fin 1024 → ℝ}
variable {D : Fin 8192 → Fin 1024 → ℝ}

theorem r0 : val_main_v0 (F := Ideal) (arr2 Ya) (arr2 Yb) (arr2 Yc)
    = arr2 (cat Ya Yb Yc) := by
  funext j; idx_vars j
  pointwise [val_main_v0, arr2, cat]
  split_ifs <;> rfl

theorem r2 : val_main_v2 (F := Ideal) (arr2 X0) (arr2 Ya) (arr2 Yb) (arr2 Yc) (arr2 Wo)
    = arr2 (xr X0 Ya Yb Yc Wo) := by
  unfold val_main_v2 val_main_v1
  rw [r0]
  funext j; idx_vars j
  pointwise [arr2, xr]
  simp only [← EReal.coe_mul, ← EReal.coe_add, sum_coe, zero_add]

theorem r5 : val_main_v5 (F := Ideal) (arr2 X0) (arr2 Ya) (arr2 Yb) (arr2 Yc) (arr2 Wo)
    = arr2 fun i _ => ∑ k, (xr X0 Ya Yb Yc Wo) i k * (xr X0 Ya Yb Yc Wo) i k := by
  unfold val_main_v5 val_main_v4 val_main_v3 val_main_cst
  rw [r2]
  funext j; idx_vars j
  pointwise [arr2]
  simp only [← EReal.coe_mul, ← EReal.coe_add, sum_coe, zero_add]

theorem r9 : val_main_v9 (F := Ideal) (arr2 X0) (arr2 Ya) (arr2 Yb) (arr2 Yc) (arr2 Wo)
    = arr2 fun i _ => ms (xr X0 Ya Yb Yc Wo) i := by
  unfold val_main_v9 val_main_v8 val_main_v7 val_main_v6 val_main_cst_0 val_main_cst_1
  rw [r5]
  funext j; idx_vars j
  pointwise [arr2, ms]
  rw [ofBits_1024, ofBits_eps.1, div_real _ _ (by norm_num), ← EReal.coe_add]

theorem r10 : val_main_v10 (F := Ideal) (arr2 X0) (arr2 Ya) (arr2 Yb) (arr2 Yc) (arr2 Wo)
    = arr2 fun i _ => rr (xr X0 Ya Yb Yc Wo) i := by
  unfold val_main_v10
  rw [r9]
  funext j; idx_vars j
  pointwise [arr2]
  exact rsqrt_real _ (ms_pos _ _)

theorem r12 : val_main_v12 (F := Ideal) (arr2 X0) (arr2 Ya) (arr2 Yb) (arr2 Yc) (arr2 Wo)
    = arr2 fun i k => (xr X0 Ya Yb Yc Wo) i k * rr (xr X0 Ya Yb Yc Wo) i := by
  unfold val_main_v12 val_main_v11
  rw [r2, r10]
  funext j; idx_vars j
  pointwise [arr2]
  rw [EReal.coe_mul]

theorem r15 : val_main_v15 (F := Ideal) (arr2 X0) (arr2 Ya) (arr2 Yb) (arr2 Yc) (arr2 Wo) (arr1 g)
    = arr2 (hr (xr X0 Ya Yb Yc Wo) g) := by
  unfold val_main_v15 val_main_v14 val_main_v13
  rw [r12]
  funext j; idx_vars j
  pointwise [arr2, arr1, hr]
  rw [← EReal.coe_mul]

theorem r16 : val_main_v16 (F := Ideal) (arr2 X0) (arr2 Ya) (arr2 Yb) (arr2 Yc) (arr2 Wo) (arr1 g) (arr2 Wg)
    = arr2 (pr (hr (xr X0 Ya Yb Yc Wo) g) Wg) := by
  unfold val_main_v16
  rw [r15]
  funext j; idx_vars j
  pointwise [arr2, pr]
  simp only [← EReal.coe_mul, ← EReal.coe_add, sum_coe, zero_add]

theorem r17 : val_main_v17 (F := Ideal) (arr2 X0) (arr2 Ya) (arr2 Yb) (arr2 Yc) (arr2 Wo) (arr1 g) (arr2 Wu)
    = arr2 (pr (hr (xr X0 Ya Yb Yc Wo) g) Wu) := by
  unfold val_main_v17
  rw [r15]
  funext j; idx_vars j
  pointwise [arr2, pr]
  simp only [← EReal.coe_mul, ← EReal.coe_add, sum_coe, zero_add]

theorem r20 : val_main_v20 (F := Ideal) (arr2 X0) (arr2 Ya) (arr2 Yb) (arr2 Yc) (arr2 Wo)
    = arr2 (xr X0 Ya Yb Yc Wo) := r2

theorem r27 : val_main_v27 (F := Ideal) (arr2 X0) (arr2 Ya) (arr2 Yb) (arr2 Yc) (arr2 Wo)
    = arr2 fun i _ => ms (xr X0 Ya Yb Yc Wo) i := r9

theorem r28 : val_main_v28 (F := Ideal) (arr2 X0) (arr2 Ya) (arr2 Yb) (arr2 Yc) (arr2 Wo)
    = arr2 fun i _ => rr (xr X0 Ya Yb Yc Wo) i := r10

theorem r33 : val_main_v33 (F := Ideal) (arr2 X0) (arr2 Ya) (arr2 Yb) (arr2 Yc) (arr2 Wo)
    = arr2 fun i k => (xr X0 Ya Yb Yc Wo) i k * rr (xr X0 Ya Yb Yc Wo) i := r12

theorem r37 : val_main_v37 (F := Ideal) (arr2 X0) (arr2 Ya) (arr2 Yb) (arr2 Yc) (arr2 Wo) (arr1 g) (arr2 Wg)
    = arr2 (pr (hr (xr X0 Ya Yb Yc Wo) g) Wg) := r16

theorem r38 : val_main_v38 (F := Ideal) (arr2 X0) (arr2 Ya) (arr2 Yb) (arr2 Yc) (arr2 Wo) (arr1 g) (arr2 Wu)
    = arr2 (pr (hr (xr X0 Ya Yb Yc Wo) g) Wu) := r17

theorem r31 : val_main_v31 (F := Ideal) (arr2 X0) (arr2 Ya) (arr2 Yb) (arr2 Yc) (arr2 Wo)
    = arr2 fun i _ => -(1 / 2) * (rr (xr X0 Ya Yb Yc Wo) i / ms (xr X0 Ya Yb Yc Wo) i) := by
  unfold val_main_v31 val_main_v30 val_main_cst_5 val_main_v29
  rw [r28, r27]
  funext j; idx_vars j
  pointwise [arr2]
  rw [ofBits_half, div_real _ _ (ms_pos _ _).ne', ← EReal.coe_mul]

theorem r39_2 : val_main_v39_2 (F := Ideal) (arr2 X0) (arr2 Ya) (arr2 Yb) (arr2 Yc) (arr2 Wo) (arr1 g) (arr2 Wg)
    = arr2 fun i f => sg ((pr (hr (xr X0 Ya Yb Yc Wo) g) Wg) i f) := by
  unfold val_main_v39_2 val_main_call0_v4 val_main_call0_v3 val_main_call0_v2 val_main_call0_v1 val_main_call0_v0 val_main_call0_cst val_main_call0_cst_0
  rw [r37]
  funext j; idx_vars j
  pointwise [arr2, sg]
  rw [← EReal.coe_one, ← EReal.coe_neg, Ideal.exp_coe, ← EReal.coe_add, div_real _ _ (one_add_exp_ne _), one_div]

theorem r39_1 : val_main_v39_1 (F := Ideal) (arr2 X0) (arr2 Ya) (arr2 Yb) (arr2 Yc) (arr2 Wo) (arr1 g) (arr2 Wg)
    = arr2 fun i f => sg ((pr (hr (xr X0 Ya Yb Yc Wo) g) Wg) i f) * (1 - sg ((pr (hr (xr X0 Ya Yb Yc Wo) g) Wg) i f)) := by
  unfold val_main_v39_1 val_main_call0_v7 val_main_call0_v6 val_main_call0_cst_1
  rw [r39_2]
  funext j; idx_vars j
  pointwise [arr2]
  simp only [← EReal.coe_one, ← EReal.coe_mul, ← EReal.coe_sub]

theorem r39_0 : val_main_v39_0 (F := Ideal) (arr2 X0) (arr2 Ya) (arr2 Yb) (arr2 Yc) (arr2 Wo) (arr1 g) (arr2 Wg)
    = arr2 fun i f => (pr (hr (xr X0 Ya Yb Yc Wo) g) Wg) i f * sg ((pr (hr (xr X0 Ya Yb Yc Wo) g) Wg) i f) := by
  unfold val_main_v39_0
  rw [r39_2, r37]
  funext j; idx_vars j
  pointwise [arr2]
  rw [EReal.coe_mul]

theorem r45 : val_main_v45 (F := Ideal) (arr2 Wd) (arr2 D)
    = arr2 (dA D Wd) := by
  funext j; idx_vars j
  pointwise [val_main_v45, val_main_v44, arr2, dA]
  simp only [← EReal.coe_mul, ← EReal.coe_add, sum_coe, zero_add]

theorem r46 : val_main_v46 (F := Ideal) (arr2 X0) (arr2 Ya) (arr2 Yb) (arr2 Yc) (arr2 Wo) (arr1 g) (arr2 Wg) (arr2 Wd) (arr2 D)
    = arr2 (dU D Wd (pr (hr (xr X0 Ya Yb Yc Wo) g) Wg)) := by
  unfold val_main_v46
  rw [r39_0, r45]
  funext j; idx_vars j
  pointwise [arr2, dU]
  rw [← EReal.coe_mul, mul_comm]

theorem r47 : val_main_v47 (F := Ideal) (arr2 X0) (arr2 Ya) (arr2 Yb) (arr2 Yc) (arr2 Wo) (arr1 g) (arr2 Wu) (arr2 Wd) (arr2 D)
    = arr2 fun i f => dA D Wd i f * (pr (hr (xr X0 Ya Yb Yc Wo) g) Wu) i f := by
  unfold val_main_v47
  rw [r38, r45]
  funext j; idx_vars j
  pointwise [arr2]
  rw [EReal.coe_mul]

theorem r48 : val_main_v48 (F := Ideal) (arr2 X0) (arr2 Ya) (arr2 Yb) (arr2 Yc) (arr2 Wo) (arr1 g) (arr2 Wg) (arr2 Wu) (arr2 Wd) (arr2 D)
    = arr2 (dG D Wd (pr (hr (xr X0 Ya Yb Yc Wo) g) Wg) (pr (hr (xr X0 Ya Yb Yc Wo) g) Wu)) := by
  unfold val_main_v48 val_main_call1_v2 val_main_call1_v1 val_main_call1_v0
  rw [r47, r37, r39_1, r39_2]
  funext j; idx_vars j
  pointwise [arr2, dG]
  simp only [← EReal.coe_mul, ← EReal.coe_add]
  exact congrArg _ (by ring)

theorem r51 : val_main_v51 (F := Ideal) (arr2 X0) (arr2 Ya) (arr2 Yb) (arr2 Yc) (arr2 Wo) (arr1 g) (arr2 Wg) (arr2 Wu) (arr2 Wd) (arr2 D)
    = arr2 (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) := by
  unfold val_main_v51 val_main_v50 val_main_v49
  rw [r46, r48]
  funext j; idx_vars j
  pointwise [arr2, dH]
  simp only [← EReal.coe_mul, ← EReal.coe_add, sum_coe]
  exact congrArg _ (add_comm _ _)

theorem r57 : val_main_v57 (F := Ideal) (arr2 X0) (arr2 Ya) (arr2 Yb) (arr2 Yc) (arr2 Wo) (arr1 g) (arr2 Wg) (arr2 Wu) (arr2 Wd) (arr2 D)
    = arr1 fun k => ∑ i, dGain (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) (xr X0 Ya Yb Yc Wo) i k := by
  unfold val_main_v57 val_main_v54 val_main_v53 val_main_v52 val_main_cst_7 val_main_cst_6
  rw [r33, r51]
  funext j; idx_vars j
  pointwise [arr2, arr1, dGain]
  simp only [← EReal.coe_mul, ← EReal.coe_add, sum_coe, zero_add, Fin.sum_univ_one]
  exact congrArg _ (Finset.sum_congr rfl fun i _ => mul_comm _ _)

theorem r56 : val_main_v56 (F := Ideal) (arr2 X0) (arr2 Ya) (arr2 Yb) (arr2 Yc) (arr2 Wo) (arr1 g) (arr2 Wg) (arr2 Wu) (arr2 Wd) (arr2 D)
    = arr2 fun i k => (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) i k * g k := by
  unfold val_main_v56 val_main_v55 val_main_v34
  rw [r51]
  funext j; idx_vars j
  pointwise [arr2, arr1]
  rw [EReal.coe_mul]

theorem r67 : val_main_v67 (F := Ideal) (arr2 X0) (arr2 Ya) (arr2 Yb) (arr2 Yc) (arr2 Wo) (arr1 g) (arr2 Wg) (arr2 Wu) (arr2 Wd) (arr2 D)
    = arr1 fun i => (∑ l, (xr X0 Ya Yb Yc Wo) i l * ((dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) i l * g l)) * (-(1 / 2) * (rr (xr X0 Ya Yb Yc Wo) i / ms (xr X0 Ya Yb Yc Wo) i)) / 1024 := by
  unfold val_main_v67 val_main_v66 val_main_v65 val_main_v64 val_main_v60 val_main_v59 val_main_v58 val_main_cst_10 val_main_cst_9 val_main_cst_8
  rw [r31, r56, r20]
  funext j; idx_vars j
  pointwise [arr2, arr1]
  simp only [← EReal.coe_mul, ← EReal.coe_add, sum_coe, zero_add, Fin.sum_univ_one, ofBits_1024]
  rw [div_real _ _ (by norm_num)]

theorem r72 : val_main_v72 (F := Ideal) (arr2 X0) (arr2 Ya) (arr2 Yb) (arr2 Yc) (arr2 Wo) (arr1 g) (arr2 Wg) (arr2 Wu) (arr2 Wd) (arr2 D)
    = arr2 (fun i k => D i k + (dN (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) (xr X0 Ya Yb Yc Wo) fun _ k => g k) i k) := by
  unfold val_main_v72 val_main_v71 val_main_v70 val_main_v69 val_main_v68 val_main_v63 val_main_v62 val_main_v61 val_main_v43
  rw [r67, r56, r20, r28]
  funext j; idx_vars j
  pointwise [arr2, arr1]
  simp only [← EReal.coe_mul, ← EReal.coe_add]
  exact congrArg _ (norm_grad _ _ _ _ _ _)

theorem r73 : val_main_v73 (F := Ideal) (arr2 X0) (arr2 Ya) (arr2 Yb) (arr2 Yc) (arr2 Wo) (arr1 g) (arr2 Wg) (arr2 Wu) (arr2 Wd) (arr2 D)
    = arr2 (dY (fun i k => D i k + (dN (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) (xr X0 Ya Yb Yc Wo) fun _ k => g k) i k) Wo) := by
  unfold val_main_v73
  rw [r72]
  funext j; idx_vars j
  pointwise [arr2, dY]
  simp only [← EReal.coe_mul, ← EReal.coe_add, sum_coe, zero_add]

theorem r74 : val_main_v74 (F := Ideal) (arr2 X0) (arr2 Ya) (arr2 Yb) (arr2 Yc) (arr2 Wo) (arr1 g) (arr2 Wg) (arr2 Wu) (arr2 Wd) (arr2 D)
    = arr2 fun i (j : Fin 384) => dY (fun i k => D i k + (dN (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) (xr X0 Ya Yb Yc Wo) fun _ k => g k) i k) Wo i ⟨j.val, by omega⟩ := by
  unfold val_main_v74
  rw [r73]
  funext j; idx_vars j
  pointwise [arr2]

theorem r75 : val_main_v75 (F := Ideal) (arr2 X0) (arr2 Ya) (arr2 Yb) (arr2 Yc) (arr2 Wo) (arr1 g) (arr2 Wg) (arr2 Wu) (arr2 Wd) (arr2 D)
    = arr2 fun i (j : Fin 256) => dY (fun i k => D i k + (dN (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) (xr X0 Ya Yb Yc Wo) fun _ k => g k) i k) Wo i ⟨384 + j.val, by omega⟩ := by
  unfold val_main_v75
  rw [r73]
  funext j; idx_vars j
  pointwise [arr2]

theorem r76 : val_main_v76 (F := Ideal) (arr2 X0) (arr2 Ya) (arr2 Yb) (arr2 Yc) (arr2 Wo) (arr1 g) (arr2 Wg) (arr2 Wu) (arr2 Wd) (arr2 D)
    = arr2 fun i (j : Fin 384) => dY (fun i k => D i k + (dN (dH (dG D Wd (pr (hr (xr X0 Ya Yb Yc Wo) g) Wg) (pr (hr (xr X0 Ya Yb Yc Wo) g) Wu)) (dU D Wd (pr (hr (xr X0 Ya Yb Yc Wo) g) Wg)) (fun f k => Wg k f) (fun f k => Wu k f)) (xr X0 Ya Yb Yc Wo) fun _ k => g k) i k) Wo i ⟨640 + j.val, by omega⟩ := by
  unfold val_main_v76
  rw [r73]
  funext j; idx_vars j
  pointwise [arr2]

theorem r77_2 : val_main_v77_2 (F := Ideal) (arr2 X0) (arr2 Ya) (arr2 Yb) (arr2 Yc) (arr2 Wo) (arr1 g) (arr2 Wg)
    = arr2 fun i f => sg ((pr (hr (xr X0 Ya Yb Yc Wo) g) Wg) i f) := by
  unfold val_main_v77_2 val_main_call2_v4 val_main_call2_v3 val_main_call2_v2 val_main_call2_v1 val_main_call2_v0 val_main_call2_cst val_main_call2_cst_0
  rw [r16]
  funext j; idx_vars j
  pointwise [arr2, sg]
  rw [← EReal.coe_one, ← EReal.coe_neg, Ideal.exp_coe, ← EReal.coe_add, div_real _ _ (one_add_exp_ne _), one_div]

theorem r77_1 : val_main_v77_1 (F := Ideal) (arr2 X0) (arr2 Ya) (arr2 Yb) (arr2 Yc) (arr2 Wo) (arr1 g) (arr2 Wg)
    = arr2 fun i f => sg ((pr (hr (xr X0 Ya Yb Yc Wo) g) Wg) i f) * (1 - sg ((pr (hr (xr X0 Ya Yb Yc Wo) g) Wg) i f)) := by
  unfold val_main_v77_1 val_main_call2_v7 val_main_call2_v6 val_main_call2_cst_1
  rw [r77_2]
  funext j; idx_vars j
  pointwise [arr2]
  simp only [← EReal.coe_one, ← EReal.coe_mul, ← EReal.coe_sub]

theorem r77_0 : val_main_v77_0 (F := Ideal) (arr2 X0) (arr2 Ya) (arr2 Yb) (arr2 Yc) (arr2 Wo) (arr1 g) (arr2 Wg)
    = arr2 fun i f => (pr (hr (xr X0 Ya Yb Yc Wo) g) Wg) i f * sg ((pr (hr (xr X0 Ya Yb Yc Wo) g) Wg) i f) := by
  unfold val_main_v77_0
  rw [r77_2, r16]
  funext j; idx_vars j
  pointwise [arr2]
  rw [EReal.coe_mul]

theorem r80 : val_main_v80 (F := Ideal) (arr2 Wd) (arr2 D)
    = arr2 (dA D Wd) := by
  funext j; idx_vars j
  pointwise [val_main_v80, arr2, dA]
  simp only [← EReal.coe_mul, ← EReal.coe_add, sum_coe, zero_add]

theorem r82 : val_main_v82 (F := Ideal) (arr2 X0) (arr2 Ya) (arr2 Yb) (arr2 Yc) (arr2 Wo) (arr1 g) (arr2 Wu) (arr2 Wd) (arr2 D)
    = arr2 fun i f => dA D Wd i f * (pr (hr (xr X0 Ya Yb Yc Wo) g) Wu) i f := by
  unfold val_main_v82
  rw [r17, r80]
  funext j; idx_vars j
  pointwise [arr2]
  rw [EReal.coe_mul]

theorem r83 : val_main_v83 (F := Ideal) (arr2 X0) (arr2 Ya) (arr2 Yb) (arr2 Yc) (arr2 Wo) (arr1 g) (arr2 Wg) (arr2 Wu) (arr2 Wd) (arr2 D)
    = arr2 (dG D Wd (pr (hr (xr X0 Ya Yb Yc Wo) g) Wg) (pr (hr (xr X0 Ya Yb Yc Wo) g) Wu)) := by
  unfold val_main_v83 val_main_call3_v2 val_main_call3_v1 val_main_call3_v0
  rw [r82, r16, r77_1, r77_2]
  funext j; idx_vars j
  pointwise [arr2, dG]
  simp only [← EReal.coe_mul, ← EReal.coe_add]
  exact congrArg _ (by ring)

theorem r81 : val_main_v81 (F := Ideal) (arr2 X0) (arr2 Ya) (arr2 Yb) (arr2 Yc) (arr2 Wo) (arr1 g) (arr2 Wg) (arr2 Wd) (arr2 D)
    = arr2 (dU D Wd (pr (hr (xr X0 Ya Yb Yc Wo) g) Wg)) := by
  unfold val_main_v81
  rw [r77_0, r80]
  funext j; idx_vars j
  pointwise [arr2, dU]
  rw [← EReal.coe_mul, mul_comm]

theorem r84 : val_main_v84 (F := Ideal) (arr2 X0) (arr2 Ya) (arr2 Yb) (arr2 Yc) (arr2 Wo) (arr1 g) (arr2 Wg) (arr2 Wu) (arr2 Wd) (arr2 D)
    = arr2 (dG D Wd (pr (hr (xr X0 Ya Yb Yc Wo) g) Wg) (pr (hr (xr X0 Ya Yb Yc Wo) g) Wu)) := by
  unfold val_main_v84
  rw [r83]
  funext j; idx_vars j
  pointwise [arr2]

theorem r85 : val_main_v85 (F := Ideal) (arr2 X0) (arr2 Ya) (arr2 Yb) (arr2 Yc) (arr2 Wo) (arr1 g) (arr2 Wg) (arr2 Wd) (arr2 D)
    = arr2 (dU D Wd (pr (hr (xr X0 Ya Yb Yc Wo) g) Wg)) := by
  unfold val_main_v85
  rw [r81]
  funext j; idx_vars j
  pointwise [arr2]

theorem r86 : val_main_v86 (F := Ideal) (arr2 X0) (arr2 Ya) (arr2 Yb) (arr2 Yc) (arr2 Wo) (arr1 g) (arr2 Wg)
    = arr2 fun i f => (pr (hr (xr X0 Ya Yb Yc Wo) g) Wg) i f * sg ((pr (hr (xr X0 Ya Yb Yc Wo) g) Wg) i f) := r39_0

theorem r88 : val_main_v88 (F := Ideal) (arr2 X0) (arr2 Ya) (arr2 Yb) (arr2 Yc) (arr2 Wo) (arr1 g) (arr2 Wg) (arr2 Wu)
    = arr2 (act (pr (hr (xr X0 Ya Yb Yc Wo) g) Wg) (pr (hr (xr X0 Ya Yb Yc Wo) g) Wu)) := by
  unfold val_main_v88 val_main_v87
  rw [r86, r17]
  funext j; idx_vars j
  pointwise [arr2, act]
  rw [← EReal.coe_mul]

end Cert.BlkRef

end
-- ==== Proof.BlkHost.lean ====
/- The host lines before the kernel: what each of its operands holds when the arguments are finite. -/
module

public import proofs.«01_k».proof.Proof.BlkFin
public import proofs.«01_k».proof.Proof.BlkRef
public import Idealize.ShloMosaic.Lib.Pipeline.ValueKit
public import Idealize.ShloMosaic.Lib.Claim

@[expose] public section

set_option maxRecDepth 16384

noncomputable section

namespace Cert.BlkFin

open Idealize.ShloMosaic Idealize.ShloMosaic.TcCoe Idealize.SL.Sem
open Idealize.ShloMosaic.Pipeline (Dat)
open Cert.BlkIdeal Cert.BlkIdeal.Gen Cert.Finite Cert.BlkSpec

variable (m : (ℓ : Loc nD τ sig) → Buf (Elt Ideal) ℓ) (c : Dev nD)

/-- the ten arguments as arrays of reals -/
structure Args (X0 : Fin 8192 → Fin 1024 → ℝ) (Ya : Fin 8192 → Fin 384 → ℝ) (Yb : Fin 8192 → Fin 256 → ℝ) (Yc : Fin 8192 → Fin 384 → ℝ) (Wo : Fin 1024 → Fin 1024 → ℝ) (g : Fin 1024 → ℝ) (Wg : Fin 1024 → Fin 2816 → ℝ) (Wu : Fin 1024 → Fin 2816 → ℝ) (Wd : Fin 2816 → Fin 1024 → ℝ) (D : Fin 8192 → Fin 1024 → ℝ) : Prop where
  a0 : m ((c : Thread nD τ).loc main_arg0) = arr2 X0
  a1 : m ((c : Thread nD τ).loc main_arg1) = arr2 Ya
  a2 : m ((c : Thread nD τ).loc main_arg2) = arr2 Yb
  a3 : m ((c : Thread nD τ).loc main_arg3) = arr2 Yc
  a4 : m ((c : Thread nD τ).loc main_arg4) = arr2 Wo
  a5 : m ((c : Thread nD τ).loc main_arg5) = arr1 g
  a6 : m ((c : Thread nD τ).loc main_arg6) = arr2 Wg
  a7 : m ((c : Thread nD τ).loc main_arg7) = arr2 Wu
  a8 : m ((c : Thread nD τ).loc main_arg8) = arr2 Wd
  a9 : m ((c : Thread nD τ).loc main_arg9) = arr2 D

variable {m c} {X0 : Fin 8192 → Fin 1024 → ℝ} {Ya : Fin 8192 → Fin 384 → ℝ} {Yb : Fin 8192 → Fin 256 → ℝ} {Yc : Fin 8192 → Fin 384 → ℝ} {Wo : Fin 1024 → Fin 1024 → ℝ} {g : Fin 1024 → ℝ} {Wg : Fin 1024 → Fin 2816 → ℝ} {Wu : Fin 1024 → Fin 2816 → ℝ} {Wd : Fin 2816 → Fin 1024 → ℝ} {D : Fin 8192 → Fin 1024 → ℝ}

theorem Vv2 (a : Args m c X0 Ya Yb Yc Wo g Wg Wu Wd D) : (V m c main_v2 : (⟨S8192x1024, .f32⟩ : BufTy).Contents (Elt Ideal)) = arr2 (xr X0 Ya Yb Yc Wo) := by
  have h : V m c main_v2 = Cert.BlkRefIdeal.Read.val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    entry_read
    rfl
  rw [h, a.a0, a.a1, a.a2, a.a3, a.a4]
  exact BlkRef.r2

theorem Vv16 (a : Args m c X0 Ya Yb Yc Wo g Wg Wu Wd D) : (V m c main_v16 : (⟨S8192x2816, .f32⟩ : BufTy).Contents (Elt Ideal)) = arr2 (pr (hr (xr X0 Ya Yb Yc Wo) g) Wg) := by
  have h : V m c main_v16 = Cert.BlkRefIdeal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    entry_read
    rfl
  rw [h, a.a0, a.a1, a.a2, a.a3, a.a4, a.a5, a.a6]
  exact BlkRef.r16

theorem Vv17 (a : Args m c X0 Ya Yb Yc Wo g Wg Wu Wd D) : (V m c main_v17 : (⟨S8192x2816, .f32⟩ : BufTy).Contents (Elt Ideal)) = arr2 (pr (hr (xr X0 Ya Yb Yc Wo) g) Wu) := by
  have h : V m c main_v17 = Cert.BlkRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
    entry_read
    rfl
  rw [h, a.a0, a.a1, a.a2, a.a3, a.a4, a.a5, a.a7]
  exact BlkRef.r17

theorem ops (a : Args m c X0 Ya Yb Yc Wo g Wg Wu Wd D) : Ops m c D (xr X0 Ya Yb Yc Wo) (pr (hr (xr X0 Ya Yb Yc Wo) g) Wg) (pr (hr (xr X0 Ya Yb Yc Wo) g) Wu) Wd (fun f k => Wg k f) (fun f k => Wu k f) Wo (fun _ k => g k) where
  h0 := (V_main_arg9 m c).trans a.a9
  h1 := Vv2 a
  h2 := by
    have h : (V m c main_v25 : FVec Ideal S8192x2816 .bf16) = truncf (F := Ideal) .bf16 (show FVec Ideal S8192x2816 .f32 from Cert.BlkRefIdeal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) bitsLt_bf16_f32 := by
      entry_read
      rfl
    refine h.trans ?_
    rw [a.a0, a.a1, a.a2, a.a3, a.a4, a.a5, a.a6, BlkRef.r16]
    funext j; idx_vars j
    pointwise [arr2]
  h3 := by
    have h : (V m c main_v26 : FVec Ideal S8192x2816 .bf16) = truncf (F := Ideal) .bf16 (show FVec Ideal S8192x2816 .f32 from Cert.BlkRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) bitsLt_bf16_f32 := by
      entry_read
      rfl
    refine h.trans ?_
    rw [a.a0, a.a1, a.a2, a.a3, a.a4, a.a5, a.a7, BlkRef.r17]
    funext j; idx_vars j
    pointwise [arr2]
  h4 := by
    have h : (V m c main_v18 : FVec Ideal S2816x1024 .bf16) = truncf (F := Ideal) .bf16 (show FVec Ideal S2816x1024 .f32 from (m ((c : Thread nD τ).loc main_arg8))) bitsLt_bf16_f32 := by
      entry_read
      rfl
    refine h.trans ?_
    rw [a.a8]
    funext j; idx_vars j
    pointwise [arr2]
  h5 := by
    have h : (V m c main_v20 : FVec Ideal S2816x1024 .bf16) = truncf (F := Ideal) .bf16 (show FVec Ideal S2816x1024 .f32 from transpose S2816x1024 [1, 0] (show FVec Ideal S1024x2816 .f32 from (m ((c : Thread nD τ).loc main_arg6))) transposes_S1024x2816_S2816x1024_1_0) bitsLt_bf16_f32 := by
      entry_read
      rfl
    refine h.trans ?_
    rw [a.a6]
    funext j; idx_vars j
    pointwise [arr2]
  h6 := by
    have h : (V m c main_v22 : FVec Ideal S2816x1024 .bf16) = truncf (F := Ideal) .bf16 (show FVec Ideal S2816x1024 .f32 from transpose S2816x1024 [1, 0] (show FVec Ideal S1024x2816 .f32 from (m ((c : Thread nD τ).loc main_arg7))) transposes_S1024x2816_S2816x1024_1_0) bitsLt_bf16_f32 := by
      entry_read
      rfl
    refine h.trans ?_
    rw [a.a7]
    funext j; idx_vars j
    pointwise [arr2]
  h7 := by
    have h : (V m c main_v23 : FVec Ideal S1024x1024 .bf16) = truncf (F := Ideal) .bf16 (show FVec Ideal S1024x1024 .f32 from (m ((c : Thread nD τ).loc main_arg4))) bitsLt_bf16_f32 := by
      entry_read
      rfl
    refine h.trans ?_
    rw [a.a4]
    funext j; idx_vars j
    pointwise [arr2]
  h8 := by
    have h : (V m c main_v24 : FVec Ideal S1x1024 .f32) = shapeCast S1x1024 (show FVec Ideal S1024 .f32 from (m ((c : Thread nD τ).loc main_arg5))) shapeCasts_S1024_S1x1024 := by
      entry_read
      rfl
    refine h.trans ?_
    rw [a.a5]
    funext j; idx_vars j
    pointwise [arr2, arr1]

end Cert.BlkFin

end
-- ==== Proof.BlkClaim.lean ====
/- The value claim of the block's gradient. -/
module

public import proofs.«01_k».proof.Defs
public import proofs.«01_k».proof.Proof.Gen.BlkRefIdeal.Run
public import proofs.«01_k».proof.Proof.BlkPre
public import proofs.«01_k».proof.Proof.BlkOut
public import proofs.«01_k».proof.Proof.BlkAcc
public import proofs.«01_k».proof.Proof.BlkHost
public import Idealize.ShloMosaic.Lib.Claim

@[expose] public section

set_option maxRecDepth 16384

noncomputable section

namespace Cert.BlkClaim

open Idealize.ShloMosaic Idealize.ShloMosaic.TcCoe Idealize.SL.Sem
open Cert.BlkIdeal Cert.BlkIdeal.Gen Cert.Finite Cert.BlkSpec Cert.BlkFin

theorem args (m : (ℓ : Loc nD τ sig) → Buf (Elt Ideal) ℓ) (h : Cert.Pre_BlkIdeal_blk_finite m) (c : Dev nD) :
    Args m c (re2 (m ((c : Thread nD τ).loc main_arg0))) (re2 (m ((c : Thread nD τ).loc main_arg1))) (re2 (m ((c : Thread nD τ).loc main_arg2))) (re2 (m ((c : Thread nD τ).loc main_arg3))) (re2 (m ((c : Thread nD τ).loc main_arg4))) (re1 (m ((c : Thread nD τ).loc main_arg5))) (re2 (m ((c : Thread nD τ).loc main_arg6))) (re2 (m ((c : Thread nD τ).loc main_arg7))) (re2 (m ((c : Thread nD τ).loc main_arg8))) (re2 (m ((c : Thread nD τ).loc main_arg9))) where
  a0 := (arr2_re2 _ (BlkPre.fin2 _ (m ((c : Thread nD τ).loc main_arg0)) (h c).1)).symm
  a1 := (arr2_re2 _ (BlkPre.fin2 _ (m ((c : Thread nD τ).loc main_arg1)) (h c).2.1)).symm
  a2 := (arr2_re2 _ (BlkPre.fin2 _ (m ((c : Thread nD τ).loc main_arg2)) (h c).2.2.1)).symm
  a3 := (arr2_re2 _ (BlkPre.fin2 _ (m ((c : Thread nD τ).loc main_arg3)) (h c).2.2.2.1)).symm
  a4 := (arr2_re2 _ (BlkPre.fin2 _ (m ((c : Thread nD τ).loc main_arg4)) (h c).2.2.2.2.1)).symm
  a5 := (arr1_re1 _ (BlkPre.fin1 _ (m ((c : Thread nD τ).loc main_arg5)) (h c).2.2.2.2.2.1)).symm
  a6 := (arr2_re2 _ (BlkPre.fin2 _ (m ((c : Thread nD τ).loc main_arg6)) (h c).2.2.2.2.2.2.1)).symm
  a7 := (arr2_re2 _ (BlkPre.fin2 _ (m ((c : Thread nD τ).loc main_arg7)) (h c).2.2.2.2.2.2.2.1)).symm
  a8 := (arr2_re2 _ (BlkPre.fin2 _ (m ((c : Thread nD τ).loc main_arg8)) (h c).2.2.2.2.2.2.2.2.1)).symm
  a9 := (arr2_re2 _ (BlkPre.fin2 _ (m ((c : Thread nD τ).loc main_arg9)) (h c).2.2.2.2.2.2.2.2.2)).symm

end Cert.BlkClaim

end
-- ==== Proof.BlkEq.lean ====
/- The reference's results against the kernel's arrays. -/
module

public import proofs.«01_k».proof.Defs
public import proofs.«01_k».proof.Proof.Gen.BlkRefIdeal.Run
public import proofs.«01_k».proof.Proof.Gen.BlkRefIdeal.Read
public import proofs.«01_k».proof.Proof.BlkOut
public import proofs.«01_k».proof.Proof.BlkAcc
public import proofs.«01_k».proof.Proof.BlkHost
public import Idealize.ShloMosaic.Lib.Claim

@[expose] public section

set_option maxRecDepth 16384

noncomputable section

namespace Cert.BlkClaim

open Idealize.ShloMosaic Idealize.ShloMosaic.TcCoe Idealize.SL.Sem
open Cert.BlkIdeal Cert.BlkIdeal.Gen Cert.Finite Cert.BlkSpec Cert.BlkFin

variable {m : (ℓ : Loc nD τ sig) → Buf (Elt Ideal) ℓ}
  {m' : (ℓ : Loc Cert.BlkRefIdeal.nD Cert.BlkRefIdeal.τ Cert.BlkRefIdeal.sig) → Buf (Elt Ideal) ℓ} {c : Dev nD}
variable {X0 : Fin 8192 → Fin 1024 → ℝ} {Ya : Fin 8192 → Fin 384 → ℝ} {Yb : Fin 8192 → Fin 256 → ℝ} {Yc : Fin 8192 → Fin 384 → ℝ} {Wo : Fin 1024 → Fin 1024 → ℝ} {g : Fin 1024 → ℝ} {Wg : Fin 1024 → Fin 2816 → ℝ} {Wu : Fin 1024 → Fin 2816 → ℝ} {Wd : Fin 2816 → Fin 1024 → ℝ} {D : Fin 8192 → Fin 1024 → ℝ}

/-- the reference's ten arguments as arrays of reals -/
structure RArgs (m' : (ℓ : Loc Cert.BlkRefIdeal.nD Cert.BlkRefIdeal.τ Cert.BlkRefIdeal.sig) → Buf (Elt Ideal) ℓ) (c : Dev nD) (X0 : Fin 8192 → Fin 1024 → ℝ) (Ya : Fin 8192 → Fin 384 → ℝ) (Yb : Fin 8192 → Fin 256 → ℝ) (Yc : Fin 8192 → Fin 384 → ℝ) (Wo : Fin 1024 → Fin 1024 → ℝ) (g : Fin 1024 → ℝ) (Wg : Fin 1024 → Fin 2816 → ℝ) (Wu : Fin 1024 → Fin 2816 → ℝ) (Wd : Fin 2816 → Fin 1024 → ℝ) (D : Fin 8192 → Fin 1024 → ℝ) : Prop where
  a0 : m' ((c.tc : Thread Cert.BlkRefIdeal.nD Cert.BlkRefIdeal.τ).loc Cert.BlkRefIdeal.main_arg0) = arr2 X0
  a1 : m' ((c.tc : Thread Cert.BlkRefIdeal.nD Cert.BlkRefIdeal.τ).loc Cert.BlkRefIdeal.main_arg1) = arr2 Ya
  a2 : m' ((c.tc : Thread Cert.BlkRefIdeal.nD Cert.BlkRefIdeal.τ).loc Cert.BlkRefIdeal.main_arg2) = arr2 Yb
  a3 : m' ((c.tc : Thread Cert.BlkRefIdeal.nD Cert.BlkRefIdeal.τ).loc Cert.BlkRefIdeal.main_arg3) = arr2 Yc
  a4 : m' ((c.tc : Thread Cert.BlkRefIdeal.nD Cert.BlkRefIdeal.τ).loc Cert.BlkRefIdeal.main_arg4) = arr2 Wo
  a5 : m' ((c.tc : Thread Cert.BlkRefIdeal.nD Cert.BlkRefIdeal.τ).loc Cert.BlkRefIdeal.main_arg5) = arr1 g
  a6 : m' ((c.tc : Thread Cert.BlkRefIdeal.nD Cert.BlkRefIdeal.τ).loc Cert.BlkRefIdeal.main_arg6) = arr2 Wg
  a7 : m' ((c.tc : Thread Cert.BlkRefIdeal.nD Cert.BlkRefIdeal.τ).loc Cert.BlkRefIdeal.main_arg7) = arr2 Wu
  a8 : m' ((c.tc : Thread Cert.BlkRefIdeal.nD Cert.BlkRefIdeal.τ).loc Cert.BlkRefIdeal.main_arg8) = arr2 Wd
  a9 : m' ((c.tc : Thread Cert.BlkRefIdeal.nD Cert.BlkRefIdeal.τ).loc Cert.BlkRefIdeal.main_arg9) = arr2 D

theorem e9 (a : Args m c X0 Ya Yb Yc Wo g Wg Wu Wd D) (r : RArgs m' c X0 Ya Yb Yc Wo g Wg Wu Wd D) :
    Cert.BlkRefIdeal.Value.res_main_v72 m' c = (dats m 0 c).arrAt 9 (cfgs 0).N := by
  rw [Cert.BlkRefIdeal.Read.val_main_v72_eq, r.a0, r.a1, r.a2, r.a3, r.a4, r.a5, r.a6, r.a7, r.a8, r.a9, BlkRef.r72]
  exact (f9 (ops a)).symm

theorem e10 (a : Args m c X0 Ya Yb Yc Wo g Wg Wu Wd D) (r : RArgs m' c X0 Ya Yb Yc Wo g Wg Wu Wd D) :
    Cert.BlkRefIdeal.Value.res_main_v74 m' c = (dats m 0 c).arrAt 10 (cfgs 0).N := by
  rw [Cert.BlkRefIdeal.Read.val_main_v74_eq, r.a0, r.a1, r.a2, r.a3, r.a4, r.a5, r.a6, r.a7, r.a8, r.a9, BlkRef.r74]
  exact (f10 (ops a)).symm

theorem e11 (a : Args m c X0 Ya Yb Yc Wo g Wg Wu Wd D) (r : RArgs m' c X0 Ya Yb Yc Wo g Wg Wu Wd D) :
    Cert.BlkRefIdeal.Value.res_main_v75 m' c = (dats m 0 c).arrAt 11 (cfgs 0).N := by
  rw [Cert.BlkRefIdeal.Read.val_main_v75_eq, r.a0, r.a1, r.a2, r.a3, r.a4, r.a5, r.a6, r.a7, r.a8, r.a9, BlkRef.r75]
  exact (f11 (ops a)).symm

theorem e12 (a : Args m c X0 Ya Yb Yc Wo g Wg Wu Wd D) (r : RArgs m' c X0 Ya Yb Yc Wo g Wg Wu Wd D) :
    Cert.BlkRefIdeal.Value.res_main_v76 m' c = (dats m 0 c).arrAt 12 (cfgs 0).N := by
  rw [Cert.BlkRefIdeal.Read.val_main_v76_eq, r.a0, r.a1, r.a2, r.a3, r.a4, r.a5, r.a6, r.a7, r.a8, r.a9, BlkRef.r76]
  exact (f12 (ops a)).symm

theorem e13 (a : Args m c X0 Ya Yb Yc Wo g Wg Wu Wd D) (r : RArgs m' c X0 Ya Yb Yc Wo g Wg Wu Wd D) :
    Cert.BlkRefIdeal.Value.res_main_v84 m' c = (dats m 0 c).arrAt 13 (cfgs 0).N := by
  rw [Cert.BlkRefIdeal.Read.val_main_v84_eq, r.a0, r.a1, r.a2, r.a3, r.a4, r.a5, r.a6, r.a7, r.a8, r.a9, BlkRef.r84]
  exact (f13 (ops a)).symm

theorem e14 (a : Args m c X0 Ya Yb Yc Wo g Wg Wu Wd D) (r : RArgs m' c X0 Ya Yb Yc Wo g Wg Wu Wd D) :
    Cert.BlkRefIdeal.Value.res_main_v85 m' c = (dats m 0 c).arrAt 14 (cfgs 0).N := by
  rw [Cert.BlkRefIdeal.Read.val_main_v85_eq, r.a0, r.a1, r.a2, r.a3, r.a4, r.a5, r.a6, r.a8, r.a9, BlkRef.r85]
  exact (f14 (ops a)).symm

theorem e15 (a : Args m c X0 Ya Yb Yc Wo g Wg Wu Wd D) (r : RArgs m' c X0 Ya Yb Yc Wo g Wg Wu Wd D) :
    Cert.BlkRefIdeal.Value.res_main_v88 m' c = (dats m 0 c).arrAt 15 (cfgs 0).N := by
  rw [Cert.BlkRefIdeal.Read.val_main_v88_eq, r.a0, r.a1, r.a2, r.a3, r.a4, r.a5, r.a6, r.a7, BlkRef.r88]
  exact (f15 (ops a)).symm

theorem tail28 : Pipeline.afterTail₀ cfgs (dats m) 0 (V0 m) [hostOps1] c main_v28
    = Host.reduceAdd (F := Ideal) (show FVec Ideal S8x1024 .f32 from (dats m 0 c).arrAt 16 (cfgs 0).N) (constant (F := Ideal) S_ .f32 0x00000000#32) reducesTo_S8x1024_S1024_d0 h_S_ := by
  unfold Pipeline.afterTail₀
  simp only [hostOps1, List.flatten_cons, List.flatten_nil, List.append_nil]
  entry_read
  exact congrArg (fun x => Host.reduceAdd (F := Ideal) (show FVec Ideal S8x1024 .f32 from x) (constant (F := Ideal) S_ .f32 0x00000000#32) reducesTo_S8x1024_S1024_d0 h_S_)
    (Pipeline.withArrays_arr spec0 winFacts0.arr_inj c (V0 m c) (fun w => (dats m 0 c).arrAt w (cfgs 0).N) 16)

theorem rows_sum (f : Fin 8192 → ℝ) :
    ∑ r : Fin 8, ∑ t : Fin 32, ∑ q : Fin 32, f ⟨t.val * 256 + (q.val * 8 + r.val), by omega⟩ = ∑ i, f i := by
  have b : Function.Bijective (fun p : Fin 8 × Fin 32 × Fin 32 => (⟨p.2.1.val * 256 + (p.2.2.val * 8 + p.1.val), by omega⟩ : Fin 8192)) := by
    refine (Fintype.bijective_iff_injective_and_card _).2 ⟨fun x y h => ?_, by simp⟩
    have h' := congrArg Fin.val h
    simp only at h'
    obtain ⟨x0, x1, x2⟩ := x
    obtain ⟨y0, y1, y2⟩ := y
    simp only at h'
    have e0 : x0 = y0 := Fin.ext (by omega)
    have e1 : x1 = y1 := Fin.ext (by omega)
    have e2 : x2 = y2 := Fin.ext (by omega)
    rw [e0, e1, e2]
  rw [← b.sum_comp f]
  simp only [Fintype.sum_prod_type]

theorem e28 (a : Args m c X0 Ya Yb Yc Wo g Wg Wu Wd D) (r : RArgs m' c X0 Ya Yb Yc Wo g Wg Wu Wd D) :
    Cert.BlkRefIdeal.Value.res_main_v57 m' c = Pipeline.afterTail₀ cfgs (dats m) 0 (V0 m) [hostOps1] c main_v28 := by
  rw [tail28, f16 (ops a), Cert.BlkRefIdeal.Read.val_main_v57_eq, r.a0, r.a1, r.a2, r.a3, r.a4, r.a5, r.a6, r.a7, r.a8, r.a9, BlkRef.r57]
  funext j
  idx_vars j
  pointwise [arr1, arr2]
  rw [sum_coe]
  exact congrArg _ (rows_sum fun i => dGain _ _ i j0).symm

end Cert.BlkClaim

end
-- ==== Proof.BlkAlg.lean ====
/- The value claim of the block's gradient. -/
module

public import proofs.«01_k».proof.Defs
public import proofs.«01_k».proof.Proof.Gen.BlkRefIdeal.Run
public import proofs.«01_k».proof.Proof.Gen.BlkRefIdeal.Read
public import proofs.«01_k».proof.Proof.BlkClaim
public import proofs.«01_k».proof.Proof.BlkEq
public import proofs.«01_k».proof.Proof.BlkAcc
public import proofs.«01_k».proof.Proof.BlkHost
public import Idealize.ShloMosaic.Lib.Claim

@[expose] public section

set_option maxRecDepth 16384

noncomputable section

namespace Cert.BlkClaim

open Idealize.ShloMosaic Idealize.ShloMosaic.TcCoe Idealize.SL.Sem
open Cert.BlkIdeal Cert.BlkIdeal.Gen

set_option maxHeartbeats 1600000 in
theorem algebraic : Cert.algebraic_BlkIdeal_BlkRefIdeal_pre_blk_finite := by
  pair_intro
  · run_from Cert.BlkIdeal.Gen.unchanged m g & Cert.BlkIdeal.Gen.run_main m g
  · have a := fun c => args m hpre c
    have r : ∀ c : Dev nD, RArgs m' c _ _ _ _ _ _ _ _ _ _ := fun c => by
      obtain ⟨h0, h1, h2, h3, h4, h5, h6, h7, h8, h9⟩ := hagree c
      exact ⟨h0.trans (a c).a0, h1.trans (a c).a1, h2.trans (a c).a2, h3.trans (a c).a3, h4.trans (a c).a4, h5.trans (a c).a5,
        h6.trans (a c).a6, h7.trans (a c).a7, h8.trans (a c).a8, h9.trans (a c).a9⟩
    run_from Cert.BlkRefIdeal.Value.run m' g'
    · exact e9 (a c) (r c)
    · exact e10 (a c) (r c)
    · exact e11 (a c) (r c)
    · exact e12 (a c) (r c)
    · exact e13 (a c) (r c)
    · exact e14 (a c) (r c)
    · exact e15 (a c) (r c)
    · exact e28 (a c) (r c)

end Cert.BlkClaim

end
-- ==== Proof.WdVal.lean ====
/- The gradient of the down-projection: eight blocks of rows, accumulated, are the product over all the rows. -/
module

public import proofs.«01_k».proof.Defs
public import proofs.«01_k».proof.Proof.Gen.WdIdeal.Frame
public import proofs.«01_k».proof.Proof.Gen.WdRefIdeal.Run
public import proofs.«01_k».proof.Proof.Gen.WdRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WdVal

open Idealize.ShloMosaic Idealize.ShloMosaic.TcCoe Idealize.SL.Sem
open Idealize.ShloMosaic.Pipeline (Dat)
open Cert.WdIdeal Cert.WdIdeal.Gen

theorem idx : ∀ t : Fin cfg0.N, win0_0.index t = ![t.val, 0] ∧ win0_1.index t = ![t.val, 0] ∧ win0_2.index t = ![0, 0] :=
  (by decide +kernel : ∀ t : Fin grid0.N, _)

theorem row_lt (t : Fin cfg0.N) (i : Fin 1024) : t.val * 1024 + i.val < 8192 := by
  have := t.isLt
  have h : cfg0.N = 8 := rfl
  omega

/-- the product `AᵀB` over the 8192 rows -/
def prod (A : S8192x2816.Idx → EReal) (B : S8192x1024.Idx → EReal) : S2816x1024.Idx → EReal :=
  fun j => ∑ r : Fin 8192, A (ix2 r (j 0)) * B (ix2 r (j 1))

/-- the rows of one point -/
def rows {w : ℕ} (A : (⟨2, ![8192, w]⟩ : Shape).Idx → EReal) (t : Fin cfg0.N) : (⟨2, ![1024, w]⟩ : Shape).Idx → EReal :=
  fun y => A (ix2 ⟨t.val * 1024 + (y 0).val, row_lt t (y 0)⟩ (y 1))

/-- what one point adds -/
def part (A : S8192x2816.Idx → EReal) (B : S8192x1024.Idx → EReal) (t : Fin cfg0.N) (j : S2816x1024.Idx) : EReal :=
  ∑ q : Fin 1024, A (ix2 ⟨t.val * 1024 + q.val, row_lt t q⟩ (j 0)) * B (ix2 ⟨t.val * 1024 + q.val, row_lt t q⟩ (j 1))

theorem pay1 (j : S2816x1024.Idx) : k0_pay1 (F := Ideal) j = 0 := by
  unfold k0_pay1
  pointwise []

theorem pay2 (A : S8192x2816.Idx → EReal) (B : S8192x1024.Idx → EReal) (t : Fin cfg0.N) (acc : Vec Ideal S2816x1024 .f32) (j : S2816x1024.Idx) :
    k0_pay2 (F := Ideal) acc (rows A t) (rows B t) j = acc j + part A B t j := by
  unfold k0_pay2
  idx_vars j
  pointwise [rows, part]

variable (m : (ℓ : Loc nD τ sig) → Buf (Elt Ideal) ℓ) (c : Dev nD)

abbrev A0 : S8192x2816.Idx → EReal := m ((c : Thread nD τ).loc main_arg0)
abbrev B0 : S8192x1024.Idx → EReal := m ((c : Thread nD τ).loc main_arg1)

theorem b0 (t : Fin cfg0.N) : iblk m c 0 t = rows (A0 m c) t := by
  funext y
  rw [iblk]
  idx_vars y
  show A0 m c _ = A0 m c (ix2 ⟨t.val * 1024 + y0.val, row_lt t y0⟩ y1)
  blk_ext [idx t]

theorem b1 (t : Fin cfg0.N) : iblk m c 1 t = rows (B0 m c) t := by
  funext y
  rw [iblk]
  idx_vars y
  show B0 m c _ = B0 m c (ix2 ⟨t.val * 1024 + y0.val, row_lt t y0⟩ y1)
  blk_ext [idx t]

theorem sum_rows (f : Fin 8192 → EReal) : ∑ t : Fin 8, ∑ q : Fin 1024, f ⟨t.val * 1024 + q.val, by omega⟩ = ∑ i, f i := by
  have b : Function.Bijective (fun p : Fin 8 × Fin 1024 => (⟨p.1.val * 1024 + p.2.val, by omega⟩ : Fin 8192)) := by
    refine (Fintype.bijective_iff_injective_and_card _).2 ⟨fun x y h => ?_, by simp⟩
    have h' := congrArg Fin.val h
    simp only at h'
    exact Prod.ext (Fin.ext (by omega)) (Fin.ext (by omega))
  rw [← b.sum_comp f]
  simp only [Fintype.sum_prod_type]

theorem part_eq (A : S8192x2816.Idx → EReal) (B : S8192x1024.Idx → EReal) (t : Fin cfg0.N) (s : Fin 8) (h : 8 * (t.val / 8) + s.val < cfg0.N) (j : S2816x1024.Idx) :
    part A B ⟨8 * (t.val / 8) + s.val, h⟩ j
      = ∑ q : Fin 1024, A (ix2 ⟨s.val * 1024 + q.val, by omega⟩ (j 0)) * B (ix2 ⟨s.val * 1024 + q.val, by omega⟩ (j 1)) := by
  have e : t.val / 8 = 0 := Nat.div_eq_of_lt t.isLt
  simp only [part, e, Nat.mul_zero, Nat.zero_add]

theorem o2 (P : S2816x1024.Idx → EReal) (t : Fin cfg0.N) (y : ((cfg0.win 2).xblock (cfg0.grid.coords t)).Idx) :
    P (((cfg0.win 2).blk t).view.emb y) = P (ix2 (y 0) (y 1)) := by
  blk_ext [idx t]

theorem final : (dats m 0 c).arrAt 2 (cfgs 0).N = prod (A0 m c) (B0 m c) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (part (A0 m c) (B0 m c))
    (fun t h j => by
      rw [outsAt0_A m c t h]; frame_out
      rw [b0, b1, pay2, pay1])
    (fun t h j => by
      rw [outsAt0_B m c t h]; frame_out
      rw [b0, b1, pay2])
    t ((flush0_2 t).mp hf) _, zero_add]
  refine Eq.trans ?_ (o2 _ t y).symm
  refine (Finset.sum_congr rfl fun s _ => part_eq (A0 m c) (B0 m c) t s _ y).trans ?_
  exact sum_rows fun r => A0 m c (ix2 r (y 0)) * B0 m c (ix2 r (y 1))

theorem ref (x0 : _) (x1 : _) : Cert.WdRefIdeal.Read.val_main_v4 (F := Ideal) x0 x1 = prod (show S8192x2816.Idx → EReal from x0) (show S8192x1024.Idx → EReal from x1) := by
  funext j
  idx_vars j
  unfold Cert.WdRefIdeal.Read.val_main_v4 Cert.WdRefIdeal.Read.val_main_v3 Cert.WdRefIdeal.Read.val_main_v1
  pointwise [prod]
  exact Finset.sum_congr rfl fun r _ => mul_comm _ _

set_option maxHeartbeats 1600000 in
theorem algebraic : Cert.algebraic_WdIdeal_WdRefIdeal := by
  pair_intro
  · run_from Cert.WdIdeal.Gen.unchanged m g & Cert.WdIdeal.Gen.run_main m g
  · run_from Cert.WdRefIdeal.Value.run m' g'
    rw [Cert.WdRefIdeal.Read.val_main_v4_eq, ref]
    exact (final m c).symm

end Cert.WdVal

end
-- ==== Proof.WgVal.lean ====
/- The gradient of the gate and up-projections: eight blocks of rows, accumulated, are the product over all the rows. -/
module

public import proofs.«01_k».proof.Defs
public import proofs.«01_k».proof.Proof.Gen.WgIdeal.Frame
public import proofs.«01_k».proof.Proof.Gen.WgRefIdeal.Run
public import proofs.«01_k».proof.Proof.Gen.WgRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WgVal

open Idealize.ShloMosaic Idealize.ShloMosaic.TcCoe Idealize.SL.Sem
open Idealize.ShloMosaic.Pipeline (Dat)
open Cert.WgIdeal Cert.WgIdeal.Gen

theorem idx : ∀ t : Fin cfg0.N, win0_0.index t = ![t.val, 0] ∧ win0_1.index t = ![t.val, 0] ∧ win0_2.index t = ![0, 0] :=
  (by decide +kernel : ∀ t : Fin grid0.N, _)

theorem row_lt (t : Fin cfg0.N) (i : Fin 1024) : t.val * 1024 + i.val < 8192 := by
  have := t.isLt
  have h : cfg0.N = 8 := rfl
  omega

/-- the product `AᵀB` over the 8192 rows -/
def prod (A : S8192x2816.Idx → EReal) (B : S8192x1024.Idx → EReal) : S2816x1024.Idx → EReal :=
  fun j => ∑ r : Fin 8192, A (ix2 r (j 0)) * B (ix2 r (j 1))

/-- the rows of one point -/
def rows {w : ℕ} (A : (⟨2, ![8192, w]⟩ : Shape).Idx → EReal) (t : Fin cfg0.N) : (⟨2, ![1024, w]⟩ : Shape).Idx → EReal :=
  fun y => A (ix2 ⟨t.val * 1024 + (y 0).val, row_lt t (y 0)⟩ (y 1))

/-- what one point adds -/
def part (A : S8192x2816.Idx → EReal) (B : S8192x1024.Idx → EReal) (t : Fin cfg0.N) (j : S2816x1024.Idx) : EReal :=
  ∑ q : Fin 1024, A (ix2 ⟨t.val * 1024 + q.val, row_lt t q⟩ (j 0)) * B (ix2 ⟨t.val * 1024 + q.val, row_lt t q⟩ (j 1))

theorem pay1 (j : S2816x1024.Idx) : k0_pay1 (F := Ideal) j = 0 := by
  unfold k0_pay1
  pointwise []

theorem pay2 (A : S8192x2816.Idx → EReal) (B : S8192x1024.Idx → EReal) (t : Fin cfg0.N) (acc : Vec Ideal S2816x1024 .f32) (j : S2816x1024.Idx) :
    k0_pay2 (F := Ideal) acc (rows A t) (rows B t) j = acc j + part A B t j := by
  unfold k0_pay2
  idx_vars j
  pointwise [rows, part]

variable (m : (ℓ : Loc nD τ sig) → Buf (Elt Ideal) ℓ) (c : Dev nD)

abbrev A0 : S8192x2816.Idx → EReal := m ((c : Thread nD τ).loc main_arg1)
abbrev B0 : S8192x1024.Idx → EReal := m ((c : Thread nD τ).loc main_arg0)

theorem b0 (t : Fin cfg0.N) : iblk m c 0 t = rows (A0 m c) t := by
  funext y
  rw [iblk]
  idx_vars y
  show A0 m c _ = A0 m c (ix2 ⟨t.val * 1024 + y0.val, row_lt t y0⟩ y1)
  blk_ext [idx t]

theorem b1 (t : Fin cfg0.N) : iblk m c 1 t = rows (B0 m c) t := by
  funext y
  rw [iblk]
  idx_vars y
  show B0 m c _ = B0 m c (ix2 ⟨t.val * 1024 + y0.val, row_lt t y0⟩ y1)
  blk_ext [idx t]

theorem sum_rows (f : Fin 8192 → EReal) : ∑ t : Fin 8, ∑ q : Fin 1024, f ⟨t.val * 1024 + q.val, by omega⟩ = ∑ i, f i := by
  have b : Function.Bijective (fun p : Fin 8 × Fin 1024 => (⟨p.1.val * 1024 + p.2.val, by omega⟩ : Fin 8192)) := by
    refine (Fintype.bijective_iff_injective_and_card _).2 ⟨fun x y h => ?_, by simp⟩
    have h' := congrArg Fin.val h
    simp only at h'
    exact Prod.ext (Fin.ext (by omega)) (Fin.ext (by omega))
  rw [← b.sum_comp f]
  simp only [Fintype.sum_prod_type]

theorem part_eq (A : S8192x2816.Idx → EReal) (B : S8192x1024.Idx → EReal) (t : Fin cfg0.N) (s : Fin 8) (h : 8 * (t.val / 8) + s.val < cfg0.N) (j : S2816x1024.Idx) :
    part A B ⟨8 * (t.val / 8) + s.val, h⟩ j
      = ∑ q : Fin 1024, A (ix2 ⟨s.val * 1024 + q.val, by omega⟩ (j 0)) * B (ix2 ⟨s.val * 1024 + q.val, by omega⟩ (j 1)) := by
  have e : t.val / 8 = 0 := Nat.div_eq_of_lt t.isLt
  simp only [part, e, Nat.mul_zero, Nat.zero_add]

theorem o2 (P : S2816x1024.Idx → EReal) (t : Fin cfg0.N) (y : ((cfg0.win 2).xblock (cfg0.grid.coords t)).Idx) :
    P (((cfg0.win 2).blk t).view.emb y) = P (ix2 (y 0) (y 1)) := by
  blk_ext [idx t]

theorem final : (dats m 0 c).arrAt 2 (cfgs 0).N = prod (A0 m c) (B0 m c) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (part (A0 m c) (B0 m c))
    (fun t h j => by
      rw [outsAt0_A m c t h]; frame_out
      rw [b0, b1, pay2, pay1])
    (fun t h j => by
      rw [outsAt0_B m c t h]; frame_out
      rw [b0, b1, pay2])
    t ((flush0_2 t).mp hf) _, zero_add]
  refine Eq.trans ?_ (o2 _ t y).symm
  refine (Finset.sum_congr rfl fun s _ => part_eq (A0 m c) (B0 m c) t s _ y).trans ?_
  exact sum_rows fun r => A0 m c (ix2 r (y 0)) * B0 m c (ix2 r (y 1))

theorem ref (x0 : _) (x1 : _) : Cert.WgRefIdeal.Read.val_main_v6 (F := Ideal) x0 x1 = prod (show S8192x2816.Idx → EReal from x1) (show S8192x1024.Idx → EReal from x0) := by
  funext j
  idx_vars j
  unfold Cert.WgRefIdeal.Read.val_main_v6 Cert.WgRefIdeal.Read.val_main_v5 Cert.WgRefIdeal.Read.val_main_v4 Cert.WgRefIdeal.Read.val_main_v3 Cert.WgRefIdeal.Read.val_main_v1
  pointwise [prod]

set_option maxHeartbeats 1600000 in
theorem algebraic : Cert.algebraic_WgIdeal_WgRefIdeal := by
  pair_intro
  · run_from Cert.WgIdeal.Gen.unchanged m g & Cert.WgIdeal.Gen.run_main m g
  · run_from Cert.WgRefIdeal.Value.run m' g'
    rw [Cert.WgRefIdeal.Read.val_main_v6_eq, ref]
    exact (final m c).symm

end Cert.WgVal

end
-- ==== Proof.WoVal.lean ====
/- The gradient of the output projection: eight blocks of rows, accumulated, are the product over all the rows. -/
module

public import proofs.«01_k».proof.Defs
public import proofs.«01_k».proof.Proof.Gen.WoIdeal.Frame
public import proofs.«01_k».proof.Proof.Gen.WoRefIdeal.Run
public import proofs.«01_k».proof.Proof.Gen.WoRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WoVal

open Idealize.ShloMosaic Idealize.ShloMosaic.TcCoe Idealize.SL.Sem
open Idealize.ShloMosaic.Pipeline (Dat)
open Cert.WoIdeal Cert.WoIdeal.Gen

theorem idx : ∀ t : Fin cfg0.N, win0_0.index t = ![t.val, 0] ∧ win0_1.index t = ![t.val, 0] ∧ win0_2.index t = ![0, 0] :=
  (by decide +kernel : ∀ t : Fin grid0.N, _)

theorem row_lt (t : Fin cfg0.N) (i : Fin 1024) : t.val * 1024 + i.val < 8192 := by
  have := t.isLt
  have h : cfg0.N = 8 := rfl
  omega

/-- the product `AᵀB` over the 8192 rows -/
def prod (A : S8192x1024.Idx → EReal) (B : S8192x1024.Idx → EReal) : S1024x1024.Idx → EReal :=
  fun j => ∑ r : Fin 8192, A (ix2 r (j 0)) * B (ix2 r (j 1))

/-- the rows of one point -/
def rows {w : ℕ} (A : (⟨2, ![8192, w]⟩ : Shape).Idx → EReal) (t : Fin cfg0.N) : (⟨2, ![1024, w]⟩ : Shape).Idx → EReal :=
  fun y => A (ix2 ⟨t.val * 1024 + (y 0).val, row_lt t (y 0)⟩ (y 1))

/-- what one point adds -/
def part (A : S8192x1024.Idx → EReal) (B : S8192x1024.Idx → EReal) (t : Fin cfg0.N) (j : S1024x1024.Idx) : EReal :=
  ∑ q : Fin 1024, A (ix2 ⟨t.val * 1024 + q.val, row_lt t q⟩ (j 0)) * B (ix2 ⟨t.val * 1024 + q.val, row_lt t q⟩ (j 1))

theorem pay1 (j : S1024x1024.Idx) : k0_pay1 (F := Ideal) j = 0 := by
  unfold k0_pay1
  pointwise []

theorem pay2 (A : S8192x1024.Idx → EReal) (B : S8192x1024.Idx → EReal) (t : Fin cfg0.N) (acc : Vec Ideal S1024x1024 .f32) (j : S1024x1024.Idx) :
    k0_pay2 (F := Ideal) acc (rows A t) (rows B t) j = acc j + part A B t j := by
  unfold k0_pay2
  idx_vars j
  pointwise [rows, part]

variable (m : (ℓ : Loc nD τ sig) → Buf (Elt Ideal) ℓ) (c : Dev nD)

abbrev A0 : S8192x1024.Idx → EReal := m ((c : Thread nD τ).loc main_arg0)
abbrev B0 : S8192x1024.Idx → EReal := m ((c : Thread nD τ).loc main_arg1)

theorem b0 (t : Fin cfg0.N) : iblk m c 0 t = rows (A0 m c) t := by
  funext y
  rw [iblk]
  idx_vars y
  show A0 m c _ = A0 m c (ix2 ⟨t.val * 1024 + y0.val, row_lt t y0⟩ y1)
  blk_ext [idx t]

theorem b1 (t : Fin cfg0.N) : iblk m c 1 t = rows (B0 m c) t := by
  funext y
  rw [iblk]
  idx_vars y
  show B0 m c _ = B0 m c (ix2 ⟨t.val * 1024 + y0.val, row_lt t y0⟩ y1)
  blk_ext [idx t]

theorem sum_rows (f : Fin 8192 → EReal) : ∑ t : Fin 8, ∑ q : Fin 1024, f ⟨t.val * 1024 + q.val, by omega⟩ = ∑ i, f i := by
  have b : Function.Bijective (fun p : Fin 8 × Fin 1024 => (⟨p.1.val * 1024 + p.2.val, by omega⟩ : Fin 8192)) := by
    refine (Fintype.bijective_iff_injective_and_card _).2 ⟨fun x y h => ?_, by simp⟩
    have h' := congrArg Fin.val h
    simp only at h'
    exact Prod.ext (Fin.ext (by omega)) (Fin.ext (by omega))
  rw [← b.sum_comp f]
  simp only [Fintype.sum_prod_type]

theorem part_eq (A : S8192x1024.Idx → EReal) (B : S8192x1024.Idx → EReal) (t : Fin cfg0.N) (s : Fin 8) (h : 8 * (t.val / 8) + s.val < cfg0.N) (j : S1024x1024.Idx) :
    part A B ⟨8 * (t.val / 8) + s.val, h⟩ j
      = ∑ q : Fin 1024, A (ix2 ⟨s.val * 1024 + q.val, by omega⟩ (j 0)) * B (ix2 ⟨s.val * 1024 + q.val, by omega⟩ (j 1)) := by
  have e : t.val / 8 = 0 := Nat.div_eq_of_lt t.isLt
  simp only [part, e, Nat.mul_zero, Nat.zero_add]

theorem o2 (P : S1024x1024.Idx → EReal) (t : Fin cfg0.N) (y : ((cfg0.win 2).xblock (cfg0.grid.coords t)).Idx) :
    P (((cfg0.win 2).blk t).view.emb y) = P (ix2 (y 0) (y 1)) := by
  blk_ext [idx t]

theorem final : (dats m 0 c).arrAt 2 (cfgs 0).N = prod (A0 m c) (B0 m c) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (part (A0 m c) (B0 m c))
    (fun t h j => by
      rw [outsAt0_A m c t h]; frame_out
      rw [b0, b1, pay2, pay1])
    (fun t h j => by
      rw [outsAt0_B m c t h]; frame_out
      rw [b0, b1, pay2])
    t ((flush0_2 t).mp hf) _, zero_add]
  refine Eq.trans ?_ (o2 _ t y).symm
  refine (Finset.sum_congr rfl fun s _ => part_eq (A0 m c) (B0 m c) t s _ y).trans ?_
  exact sum_rows fun r => A0 m c (ix2 r (y 0)) * B0 m c (ix2 r (y 1))

theorem ref (x0 : _) (x1 : _) : Cert.WoRefIdeal.Read.val_main_v4 (F := Ideal) x0 x1 = prod (show S8192x1024.Idx → EReal from x0) (show S8192x1024.Idx → EReal from x1) := by
  funext j
  idx_vars j
  unfold Cert.WoRefIdeal.Read.val_main_v4 Cert.WoRefIdeal.Read.val_main_v3 Cert.WoRefIdeal.Read.val_main_v1
  pointwise [prod]
  exact Finset.sum_congr rfl fun r _ => mul_comm _ _

set_option maxHeartbeats 1600000 in
theorem algebraic : Cert.algebraic_WoIdeal_WoRefIdeal := by
  pair_intro
  · run_from Cert.WoIdeal.Gen.unchanged m g & Cert.WoIdeal.Gen.run_main m g
  · run_from Cert.WoRefIdeal.Value.run m' g'
    rw [Cert.WoRefIdeal.Read.val_main_v4_eq, ref]
    exact (final m c).symm

end Cert.WoVal

end
-- ==== Proof.WiVal.lean ====
/- The gradient of the in-projection: eight blocks of rows, accumulated, are the product over all the rows. -/
module

public import proofs.«01_k».proof.Defs
public import proofs.«01_k».proof.Proof.Gen.WiIdeal.Frame
public import proofs.«01_k».proof.Proof.Gen.WiRefIdeal.Run
public import proofs.«01_k».proof.Proof.Gen.WiRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WiVal

open Idealize.ShloMosaic Idealize.ShloMosaic.TcCoe Idealize.SL.Sem
open Idealize.ShloMosaic.Pipeline (Dat)
open Cert.WiIdeal Cert.WiIdeal.Gen

theorem idx : ∀ t : Fin cfg0.N, win0_0.index t = ![t.val, 0] ∧ win0_1.index t = ![t.val, 0] ∧ win0_2.index t = ![0, 0] :=
  (by decide +kernel : ∀ t : Fin grid0.N, _)

theorem row_lt (t : Fin cfg0.N) (i : Fin 1024) : t.val * 1024 + i.val < 8192 := by
  have := t.isLt
  have h : cfg0.N = 8 := rfl
  omega

/-- the product `AᵀB` over the 8192 rows -/
def prod (A : S8192x1408.Idx → EReal) (B : S8192x1024.Idx → EReal) : S1408x1024.Idx → EReal :=
  fun j => ∑ r : Fin 8192, A (ix2 r (j 0)) * B (ix2 r (j 1))

/-- the rows of one point -/
def rows {w : ℕ} (A : (⟨2, ![8192, w]⟩ : Shape).Idx → EReal) (t : Fin cfg0.N) : (⟨2, ![1024, w]⟩ : Shape).Idx → EReal :=
  fun y => A (ix2 ⟨t.val * 1024 + (y 0).val, row_lt t (y 0)⟩ (y 1))

/-- what one point adds -/
def part (A : S8192x1408.Idx → EReal) (B : S8192x1024.Idx → EReal) (t : Fin cfg0.N) (j : S1408x1024.Idx) : EReal :=
  ∑ q : Fin 1024, A (ix2 ⟨t.val * 1024 + q.val, row_lt t q⟩ (j 0)) * B (ix2 ⟨t.val * 1024 + q.val, row_lt t q⟩ (j 1))

theorem pay1 (j : S1408x1024.Idx) : k0_pay1 (F := Ideal) j = 0 := by
  unfold k0_pay1
  pointwise []

theorem pay2 (A : S8192x1408.Idx → EReal) (B : S8192x1024.Idx → EReal) (t : Fin cfg0.N) (acc : Vec Ideal S1408x1024 .f32) (j : S1408x1024.Idx) :
    k0_pay2 (F := Ideal) acc (rows A t) (rows B t) j = acc j + part A B t j := by
  unfold k0_pay2
  idx_vars j
  pointwise [rows, part]

variable (m : (ℓ : Loc nD τ sig) → Buf (Elt Ideal) ℓ) (c : Dev nD)

abbrev A0 : S8192x1408.Idx → EReal := m ((c : Thread nD τ).loc main_arg1)
abbrev B0 : S8192x1024.Idx → EReal := m ((c : Thread nD τ).loc main_arg0)

theorem b0 (t : Fin cfg0.N) : iblk m c 0 t = rows (A0 m c) t := by
  funext y
  rw [iblk]
  idx_vars y
  show A0 m c _ = A0 m c (ix2 ⟨t.val * 1024 + y0.val, row_lt t y0⟩ y1)
  blk_ext [idx t]

theorem b1 (t : Fin cfg0.N) : iblk m c 1 t = rows (B0 m c) t := by
  funext y
  rw [iblk]
  idx_vars y
  show B0 m c _ = B0 m c (ix2 ⟨t.val * 1024 + y0.val, row_lt t y0⟩ y1)
  blk_ext [idx t]

theorem sum_rows (f : Fin 8192 → EReal) : ∑ t : Fin 8, ∑ q : Fin 1024, f ⟨t.val * 1024 + q.val, by omega⟩ = ∑ i, f i := by
  have b : Function.Bijective (fun p : Fin 8 × Fin 1024 => (⟨p.1.val * 1024 + p.2.val, by omega⟩ : Fin 8192)) := by
    refine (Fintype.bijective_iff_injective_and_card _).2 ⟨fun x y h => ?_, by simp⟩
    have h' := congrArg Fin.val h
    simp only at h'
    exact Prod.ext (Fin.ext (by omega)) (Fin.ext (by omega))
  rw [← b.sum_comp f]
  simp only [Fintype.sum_prod_type]

theorem part_eq (A : S8192x1408.Idx → EReal) (B : S8192x1024.Idx → EReal) (t : Fin cfg0.N) (s : Fin 8) (h : 8 * (t.val / 8) + s.val < cfg0.N) (j : S1408x1024.Idx) :
    part A B ⟨8 * (t.val / 8) + s.val, h⟩ j
      = ∑ q : Fin 1024, A (ix2 ⟨s.val * 1024 + q.val, by omega⟩ (j 0)) * B (ix2 ⟨s.val * 1024 + q.val, by omega⟩ (j 1)) := by
  have e : t.val / 8 = 0 := Nat.div_eq_of_lt t.isLt
  simp only [part, e, Nat.mul_zero, Nat.zero_add]

theorem o2 (P : S1408x1024.Idx → EReal) (t : Fin cfg0.N) (y : ((cfg0.win 2).xblock (cfg0.grid.coords t)).Idx) :
    P (((cfg0.win 2).blk t).view.emb y) = P (ix2 (y 0) (y 1)) := by
  blk_ext [idx t]

theorem final : (dats m 0 c).arrAt 2 (cfgs 0).N = prod (A0 m c) (B0 m c) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (part (A0 m c) (B0 m c))
    (fun t h j => by
      rw [outsAt0_A m c t h]; frame_out
      rw [b0, b1, pay2, pay1])
    (fun t h j => by
      rw [outsAt0_B m c t h]; frame_out
      rw [b0, b1, pay2])
    t ((flush0_2 t).mp hf) _, zero_add]
  refine Eq.trans ?_ (o2 _ t y).symm
  refine (Finset.sum_congr rfl fun s _ => part_eq (A0 m c) (B0 m c) t s _ y).trans ?_
  exact sum_rows fun r => A0 m c (ix2 r (y 0)) * B0 m c (ix2 r (y 1))

theorem ref (x0 : _) (x1 : _) : Cert.WiRefIdeal.Read.val_main_v6 (F := Ideal) x0 x1 = prod (show S8192x1408.Idx → EReal from x1) (show S8192x1024.Idx → EReal from x0) := by
  funext j
  idx_vars j
  unfold Cert.WiRefIdeal.Read.val_main_v6 Cert.WiRefIdeal.Read.val_main_v5 Cert.WiRefIdeal.Read.val_main_v4 Cert.WiRefIdeal.Read.val_main_v3 Cert.WiRefIdeal.Read.val_main_v1
  pointwise [prod]

set_option maxHeartbeats 1600000 in
theorem algebraic : Cert.algebraic_WiIdeal_WiRefIdeal := by
  pair_intro
  · run_from Cert.WiIdeal.Gen.unchanged m g & Cert.WiIdeal.Gen.run_main m g
  · run_from Cert.WiRefIdeal.Value.run m' g'
    rw [Cert.WiRefIdeal.Read.val_main_v6_eq, ref]
    exact (final m c).symm

end Cert.WiVal

end
-- ==== Proof.FwdSpec.lean ====
/- The residual block's forward lines on arrays of extended reals, and each payload of the kernel and each line of the
   reference as one of them. -/
module

public import proofs.«01_k».proof.Proof.Gen.FwdIdeal.Skeleton
public import proofs.«01_k».proof.Proof.Gen.FwdRefIdeal.Read
public import Idealize.ShloMosaic.Lib.Pipeline.ValueKit
public import Idealize.ShloMosaic.Lib.Pointwise

@[expose] public section

set_option maxRecDepth 16384

noncomputable section

namespace Cert.FwdSpec

open Idealize.ShloMosaic

variable {n : ℕ}

abbrev A1 (a : ℕ) : Type := (⟨1, ![a]⟩ : Shape).Idx → EReal
abbrev A2 (a b : ℕ) : Type := (⟨2, ![a, b]⟩ : Shape).Idx → EReal

/-- the three streams side by side -/
def cat (A : A2 n 384) (B : A2 n 256) (C : A2 n 384) : A2 n 1024 := fun j =>
  if h : (j 1).val < 384 then A (ix2 (j 0) ⟨(j 1).val, h⟩)
  else if h' : (j 1).val - 384 < 256 then B (ix2 (j 0) ⟨(j 1).val - 384, h'⟩)
  else C (ix2 (j 0) ⟨(j 1).val - 384 - 256, by have h1 : (j 1).val < 1024 := (j 1).isLt; omega⟩)

/-- an array plus the product of two others -/
def res {a b : ℕ} (X : A2 n b) (C : A2 n a) (W : A2 a b) : A2 n b := fun j => X j + ∑ l : Fin a, C (ix2 (j 0) l) * W (ix2 l (j 1))

/-- the normed rows -/
def nrm (X : A2 n 1024) (g : A1 1024) : A2 n 1024 := fun j =>
  X j * Ideal.rsqrt (Ideal.div (∑ l : Fin 1024, X (ix2 (j 0) l) * X (ix2 (j 0) l)) (Ideal.ofBits .f32 0x44800000#32)
    + Ideal.ofBits .f32 0x358637BD#32) * g (ix1 (j 1))

/-- a pre-activation -/
def pre (H : A2 n 1024) (W : A2 1024 2816) : A2 n 2816 := fun j => ∑ l : Fin 1024, H (ix2 (j 0) l) * W (ix2 l (j 1))

/-- the gated activation -/
def act (G U : A2 n 2816) : A2 n 2816 := fun j => G j * Ideal.div 1 (1 + Ideal.exp (-G j)) * U j

def tr {a b : ℕ} (W : A2 a b) : A2 b a := fun j => W (ix2 (j 1) (j 0))
def row {a : ℕ} (g : A1 a) : A2 1 a := fun j => g (ix1 (j 1))

section Kernel

open Cert.FwdIdeal Cert.FwdIdeal.Gen

variable (X : A2 256 1024) (A : A2 256 384) (B : A2 256 256) (C : A2 256 384) (Wo : A2 1024 1024) (g : A1 1024)
  (H : A2 256 1024) (Wg Wu : A2 1024 2816) (Wd : A2 2816 1024)

theorem p6 : k0_pay6 (F := Ideal) A B C = cat A B C := by
  funext j; idx_vars j
  pointwise [k0_pay6, cat]

theorem p7 : k0_pay7 (F := Ideal) A B C X Wo = res X (cat A B C) Wo := by
  unfold k0_pay7
  rw [p6]
  funext j; idx_vars j
  pointwise [res]

theorem p8 : k0_pay8 (F := Ideal) A B C X Wo (row g) = nrm (res X (cat A B C) Wo) g := by
  unfold k0_pay8
  rw [p7]
  funext j; idx_vars j
  pointwise [nrm, row]

theorem p9 (W : A2 2816 1024) : k0_pay9 (F := Ideal) W = W := by
  funext j; idx_vars j
  pointwise [k0_pay9]

theorem p1 : k0_pay1 (F := Ideal) H (tr Wg) = pre H Wg := by
  unfold k0_pay1
  funext j; idx_vars j
  pointwise [pre, tr]

theorem p2 : k0_pay2 (F := Ideal) H (tr Wu) = pre H Wu := by
  unfold k0_pay2
  funext j; idx_vars j
  pointwise [pre, tr]

theorem p3 : k0_pay3 (F := Ideal) H (tr Wg) = pre H Wg := by
  unfold k0_pay3
  rw [p1]
  funext j; idx_vars j
  pointwise []

theorem p4 : k0_pay4 (F := Ideal) H (tr Wu) = pre H Wu := by
  unfold k0_pay4
  rw [p2]
  funext j; idx_vars j
  pointwise []

theorem p5 : k0_pay5 (F := Ideal) X H (tr Wg) (tr Wu) Wd = res X (act (pre H Wg) (pre H Wu)) Wd := by
  unfold k0_pay5
  rw [p1, p2]
  funext j; idx_vars j
  pointwise [res, act]
  simp only [zero_sub]

end Kernel

section Reference

open Cert.FwdRefIdeal Cert.FwdRefIdeal.Gen Cert.FwdRefIdeal.Read

variable (X : A2 8192 1024) (A : A2 8192 384) (B : A2 8192 256) (C : A2 8192 384) (Wo : A2 1024 1024) (g : A1 1024)
  (Wg Wu : A2 1024 2816) (Wd : A2 2816 1024)

theorem r0 : val_main_v0 (F := Ideal) A B C = cat A B C := by
  funext j; idx_vars j
  pointwise [val_main_v0, cat]

theorem r25 : val_main_v25 (F := Ideal) A B C = cat A B C := by
  unfold val_main_v25
  rw [r0]
  funext j; idx_vars j
  pointwise []

theorem r2 : val_main_v2 (F := Ideal) X A B C Wo = res X (cat A B C) Wo := by
  unfold val_main_v2 val_main_v1
  rw [r0]
  funext j; idx_vars j
  pointwise [res]

theorem r15 : val_main_v15 (F := Ideal) X A B C Wo g = nrm (res X (cat A B C) Wo) g := by
  unfold val_main_v15 val_main_v14 val_main_v13 val_main_v12 val_main_v11 val_main_v10 val_main_v9 val_main_v8 val_main_v7
    val_main_v6 val_main_v5 val_main_v4 val_main_v3 val_main_cst val_main_cst_0 val_main_cst_1
  rw [r2]
  funext j; idx_vars j
  pointwise [nrm]

theorem r22 : val_main_v22 (F := Ideal) X A B C Wo g = nrm (res X (cat A B C) Wo) g := by
  unfold val_main_v22
  rw [r15]
  funext j; idx_vars j
  pointwise []

theorem r16 : val_main_v16 (F := Ideal) X A B C Wo g Wg = pre (nrm (res X (cat A B C) Wo) g) Wg := by
  unfold val_main_v16
  rw [r15]
  funext j; idx_vars j
  pointwise [pre]

theorem r17 : val_main_v17 (F := Ideal) X A B C Wo g Wu = pre (nrm (res X (cat A B C) Wo) g) Wu := by
  unfold val_main_v17
  rw [r15]
  funext j; idx_vars j
  pointwise [pre]

theorem r23 : val_main_v23 (F := Ideal) X A B C Wo g Wg = pre (nrm (res X (cat A B C) Wo) g) Wg := by
  unfold val_main_v23
  rw [r16]
  funext j; idx_vars j
  pointwise []

theorem r24 : val_main_v24 (F := Ideal) X A B C Wo g Wu = pre (nrm (res X (cat A B C) Wo) g) Wu := by
  unfold val_main_v24
  rw [r17]
  funext j; idx_vars j
  pointwise []

theorem r19 : val_main_v19 (F := Ideal) X A B C Wo g Wg Wu
    = act (pre (nrm (res X (cat A B C) Wo) g) Wg) (pre (nrm (res X (cat A B C) Wo) g) Wu) := by
  unfold val_main_v19 val_main_v18 val_main_call0_v5 val_main_call0_v4 val_main_call0_v3 val_main_call0_v2 val_main_call0_v1 val_main_call0_v0 val_main_call0_cst val_main_call0_cst_0
  rw [r17, r16]
  funext j; idx_vars j
  pointwise [act]

theorem r21 : val_main_v21 (F := Ideal) X A B C Wo g Wg Wu Wd
    = res (res X (cat A B C) Wo) (act (pre (nrm (res X (cat A B C) Wo) g) Wg) (pre (nrm (res X (cat A B C) Wo) g) Wu)) Wd := by
  unfold val_main_v21 val_main_v20
  rw [r19, r2]
  funext j; idx_vars j
  pointwise [res]

end Reference

end Cert.FwdSpec

end
-- ==== Proof.FwdFin.lean ====
/- The residual block's forward call: thirty-two blocks of rows, each what the reference computes on those rows. -/
module

public import proofs.«01_k».proof.Defs
public import proofs.«01_k».proof.Proof.Gen.FwdIdeal.Frame
public import proofs.«01_k».proof.Proof.FwdSpec
public import Idealize.ShloMosaic.Lib.Claim

@[expose] public section

set_option maxRecDepth 16384

noncomputable section

namespace Cert.FwdVal

open Idealize.ShloMosaic Idealize.ShloMosaic.TcCoe Idealize.SL.Sem
open Idealize.ShloMosaic.Pipeline (Dat)
open Cert.FwdIdeal Cert.FwdIdeal.Gen Cert.FwdSpec

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem odx : ∀ t : Fin cfg0.N, win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

theorem row_lt (t : Fin cfg0.N) (i : Fin 256) : t.val * 256 + i.val < 8192 := by
  have := t.isLt
  have h : cfg0.N = 32 := rfl
  omega

/-- the rows of one point -/
def rows {w : ℕ} (A : A2 8192 w) (t : Fin cfg0.N) : A2 256 w := fun y => A (ix2 ⟨t.val * 256 + (y 0).val, row_lt t (y 0)⟩ (y 1))

variable (m : (ℓ : Loc nD τ sig) → Buf (Elt Ideal) ℓ) (c : Dev nD)

abbrev X : A2 8192 1024 := m ((c : Thread nD τ).loc main_arg0)
abbrev Ya : A2 8192 384 := m ((c : Thread nD τ).loc main_arg1)
abbrev Yb : A2 8192 256 := m ((c : Thread nD τ).loc main_arg2)
abbrev Yc : A2 8192 384 := m ((c : Thread nD τ).loc main_arg3)
abbrev Wo : A2 1024 1024 := m ((c : Thread nD τ).loc main_arg4)
abbrev gf : A1 1024 := m ((c : Thread nD τ).loc main_arg5)
abbrev Wg : A2 1024 2816 := m ((c : Thread nD τ).loc main_arg6)
abbrev Wu : A2 1024 2816 := m ((c : Thread nD τ).loc main_arg7)
abbrev Wd : A2 2816 1024 := m ((c : Thread nD τ).loc main_arg8)

theorem h0 : V m c (Pipeline.arrRef spec0 0) = X m c := V_main_arg0 m c

theorem h1 : V m c (Pipeline.arrRef spec0 1) = Ya m c := by
  have h : (V m c main_v7 : FVec Ideal S8192x384 .bf16) = truncf (F := Ideal) .bf16 (show FVec Ideal S8192x384 .f32 from m ((c : Thread nD τ).loc main_arg1)) bitsLt_bf16_f32 := by
    entry_read
    rfl
  refine h.trans ?_
  funext j; idx_vars j
  pointwise []

theorem h2 : V m c (Pipeline.arrRef spec0 2) = Yb m c := by
  have h : (V m c main_v8 : FVec Ideal S8192x256 .bf16) = truncf (F := Ideal) .bf16 (show FVec Ideal S8192x256 .f32 from m ((c : Thread nD τ).loc main_arg2)) bitsLt_bf16_f32 := by
    entry_read
    rfl
  refine h.trans ?_
  funext j; idx_vars j
  pointwise []

theorem h3 : V m c (Pipeline.arrRef spec0 3) = Yc m c := by
  have h : (V m c main_v9 : FVec Ideal S8192x384 .bf16) = truncf (F := Ideal) .bf16 (show FVec Ideal S8192x384 .f32 from m ((c : Thread nD τ).loc main_arg3)) bitsLt_bf16_f32 := by
    entry_read
    rfl
  refine h.trans ?_
  funext j; idx_vars j
  pointwise []

theorem h4 : V m c (Pipeline.arrRef spec0 4) = Wo m c := by
  have h : (V m c main_v5 : FVec Ideal S1024x1024 .bf16) = truncf (F := Ideal) .bf16 (show FVec Ideal S1024x1024 .f32 from m ((c : Thread nD τ).loc main_arg4)) bitsLt_bf16_f32 := by
    entry_read
    rfl
  refine h.trans ?_
  funext j; idx_vars j
  pointwise []

theorem h5 : V m c (Pipeline.arrRef spec0 5) = row (gf m c) := by
  have h : (V m c main_v6 : FVec Ideal S1x1024 .f32) = shapeCast S1x1024 (show FVec Ideal S1024 .f32 from m ((c : Thread nD τ).loc main_arg5)) shapeCasts_S1024_S1x1024 := by
    entry_read
    rfl
  refine h.trans ?_
  funext j; idx_vars j
  pointwise [row]

theorem h6 : V m c (Pipeline.arrRef spec0 6) = tr (Wg m c) := by
  have h : (V m c main_v2 : FVec Ideal S2816x1024 .bf16) = truncf (F := Ideal) .bf16 (show FVec Ideal S2816x1024 .f32 from transpose S2816x1024 [1, 0] (show FVec Ideal S1024x2816 .f32 from m ((c : Thread nD τ).loc main_arg6)) transposes_S1024x2816_S2816x1024_1_0) bitsLt_bf16_f32 := by
    entry_read
    rfl
  refine h.trans ?_
  funext j; idx_vars j
  pointwise [tr]

theorem h7 : V m c (Pipeline.arrRef spec0 7) = tr (Wu m c) := by
  have h : (V m c main_v4 : FVec Ideal S2816x1024 .bf16) = truncf (F := Ideal) .bf16 (show FVec Ideal S2816x1024 .f32 from transpose S2816x1024 [1, 0] (show FVec Ideal S1024x2816 .f32 from m ((c : Thread nD τ).loc main_arg7)) transposes_S1024x2816_S2816x1024_1_0) bitsLt_bf16_f32 := by
    entry_read
    rfl
  refine h.trans ?_
  funext j; idx_vars j
  pointwise [tr]

theorem h8 : V m c (Pipeline.arrRef spec0 8) = Wd m c := by
  have h : (V m c main_v0 : FVec Ideal S2816x1024 .bf16) = truncf (F := Ideal) .bf16 (show FVec Ideal S2816x1024 .f32 from m ((c : Thread nD τ).loc main_arg8)) bitsLt_bf16_f32 := by
    entry_read
    rfl
  refine h.trans ?_
  funext j; idx_vars j
  pointwise []

theorem b0 (t : Fin cfg0.N) : iblk m c 0 t = rows (X m c) t := by
  funext y
  rw [iblk, h0]
  idx_vars y
  show (X m c) _ = (X m c) (ix2 ⟨t.val * 256 + y0.val, row_lt t y0⟩ y1)
  blk_ext [idx t]

theorem b1 (t : Fin cfg0.N) : iblk m c 1 t = rows (Ya m c) t := by
  funext y
  rw [iblk, h1]
  idx_vars y
  show (Ya m c) _ = (Ya m c) (ix2 ⟨t.val * 256 + y0.val, row_lt t y0⟩ y1)
  blk_ext [idx t]

theorem b2 (t : Fin cfg0.N) : iblk m c 2 t = rows (Yb m c) t := by
  funext y
  rw [iblk, h2]
  idx_vars y
  show (Yb m c) _ = (Yb m c) (ix2 ⟨t.val * 256 + y0.val, row_lt t y0⟩ y1)
  blk_ext [idx t]

theorem b3 (t : Fin cfg0.N) : iblk m c 3 t = rows (Yc m c) t := by
  funext y
  rw [iblk, h3]
  idx_vars y
  show (Yc m c) _ = (Yc m c) (ix2 ⟨t.val * 256 + y0.val, row_lt t y0⟩ y1)
  blk_ext [idx t]

theorem b4 (t : Fin cfg0.N) : iblk m c 4 t = Wo m c := by
  funext y
  rw [iblk, h4]
  idx_vars y
  show (Wo m c) _ = (Wo m c) (ix2 y0 y1)
  blk_ext [idx t]

theorem b5 (t : Fin cfg0.N) : iblk m c 5 t = row (gf m c) := by
  funext y
  rw [iblk, h5]
  idx_vars y
  show (row (gf m c)) _ = (row (gf m c)) (ix2 y0 y1)
  blk_ext [idx t]

theorem b6 (t : Fin cfg0.N) : iblk m c 6 t = tr (Wg m c) := by
  funext y
  rw [iblk, h6]
  idx_vars y
  show (tr (Wg m c)) _ = (tr (Wg m c)) (ix2 y0 y1)
  blk_ext [idx t]

theorem b7 (t : Fin cfg0.N) : iblk m c 7 t = tr (Wu m c) := by
  funext y
  rw [iblk, h7]
  idx_vars y
  show (tr (Wu m c)) _ = (tr (Wu m c)) (ix2 y0 y1)
  blk_ext [idx t]

theorem b8 (t : Fin cfg0.N) : iblk m c 8 t = Wd m c := by
  funext y
  rw [iblk, h8]
  idx_vars y
  show (Wd m c) _ = (Wd m c) (ix2 y0 y1)
  blk_ext [idx t]

/-- the results over all the rows -/
abbrev Y : A2 8192 1024 := cat (Ya m c) (Yb m c) (Yc m c)
abbrev X1 : A2 8192 1024 := res (X m c) (Y m c) (Wo m c)
abbrev Hn : A2 8192 1024 := nrm (X1 m c) (gf m c)
abbrev G : A2 8192 2816 := pre (Hn m c) (Wg m c)
abbrev U : A2 8192 2816 := pre (Hn m c) (Wu m c)
abbrev X2 : A2 8192 1024 := res (X1 m c) (act (G m c) (U m c)) (Wd m c)

theorem e9 (P : A2 8192 1024) (t : Fin cfg0.N) (y : ((cfg0.win 9).xblock (cfg0.grid.coords t)).Idx) :
    rows P t y = P (((cfg0.win 9).blk t).view.emb y) := by
  show P (ix2 ⟨t.val * 256 + (y 0).val, row_lt t (y 0)⟩ (y 1)) = P _
  blk_ext [odx t]

theorem f9 : (dats m 0 c).arrAt 9 (cfgs 0).N = X1 m c := by
  refine (dats m 0 c).arrAt_eq_of_covers 9 _ (by decide +kernel) fun t _ y => ?_
  refine Eq.trans ?_ (e9 (X1 m c) t y)
  blk_simp
  rw [after0_9]
  unfold_out out0_9
  frame_out
  rw [b0, b1, b2, b3, b4, p7]
  rfl

theorem e10 (P : A2 8192 1024) (t : Fin cfg0.N) (y : ((cfg0.win 10).xblock (cfg0.grid.coords t)).Idx) :
    rows P t y = P (((cfg0.win 10).blk t).view.emb y) := by
  show P (ix2 ⟨t.val * 256 + (y 0).val, row_lt t (y 0)⟩ (y 1)) = P _
  blk_ext [odx t]

theorem f10 : (dats m 0 c).arrAt 10 (cfgs 0).N = X2 m c := by
  refine (dats m 0 c).arrAt_eq_of_covers 10 _ (by decide +kernel) fun t _ y => ?_
  refine Eq.trans ?_ (e10 (X2 m c) t y)
  blk_simp
  rw [after0_10]
  unfold_out out0_10
  frame_out
  rw [b0, b1, b2, b3, b4, b5, b6, b7, b8, p7, p8, p9, p5]
  rfl

theorem e11 (P : A2 8192 1024) (t : Fin cfg0.N) (y : ((cfg0.win 11).xblock (cfg0.grid.coords t)).Idx) :
    rows P t y = P (((cfg0.win 11).blk t).view.emb y) := by
  show P (ix2 ⟨t.val * 256 + (y 0).val, row_lt t (y 0)⟩ (y 1)) = P _
  blk_ext [odx t]

theorem f11 : (dats m 0 c).arrAt 11 (cfgs 0).N = Hn m c := by
  refine (dats m 0 c).arrAt_eq_of_covers 11 _ (by decide +kernel) fun t _ y => ?_
  refine Eq.trans ?_ (e11 (Hn m c) t y)
  blk_simp
  rw [after0_11]
  unfold_out out0_11
  frame_out
  rw [b0, b1, b2, b3, b4, b5, p8]
  rfl

theorem e12 (P : A2 8192 2816) (t : Fin cfg0.N) (y : ((cfg0.win 12).xblock (cfg0.grid.coords t)).Idx) :
    rows P t y = P (((cfg0.win 12).blk t).view.emb y) := by
  show P (ix2 ⟨t.val * 256 + (y 0).val, row_lt t (y 0)⟩ (y 1)) = P _
  blk_ext [odx t]

theorem f12 : (dats m 0 c).arrAt 12 (cfgs 0).N = G m c := by
  refine (dats m 0 c).arrAt_eq_of_covers 12 _ (by decide +kernel) fun t _ y => ?_
  refine Eq.trans ?_ (e12 (G m c) t y)
  blk_simp
  rw [after0_12]
  unfold_out out0_12
  frame_out
  rw [b0, b1, b2, b3, b4, b5, b6, p8, p9, p3]
  rfl

theorem e13 (P : A2 8192 2816) (t : Fin cfg0.N) (y : ((cfg0.win 13).xblock (cfg0.grid.coords t)).Idx) :
    rows P t y = P (((cfg0.win 13).blk t).view.emb y) := by
  show P (ix2 ⟨t.val * 256 + (y 0).val, row_lt t (y 0)⟩ (y 1)) = P _
  blk_ext [odx t]

theorem f13 : (dats m 0 c).arrAt 13 (cfgs 0).N = U m c := by
  refine (dats m 0 c).arrAt_eq_of_covers 13 _ (by decide +kernel) fun t _ y => ?_
  refine Eq.trans ?_ (e13 (U m c) t y)
  blk_simp
  rw [after0_13]
  unfold_out out0_13
  frame_out
  rw [b0, b1, b2, b3, b4, b5, b7, p8, p4]
  rfl

theorem e14 (P : A2 8192 1024) (t : Fin cfg0.N) (y : ((cfg0.win 14).xblock (cfg0.grid.coords t)).Idx) :
    rows P t y = P (((cfg0.win 14).blk t).view.emb y) := by
  show P (ix2 ⟨t.val * 256 + (y 0).val, row_lt t (y 0)⟩ (y 1)) = P _
  blk_ext [odx t]

theorem f14 : (dats m 0 c).arrAt 14 (cfgs 0).N = Y m c := by
  refine (dats m 0 c).arrAt_eq_of_covers 14 _ (by decide +kernel) fun t _ y => ?_
  refine Eq.trans ?_ (e14 (Y m c) t y)
  blk_simp
  rw [after0_14]
  unfold_out out0_14
  frame_out
  rw [b1, b2, b3, p6]
  rfl

end Cert.FwdVal

end
-- ==== Proof.FwdVal.lean ====
/- The value claim of the residual block's forward call. -/
module

public import proofs.«01_k».proof.Defs
public import proofs.«01_k».proof.Proof.Gen.FwdRefIdeal.Run
public import proofs.«01_k».proof.Proof.FwdFin
public import Idealize.ShloMosaic.Lib.Claim

@[expose] public section

set_option maxRecDepth 16384

noncomputable section

namespace Cert.FwdVal

open Idealize.ShloMosaic Idealize.ShloMosaic.TcCoe Idealize.SL.Sem
open Cert.FwdIdeal Cert.FwdIdeal.Gen Cert.FwdSpec

variable (m : (ℓ : Loc nD τ sig) → Buf (Elt Ideal) ℓ)
  (m' : (ℓ : Loc Cert.FwdRefIdeal.nD Cert.FwdRefIdeal.τ Cert.FwdRefIdeal.sig) → Buf (Elt Ideal) ℓ) (c : Dev nD)

/-- the reference's arguments are the kernel's -/
structure Agree : Prop where
  a0 : m' ((c.tc : Thread Cert.FwdRefIdeal.nD Cert.FwdRefIdeal.τ).loc Cert.FwdRefIdeal.main_arg0) = X m c
  a1 : m' ((c.tc : Thread Cert.FwdRefIdeal.nD Cert.FwdRefIdeal.τ).loc Cert.FwdRefIdeal.main_arg1) = Ya m c
  a2 : m' ((c.tc : Thread Cert.FwdRefIdeal.nD Cert.FwdRefIdeal.τ).loc Cert.FwdRefIdeal.main_arg2) = Yb m c
  a3 : m' ((c.tc : Thread Cert.FwdRefIdeal.nD Cert.FwdRefIdeal.τ).loc Cert.FwdRefIdeal.main_arg3) = Yc m c
  a4 : m' ((c.tc : Thread Cert.FwdRefIdeal.nD Cert.FwdRefIdeal.τ).loc Cert.FwdRefIdeal.main_arg4) = Wo m c
  a5 : m' ((c.tc : Thread Cert.FwdRefIdeal.nD Cert.FwdRefIdeal.τ).loc Cert.FwdRefIdeal.main_arg5) = gf m c
  a6 : m' ((c.tc : Thread Cert.FwdRefIdeal.nD Cert.FwdRefIdeal.τ).loc Cert.FwdRefIdeal.main_arg6) = Wg m c
  a7 : m' ((c.tc : Thread Cert.FwdRefIdeal.nD Cert.FwdRefIdeal.τ).loc Cert.FwdRefIdeal.main_arg7) = Wu m c
  a8 : m' ((c.tc : Thread Cert.FwdRefIdeal.nD Cert.FwdRefIdeal.τ).loc Cert.FwdRefIdeal.main_arg8) = Wd m c

variable {m m' c}

theorem e10_eq (r : Agree m m' c) : Cert.FwdRefIdeal.Value.res_main_v21 m' c = (dats m 0 c).arrAt 10 (cfgs 0).N := by
  rw [Cert.FwdRefIdeal.Read.val_main_v21_eq, r.a0, r.a1, r.a2, r.a3, r.a4, r.a5, r.a6, r.a7, r.a8, r21]
  exact (f10 m c).symm

set_option maxHeartbeats 1600000 in
theorem algebraic : Cert.algebraic_FwdIdeal_FwdRefIdeal := by
  pair_intro
  · run_from Cert.FwdIdeal.Gen.unchanged m g & Cert.FwdIdeal.Gen.run_main m g
  · have r : ∀ c : Dev nD, Agree m m' c := fun c => by
      obtain ⟨h0, h1, h2, h3, h4, h5, h6, h7, h8⟩ := hagree c
      exact ⟨h0, h1, h2, h3, h4, h5, h6, h7, h8⟩
    run_from Cert.FwdRefIdeal.Value.run m' g'
    · rw [Cert.FwdRefIdeal.Read.val_main_v2_eq, (r c).a1, (r c).a2, (r c).a3]
      exact (r2 ..).trans (f9 m c).symm
    · exact e10_eq (r c)
    · rw [Cert.FwdRefIdeal.Read.val_main_v22_eq, (r c).a1, (r c).a2, (r c).a3]
      exact (r22 ..).trans (f11 m c).symm
    · rw [Cert.FwdRefIdeal.Read.val_main_v23_eq, (r c).a1, (r c).a2, (r c).a3]
      exact (r23 ..).trans (f12 m c).symm
    · rw [Cert.FwdRefIdeal.Read.val_main_v24_eq, (r c).a1, (r c).a2, (r c).a3]
      exact (r24 ..).trans (f13 m c).symm
    · rw [Cert.FwdRefIdeal.Read.val_main_v25_eq, (r c).a1, (r c).a2, (r c).a3]
      exact (r25 ..).trans (f14 m c).symm

end Cert.FwdVal

end
-- ==== Proof.HeadSpec.lean ====
/- The loss head as real functions of a row: the residual stream after the gated product, its distance from the target
   rows, the gradient of the squared distance; and the constants of the head. -/
module

public import proofs.«01_k».proof.Proof.BlkSpec

@[expose] public section

noncomputable section

namespace Cert.HeadSpec

open Idealize.ShloMosaic Cert.Finite Cert.BlkSpec

variable {n : ℕ}

/-- the residual stream after the gated product -/
def x2 (X : Fin n → Fin 1024 → ℝ) (A : Fin n → Fin 2816 → ℝ) (Wd : Fin 2816 → Fin 1024 → ℝ) (i : Fin n) (k : Fin 1024) : ℝ :=
  X i k + ∑ f, A i f * Wd f k

/-- the distance of a normed row from its target -/
def df (X T : Fin n → Fin 1024 → ℝ) (q : Fin 1024 → ℝ) (i : Fin n) (k : Fin 1024) : ℝ := X i k * rr X i * q k - T i k

/-- the gradient of half the mean square of that distance -/
def hd (X T : Fin n → Fin 1024 → ℝ) (q : Fin 1024 → ℝ) (i : Fin n) (k : Fin 1024) : ℝ := df X T q i k * (1 / 1024)

/-- a row's part of the loss, before the factor -/
def esq (X T : Fin n → Fin 1024 → ℝ) (q : Fin 1024 → ℝ) (i : Fin n) : ℝ := ∑ k, df X T q i k * df X T q i k

theorem rsq (X : Fin n → Fin 1024 → ℝ) (i : Fin n) :
    Ideal.rsqrt (Ideal.div (∑ l, (X i l : EReal) * (X i l : EReal)) (Ideal.ofBits .f32 0x44800000#32) + Ideal.ofBits .f32 0x358637BD#32)
      = ((rr X i : ℝ) : EReal) := by
  simp only [← EReal.coe_mul, sum_coe, ofBits_1024, ofBits_eps.1]
  rw [div_real _ _ (by norm_num), ← EReal.coe_add]
  exact rsqrt_real _ (ms_pos X i)

theorem sgE (v : ℝ) : Ideal.div 1 (1 + Ideal.exp (-(v : EReal))) = ((sg v : ℝ) : EReal) := by
  rw [← EReal.coe_one, ← EReal.coe_neg, Ideal.exp_coe, ← EReal.coe_add, div_real _ _ (one_add_exp_ne _), one_div, sg]

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_pos_half : Ideal.ofBits .f32 0x3F000000#32 = ((1 / 2 : ℝ) : EReal) := by
  simp [Ideal.ofBits, Ideal.ieee, -EReal.coe_mul]; norm_num

end Cert.HeadSpec

end
-- ==== Proof.HeadRef.lean ====
/- The loss head's reference, line by line, on arguments of finite entries: each value as a real function of its rows. -/
module

public import proofs.«01_k».proof.Proof.Gen.HeadRefIdeal.Read
public import proofs.«01_k».proof.Proof.HeadSpec

@[expose] public section

set_option maxRecDepth 16384

noncomputable section

namespace Cert.HeadRef

open Idealize.ShloMosaic Cert.HeadRefIdeal Cert.HeadRefIdeal.Gen Cert.HeadRefIdeal.Read Cert.Finite Cert.BlkSpec Cert.HeadSpec

variable {X0 T : Fin 8192 → Fin 1024 → ℝ} {Ya Yc : Fin 8192 → Fin 384 → ℝ} {Yb : Fin 8192 → Fin 256 → ℝ} {Wo : Fin 1024 → Fin 1024 → ℝ}
  {g q : Fin 1024 → ℝ} {Wg Wu : Fin 1024 → Fin 2816 → ℝ} {Wd : Fin 2816 → Fin 1024 → ℝ}

theorem r0 : val_main_v0 (F := Ideal) (arr2 Ya) (arr2 Yb) (arr2 Yc)
    = arr2 (cat Ya Yb Yc) := by
  unfold val_main_v0
  funext j; idx_vars j
  pointwise [arr2, cat]
  split_ifs <;> rfl

theorem r25 : val_main_v25 (F := Ideal) (arr2 Ya) (arr2 Yb) (arr2 Yc)
    = arr2 (cat Ya Yb Yc) := by
  unfold val_main_v25
  rw [r0]
  funext j; idx_vars j
  pointwise [arr2]

theorem r2 : val_main_v2 (F := Ideal) (arr2 X0) (arr2 Ya) (arr2 Yb) (arr2 Yc) (arr2 Wo)
    = arr2 (xr X0 Ya Yb Yc Wo) := by
  unfold val_main_v2 val_main_v1
  rw [r0]
  funext j; idx_vars j
  pointwise [arr2, xr]
  simp only [← EReal.coe_mul, ← EReal.coe_add, sum_coe, zero_add]

theorem r15 : val_main_v15 (F := Ideal) (arr2 X0) (arr2 Ya) (arr2 Yb) (arr2 Yc) (arr2 Wo) (arr1 g)
    = arr2 (hr (xr X0 Ya Yb Yc Wo) g) := by
  unfold val_main_v15 val_main_v14 val_main_v13 val_main_v12 val_main_v11 val_main_v10 val_main_v9 val_main_v8 val_main_v7 val_main_v6 val_main_v5 val_main_v4 val_main_v3 val_main_cst val_main_cst_0 val_main_cst_1
  rw [r2]
  funext j; idx_vars j
  pointwise [arr2, arr1, hr]
  simp only [zero_add, rsq]
  rw [← EReal.coe_mul, ← EReal.coe_mul]

theorem r22 : val_main_v22 (F := Ideal) (arr2 X0) (arr2 Ya) (arr2 Yb) (arr2 Yc) (arr2 Wo) (arr1 g)
    = arr2 (hr (xr X0 Ya Yb Yc Wo) g) := by
  unfold val_main_v22
  rw [r15]
  funext j; idx_vars j
  pointwise [arr2]

theorem r16 : val_main_v16 (F := Ideal) (arr2 X0) (arr2 Ya) (arr2 Yb) (arr2 Yc) (arr2 Wo) (arr1 g) (arr2 Wg)
    = arr2 (pr (hr (xr X0 Ya Yb Yc Wo) g) Wg) := by
  unfold val_main_v16
  rw [r15]
  funext j; idx_vars j
  pointwise [arr2, pr]
  simp only [← EReal.coe_mul, ← EReal.coe_add, sum_coe, zero_add]

theorem r17 : val_main_v17 (F := Ideal) (arr2 X0) (arr2 Ya) (arr2 Yb) (arr2 Yc) (arr2 Wo) (arr1 g) (arr2 Wu)
    = arr2 (pr (hr (xr X0 Ya Yb Yc Wo) g) Wu) := by
  unfold val_main_v17
  rw [r15]
  funext j; idx_vars j
  pointwise [arr2, pr]
  simp only [← EReal.coe_mul, ← EReal.coe_add, sum_coe, zero_add]

theorem r23 : val_main_v23 (F := Ideal) (arr2 X0) (arr2 Ya) (arr2 Yb) (arr2 Yc) (arr2 Wo) (arr1 g) (arr2 Wg)
    = arr2 (pr (hr (xr X0 Ya Yb Yc Wo) g) Wg) := by
  unfold val_main_v23
  rw [r16]
  funext j; idx_vars j
  pointwise [arr2]

theorem r24 : val_main_v24 (F := Ideal) (arr2 X0) (arr2 Ya) (arr2 Yb) (arr2 Yc) (arr2 Wo) (arr1 g) (arr2 Wu)
    = arr2 (pr (hr (xr X0 Ya Yb Yc Wo) g) Wu) := by
  unfold val_main_v24
  rw [r17]
  funext j; idx_vars j
  pointwise [arr2]

theorem r19 : val_main_v19 (F := Ideal) (arr2 X0) (arr2 Ya) (arr2 Yb) (arr2 Yc) (arr2 Wo) (arr1 g) (arr2 Wg) (arr2 Wu)
    = arr2 (act (pr (hr (xr X0 Ya Yb Yc Wo) g) Wg) (pr (hr (xr X0 Ya Yb Yc Wo) g) Wu)) := by
  unfold val_main_v19 val_main_v18 val_main_call0_v5 val_main_call0_v4 val_main_call0_v3 val_main_call0_v2 val_main_call0_v1 val_main_call0_v0 val_main_call0_cst val_main_call0_cst_0
  rw [r17, r16]
  funext j; idx_vars j
  pointwise [arr2, act]
  simp only [sgE]
  simp only [← EReal.coe_mul]

theorem r21 : val_main_v21 (F := Ideal) (arr2 X0) (arr2 Ya) (arr2 Yb) (arr2 Yc) (arr2 Wo) (arr1 g) (arr2 Wg) (arr2 Wu) (arr2 Wd)
    = arr2 (x2 (xr X0 Ya Yb Yc Wo) (act (pr (hr (xr X0 Ya Yb Yc Wo) g) Wg) (pr (hr (xr X0 Ya Yb Yc Wo) g) Wu)) Wd) := by
  unfold val_main_v21 val_main_v20
  rw [r19, r2]
  funext j; idx_vars j
  pointwise [arr2, x2]
  simp only [← EReal.coe_mul, ← EReal.coe_add, sum_coe, zero_add]

theorem r32 : val_main_v32 (F := Ideal) (arr2 X0) (arr2 Ya) (arr2 Yb) (arr2 Yc) (arr2 Wo) (arr1 g) (arr2 Wg) (arr2 Wu) (arr2 Wd)
    = arr2 fun i (_ : Fin 1) => ms (x2 (xr X0 Ya Yb Yc Wo) (act (pr (hr (xr X0 Ya Yb Yc Wo) g) Wg) (pr (hr (xr X0 Ya Yb Yc Wo) g) Wu)) Wd) i := by
  unfold val_main_v32 val_main_v31 val_main_v30 val_main_v29 val_main_v28 val_main_v27 val_main_v26 val_main_cst_2 val_main_cst_3 val_main_cst_4
  rw [r21]
  funext j; idx_vars j
  pointwise [arr2, ms]
  simp only [← EReal.coe_mul, sum_coe, zero_add, ofBits_1024, ofBits_eps.1]
  rw [div_real _ _ (by norm_num), ← EReal.coe_add]

theorem r33 : val_main_v33 (F := Ideal) (arr2 X0) (arr2 Ya) (arr2 Yb) (arr2 Yc) (arr2 Wo) (arr1 g) (arr2 Wg) (arr2 Wu) (arr2 Wd)
    = arr2 fun i (_ : Fin 1) => rr (x2 (xr X0 Ya Yb Yc Wo) (act (pr (hr (xr X0 Ya Yb Yc Wo) g) Wg) (pr (hr (xr X0 Ya Yb Yc Wo) g) Wu)) Wd) i := by
  unfold val_main_v33
  rw [r32]
  funext j; idx_vars j
  pointwise [arr2]
  exact rsqrt_real _ (ms_pos _ _)

theorem r36 : val_main_v36 (F := Ideal) (arr2 X0) (arr2 Ya) (arr2 Yb) (arr2 Yc) (arr2 Wo) (arr1 g) (arr2 Wg) (arr2 Wu) (arr2 Wd)
    = arr2 fun i (_ : Fin 1) => -(1 / 2) * (rr (x2 (xr X0 Ya Yb Yc Wo) (act (pr (hr (xr X0 Ya Yb Yc Wo) g) Wg) (pr (hr (xr X0 Ya Yb Yc Wo) g) Wu)) Wd) i / ms (x2 (xr X0 Ya Yb Yc Wo) (act (pr (hr (xr X0 Ya Yb Yc Wo) g) Wg) (pr (hr (xr X0 Ya Yb Yc Wo) g) Wu)) Wd) i) := by
  unfold val_main_v36 val_main_v35 val_main_cst_5 val_main_v34
  rw [r33, r32]
  funext j; idx_vars j
  pointwise [arr2]
  rw [ofBits_half, div_real _ _ (ms_pos _ _).ne', ← EReal.coe_mul]

theorem r38 : val_main_v38 (F := Ideal) (arr2 X0) (arr2 Ya) (arr2 Yb) (arr2 Yc) (arr2 Wo) (arr1 g) (arr2 Wg) (arr2 Wu) (arr2 Wd)
    = arr2 fun i k => (x2 (xr X0 Ya Yb Yc Wo) (act (pr (hr (xr X0 Ya Yb Yc Wo) g) Wg) (pr (hr (xr X0 Ya Yb Yc Wo) g) Wu)) Wd) i k * rr (x2 (xr X0 Ya Yb Yc Wo) (act (pr (hr (xr X0 Ya Yb Yc Wo) g) Wg) (pr (hr (xr X0 Ya Yb Yc Wo) g) Wu)) Wd) i := by
  unfold val_main_v38 val_main_v37
  rw [r21, r33]
  funext j; idx_vars j
  pointwise [arr2]
  rw [EReal.coe_mul]

theorem r42 : val_main_v42 (F := Ideal) (arr2 X0) (arr2 Ya) (arr2 Yb) (arr2 Yc) (arr2 Wo) (arr1 g) (arr2 Wg) (arr2 Wu) (arr2 Wd) (arr2 T) (arr1 q)
    = arr2 (df (x2 (xr X0 Ya Yb Yc Wo) (act (pr (hr (xr X0 Ya Yb Yc Wo) g) Wg) (pr (hr (xr X0 Ya Yb Yc Wo) g) Wu)) Wd) T q) := by
  unfold val_main_v42 val_main_v41 val_main_v40 val_main_v39
  rw [r38]
  funext j; idx_vars j
  pointwise [arr2, arr1, df]
  rw [← EReal.coe_mul, ← EReal.coe_sub]

theorem r56 : val_main_v56 (F := Ideal) (arr2 X0) (arr2 Ya) (arr2 Yb) (arr2 Yc) (arr2 Wo) (arr1 g) (arr2 Wg) (arr2 Wu) (arr2 Wd) (arr2 T) (arr1 q)
    = arr2 (hd (x2 (xr X0 Ya Yb Yc Wo) (act (pr (hr (xr X0 Ya Yb Yc Wo) g) Wg) (pr (hr (xr X0 Ya Yb Yc Wo) g) Wu)) Wd) T q) := by
  unfold val_main_v56 val_main_v55 val_main_v54 val_main_v53 val_main_v52 val_main_v51 val_main_v45 val_main_v44 val_main_cst_13 val_main_cst_12 val_main_cst_11 val_main_cst_6
  rw [r42]
  funext j; idx_vars j
  pointwise [arr2, hd]
  simp only [ofBits_two, ofBits_pos_half, ofBits_1024]
  rw [div_real _ _ (by norm_num)]
  simp only [← EReal.coe_mul]
  exact congrArg _ (by ring)

theorem r50 : val_main_v50 (F := Ideal) (arr2 X0) (arr2 Ya) (arr2 Yb) (arr2 Yc) (arr2 Wo) (arr1 g) (arr2 Wg) (arr2 Wu) (arr2 Wd) (arr2 T) (arr1 q)
    = fun _ => (((∑ i, esq (x2 (xr X0 Ya Yb Yc Wo) (act (pr (hr (xr X0 Ya Yb Yc Wo) g) Wg) (pr (hr (xr X0 Ya Yb Yc Wo) g) Wu)) Wd) T q i) * (1 / 2048) : ℝ) : EReal) := by
  unfold val_main_v50 val_main_v49 val_main_v48 val_main_v47 val_main_v46 val_main_v43 val_main_cst_10 val_main_cst_9 val_main_cst_8 val_main_cst_7
  rw [r42]
  funext j
  pointwise [arr2, arr1, esq]
  simp only [← EReal.coe_mul, sum_coe, zero_add, ofBits_1024, ofBits_pos_half]
  have e : ∀ x : ℝ, Ideal.div (x : EReal) ((1024 : ℝ) : EReal) = ((x / 1024 : ℝ) : EReal) := fun x => div_real x _ (by norm_num)
  simp only [e, sum_coe, ← EReal.coe_mul]
  refine congrArg _ ?_
  rw [← Finset.sum_div]
  ring

theorem r62 : val_main_v62 (F := Ideal) (arr2 X0) (arr2 Ya) (arr2 Yb) (arr2 Yc) (arr2 Wo) (arr1 g) (arr2 Wg) (arr2 Wu) (arr2 Wd) (arr2 T) (arr1 q)
    = arr1 fun k => ∑ i, dGain (hd (x2 (xr X0 Ya Yb Yc Wo) (act (pr (hr (xr X0 Ya Yb Yc Wo) g) Wg) (pr (hr (xr X0 Ya Yb Yc Wo) g) Wu)) Wd) T q) (x2 (xr X0 Ya Yb Yc Wo) (act (pr (hr (xr X0 Ya Yb Yc Wo) g) Wg) (pr (hr (xr X0 Ya Yb Yc Wo) g) Wu)) Wd) i k := by
  unfold val_main_v62 val_main_v59 val_main_v58 val_main_v57 val_main_cst_15 val_main_cst_14
  rw [r38, r56]
  funext j; idx_vars j
  pointwise [arr2, arr1, dGain]
  simp only [← EReal.coe_mul, ← EReal.coe_add, sum_coe, zero_add, Fin.sum_univ_one]
  exact congrArg _ (Finset.sum_congr rfl fun i _ => mul_comm _ _)

theorem r61 : val_main_v61 (F := Ideal) (arr2 X0) (arr2 Ya) (arr2 Yb) (arr2 Yc) (arr2 Wo) (arr1 g) (arr2 Wg) (arr2 Wu) (arr2 Wd) (arr2 T) (arr1 q)
    = arr2 fun i k => (hd (x2 (xr X0 Ya Yb Yc Wo) (act (pr (hr (xr X0 Ya Yb Yc Wo) g) Wg) (pr (hr (xr X0 Ya Yb Yc Wo) g) Wu)) Wd) T q) i k * q k := by
  unfold val_main_v61 val_main_v60 val_main_v39
  rw [r56]
  funext j; idx_vars j
  pointwise [arr2, arr1]
  rw [EReal.coe_mul]

theorem r71 : val_main_v71 (F := Ideal) (arr2 X0) (arr2 Ya) (arr2 Yb) (arr2 Yc) (arr2 Wo) (arr1 g) (arr2 Wg) (arr2 Wu) (arr2 Wd) (arr2 T) (arr1 q)
    = arr1 fun i => (∑ l, (x2 (xr X0 Ya Yb Yc Wo) (act (pr (hr (xr X0 Ya Yb Yc Wo) g) Wg) (pr (hr (xr X0 Ya Yb Yc Wo) g) Wu)) Wd) i l * ((hd (x2 (xr X0 Ya Yb Yc Wo) (act (pr (hr (xr X0 Ya Yb Yc Wo) g) Wg) (pr (hr (xr X0 Ya Yb Yc Wo) g) Wu)) Wd) T q) i l * q l)) * (-(1 / 2) * (rr (x2 (xr X0 Ya Yb Yc Wo) (act (pr (hr (xr X0 Ya Yb Yc Wo) g) Wg) (pr (hr (xr X0 Ya Yb Yc Wo) g) Wu)) Wd) i / ms (x2 (xr X0 Ya Yb Yc Wo) (act (pr (hr (xr X0 Ya Yb Yc Wo) g) Wg) (pr (hr (xr X0 Ya Yb Yc Wo) g) Wu)) Wd) i)) / 1024 := by
  unfold val_main_v71 val_main_v70 val_main_v69 val_main_v68 val_main_v65 val_main_v64 val_main_v63 val_main_cst_18 val_main_cst_17 val_main_cst_16
  rw [r36, r61, r21]
  funext j; idx_vars j
  pointwise [arr2, arr1]
  simp only [← EReal.coe_mul, ← EReal.coe_add, sum_coe, zero_add, Fin.sum_univ_one, ofBits_1024]
  rw [div_real _ _ (by norm_num)]

theorem r76 : val_main_v76 (F := Ideal) (arr2 X0) (arr2 Ya) (arr2 Yb) (arr2 Yc) (arr2 Wo) (arr1 g) (arr2 Wg) (arr2 Wu) (arr2 Wd) (arr2 T) (arr1 q)
    = arr2 (dN (hd (x2 (xr X0 Ya Yb Yc Wo) (act (pr (hr (xr X0 Ya Yb Yc Wo) g) Wg) (pr (hr (xr X0 Ya Yb Yc Wo) g) Wu)) Wd) T q) (x2 (xr X0 Ya Yb Yc Wo) (act (pr (hr (xr X0 Ya Yb Yc Wo) g) Wg) (pr (hr (xr X0 Ya Yb Yc Wo) g) Wu)) Wd) fun _ k => q k) := by
  unfold val_main_v76 val_main_v75 val_main_v74 val_main_v73 val_main_v72 val_main_v67 val_main_v66
  rw [r71, r61, r21, r33]
  funext j; idx_vars j
  pointwise [arr2, arr1]
  simp only [← EReal.coe_mul, ← EReal.coe_add]
  refine congrArg _ ?_
  have h := norm_grad (fun _ _ => 0) (hd (x2 (xr X0 Ya Yb Yc Wo) (act (pr (hr (xr X0 Ya Yb Yc Wo) g) Wg) (pr (hr (xr X0 Ya Yb Yc Wo) g) Wu)) Wd) T q) (x2 (xr X0 Ya Yb Yc Wo) (act (pr (hr (xr X0 Ya Yb Yc Wo) g) Wg) (pr (hr (xr X0 Ya Yb Yc Wo) g) Wu)) Wd) q j0 j1
  simp only [zero_add] at h
  exact h

end Cert.HeadRef

end
-- ==== Proof.HeadPay.lean ====
/- What the loss-head call's body computes on blocks of finite entries: each payload as a real function of its rows. -/
module

public import proofs.«01_k».proof.Proof.Gen.HeadIdeal.Skeleton
public import proofs.«01_k».proof.Proof.HeadSpec

@[expose] public section

set_option maxRecDepth 16384

noncomputable section

namespace Cert.HeadPay

open Idealize.ShloMosaic Cert.HeadIdeal Cert.HeadIdeal.Gen Cert.Finite Cert.BlkSpec Cert.HeadSpec

variable (X H T : Fin 256 → Fin 1024 → ℝ) (A C : Fin 256 → Fin 384 → ℝ) (B : Fin 256 → Fin 256 → ℝ)
  (Wo : Fin 1024 → Fin 1024 → ℝ) (g q : Fin 1024 → ℝ) (Wg Wu : Fin 1024 → Fin 2816 → ℝ) (Wd : Fin 2816 → Fin 1024 → ℝ)

theorem p1 : k0_pay1 (F := Ideal) (arr2 A) (arr2 B) (arr2 C) = arr2 (cat A B C) := by
  funext j; idx_vars j
  pointwise [k0_pay1, arr2, cat]
  split_ifs <;> rfl

theorem p2 : k0_pay2 (F := Ideal) (arr2 A) (arr2 B) (arr2 C) (arr2 X) (arr2 Wo) = arr2 (xr X A B C Wo) := by
  unfold k0_pay2
  rw [p1]
  funext j; idx_vars j
  pointwise [arr2, xr]
  simp only [← EReal.coe_mul, ← EReal.coe_add, sum_coe, zero_add]

theorem p3 : k0_pay3 (F := Ideal) (arr2 A) (arr2 B) (arr2 C) (arr2 X) (arr2 Wo) (arr2 fun (_ : Fin 1) k => g k)
    = arr2 (hr (xr X A B C Wo) g) := by
  unfold k0_pay3
  rw [p2]
  funext j; idx_vars j
  pointwise [arr2, hr]
  rw [rsq, ← EReal.coe_mul, ← EReal.coe_mul]

theorem p4 (W : Vec Ideal S2816x1024 .bf16) : k0_pay4 (F := Ideal) W = W := by
  funext j; idx_vars j
  pointwise [k0_pay4]

theorem p5 : k0_pay5 (F := Ideal) (arr2 H) (arr2 fun f k => Wg k f) = arr2 (pr H Wg) := by
  funext j; idx_vars j
  pointwise [k0_pay5, arr2, pr]
  simp only [← EReal.coe_mul, ← EReal.coe_add, sum_coe, zero_add]

theorem p6 : k0_pay6 (F := Ideal) (arr2 H) (arr2 fun f k => Wu k f) = arr2 (pr H Wu) := by
  funext j; idx_vars j
  pointwise [k0_pay6, arr2, pr]
  simp only [← EReal.coe_mul, ← EReal.coe_add, sum_coe, zero_add]

theorem p7 : k0_pay7 (F := Ideal) (arr2 H) (arr2 fun f k => Wg k f) = arr2 (pr H Wg) := by
  unfold k0_pay7
  rw [p5]
  funext j; idx_vars j
  pointwise [arr2]

theorem p8 : k0_pay8 (F := Ideal) (arr2 H) (arr2 fun f k => Wu k f) = arr2 (pr H Wu) := by
  unfold k0_pay8
  rw [p6]
  funext j; idx_vars j
  pointwise [arr2]

theorem p9 : k0_pay9 (F := Ideal) (arr2 X) (arr2 H) (arr2 fun f k => Wg k f) (arr2 fun f k => Wu k f) (arr2 Wd)
    = arr2 (x2 X (act (pr H Wg) (pr H Wu)) Wd) := by
  unfold k0_pay9
  rw [p5, p6]
  funext j; idx_vars j
  pointwise [arr2, x2, act]
  simp only [zero_sub, sgE]
  simp only [← EReal.coe_mul, ← EReal.coe_add, sum_coe, zero_add]

theorem p10 (j : S8x128.Idx) : k0_pay10 (F := Ideal) j = 0 := by pointwise [k0_pay10]

theorem p11 (j : S8x1024.Idx) : k0_pay11 (F := Ideal) j = 0 := by pointwise [k0_pay11]

theorem p12 (W : Vec Ideal S1x1024 .f32) : k0_pay12 (F := Ideal) W = W := by
  funext j; idx_vars j
  pointwise [k0_pay12]

theorem p13 : k0_pay13 (F := Ideal) (arr2 X) (arr2 H) (arr2 fun f k => Wg k f) (arr2 fun f k => Wu k f) (arr2 Wd)
    = arr2 fun i (_ : Fin 1) => rr (x2 X (act (pr H Wg) (pr H Wu)) Wd) i := by
  unfold k0_pay13
  rw [p9]
  funext j; idx_vars j
  pointwise [arr2]
  rw [rsq]

theorem p14 : k0_pay14 (F := Ideal) (arr2 X) (arr2 H) (arr2 fun f k => Wg k f) (arr2 fun f k => Wu k f) (arr2 Wd)
    = arr2 fun i (_ : Fin 1024) => rr (x2 X (act (pr H Wg) (pr H Wu)) Wd) i := by
  unfold k0_pay14
  rw [p13]
  funext j; idx_vars j
  pointwise [arr2]

theorem p15 : k0_pay15 (F := Ideal) (arr2 X) (arr2 fun i (_ : Fin 1024) => rr X i) = arr2 fun i k => X i k * rr X i := by
  funext j; idx_vars j
  pointwise [k0_pay15, arr2]
  rw [EReal.coe_mul]

theorem p16 : k0_pay16 (F := Ideal) (arr2 X) (arr2 fun (_ : Fin 1) k => q k) (arr2 fun i (_ : Fin 1024) => rr X i) (arr2 T)
    = arr2 (df X T q) := by
  unfold k0_pay16
  rw [p15]
  funext j; idx_vars j
  pointwise [arr2, df]
  rw [← EReal.coe_mul, ← EReal.coe_sub]

theorem tot (v : FVec Ideal S256x1024 .f32) :
    extractAt ![0, 0, 0] (shapeCast S1x1x1 (multiReduction .add [1, 2] S1 (shapeCast S1x256x1024 v shapeCasts_S256x1024_S1x256x1024) 0x00000000#32 reduces_S1x256x1024_S1 (.inl rfl) rfl) shapeCasts_S1_S1x1x1) inpos_S1x1x1_p0_0_0
      = ∑ i : Fin 256, ∑ k : Fin 1024, v (ix2 i k) := by
  pointwise

theorem tot_sq (v : FVec Ideal S256x1024 .f32) (hv : v = arr2 (df X T q)) :
    ∑ i : Fin 256, ∑ k : Fin 1024, (mulf v v : FVec Ideal S256x1024 .f32) (ix2 i k) = ((∑ i, esq X T q i : ℝ) : EReal) := by
  subst hv
  rw [← sum_coe]
  refine Finset.sum_congr rfl fun i _ => ?_
  rw [esq, ← sum_coe]
  exact Finset.sum_congr rfl fun k _ => (EReal.coe_mul _ _).symm

theorem cast8 (acc : Vec Ideal S8x128 .f32) : (shapeCast S8x128 (show FVec Ideal S8x128 .f32 from acc) shapeCasts_S8x128_S8x128 : FVec Ideal S8x128 .f32) = acc := by
  funext j; idx_vars j
  pointwise

theorem pay17 (a : FVec Ideal S256x1024 .f32) (b : FVec Ideal S1x1024 .f32) (c : FVec Ideal S256x1024 .f32) (d : Vec Ideal S256x1024 .f32) (acc : Vec Ideal S8x128 .f32) :
    k0_pay17 (F := Ideal) a b c d acc = addf (shapeCast S8x128 acc shapeCasts_S8x128_S8x128)
      (broadcast S8x128 (Scalar.mulf (F := Ideal) (extractAt ![0, 0, 0] (shapeCast S1x1x1 (multiReduction .add [1, 2] S1 (shapeCast S1x256x1024 (mulf (k0_pay16 (F := Ideal) a b c d) (k0_pay16 (F := Ideal) a b c d)) shapeCasts_S256x1024_S1x256x1024) 0x00000000#32 reduces_S1x256x1024_S1 (.inl rfl) rfl) shapeCasts_S1_S1x1x1) inpos_S1x1x1_p0_0_0)
        (Scalar.ofBits (F := Ideal) .f32 0x3A000000#32))) := rfl

theorem scaled (x : FVec Ideal S8x128 .f32) (e : EReal) (j : S8x128.Idx) :
    addf x (broadcast S8x128 (Scalar.mulf (F := Ideal) (φ := .f32) e (Scalar.ofBits (F := Ideal) .f32 0x3A000000#32))) j
      = x j + e * Ideal.ofBits .f32 0x3A000000#32 := rfl

/-- The loss's accumulator after a point: what it held plus the point's rows' squares over 2048, in every entry. -/
theorem p17 (acc : Vec Ideal S8x128 .f32) (j : S8x128.Idx) :
    k0_pay17 (F := Ideal) (arr2 X) (arr2 fun (_ : Fin 1) k => q k) (arr2 fun i (_ : Fin 1024) => rr X i) (arr2 T) acc j
      = acc j + (((∑ i, esq X T q i) * (1 / 2048) : ℝ) : EReal) := by
  rw [pay17, scaled, tot, tot_sq _ _ _ _ (p16 X T q), cast8, ofBits_inv2048, EReal.coe_mul]

theorem p18 : k0_pay18 (F := Ideal) (arr2 X) (arr2 fun (_ : Fin 1) k => q k) (arr2 fun i (_ : Fin 1024) => rr X i) (arr2 T)
    = arr2 (hd X T q) := by
  unfold k0_pay18
  rw [p16]
  funext j; idx_vars j
  pointwise [arr2, hd]
  rw [ofBits_inv1024, ← EReal.coe_mul]

theorem p19 : k0_pay19 (F := Ideal) (arr2 X) (arr2 fun (_ : Fin 1) k => q k) (arr2 fun i (_ : Fin 1) => rr X i)
      (arr2 fun i (_ : Fin 1024) => rr X i) (arr2 T)
    = arr2 (dN (hd X T q) X fun _ k => q k) := by
  unfold k0_pay19
  rw [p18, p15]
  funext j; idx_vars j
  pointwise [arr2, dN]
  simp only [← EReal.coe_mul, sum_coe, ofBits_1024]
  rw [div_real _ _ (by norm_num)]
  simp only [← EReal.coe_mul, ← EReal.coe_sub]

/-- The final gain's accumulator after a point: what it held plus the sum of the point's rows, thirty-two to each of its
    eight rows. -/
theorem p20 (acc : Vec Ideal S8x1024 .f32) (j : S8x1024.Idx) :
    k0_pay20 (F := Ideal) (arr2 X) (arr2 fun (_ : Fin 1) k => q k) (arr2 fun i (_ : Fin 1024) => rr X i) (arr2 T) acc j
      = acc j + ((∑ p : Fin 32, dGain (hd X T q) X ⟨p.val * 8 + (j 0).val, by have := (j 0).isLt; simp at this; omega⟩ (j 1) : ℝ) : EReal) := by
  unfold k0_pay20
  rw [p18, p15]
  pointwise [arr2, dGain]
  simp only [← EReal.coe_mul, sum_coe]

end Cert.HeadPay

end
-- ==== Proof.HeadFin.lean ====
/- The loss-head call's blocks: what each of its operands holds, block by block. -/
module

public import proofs.«01_k».proof.Proof.Gen.HeadIdeal.Frame
public import proofs.«01_k».proof.Proof.HeadPay
public import Idealize.ShloMosaic.Lib.Pipeline.ValueKit

@[expose] public section

set_option maxRecDepth 16384

noncomputable section

namespace Cert.HeadVal

open Idealize.ShloMosaic Idealize.ShloMosaic.TcCoe Idealize.SL.Sem
open Idealize.ShloMosaic.Pipeline (Dat)
open Cert.HeadIdeal Cert.HeadIdeal.Gen Cert.Finite Cert.BlkSpec Cert.HeadSpec Cert.HeadPay

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![0, 0] :=
  (by decide +kernel : ∀ t : Fin grid0.N, _)

theorem odx : ∀ t : Fin cfg0.N, win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0] ∧ win0_18.index t = ![0, 0] :=
  (by decide +kernel : ∀ t : Fin grid0.N, _)

theorem row_lt (t : Fin cfg0.N) (i : Fin 256) : t.val * 256 + i.val < 8192 := by
  have := t.isLt
  have h : cfg0.N = 32 := rfl
  omega

variable {X T : Fin 8192 → Fin 1024 → ℝ} {A C : Fin 8192 → Fin 384 → ℝ} {B : Fin 8192 → Fin 256 → ℝ} {Wo : Fin 1024 → Fin 1024 → ℝ}
  {g q : Fin 1024 → ℝ} {Wg Wu : Fin 1024 → Fin 2816 → ℝ} {Wd : Fin 2816 → Fin 1024 → ℝ}

/-- the rows of one point -/
abbrev cut {w : ℕ} (P : Fin 8192 → Fin w → ℝ) (t : Fin cfg0.N) : Fin 256 → Fin w → ℝ := fun i k => P ⟨t.val * 256 + i.val, row_lt t i⟩ k

/-- what the region finds in its operands -/
structure Ops (c : Dev nD) (X : Fin 8192 → Fin 1024 → ℝ) (A : Fin 8192 → Fin 384 → ℝ) (B : Fin 8192 → Fin 256 → ℝ) (C : Fin 8192 → Fin 384 → ℝ) (Wo : Fin 1024 → Fin 1024 → ℝ) (g : Fin 1024 → ℝ) (Wg : Fin 1024 → Fin 2816 → ℝ) (Wu : Fin 1024 → Fin 2816 → ℝ) (Wd : Fin 2816 → Fin 1024 → ℝ) (T : Fin 8192 → Fin 1024 → ℝ) (q : Fin 1024 → ℝ) : Prop where
  h0 : V m c (Pipeline.arrRef spec0 0) = arr2 X
  h1 : V m c (Pipeline.arrRef spec0 1) = arr2 A
  h2 : V m c (Pipeline.arrRef spec0 2) = arr2 B
  h3 : V m c (Pipeline.arrRef spec0 3) = arr2 C
  h4 : V m c (Pipeline.arrRef spec0 4) = arr2 Wo
  h5 : V m c (Pipeline.arrRef spec0 5) = arr2 (fun (_ : Fin 1) k => g k)
  h6 : V m c (Pipeline.arrRef spec0 6) = arr2 (fun f k => Wg k f)
  h7 : V m c (Pipeline.arrRef spec0 7) = arr2 (fun f k => Wu k f)
  h8 : V m c (Pipeline.arrRef spec0 8) = arr2 Wd
  h9 : V m c (Pipeline.arrRef spec0 9) = arr2 T
  h10 : V m c (Pipeline.arrRef spec0 10) = arr2 (fun (_ : Fin 1) k => q k)

variable {m} {c : Dev nD}

theorem b0 (o : Ops m c X A B C Wo g Wg Wu Wd T q) (t : Fin cfg0.N) : iblk m c 0 t = arr2 (cut X t) := by
  funext y
  rw [iblk, o.h0]
  idx_vars y
  show arr2 X _ = arr2 X (ix2 ⟨t.val * 256 + y0.val, row_lt t y0⟩ y1)
  blk_ext [idx t]

theorem b1 (o : Ops m c X A B C Wo g Wg Wu Wd T q) (t : Fin cfg0.N) : iblk m c 1 t = arr2 (cut A t) := by
  funext y
  rw [iblk, o.h1]
  idx_vars y
  show arr2 A _ = arr2 A (ix2 ⟨t.val * 256 + y0.val, row_lt t y0⟩ y1)
  blk_ext [idx t]

theorem b2 (o : Ops m c X A B C Wo g Wg Wu Wd T q) (t : Fin cfg0.N) : iblk m c 2 t = arr2 (cut B t) := by
  funext y
  rw [iblk, o.h2]
  idx_vars y
  show arr2 B _ = arr2 B (ix2 ⟨t.val * 256 + y0.val, row_lt t y0⟩ y1)
  blk_ext [idx t]

theorem b3 (o : Ops m c X A B C Wo g Wg Wu Wd T q) (t : Fin cfg0.N) : iblk m c 3 t = arr2 (cut C t) := by
  funext y
  rw [iblk, o.h3]
  idx_vars y
  show arr2 C _ = arr2 C (ix2 ⟨t.val * 256 + y0.val, row_lt t y0⟩ y1)
  blk_ext [idx t]

theorem b4 (o : Ops m c X A B C Wo g Wg Wu Wd T q) (t : Fin cfg0.N) : iblk m c 4 t = arr2 Wo := by
  funext y
  rw [iblk, o.h4]
  idx_vars y
  show arr2 Wo _ = arr2 Wo (ix2 y0 y1)
  blk_ext [idx t]

theorem b5 (o : Ops m c X A B C Wo g Wg Wu Wd T q) (t : Fin cfg0.N) : iblk m c 5 t = arr2 (fun (_ : Fin 1) k => g k) := by
  funext y
  rw [iblk, o.h5]
  idx_vars y
  show arr2 (fun (_ : Fin 1) k => g k) _ = arr2 (fun (_ : Fin 1) k => g k) (ix2 y0 y1)
  blk_ext [idx t]

theorem b6 (o : Ops m c X A B C Wo g Wg Wu Wd T q) (t : Fin cfg0.N) : iblk m c 6 t = arr2 (fun f k => Wg k f) := by
  funext y
  rw [iblk, o.h6]
  idx_vars y
  show arr2 (fun f k => Wg k f) _ = arr2 (fun f k => Wg k f) (ix2 y0 y1)
  blk_ext [idx t]

theorem b7 (o : Ops m c X A B C Wo g Wg Wu Wd T q) (t : Fin cfg0.N) : iblk m c 7 t = arr2 (fun f k => Wu k f) := by
  funext y
  rw [iblk, o.h7]
  idx_vars y
  show arr2 (fun f k => Wu k f) _ = arr2 (fun f k => Wu k f) (ix2 y0 y1)
  blk_ext [idx t]

theorem b8 (o : Ops m c X A B C Wo g Wg Wu Wd T q) (t : Fin cfg0.N) : iblk m c 8 t = arr2 Wd := by
  funext y
  rw [iblk, o.h8]
  idx_vars y
  show arr2 Wd _ = arr2 Wd (ix2 y0 y1)
  blk_ext [idx t]

theorem b9 (o : Ops m c X A B C Wo g Wg Wu Wd T q) (t : Fin cfg0.N) : iblk m c 9 t = arr2 (cut T t) := by
  funext y
  rw [iblk, o.h9]
  idx_vars y
  show arr2 T _ = arr2 T (ix2 ⟨t.val * 256 + y0.val, row_lt t y0⟩ y1)
  blk_ext [idx t]

theorem b10 (o : Ops m c X A B C Wo g Wg Wu Wd T q) (t : Fin cfg0.N) : iblk m c 10 t = arr2 (fun (_ : Fin 1) k => q k) := by
  funext y
  rw [iblk, o.h10]
  idx_vars y
  show arr2 (fun (_ : Fin 1) k => q k) _ = arr2 (fun (_ : Fin 1) k => q k) (ix2 y0 y1)
  blk_ext [idx t]

theorem e11 (P : Fin 8192 → Fin 1024 → ℝ) (t : Fin cfg0.N) (y : ((cfg0.win 11).xblock (cfg0.grid.coords t)).Idx) :
    arr2 (cut P t) y = arr2 P (((cfg0.win 11).blk t).view.emb y) := by
  show arr2 P (ix2 ⟨t.val * 256 + (y 0).val, row_lt t (y 0)⟩ (y 1)) = arr2 P _
  blk_ext [odx t]

theorem e12 (P : Fin 8192 → Fin 1024 → ℝ) (t : Fin cfg0.N) (y : ((cfg0.win 12).xblock (cfg0.grid.coords t)).Idx) :
    arr2 (cut P t) y = arr2 P (((cfg0.win 12).blk t).view.emb y) := by
  show arr2 P (ix2 ⟨t.val * 256 + (y 0).val, row_lt t (y 0)⟩ (y 1)) = arr2 P _
  blk_ext [odx t]

theorem e13 (P : Fin 8192 → Fin 1024 → ℝ) (t : Fin cfg0.N) (y : ((cfg0.win 13).xblock (cfg0.grid.coords t)).Idx) :
    arr2 (cut P t) y = arr2 P (((cfg0.win 13).blk t).view.emb y) := by
  show arr2 P (ix2 ⟨t.val * 256 + (y 0).val, row_lt t (y 0)⟩ (y 1)) = arr2 P _
  blk_ext [odx t]

theorem e14 (P : Fin 8192 → Fin 2816 → ℝ) (t : Fin cfg0.N) (y : ((cfg0.win 14).xblock (cfg0.grid.coords t)).Idx) :
    arr2 (cut P t) y = arr2 P (((cfg0.win 14).blk t).view.emb y) := by
  show arr2 P (ix2 ⟨t.val * 256 + (y 0).val, row_lt t (y 0)⟩ (y 1)) = arr2 P _
  blk_ext [odx t]

theorem e15 (P : Fin 8192 → Fin 2816 → ℝ) (t : Fin cfg0.N) (y : ((cfg0.win 15).xblock (cfg0.grid.coords t)).Idx) :
    arr2 (cut P t) y = arr2 P (((cfg0.win 15).blk t).view.emb y) := by
  show arr2 P (ix2 ⟨t.val * 256 + (y 0).val, row_lt t (y 0)⟩ (y 1)) = arr2 P _
  blk_ext [odx t]

theorem e16 (P : Fin 8192 → Fin 1024 → ℝ) (t : Fin cfg0.N) (y : ((cfg0.win 16).xblock (cfg0.grid.coords t)).Idx) :
    arr2 (cut P t) y = arr2 P (((cfg0.win 16).blk t).view.emb y) := by
  show arr2 P (ix2 ⟨t.val * 256 + (y 0).val, row_lt t (y 0)⟩ (y 1)) = arr2 P _
  blk_ext [odx t]

end Cert.HeadVal

end
-- ==== Proof.HeadOut.lean ====
/- The loss-head call's arrays of rows. -/
module

public import proofs.«01_k».proof.Proof.HeadFin

@[expose] public section

set_option maxRecDepth 16384

noncomputable section

namespace Cert.HeadVal

open Idealize.ShloMosaic Idealize.ShloMosaic.TcCoe Idealize.SL.Sem
open Idealize.ShloMosaic.Pipeline (Dat)
open Cert.HeadIdeal Cert.HeadIdeal.Gen Cert.Finite Cert.BlkSpec Cert.HeadSpec Cert.HeadPay

variable {m : (ℓ : Loc nD τ sig) → Buf (Elt Ideal) ℓ} {c : Dev nD}

variable {X T : Fin 8192 → Fin 1024 → ℝ} {A C : Fin 8192 → Fin 384 → ℝ} {B : Fin 8192 → Fin 256 → ℝ} {Wo : Fin 1024 → Fin 1024 → ℝ}
  {g q : Fin 1024 → ℝ} {Wg Wu : Fin 1024 → Fin 2816 → ℝ} {Wd : Fin 2816 → Fin 1024 → ℝ}

theorem f11 (o : Ops m c X A B C Wo g Wg Wu Wd T q) : (dats m 0 c).arrAt 11 (cfgs 0).N = arr2 (xr X A B C Wo) := by
  refine (dats m 0 c).arrAt_eq_of_covers 11 _ (by decide +kernel) fun t _ y => ?_
  rw [← e11]
  by_cases h : t.val % 32 = 0
  · blk_simp
    rw [after0_11, outsAt0_A m c t h]
    frame_out
    rw [b0 o, b1 o, b2 o, b3 o, b4 o, p2]
    rfl
  · blk_simp
    rw [after0_11, outsAt0_B m c t h]
    frame_out
    rw [b0 o, b1 o, b2 o, b3 o, b4 o, p2]
    rfl

theorem f12 (o : Ops m c X A B C Wo g Wg Wu Wd T q) : (dats m 0 c).arrAt 12 (cfgs 0).N = arr2 (dN (hd (x2 (xr X A B C Wo) (act (pr (hr (xr X A B C Wo) g) Wg) (pr (hr (xr X A B C Wo) g) Wu)) Wd) T q) (x2 (xr X A B C Wo) (act (pr (hr (xr X A B C Wo) g) Wg) (pr (hr (xr X A B C Wo) g) Wu)) Wd) fun _ k => q k) := by
  refine (dats m 0 c).arrAt_eq_of_covers 12 _ (by decide +kernel) fun t _ y => ?_
  rw [← e12]
  by_cases h : t.val % 32 = 0
  · blk_simp
    rw [after0_12, outsAt0_A m c t h]
    frame_out
    rw [b0 o, b1 o, b2 o, b3 o, b4 o, b5 o, b6 o, b7 o, b8 o, b9 o, b10 o, p2, p3, p4, p9, p12, p13, p14, p19]
    rfl
  · blk_simp
    rw [after0_12, outsAt0_B m c t h]
    frame_out
    rw [b0 o, b1 o, b2 o, b3 o, b4 o, b5 o, b6 o, b7 o, b8 o, b9 o, b10 o, p2, p3, p4, p9, p12, p13, p14, p19]
    rfl

theorem f13 (o : Ops m c X A B C Wo g Wg Wu Wd T q) : (dats m 0 c).arrAt 13 (cfgs 0).N = arr2 (hr (xr X A B C Wo) g) := by
  refine (dats m 0 c).arrAt_eq_of_covers 13 _ (by decide +kernel) fun t _ y => ?_
  rw [← e13]
  by_cases h : t.val % 32 = 0
  · blk_simp
    rw [after0_13, outsAt0_A m c t h]
    frame_out
    rw [b0 o, b1 o, b2 o, b3 o, b4 o, b5 o, p3]
    rfl
  · blk_simp
    rw [after0_13, outsAt0_B m c t h]
    frame_out
    rw [b0 o, b1 o, b2 o, b3 o, b4 o, b5 o, p3]
    rfl

theorem f14 (o : Ops m c X A B C Wo g Wg Wu Wd T q) : (dats m 0 c).arrAt 14 (cfgs 0).N = arr2 (pr (hr (xr X A B C Wo) g) Wg) := by
  refine (dats m 0 c).arrAt_eq_of_covers 14 _ (by decide +kernel) fun t _ y => ?_
  rw [← e14]
  by_cases h : t.val % 32 = 0
  · blk_simp
    rw [after0_14, outsAt0_A m c t h]
    frame_out
    rw [b0 o, b1 o, b2 o, b3 o, b4 o, b5 o, b6 o, p3, p4, p7]
    rfl
  · blk_simp
    rw [after0_14, outsAt0_B m c t h]
    frame_out
    rw [b0 o, b1 o, b2 o, b3 o, b4 o, b5 o, b6 o, p3, p4, p7]
    rfl

theorem f15 (o : Ops m c X A B C Wo g Wg Wu Wd T q) : (dats m 0 c).arrAt 15 (cfgs 0).N = arr2 (pr (hr (xr X A B C Wo) g) Wu) := by
  refine (dats m 0 c).arrAt_eq_of_covers 15 _ (by decide +kernel) fun t _ y => ?_
  rw [← e15]
  by_cases h : t.val % 32 = 0
  · blk_simp
    rw [after0_15, outsAt0_A m c t h]
    frame_out
    rw [b0 o, b1 o, b2 o, b3 o, b4 o, b5 o, b7 o, p3, p8]
    rfl
  · blk_simp
    rw [after0_15, outsAt0_B m c t h]
    frame_out
    rw [b0 o, b1 o, b2 o, b3 o, b4 o, b5 o, b7 o, p3, p8]
    rfl

theorem f16 (o : Ops m c X A B C Wo g Wg Wu Wd T q) : (dats m 0 c).arrAt 16 (cfgs 0).N = arr2 (cat A B C) := by
  refine (dats m 0 c).arrAt_eq_of_covers 16 _ (by decide +kernel) fun t _ y => ?_
  rw [← e16]
  by_cases h : t.val % 32 = 0
  · blk_simp
    rw [after0_16, outsAt0_A m c t h]
    frame_out
    rw [b1 o, b2 o, b3 o, p1]
    rfl
  · blk_simp
    rw [after0_16, outsAt0_B m c t h]
    frame_out
    rw [b1 o, b2 o, b3 o, p1]
    rfl

end Cert.HeadVal

end
-- ==== Proof.HeadAcc.lean ====
/- The loss-head call's two accumulators: the loss and the gradient of the final gain. -/
module

public import proofs.«01_k».proof.Proof.HeadFin

@[expose] public section

set_option maxRecDepth 16384

noncomputable section

namespace Cert.HeadVal

open Idealize.ShloMosaic Idealize.ShloMosaic.TcCoe Idealize.SL.Sem
open Idealize.ShloMosaic.Pipeline (Dat)
open Cert.HeadIdeal Cert.HeadIdeal.Gen Cert.Finite Cert.BlkSpec Cert.HeadSpec Cert.HeadPay

variable {m : (ℓ : Loc nD τ sig) → Buf (Elt Ideal) ℓ} {c : Dev nD}

variable {X T : Fin 8192 → Fin 1024 → ℝ} {A C : Fin 8192 → Fin 384 → ℝ} {B : Fin 8192 → Fin 256 → ℝ} {Wo : Fin 1024 → Fin 1024 → ℝ}
  {g q : Fin 1024 → ℝ} {Wg Wu : Fin 1024 → Fin 2816 → ℝ} {Wd : Fin 2816 → Fin 1024 → ℝ}

theorem acc_lt (t : Fin cfg0.N) (p : Fin 32) (r : Fin 8) : t.val * 256 + (p.val * 8 + r.val) < 8192 := by
  have := t.isLt
  have h : cfg0.N = 32 := rfl
  omega

/-- what a point adds to the loss -/
abbrev lpart (Y T : Fin 8192 → Fin 1024 → ℝ) (q : Fin 1024 → ℝ) (t : Fin cfg0.N) (j : S8x128.Idx) : EReal :=
  (((∑ i : Fin 256, esq Y T q ⟨t.val * 256 + i.val, row_lt t i⟩) * (1 / 2048) : ℝ) : EReal)

/-- what a point adds to the final gain's accumulator -/
abbrev gpart (H Y : Fin 8192 → Fin 1024 → ℝ) (t : Fin cfg0.N) (j : S8x1024.Idx) : EReal :=
  ((∑ p : Fin 32, dGain H Y ⟨t.val * 256 + (p.val * 8 + (j 0).val), acc_lt t p (j 0)⟩ (j 1) : ℝ) : EReal)

theorem e17 (P : Fin 8 → Fin 128 → ℝ) (t : Fin cfg0.N) (y : ((cfg0.win 17).xblock (cfg0.grid.coords t)).Idx) :
    arr2 P (((cfg0.win 17).blk t).view.emb y) = (P (y 0) (y 1) : EReal) := by
  show arr2 P _ = arr2 P (ix2 (y 0) (y 1))
  blk_ext [odx t]

theorem e18 (P : Fin 8 → Fin 1024 → ℝ) (t : Fin cfg0.N) (y : ((cfg0.win 18).xblock (cfg0.grid.coords t)).Idx) :
    arr2 P (((cfg0.win 18).blk t).view.emb y) = (P (y 0) (y 1) : EReal) := by
  show arr2 P _ = arr2 P (ix2 (y 0) (y 1))
  blk_ext [odx t]

theorem lpart_eq (Y T : Fin 8192 → Fin 1024 → ℝ) (q : Fin 1024 → ℝ) (t : Fin cfg0.N) (s : Fin 32) (h : 32 * (t.val / 32) + s.val < cfg0.N) (j : S8x128.Idx) :
    lpart Y T q ⟨32 * (t.val / 32) + s.val, h⟩ j
      = (((∑ i : Fin 256, esq Y T q ⟨s.val * 256 + i.val, by omega⟩) * (1 / 2048) : ℝ) : EReal) := by
  have e : t.val / 32 = 0 := Nat.div_eq_of_lt t.isLt
  simp only [lpart, e, Nat.mul_zero, Nat.zero_add]

theorem gpart_eq (H Y : Fin 8192 → Fin 1024 → ℝ) (t : Fin cfg0.N) (s : Fin 32) (h : 32 * (t.val / 32) + s.val < cfg0.N) (j : S8x1024.Idx) :
    gpart H Y ⟨32 * (t.val / 32) + s.val, h⟩ j
      = ((∑ p : Fin 32, dGain H Y ⟨s.val * 256 + (p.val * 8 + (j 0).val), by have := (j 0).isLt; simp at this; omega⟩ (j 1) : ℝ) : EReal) := by
  have e : t.val / 32 = 0 := Nat.div_eq_of_lt t.isLt
  simp only [gpart, e, Nat.mul_zero, Nat.zero_add]

theorem p17cut (acc : Vec Ideal S8x128 .f32) (t : Fin cfg0.N) (j : S8x128.Idx) :
    k0_pay17 (F := Ideal) (arr2 (x2 (xr (cut X t) (cut A t) (cut B t) (cut C t) Wo) (act (pr (hr (xr (cut X t) (cut A t) (cut B t) (cut C t) Wo) g) Wg) (pr (hr (xr (cut X t) (cut A t) (cut B t) (cut C t) Wo) g) Wu)) Wd)) (arr2 fun (_ : Fin 1) k => q k) (arr2 fun i (_ : Fin 1024) => rr (x2 (xr (cut X t) (cut A t) (cut B t) (cut C t) Wo) (act (pr (hr (xr (cut X t) (cut A t) (cut B t) (cut C t) Wo) g) Wg) (pr (hr (xr (cut X t) (cut A t) (cut B t) (cut C t) Wo) g) Wu)) Wd) i) (arr2 (cut T t)) acc j
      = acc j + lpart (x2 (xr X A B C Wo) (act (pr (hr (xr X A B C Wo) g) Wg) (pr (hr (xr X A B C Wo) g) Wu)) Wd) T q t j := p17 _ _ _ acc j

theorem p20cut (acc : Vec Ideal S8x1024 .f32) (t : Fin cfg0.N) (j : S8x1024.Idx) :
    k0_pay20 (F := Ideal) (arr2 (x2 (xr (cut X t) (cut A t) (cut B t) (cut C t) Wo) (act (pr (hr (xr (cut X t) (cut A t) (cut B t) (cut C t) Wo) g) Wg) (pr (hr (xr (cut X t) (cut A t) (cut B t) (cut C t) Wo) g) Wu)) Wd)) (arr2 fun (_ : Fin 1) k => q k) (arr2 fun i (_ : Fin 1024) => rr (x2 (xr (cut X t) (cut A t) (cut B t) (cut C t) Wo) (act (pr (hr (xr (cut X t) (cut A t) (cut B t) (cut C t) Wo) g) Wg) (pr (hr (xr (cut X t) (cut A t) (cut B t) (cut C t) Wo) g) Wu)) Wd) i) (arr2 (cut T t)) acc j
      = acc j + gpart (hd (x2 (xr X A B C Wo) (act (pr (hr (xr X A B C Wo) g) Wg) (pr (hr (xr X A B C Wo) g) Wu)) Wd) T q) (x2 (xr X A B C Wo) (act (pr (hr (xr X A B C Wo) g) Wg) (pr (hr (xr X A B C Wo) g) Wu)) Wd) t j := p20 _ _ _ acc j

set_option maxHeartbeats 1600000 in
theorem f17 (o : Ops m c X A B C Wo g Wg Wu Wd T q) : (dats m 0 c).arrAt 17 (cfgs 0).N
    = arr2 fun (_ : Fin 8) (_ : Fin 128) => ∑ t : Fin 32, (∑ i : Fin 256, esq (x2 (xr X A B C Wo) (act (pr (hr (xr X A B C Wo) g) Wg) (pr (hr (xr X A B C Wo) g) Wu)) Wd) T q ⟨t.val * 256 + i.val, by omega⟩) * (1 / 2048) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.1) 32 (fun _ => 0)
    (lpart (x2 (xr X A B C Wo) (act (pr (hr (xr X A B C Wo) g) Wg) (pr (hr (xr X A B C Wo) g) Wu)) Wd) T q)
    (fun t h j => by
      rw [outsAt0_A m c t h]; frame_out
      rw [b0 o, b1 o, b2 o, b3 o, b4 o, b5 o, b6 o, b7 o, b8 o, b9 o, b10 o, p2, p3, p4, p9, p12, p14, p17cut, p10])
    (fun t h j => by
      rw [outsAt0_B m c t h]; frame_out
      rw [b0 o, b1 o, b2 o, b3 o, b4 o, b5 o, b6 o, b7 o, b8 o, b9 o, b10 o, p2, p3, p4, p9, p12, p14, p17cut])
    t ((flush0_17 t).mp hf) _, zero_add]
  refine Eq.trans ?_ (e17 _ t y).symm
  exact (Finset.sum_congr rfl fun s _ => lpart_eq (x2 (xr X A B C Wo) (act (pr (hr (xr X A B C Wo) g) Wg) (pr (hr (xr X A B C Wo) g) Wu)) Wd) T q t s _ y).trans (sum_coe _)

set_option maxHeartbeats 1600000 in
theorem f18 (o : Ops m c X A B C Wo g Wg Wu Wd T q) : (dats m 0 c).arrAt 18 (cfgs 0).N
    = arr2 fun (r : Fin 8) k => ∑ t : Fin 32, ∑ p : Fin 32, dGain (hd (x2 (xr X A B C Wo) (act (pr (hr (xr X A B C Wo) g) Wg) (pr (hr (xr X A B C Wo) g) Wu)) Wd) T q) (x2 (xr X A B C Wo) (act (pr (hr (xr X A B C Wo) g) Wg) (pr (hr (xr X A B C Wo) g) Wu)) Wd) ⟨t.val * 256 + (p.val * 8 + r.val), by omega⟩ k := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.2.2) 32 (fun _ => 0)
    (gpart (hd (x2 (xr X A B C Wo) (act (pr (hr (xr X A B C Wo) g) Wg) (pr (hr (xr X A B C Wo) g) Wu)) Wd) T q) (x2 (xr X A B C Wo) (act (pr (hr (xr X A B C Wo) g) Wg) (pr (hr (xr X A B C Wo) g) Wu)) Wd))
    (fun t h j => by
      rw [outsAt0_A m c t h]; frame_out
      rw [b0 o, b1 o, b2 o, b3 o, b4 o, b5 o, b6 o, b7 o, b8 o, b9 o, b10 o, p2, p3, p4, p9, p12, p14, p20cut, p11])
    (fun t h j => by
      rw [outsAt0_B m c t h]; frame_out
      rw [b0 o, b1 o, b2 o, b3 o, b4 o, b5 o, b6 o, b7 o, b8 o, b9 o, b10 o, p2, p3, p4, p9, p12, p14, p20cut])
    t ((flush0_18 t).mp hf) _, zero_add]
  refine Eq.trans ?_ (e18 _ t y).symm
  exact (Finset.sum_congr rfl fun s _ => gpart_eq (hd (x2 (xr X A B C Wo) (act (pr (hr (xr X A B C Wo) g) Wg) (pr (hr (xr X A B C Wo) g) Wu)) Wd) T q) (x2 (xr X A B C Wo) (act (pr (hr (xr X A B C Wo) g) Wg) (pr (hr (xr X A B C Wo) g) Wu)) Wd) t s _ y).trans (sum_coe _)

end Cert.HeadVal

end
-- ==== Proof.HeadHost.lean ====
/- The host lines before the loss-head call: what each of its operands holds when the arguments are finite. -/
module

public import proofs.«01_k».proof.Proof.HeadFin
public import Idealize.ShloMosaic.Lib.Claim

@[expose] public section

set_option maxRecDepth 16384

noncomputable section

namespace Cert.HeadVal

open Idealize.ShloMosaic Idealize.ShloMosaic.TcCoe Idealize.SL.Sem
open Idealize.ShloMosaic.Pipeline (Dat)
open Cert.HeadIdeal Cert.HeadIdeal.Gen Cert.Finite Cert.BlkSpec Cert.HeadSpec

variable (m : (ℓ : Loc nD τ sig) → Buf (Elt Ideal) ℓ) (c : Dev nD)

/-- the eleven arguments as arrays of reals -/
structure Args (X : Fin 8192 → Fin 1024 → ℝ) (A : Fin 8192 → Fin 384 → ℝ) (B : Fin 8192 → Fin 256 → ℝ) (C : Fin 8192 → Fin 384 → ℝ) (Wo : Fin 1024 → Fin 1024 → ℝ) (g : Fin 1024 → ℝ) (Wg : Fin 1024 → Fin 2816 → ℝ) (Wu : Fin 1024 → Fin 2816 → ℝ) (Wd : Fin 2816 → Fin 1024 → ℝ) (T : Fin 8192 → Fin 1024 → ℝ) (q : Fin 1024 → ℝ) : Prop where
  a0 : m ((c : Thread nD τ).loc main_arg0) = arr2 X
  a1 : m ((c : Thread nD τ).loc main_arg1) = arr2 A
  a2 : m ((c : Thread nD τ).loc main_arg2) = arr2 B
  a3 : m ((c : Thread nD τ).loc main_arg3) = arr2 C
  a4 : m ((c : Thread nD τ).loc main_arg4) = arr2 Wo
  a5 : m ((c : Thread nD τ).loc main_arg5) = arr1 g
  a6 : m ((c : Thread nD τ).loc main_arg6) = arr2 Wg
  a7 : m ((c : Thread nD τ).loc main_arg7) = arr2 Wu
  a8 : m ((c : Thread nD τ).loc main_arg8) = arr2 Wd
  a9 : m ((c : Thread nD τ).loc main_arg9) = arr2 T
  a10 : m ((c : Thread nD τ).loc main_arg10) = arr1 q

variable {m c} {X T : Fin 8192 → Fin 1024 → ℝ} {A C : Fin 8192 → Fin 384 → ℝ} {B : Fin 8192 → Fin 256 → ℝ} {Wo : Fin 1024 → Fin 1024 → ℝ}
  {g q : Fin 1024 → ℝ} {Wg Wu : Fin 1024 → Fin 2816 → ℝ} {Wd : Fin 2816 → Fin 1024 → ℝ}

theorem ops (a : Args m c X A B C Wo g Wg Wu Wd T q) : Ops m c X A B C Wo g Wg Wu Wd T q where
  h0 := (V_main_arg0 m c).trans a.a0
  h1 := by
    have h : (V m c main_v7 : FVec Ideal S8192x384 .bf16) = truncf (F := Ideal) .bf16 (show FVec Ideal S8192x384 .f32 from m ((c : Thread nD τ).loc main_arg1)) bitsLt_bf16_f32 := by
      entry_read
      rfl
    refine h.trans ?_
    rw [a.a1]
    funext j; idx_vars j
    pointwise [arr2]
  h2 := by
    have h : (V m c main_v8 : FVec Ideal S8192x256 .bf16) = truncf (F := Ideal) .bf16 (show FVec Ideal S8192x256 .f32 from m ((c : Thread nD τ).loc main_arg2)) bitsLt_bf16_f32 := by
      entry_read
      rfl
    refine h.trans ?_
    rw [a.a2]
    funext j; idx_vars j
    pointwise [arr2]
  h3 := by
    have h : (V m c main_v9 : FVec Ideal S8192x384 .bf16) = truncf (F := Ideal) .bf16 (show FVec Ideal S8192x384 .f32 from m ((c : Thread nD τ).loc main_arg3)) bitsLt_bf16_f32 := by
      entry_read
      rfl
    refine h.trans ?_
    rw [a.a3]
    funext j; idx_vars j
    pointwise [arr2]
  h4 := by
    have h : (V m c main_v5 : FVec Ideal S1024x1024 .bf16) = truncf (F := Ideal) .bf16 (show FVec Ideal S1024x1024 .f32 from m ((c : Thread nD τ).loc main_arg4)) bitsLt_bf16_f32 := by
      entry_read
      rfl
    refine h.trans ?_
    rw [a.a4]
    funext j; idx_vars j
    pointwise [arr2]
  h5 := by
    have h : (V m c main_v6 : FVec Ideal S1x1024 .f32) = shapeCast S1x1024 (show FVec Ideal S1024 .f32 from m ((c : Thread nD τ).loc main_arg5)) shapeCasts_S1024_S1x1024 := by
      entry_read
      rfl
    refine h.trans ?_
    rw [a.a5]
    funext j; idx_vars j
    pointwise [arr2, arr1]
  h6 := by
    have h : (V m c main_v2 : FVec Ideal S2816x1024 .bf16) = truncf (F := Ideal) .bf16 (show FVec Ideal S2816x1024 .f32 from transpose S2816x1024 [1, 0] (show FVec Ideal S1024x2816 .f32 from m ((c : Thread nD τ).loc main_arg6)) transposes_S1024x2816_S2816x1024_1_0) bitsLt_bf16_f32 := by
      entry_read
      rfl
    refine h.trans ?_
    rw [a.a6]
    funext j; idx_vars j
    pointwise [arr2]
  h7 := by
    have h : (V m c main_v4 : FVec Ideal S2816x1024 .bf16) = truncf (F := Ideal) .bf16 (show FVec Ideal S2816x1024 .f32 from transpose S2816x1024 [1, 0] (show FVec Ideal S1024x2816 .f32 from m ((c : Thread nD τ).loc main_arg7)) transposes_S1024x2816_S2816x1024_1_0) bitsLt_bf16_f32 := by
      entry_read
      rfl
    refine h.trans ?_
    rw [a.a7]
    funext j; idx_vars j
    pointwise [arr2]
  h8 := by
    have h : (V m c main_v0 : FVec Ideal S2816x1024 .bf16) = truncf (F := Ideal) .bf16 (show FVec Ideal S2816x1024 .f32 from m ((c : Thread nD τ).loc main_arg8)) bitsLt_bf16_f32 := by
      entry_read
      rfl
    refine h.trans ?_
    rw [a.a8]
    funext j; idx_vars j
    pointwise [arr2]
  h9 := (V_main_arg9 m c).trans a.a9
  h10 := by
    have h : (V m c main_v10 : FVec Ideal S1x1024 .f32) = shapeCast S1x1024 (show FVec Ideal S1024 .f32 from m ((c : Thread nD τ).loc main_arg10)) shapeCasts_S1024_S1x1024 := by
      entry_read
      rfl
    refine h.trans ?_
    rw [a.a10]
    funext j; idx_vars j
    pointwise [arr2, arr1]

end Cert.HeadVal

end
-- ==== Proof.HeadEq.lean ====
/- The loss head's reference against the call's arrays, and its value claim. -/
module

public import proofs.«01_k».proof.Defs
public import proofs.«01_k».proof.Proof.Gen.HeadRefIdeal.Run
public import proofs.«01_k».proof.Proof.Gen.HeadRefIdeal.Read
public import proofs.«01_k».proof.Proof.HeadRef
public import proofs.«01_k».proof.Proof.HeadOut
public import proofs.«01_k».proof.Proof.HeadAcc
public import proofs.«01_k».proof.Proof.HeadHost
public import Idealize.ShloMosaic.Lib.Claim

@[expose] public section

set_option maxRecDepth 16384

noncomputable section

namespace Cert.HeadVal

open Idealize.ShloMosaic Idealize.ShloMosaic.TcCoe Idealize.SL.Sem
open Idealize.ShloMosaic.Pipeline (Dat)
open Cert.HeadIdeal Cert.HeadIdeal.Gen Cert.Finite Cert.BlkSpec Cert.HeadSpec

variable {m : (ℓ : Loc nD τ sig) → Buf (Elt Ideal) ℓ}
  {m' : (ℓ : Loc Cert.HeadRefIdeal.nD Cert.HeadRefIdeal.τ Cert.HeadRefIdeal.sig) → Buf (Elt Ideal) ℓ} {c : Dev nD}
variable {X T : Fin 8192 → Fin 1024 → ℝ} {A C : Fin 8192 → Fin 384 → ℝ} {B : Fin 8192 → Fin 256 → ℝ} {Wo : Fin 1024 → Fin 1024 → ℝ}
  {g q : Fin 1024 → ℝ} {Wg Wu : Fin 1024 → Fin 2816 → ℝ} {Wd : Fin 2816 → Fin 1024 → ℝ}

/-- the reference's eleven arguments as arrays of reals -/
structure RArgs (m' : (ℓ : Loc Cert.HeadRefIdeal.nD Cert.HeadRefIdeal.τ Cert.HeadRefIdeal.sig) → Buf (Elt Ideal) ℓ) (c : Dev nD) (X : Fin 8192 → Fin 1024 → ℝ) (A : Fin 8192 → Fin 384 → ℝ) (B : Fin 8192 → Fin 256 → ℝ) (C : Fin 8192 → Fin 384 → ℝ) (Wo : Fin 1024 → Fin 1024 → ℝ) (g : Fin 1024 → ℝ) (Wg : Fin 1024 → Fin 2816 → ℝ) (Wu : Fin 1024 → Fin 2816 → ℝ) (Wd : Fin 2816 → Fin 1024 → ℝ) (T : Fin 8192 → Fin 1024 → ℝ) (q : Fin 1024 → ℝ) : Prop where
  a0 : StableHlo.launchContents m' c (Proc.devRef .tc Cert.HeadRefIdeal.main_arg0) = arr2 X
  a1 : StableHlo.launchContents m' c (Proc.devRef .tc Cert.HeadRefIdeal.main_arg1) = arr2 A
  a2 : StableHlo.launchContents m' c (Proc.devRef .tc Cert.HeadRefIdeal.main_arg2) = arr2 B
  a3 : StableHlo.launchContents m' c (Proc.devRef .tc Cert.HeadRefIdeal.main_arg3) = arr2 C
  a4 : StableHlo.launchContents m' c (Proc.devRef .tc Cert.HeadRefIdeal.main_arg4) = arr2 Wo
  a5 : StableHlo.launchContents m' c (Proc.devRef .tc Cert.HeadRefIdeal.main_arg5) = arr1 g
  a6 : StableHlo.launchContents m' c (Proc.devRef .tc Cert.HeadRefIdeal.main_arg6) = arr2 Wg
  a7 : StableHlo.launchContents m' c (Proc.devRef .tc Cert.HeadRefIdeal.main_arg7) = arr2 Wu
  a8 : StableHlo.launchContents m' c (Proc.devRef .tc Cert.HeadRefIdeal.main_arg8) = arr2 Wd
  a9 : StableHlo.launchContents m' c (Proc.devRef .tc Cert.HeadRefIdeal.main_arg9) = arr2 T
  a10 : StableHlo.launchContents m' c (Proc.devRef .tc Cert.HeadRefIdeal.main_arg10) = arr1 q

theorem s2 (a : Args m c X A B C Wo g Wg Wu Wd T q) (r : RArgs m' c X A B C Wo g Wg Wu Wd T q) :
    Cert.HeadRefIdeal.Read.val_main_v2 (F := Ideal) (StableHlo.launchContents m' c (Proc.devRef .tc Cert.HeadRefIdeal.main_arg0)) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) (StableHlo.launchContents m' c (Proc.devRef .tc Cert.HeadRefIdeal.main_arg4)) = (dats m 0 c).arrAt 11 (cfgs 0).N := by
  rw [r.a0, r.a1, r.a2, r.a3, r.a4, HeadRef.r2]
  exact (f11 (ops a)).symm

theorem s76 (a : Args m c X A B C Wo g Wg Wu Wd T q) (r : RArgs m' c X A B C Wo g Wg Wu Wd T q) :
    Cert.HeadRefIdeal.Read.val_main_v76 (F := Ideal) (StableHlo.launchContents m' c (Proc.devRef .tc Cert.HeadRefIdeal.main_arg0)) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) (StableHlo.launchContents m' c (Proc.devRef .tc Cert.HeadRefIdeal.main_arg4)) (StableHlo.launchContents m' c (Proc.devRef .tc Cert.HeadRefIdeal.main_arg5)) (StableHlo.launchContents m' c (Proc.devRef .tc Cert.HeadRefIdeal.main_arg6)) (StableHlo.launchContents m' c (Proc.devRef .tc Cert.HeadRefIdeal.main_arg7)) (StableHlo.launchContents m' c (Proc.devRef .tc Cert.HeadRefIdeal.main_arg8)) (StableHlo.launchContents m' c (Proc.devRef .tc Cert.HeadRefIdeal.main_arg9)) (StableHlo.launchContents m' c (Proc.devRef .tc Cert.HeadRefIdeal.main_arg10)) = (dats m 0 c).arrAt 12 (cfgs 0).N := by
  rw [r.a0, r.a1, r.a2, r.a3, r.a4, r.a5, r.a6, r.a7, r.a8, r.a9, r.a10, HeadRef.r76]
  exact (f12 (ops a)).symm

theorem s22 (a : Args m c X A B C Wo g Wg Wu Wd T q) (r : RArgs m' c X A B C Wo g Wg Wu Wd T q) :
    Cert.HeadRefIdeal.Read.val_main_v22 (F := Ideal) (StableHlo.launchContents m' c (Proc.devRef .tc Cert.HeadRefIdeal.main_arg0)) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) (StableHlo.launchContents m' c (Proc.devRef .tc Cert.HeadRefIdeal.main_arg4)) (StableHlo.launchContents m' c (Proc.devRef .tc Cert.HeadRefIdeal.main_arg5)) = (dats m 0 c).arrAt 13 (cfgs 0).N := by
  rw [r.a0, r.a1, r.a2, r.a3, r.a4, r.a5, HeadRef.r22]
  exact (f13 (ops a)).symm

theorem s23 (a : Args m c X A B C Wo g Wg Wu Wd T q) (r : RArgs m' c X A B C Wo g Wg Wu Wd T q) :
    Cert.HeadRefIdeal.Read.val_main_v23 (F := Ideal) (StableHlo.launchContents m' c (Proc.devRef .tc Cert.HeadRefIdeal.main_arg0)) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) (StableHlo.launchContents m' c (Proc.devRef .tc Cert.HeadRefIdeal.main_arg4)) (StableHlo.launchContents m' c (Proc.devRef .tc Cert.HeadRefIdeal.main_arg5)) (StableHlo.launchContents m' c (Proc.devRef .tc Cert.HeadRefIdeal.main_arg6)) = (dats m 0 c).arrAt 14 (cfgs 0).N := by
  rw [r.a0, r.a1, r.a2, r.a3, r.a4, r.a5, r.a6, HeadRef.r23]
  exact (f14 (ops a)).symm

theorem s24 (a : Args m c X A B C Wo g Wg Wu Wd T q) (r : RArgs m' c X A B C Wo g Wg Wu Wd T q) :
    Cert.HeadRefIdeal.Read.val_main_v24 (F := Ideal) (StableHlo.launchContents m' c (Proc.devRef .tc Cert.HeadRefIdeal.main_arg0)) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) (StableHlo.launchContents m' c (Proc.devRef .tc Cert.HeadRefIdeal.main_arg4)) (StableHlo.launchContents m' c (Proc.devRef .tc Cert.HeadRefIdeal.main_arg5)) (StableHlo.launchContents m' c (Proc.devRef .tc Cert.HeadRefIdeal.main_arg7)) = (dats m 0 c).arrAt 15 (cfgs 0).N := by
  rw [r.a0, r.a1, r.a2, r.a3, r.a4, r.a5, r.a7, HeadRef.r24]
  exact (f15 (ops a)).symm

theorem s25 (a : Args m c X A B C Wo g Wg Wu Wd T q) (r : RArgs m' c X A B C Wo g Wg Wu Wd T q) :
    Cert.HeadRefIdeal.Read.val_main_v25 (F := Ideal) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) = (dats m 0 c).arrAt 16 (cfgs 0).N := by
  rw [r.a1, r.a2, r.a3, HeadRef.r25]
  exact (f16 (ops a)).symm

theorem tail13 : Pipeline.afterTail₀ cfgs (dats m) 0 (V0 m) [hostOps1] c main_v13
    = shapeCast S_ (extractStridedSlice S1x1 ![0, 0] (show FVec Ideal S8x128 .f32 from (dats m 0 c).arrAt 17 (cfgs 0).N) slices_S8x128_S1x1_0_0) shapeCasts_S1x1_S_ := by
  unfold Pipeline.afterTail₀
  simp only [hostOps1, List.flatten_cons, List.flatten_nil, List.append_nil]
  entry_read
  exact congrArg (fun x => shapeCast S_ (extractStridedSlice S1x1 ![0, 0] (show FVec Ideal S8x128 .f32 from x) slices_S8x128_S1x1_0_0) shapeCasts_S1x1_S_)
    (Pipeline.withArrays_arr spec0 winFacts0.arr_inj c (V0 m c) (fun w => (dats m 0 c).arrAt w (cfgs 0).N) 17)

theorem tail14 : Pipeline.afterTail₀ cfgs (dats m) 0 (V0 m) [hostOps1] c main_v14
    = Host.reduceAdd (F := Ideal) (show FVec Ideal S8x1024 .f32 from (dats m 0 c).arrAt 18 (cfgs 0).N) (constant (F := Ideal) S_ .f32 0x00000000#32) reducesTo_S8x1024_S1024_d0 h_S_ := by
  unfold Pipeline.afterTail₀
  simp only [hostOps1, List.flatten_cons, List.flatten_nil, List.append_nil]
  entry_read
  exact congrArg (fun x => Host.reduceAdd (F := Ideal) (show FVec Ideal S8x1024 .f32 from x) (constant (F := Ideal) S_ .f32 0x00000000#32) reducesTo_S8x1024_S1024_d0 h_S_)
    (Pipeline.withArrays_arr spec0 winFacts0.arr_inj c (V0 m c) (fun w => (dats m 0 c).arrAt w (cfgs 0).N) 18)

theorem rows_sum (f : Fin 8192 → ℝ) :
    ∑ r : Fin 8, ∑ t : Fin 32, ∑ p : Fin 32, f ⟨t.val * 256 + (p.val * 8 + r.val), by omega⟩ = ∑ i, f i := by
  have b : Function.Bijective (fun p : Fin 8 × Fin 32 × Fin 32 => (⟨p.2.1.val * 256 + (p.2.2.val * 8 + p.1.val), by omega⟩ : Fin 8192)) := by
    refine (Fintype.bijective_iff_injective_and_card _).2 ⟨fun x y h => ?_, by simp⟩
    have h' := congrArg Fin.val h
    simp only at h'
    obtain ⟨x0, x1, x2⟩ := x
    obtain ⟨y0, y1, y2⟩ := y
    simp only at h'
    have e0 : x0 = y0 := Fin.ext (by omega)
    have e1 : x1 = y1 := Fin.ext (by omega)
    have e2 : x2 = y2 := Fin.ext (by omega)
    rw [e0, e1, e2]
  rw [← b.sum_comp f]
  simp only [Fintype.sum_prod_type]

theorem block_sum (f : Fin 8192 → ℝ) : ∑ t : Fin 32, (∑ i : Fin 256, f ⟨t.val * 256 + i.val, by omega⟩) * (1 / 2048) = (∑ i, f i) * (1 / 2048) := by
  have b : Function.Bijective (fun p : Fin 32 × Fin 256 => (⟨p.1.val * 256 + p.2.val, by omega⟩ : Fin 8192)) := by
    refine (Fintype.bijective_iff_injective_and_card _).2 ⟨fun x y h => ?_, by simp⟩
    have h' := congrArg Fin.val h
    obtain ⟨x0, x1⟩ := x
    obtain ⟨y0, y1⟩ := y
    simp only at h'
    have e0 : x0 = y0 := Fin.ext (by omega)
    have e1 : x1 = y1 := Fin.ext (by omega)
    rw [e0, e1]
  rw [← b.sum_comp f, ← Finset.sum_mul]
  simp only [Fintype.sum_prod_type]

theorem s50 (a : Args m c X A B C Wo g Wg Wu Wd T q) (r : RArgs m' c X A B C Wo g Wg Wu Wd T q) :
    Cert.HeadRefIdeal.Read.val_main_v50 (F := Ideal) (StableHlo.launchContents m' c (Proc.devRef .tc Cert.HeadRefIdeal.main_arg0)) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) (StableHlo.launchContents m' c (Proc.devRef .tc Cert.HeadRefIdeal.main_arg4)) (StableHlo.launchContents m' c (Proc.devRef .tc Cert.HeadRefIdeal.main_arg5)) (StableHlo.launchContents m' c (Proc.devRef .tc Cert.HeadRefIdeal.main_arg6)) (StableHlo.launchContents m' c (Proc.devRef .tc Cert.HeadRefIdeal.main_arg7)) (StableHlo.launchContents m' c (Proc.devRef .tc Cert.HeadRefIdeal.main_arg8)) (StableHlo.launchContents m' c (Proc.devRef .tc Cert.HeadRefIdeal.main_arg9)) (StableHlo.launchContents m' c (Proc.devRef .tc Cert.HeadRefIdeal.main_arg10)) = Pipeline.afterTail₀ cfgs (dats m) 0 (V0 m) [hostOps1] c main_v13 := by
  rw [tail13, f17 (ops a), r.a0, r.a1, r.a2, r.a3, r.a4, r.a5, r.a6, r.a7, r.a8, r.a9, r.a10, HeadRef.r50]
  funext j
  pointwise [arr2]
  exact congrArg _ (block_sum fun i => esq _ _ _ i).symm

theorem s62 (a : Args m c X A B C Wo g Wg Wu Wd T q) (r : RArgs m' c X A B C Wo g Wg Wu Wd T q) :
    Cert.HeadRefIdeal.Read.val_main_v62 (F := Ideal) (StableHlo.launchContents m' c (Proc.devRef .tc Cert.HeadRefIdeal.main_arg0)) (StableHlo.launchContents m' c (Proc.devRef .tc Cert.HeadRefIdeal.main_arg1)) (StableHlo.launchContents m' c (Proc.devRef .tc Cert.HeadRefIdeal.main_arg2)) (StableHlo.launchContents m' c (Proc.devRef .tc Cert.HeadRefIdeal.main_arg3)) (StableHlo.launchContents m' c (Proc.devRef .tc Cert.HeadRefIdeal.main_arg4)) (StableHlo.launchContents m' c (Proc.devRef .tc Cert.HeadRefIdeal.main_arg5)) (StableHlo.launchContents m' c (Proc.devRef .tc Cert.HeadRefIdeal.main_arg6)) (StableHlo.launchContents m' c (Proc.devRef .tc Cert.HeadRefIdeal.main_arg7)) (StableHlo.launchContents m' c (Proc.devRef .tc Cert.HeadRefIdeal.main_arg8)) (StableHlo.launchContents m' c (Proc.devRef .tc Cert.HeadRefIdeal.main_arg9)) (StableHlo.launchContents m' c (Proc.devRef .tc Cert.HeadRefIdeal.main_arg10)) = Pipeline.afterTail₀ cfgs (dats m) 0 (V0 m) [hostOps1] c main_v14 := by
  rw [tail14, f18 (ops a), r.a0, r.a1, r.a2, r.a3, r.a4, r.a5, r.a6, r.a7, r.a8, r.a9, r.a10, HeadRef.r62]
  funext j
  idx_vars j
  pointwise [arr1, arr2]
  rw [sum_coe]
  exact congrArg _ (rows_sum fun i => dGain _ _ i j0).symm

end Cert.HeadVal

end
-- ==== Proof.HeadVal.lean ====
/- The loss head's value claim. -/
module

public import proofs.«01_k».proof.Defs
public import proofs.«01_k».proof.Proof.Gen.HeadRefIdeal.Run
public import proofs.«01_k».proof.Proof.Gen.HeadRefIdeal.Read
public import proofs.«01_k».proof.Proof.Gen.Pre_head_finite
public import proofs.«01_k».proof.Proof.BlkPre
public import proofs.«01_k».proof.Proof.HeadEq
public import Idealize.ShloMosaic.Lib.Claim

@[expose] public section

set_option maxRecDepth 16384

noncomputable section

namespace Cert.HeadVal

open Idealize.ShloMosaic Idealize.ShloMosaic.TcCoe Idealize.SL.Sem
open Idealize.ShloMosaic.Pipeline (Dat)
open Cert.HeadIdeal Cert.HeadIdeal.Gen Cert.Finite Cert.BlkSpec Cert.HeadSpec

theorem args (m : (ℓ : Loc nD τ sig) → Buf (Elt Ideal) ℓ) (h : Cert.Pre_HeadIdeal_head_finite m) (c : Dev nD) :
    Args m c (re2 (m ((c : Thread nD τ).loc main_arg0))) (re2 (m ((c : Thread nD τ).loc main_arg1))) (re2 (m ((c : Thread nD τ).loc main_arg2))) (re2 (m ((c : Thread nD τ).loc main_arg3))) (re2 (m ((c : Thread nD τ).loc main_arg4))) (re1 (m ((c : Thread nD τ).loc main_arg5))) (re2 (m ((c : Thread nD τ).loc main_arg6))) (re2 (m ((c : Thread nD τ).loc main_arg7))) (re2 (m ((c : Thread nD τ).loc main_arg8))) (re2 (m ((c : Thread nD τ).loc main_arg9))) (re1 (m ((c : Thread nD τ).loc main_arg10))) where
  a0 := (arr2_re2 _ (BlkPre.fin2 _ (m ((c : Thread nD τ).loc main_arg0)) (h c).1)).symm
  a1 := (arr2_re2 _ (BlkPre.fin2 _ (m ((c : Thread nD τ).loc main_arg1)) (h c).2.1)).symm
  a2 := (arr2_re2 _ (BlkPre.fin2 _ (m ((c : Thread nD τ).loc main_arg2)) (h c).2.2.1)).symm
  a3 := (arr2_re2 _ (BlkPre.fin2 _ (m ((c : Thread nD τ).loc main_arg3)) (h c).2.2.2.1)).symm
  a4 := (arr2_re2 _ (BlkPre.fin2 _ (m ((c : Thread nD τ).loc main_arg4)) (h c).2.2.2.2.1)).symm
  a5 := (arr1_re1 _ (BlkPre.fin1 _ (m ((c : Thread nD τ).loc main_arg5)) (h c).2.2.2.2.2.1)).symm
  a6 := (arr2_re2 _ (BlkPre.fin2 _ (m ((c : Thread nD τ).loc main_arg6)) (h c).2.2.2.2.2.2.1)).symm
  a7 := (arr2_re2 _ (BlkPre.fin2 _ (m ((c : Thread nD τ).loc main_arg7)) (h c).2.2.2.2.2.2.2.1)).symm
  a8 := (arr2_re2 _ (BlkPre.fin2 _ (m ((c : Thread nD τ).loc main_arg8)) (h c).2.2.2.2.2.2.2.2.1)).symm
  a9 := (arr2_re2 _ (BlkPre.fin2 _ (m ((c : Thread nD τ).loc main_arg9)) (h c).2.2.2.2.2.2.2.2.2.1)).symm
  a10 := (arr1_re1 _ (BlkPre.fin1 _ (m ((c : Thread nD τ).loc main_arg10)) (h c).2.2.2.2.2.2.2.2.2.2)).symm

set_option maxHeartbeats 1600000 in
theorem algebraic : Cert.algebraic_HeadIdeal_HeadRefIdeal_pre_head_finite := by
  pair_intro
  · run_from Cert.HeadIdeal.Gen.unchanged m g & Cert.HeadIdeal.Gen.run_main m g
    exact hc₂.1 16
  · have a := fun c => args m hpre c
    have r : ∀ c : Dev nD, RArgs m' c _ _ _ _ _ _ _ _ _ _ _ := fun c => by
      obtain ⟨h0, h1, h2, h3, h4, h5, h6, h7, h8, h9, h10⟩ := hagree c
      exact ⟨h0.trans (a c).a0, h1.trans (a c).a1, h2.trans (a c).a2, h3.trans (a c).a3, h4.trans (a c).a4, h5.trans (a c).a5,
        h6.trans (a c).a6, h7.trans (a c).a7, h8.trans (a c).a8, h9.trans (a c).a9, h10.trans (a c).a10⟩
    run_from Cert.HeadRefIdeal.Value.run m' g'
    · exact (Cert.HeadRefIdeal.Read.val_main_v2_eq (StableHlo.launchContents m' c)).trans (s2 (a c) (r c))
    · exact (Cert.HeadRefIdeal.Read.val_main_v76_eq (StableHlo.launchContents m' c)).trans (s76 (a c) (r c))
    · exact (Cert.HeadRefIdeal.Read.val_main_v22_eq (StableHlo.launchContents m' c)).trans (s22 (a c) (r c))
    · exact (Cert.HeadRefIdeal.Read.val_main_v23_eq (StableHlo.launchContents m' c)).trans (s23 (a c) (r c))
    · exact (Cert.HeadRefIdeal.Read.val_main_v24_eq (StableHlo.launchContents m' c)).trans (s24 (a c) (r c))
    · exact (Cert.HeadRefIdeal.Read.val_main_v25_eq (StableHlo.launchContents m' c)).trans (s25 (a c) (r c))
    · exact (Cert.HeadRefIdeal.Read.val_main_v50_eq (StableHlo.launchContents m' c)).trans (s50 (a c) (r c))
    · exact (Cert.HeadRefIdeal.Read.val_main_v62_eq (StableHlo.launchContents m' c)).trans (s62 (a c) (r c))

end Cert.HeadVal

end
-- ==== Proof.AdamFfnVal.lean ====
/- The optimiser's step of the feed-forward weights: one block of rows at a time, each element what the reference computes from that element. -/
module

public import proofs.«01_k».proof.Defs
public import proofs.«01_k».proof.Proof.Gen.AdamFfnIdeal.Frame
public import proofs.«01_k».proof.Proof.Gen.AdamFfnRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamFfnVal

open Idealize.ShloMosaic Idealize.ShloMosaic.TcCoe Idealize.SL.Sem
open Idealize.ShloMosaic.Pipeline (Dat)
open Cert.AdamFfnIdeal Cert.AdamFfnIdeal.Gen

abbrev A3 := S2x704x1024.Idx → EReal
abbrev B3 := S1x352x1024.Idx → EReal

/-- a constant of the step -/
abbrev k (b : BitVec 32) : EReal := FloatOps.ofBits (F := Ideal) .f32 b

/-- the new first moment -/
def mN (g m : EReal) : EReal := k 0x3F666666#32 * m + k 0x3DCCCCCD#32 * g
/-- the new second moment -/
def vN (g v : EReal) : EReal := k 0x3F7FBE77#32 * v + k 0x3A83126F#32 * (g * g)
/-- the update -/
def dN (w g m v : EReal) : EReal :=
  k 0xBA83126F#32 * (FloatOps.divf (F := Ideal) (φ := .f32) (FloatOps.divf (F := Ideal) (φ := .f32) (mN g m) (k 0x3F26BD02#32))
    (FloatOps.sqrt (F := Ideal) (φ := .f32) (FloatOps.divf (F := Ideal) (φ := .f32) (vN g v) (k 0x3C231ACC#32)) + k 0x322BCC77#32)
    + k 0x3C23D70A#32 * w)

variable (m : (ℓ : Loc nD τ sig) → Buf (Elt Ideal) ℓ) (c : Dev nD)

abbrev W0 : A3 := m ((c : Thread nD τ).loc main_arg0)
abbrev G0 : A3 := m ((c : Thread nD τ).loc main_arg1)
abbrev M0 : A3 := m ((c : Thread nD τ).loc main_arg2)
abbrev V0 : A3 := m ((c : Thread nD τ).loc main_arg3)

/-- the rows of one point -/
def rows (A : A3) (t : Fin cfg0.N) : B3 := fun y => A (((cfg0.win 0).blk t).view.emb y)

theorem b0 (t : Fin cfg0.N) : iblk m c 0 t = rows (W0 m c) t := rfl
theorem b1 (t : Fin cfg0.N) : iblk m c 1 t = rows (G0 m c) t := rfl
theorem b2 (t : Fin cfg0.N) : iblk m c 2 t = rows (M0 m c) t := rfl
theorem b3 (t : Fin cfg0.N) : iblk m c 3 t = rows (V0 m c) t := rfl

theorem p5 (G M : B3) : k0_pay2 (F := Ideal) (k0_pay5 G M) = fun y => mN (G y) (M y) := by
  funext y
  idx_vars y
  obtain rfl : y0 = 0 := Subsingleton.elim _ _
  pointwise [k0_pay2, k0_pay5, k0_pay4, mN, k]

theorem p6 (G V : B3) : k0_pay3 (F := Ideal) (k0_pay6 G V) = fun y => vN (G y) (V y) := by
  funext y
  idx_vars y
  obtain rfl : y0 = 0 := Subsingleton.elim _ _
  pointwise [k0_pay3, k0_pay6, k0_pay4, vN, k]

theorem p7 (W G M V : B3) : k0_pay1 (F := Ideal) (k0_pay7 W G M V) = fun y => dN (W y) (G y) (M y) (V y) := by
  funext y
  idx_vars y
  obtain rfl : y0 = 0 := Subsingleton.elim _ _
  pointwise [k0_pay1, k0_pay7, k0_pay5, k0_pay6, k0_pay4, dN, mN, vN, k]

theorem f4 : (dats m 0 c).arrAt 4 (cfgs 0).N = fun j => dN (W0 m c j) (G0 m c j) (M0 m c j) (V0 m c j) := by
  refine (dats m 0 c).arrAt_eq_of_covers 4 _ (by decide +kernel) fun t _ y => ?_
  blk_simp
  rw [after0_4]
  frame_out
  rw [b0, b1, b2, b3, p7]
  rfl

theorem f5 : (dats m 0 c).arrAt 5 (cfgs 0).N = fun j => mN (G0 m c j) (M0 m c j) := by
  refine (dats m 0 c).arrAt_eq_of_covers 5 _ (by decide +kernel) fun t _ y => ?_
  blk_simp
  rw [after0_5]
  frame_out
  rw [b1, b2, p5]
  rfl

theorem f6 : (dats m 0 c).arrAt 6 (cfgs 0).N = fun j => vN (G0 m c j) (V0 m c j) := by
  refine (dats m 0 c).arrAt_eq_of_covers 6 _ (by decide +kernel) fun t _ y => ?_
  blk_simp
  rw [after0_6]
  frame_out
  rw [b1, b3, p6]
  rfl

set_option maxHeartbeats 1600000 in
theorem algebraic : Cert.algebraic_AdamFfnIdeal_AdamFfnRefIdeal := by
  pair_intro
  · run_from Cert.AdamFfnIdeal.Gen.unchanged m g & Cert.AdamFfnIdeal.Gen.run_main m g
  · run_from Cert.AdamFfnRefIdeal.Value.run m' g'
    · refine Eq.trans ?_ (f4 m c).symm
      funext j
      idx_vars j
      pointwise [dN, mN, vN, k]
    · refine Eq.trans ?_ (f5 m c).symm
      funext j
      idx_vars j
      pointwise [mN, k]
    · refine Eq.trans ?_ (f6 m c).symm
      funext j
      idx_vars j
      pointwise [vN, k]

end Cert.AdamFfnVal

end
-- ==== Proof.AdamInVal.lean ====
/- The optimiser's step of the input projection: one block of rows at a time, each element what the reference computes from that element. -/
module

public import proofs.«01_k».proof.Defs
public import proofs.«01_k».proof.Proof.Gen.AdamInIdeal.Frame
public import proofs.«01_k».proof.Proof.Gen.AdamInRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamInVal

open Idealize.ShloMosaic Idealize.ShloMosaic.TcCoe Idealize.SL.Sem
open Idealize.ShloMosaic.Pipeline (Dat)
open Cert.AdamInIdeal Cert.AdamInIdeal.Gen

abbrev A3 := S2x352x1024.Idx → EReal
abbrev B3 := S1x352x1024.Idx → EReal

/-- a constant of the step -/
abbrev k (b : BitVec 32) : EReal := FloatOps.ofBits (F := Ideal) .f32 b

/-- the new first moment -/
def mN (g m : EReal) : EReal := k 0x3F666666#32 * m + k 0x3DCCCCCD#32 * g
/-- the new second moment -/
def vN (g v : EReal) : EReal := k 0x3F7FBE77#32 * v + k 0x3A83126F#32 * (g * g)
/-- the update -/
def dN (w g m v : EReal) : EReal :=
  k 0xBA83126F#32 * (FloatOps.divf (F := Ideal) (φ := .f32) (FloatOps.divf (F := Ideal) (φ := .f32) (mN g m) (k 0x3F26BD02#32))
    (FloatOps.sqrt (F := Ideal) (φ := .f32) (FloatOps.divf (F := Ideal) (φ := .f32) (vN g v) (k 0x3C231ACC#32)) + k 0x322BCC77#32)
    + k 0x3C23D70A#32 * w)

variable (m : (ℓ : Loc nD τ sig) → Buf (Elt Ideal) ℓ) (c : Dev nD)

abbrev W0 : A3 := m ((c : Thread nD τ).loc main_arg0)
abbrev G0 : A3 := m ((c : Thread nD τ).loc main_arg1)
abbrev M0 : A3 := m ((c : Thread nD τ).loc main_arg2)
abbrev V0 : A3 := m ((c : Thread nD τ).loc main_arg3)

/-- the rows of one point -/
def rows (A : A3) (t : Fin cfg0.N) : B3 := fun y => A (((cfg0.win 0).blk t).view.emb y)

theorem b0 (t : Fin cfg0.N) : iblk m c 0 t = rows (W0 m c) t := rfl
theorem b1 (t : Fin cfg0.N) : iblk m c 1 t = rows (G0 m c) t := rfl
theorem b2 (t : Fin cfg0.N) : iblk m c 2 t = rows (M0 m c) t := rfl
theorem b3 (t : Fin cfg0.N) : iblk m c 3 t = rows (V0 m c) t := rfl

theorem p5 (G M : B3) : k0_pay2 (F := Ideal) (k0_pay5 G M) = fun y => mN (G y) (M y) := by
  funext y
  idx_vars y
  obtain rfl : y0 = 0 := Subsingleton.elim _ _
  pointwise [k0_pay2, k0_pay5, k0_pay4, mN, k]

theorem p6 (G V : B3) : k0_pay3 (F := Ideal) (k0_pay6 G V) = fun y => vN (G y) (V y) := by
  funext y
  idx_vars y
  obtain rfl : y0 = 0 := Subsingleton.elim _ _
  pointwise [k0_pay3, k0_pay6, k0_pay4, vN, k]

theorem p7 (W G M V : B3) : k0_pay1 (F := Ideal) (k0_pay7 W G M V) = fun y => dN (W y) (G y) (M y) (V y) := by
  funext y
  idx_vars y
  obtain rfl : y0 = 0 := Subsingleton.elim _ _
  pointwise [k0_pay1, k0_pay7, k0_pay5, k0_pay6, k0_pay4, dN, mN, vN, k]

theorem f4 : (dats m 0 c).arrAt 4 (cfgs 0).N = fun j => dN (W0 m c j) (G0 m c j) (M0 m c j) (V0 m c j) := by
  refine (dats m 0 c).arrAt_eq_of_covers 4 _ (by decide +kernel) fun t _ y => ?_
  blk_simp
  rw [after0_4]
  frame_out
  rw [b0, b1, b2, b3, p7]
  rfl

theorem f5 : (dats m 0 c).arrAt 5 (cfgs 0).N = fun j => mN (G0 m c j) (M0 m c j) := by
  refine (dats m 0 c).arrAt_eq_of_covers 5 _ (by decide +kernel) fun t _ y => ?_
  blk_simp
  rw [after0_5]
  frame_out
  rw [b1, b2, p5]
  rfl

theorem f6 : (dats m 0 c).arrAt 6 (cfgs 0).N = fun j => vN (G0 m c j) (V0 m c j) := by
  refine (dats m 0 c).arrAt_eq_of_covers 6 _ (by decide +kernel) fun t _ y => ?_
  blk_simp
  rw [after0_6]
  frame_out
  rw [b1, b3, p6]
  rfl

set_option maxHeartbeats 1600000 in
theorem algebraic : Cert.algebraic_AdamInIdeal_AdamInRefIdeal := by
  pair_intro
  · run_from Cert.AdamInIdeal.Gen.unchanged m g & Cert.AdamInIdeal.Gen.run_main m g
  · run_from Cert.AdamInRefIdeal.Value.run m' g'
    · refine Eq.trans ?_ (f4 m c).symm
      funext j
      idx_vars j
      pointwise [dN, mN, vN, k]
    · refine Eq.trans ?_ (f5 m c).symm
      funext j
      idx_vars j
      pointwise [mN, k]
    · refine Eq.trans ?_ (f6 m c).symm
      funext j
      idx_vars j
      pointwise [vN, k]

end Cert.AdamInVal

end
-- ==== Proof.AdamOutVal.lean ====
/- The optimiser's step of the output projection: one block of rows at a time, each element what the reference computes from that element. -/
module

public import proofs.«01_k».proof.Defs
public import proofs.«01_k».proof.Proof.Gen.AdamOutIdeal.Frame
public import proofs.«01_k».proof.Proof.Gen.AdamOutRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamOutVal

open Idealize.ShloMosaic Idealize.ShloMosaic.TcCoe Idealize.SL.Sem
open Idealize.ShloMosaic.Pipeline (Dat)
open Cert.AdamOutIdeal Cert.AdamOutIdeal.Gen

abbrev A3 := S2x256x1024.Idx → EReal
abbrev B3 := S1x256x1024.Idx → EReal

/-- a constant of the step -/
abbrev k (b : BitVec 32) : EReal := FloatOps.ofBits (F := Ideal) .f32 b

/-- the new first moment -/
def mN (g m : EReal) : EReal := k 0x3F666666#32 * m + k 0x3DCCCCCD#32 * g
/-- the new second moment -/
def vN (g v : EReal) : EReal := k 0x3F7FBE77#32 * v + k 0x3A83126F#32 * (g * g)
/-- the update -/
def dN (w g m v : EReal) : EReal :=
  k 0xBA83126F#32 * (FloatOps.divf (F := Ideal) (φ := .f32) (FloatOps.divf (F := Ideal) (φ := .f32) (mN g m) (k 0x3F26BD02#32))
    (FloatOps.sqrt (F := Ideal) (φ := .f32) (FloatOps.divf (F := Ideal) (φ := .f32) (vN g v) (k 0x3C231ACC#32)) + k 0x322BCC77#32)
    + k 0x3C23D70A#32 * w)

variable (m : (ℓ : Loc nD τ sig) → Buf (Elt Ideal) ℓ) (c : Dev nD)

abbrev W0 : A3 := m ((c : Thread nD τ).loc main_arg0)
abbrev G0 : A3 := m ((c : Thread nD τ).loc main_arg1)
abbrev M0 : A3 := m ((c : Thread nD τ).loc main_arg2)
abbrev V0 : A3 := m ((c : Thread nD τ).loc main_arg3)

/-- the rows of one point -/
def rows (A : A3) (t : Fin cfg0.N) : B3 := fun y => A (((cfg0.win 0).blk t).view.emb y)

theorem b0 (t : Fin cfg0.N) : iblk m c 0 t = rows (W0 m c) t := rfl
theorem b1 (t : Fin cfg0.N) : iblk m c 1 t = rows (G0 m c) t := rfl
theorem b2 (t : Fin cfg0.N) : iblk m c 2 t = rows (M0 m c) t := rfl
theorem b3 (t : Fin cfg0.N) : iblk m c 3 t = rows (V0 m c) t := rfl

theorem p5 (G M : B3) : k0_pay2 (F := Ideal) (k0_pay5 G M) = fun y => mN (G y) (M y) := by
  funext y
  idx_vars y
  obtain rfl : y0 = 0 := Subsingleton.elim _ _
  pointwise [k0_pay2, k0_pay5, k0_pay4, mN, k]

theorem p6 (G V : B3) : k0_pay3 (F := Ideal) (k0_pay6 G V) = fun y => vN (G y) (V y) := by
  funext y
  idx_vars y
  obtain rfl : y0 = 0 := Subsingleton.elim _ _
  pointwise [k0_pay3, k0_pay6, k0_pay4, vN, k]

theorem p7 (W G M V : B3) : k0_pay1 (F := Ideal) (k0_pay7 W G M V) = fun y => dN (W y) (G y) (M y) (V y) := by
  funext y
  idx_vars y
  obtain rfl : y0 = 0 := Subsingleton.elim _ _
  pointwise [k0_pay1, k0_pay7, k0_pay5, k0_pay6, k0_pay4, dN, mN, vN, k]

theorem f4 : (dats m 0 c).arrAt 4 (cfgs 0).N = fun j => dN (W0 m c j) (G0 m c j) (M0 m c j) (V0 m c j) := by
  refine (dats m 0 c).arrAt_eq_of_covers 4 _ (by decide +kernel) fun t _ y => ?_
  blk_simp
  rw [after0_4]
  frame_out
  rw [b0, b1, b2, b3, p7]
  rfl

theorem f5 : (dats m 0 c).arrAt 5 (cfgs 0).N = fun j => mN (G0 m c j) (M0 m c j) := by
  refine (dats m 0 c).arrAt_eq_of_covers 5 _ (by decide +kernel) fun t _ y => ?_
  blk_simp
  rw [after0_5]
  frame_out
  rw [b1, b2, p5]
  rfl

theorem f6 : (dats m 0 c).arrAt 6 (cfgs 0).N = fun j => vN (G0 m c j) (V0 m c j) := by
  refine (dats m 0 c).arrAt_eq_of_covers 6 _ (by decide +kernel) fun t _ y => ?_
  blk_simp
  rw [after0_6]
  frame_out
  rw [b1, b3, p6]
  rfl

set_option maxHeartbeats 1600000 in
theorem algebraic : Cert.algebraic_AdamOutIdeal_AdamOutRefIdeal := by
  pair_intro
  · run_from Cert.AdamOutIdeal.Gen.unchanged m g & Cert.AdamOutIdeal.Gen.run_main m g
  · run_from Cert.AdamOutRefIdeal.Value.run m' g'
    · refine Eq.trans ?_ (f4 m c).symm
      funext j
      idx_vars j
      pointwise [dN, mN, vN, k]
    · refine Eq.trans ?_ (f5 m c).symm
      funext j
      idx_vars j
      pointwise [mN, k]
    · refine Eq.trans ?_ (f6 m c).symm
      funext j
      idx_vars j
      pointwise [vN, k]

end Cert.AdamOutVal

end
-- ==== Proof.AdamGluVal.lean ====
/- The optimiser's step of the gating weight: one block of rows at a time, each element what the reference computes from that element. -/
module

public import proofs.«01_k».proof.Defs
public import proofs.«01_k».proof.Proof.Gen.AdamGluIdeal.Frame
public import proofs.«01_k».proof.Proof.Gen.AdamGluRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamGluVal

open Idealize.ShloMosaic Idealize.ShloMosaic.TcCoe Idealize.SL.Sem
open Idealize.ShloMosaic.Pipeline (Dat)
open Cert.AdamGluIdeal Cert.AdamGluIdeal.Gen

abbrev A3 := S2x96x384.Idx → EReal
abbrev B3 := S1x96x384.Idx → EReal

/-- a constant of the step -/
abbrev k (b : BitVec 32) : EReal := FloatOps.ofBits (F := Ideal) .f32 b

/-- the new first moment -/
def mN (g m : EReal) : EReal := k 0x3F666666#32 * m + k 0x3DCCCCCD#32 * g
/-- the new second moment -/
def vN (g v : EReal) : EReal := k 0x3F7FBE77#32 * v + k 0x3A83126F#32 * (g * g)
/-- the update -/
def dN (w g m v : EReal) : EReal :=
  k 0xBA83126F#32 * (FloatOps.divf (F := Ideal) (φ := .f32) (FloatOps.divf (F := Ideal) (φ := .f32) (mN g m) (k 0x3F26BD02#32))
    (FloatOps.sqrt (F := Ideal) (φ := .f32) (FloatOps.divf (F := Ideal) (φ := .f32) (vN g v) (k 0x3C231ACC#32)) + k 0x322BCC77#32)
    + k 0x3C23D70A#32 * w)

variable (m : (ℓ : Loc nD τ sig) → Buf (Elt Ideal) ℓ) (c : Dev nD)

abbrev W0 : A3 := m ((c : Thread nD τ).loc main_arg0)
abbrev G0 : A3 := m ((c : Thread nD τ).loc main_arg1)
abbrev M0 : A3 := m ((c : Thread nD τ).loc main_arg2)
abbrev V0 : A3 := m ((c : Thread nD τ).loc main_arg3)

/-- the rows of one point -/
def rows (A : A3) (t : Fin cfg0.N) : B3 := fun y => A (((cfg0.win 0).blk t).view.emb y)

theorem b0 (t : Fin cfg0.N) : iblk m c 0 t = rows (W0 m c) t := rfl
theorem b1 (t : Fin cfg0.N) : iblk m c 1 t = rows (G0 m c) t := rfl
theorem b2 (t : Fin cfg0.N) : iblk m c 2 t = rows (M0 m c) t := rfl
theorem b3 (t : Fin cfg0.N) : iblk m c 3 t = rows (V0 m c) t := rfl

theorem p5 (G M : B3) : k0_pay2 (F := Ideal) (k0_pay5 G M) = fun y => mN (G y) (M y) := by
  funext y
  idx_vars y
  obtain rfl : y0 = 0 := Subsingleton.elim _ _
  pointwise [k0_pay2, k0_pay5, k0_pay4, mN, k]

theorem p6 (G V : B3) : k0_pay3 (F := Ideal) (k0_pay6 G V) = fun y => vN (G y) (V y) := by
  funext y
  idx_vars y
  obtain rfl : y0 = 0 := Subsingleton.elim _ _
  pointwise [k0_pay3, k0_pay6, k0_pay4, vN, k]

theorem p7 (W G M V : B3) : k0_pay1 (F := Ideal) (k0_pay7 W G M V) = fun y => dN (W y) (G y) (M y) (V y) := by
  funext y
  idx_vars y
  obtain rfl : y0 = 0 := Subsingleton.elim _ _
  pointwise [k0_pay1, k0_pay7, k0_pay5, k0_pay6, k0_pay4, dN, mN, vN, k]

theorem f4 : (dats m 0 c).arrAt 4 (cfgs 0).N = fun j => dN (W0 m c j) (G0 m c j) (M0 m c j) (V0 m c j) := by
  refine (dats m 0 c).arrAt_eq_of_covers 4 _ (by decide +kernel) fun t _ y => ?_
  blk_simp
  rw [after0_4]
  frame_out
  rw [b0, b1, b2, b3, p7]
  rfl

theorem f5 : (dats m 0 c).arrAt 5 (cfgs 0).N = fun j => mN (G0 m c j) (M0 m c j) := by
  refine (dats m 0 c).arrAt_eq_of_covers 5 _ (by decide +kernel) fun t _ y => ?_
  blk_simp
  rw [after0_5]
  frame_out
  rw [b1, b2, p5]
  rfl

theorem f6 : (dats m 0 c).arrAt 6 (cfgs 0).N = fun j => vN (G0 m c j) (V0 m c j) := by
  refine (dats m 0 c).arrAt_eq_of_covers 6 _ (by decide +kernel) fun t _ y => ?_
  blk_simp
  rw [after0_6]
  frame_out
  rw [b1, b3, p6]
  rfl

set_option maxHeartbeats 1600000 in
theorem algebraic : Cert.algebraic_AdamGluIdeal_AdamGluRefIdeal := by
  pair_intro
  · run_from Cert.AdamGluIdeal.Gen.unchanged m g & Cert.AdamGluIdeal.Gen.run_main m g
  · run_from Cert.AdamGluRefIdeal.Value.run m' g'
    · refine Eq.trans ?_ (f4 m c).symm
      funext j
      idx_vars j
      pointwise [dN, mN, vN, k]
    · refine Eq.trans ?_ (f5 m c).symm
      funext j
      idx_vars j
      pointwise [mN, k]
    · refine Eq.trans ?_ (f6 m c).symm
      funext j
      idx_vars j
      pointwise [vN, k]

end Cert.AdamGluVal

end
-- ==== Proof.SumsArr.lean ====
/- The sums over the devices of the small gradients and of the loss, unpacked: each array is the reference's sum over the first axis, and the host lines after the call are the reference's. -/
module

public import proofs.«01_k».proof.Defs
public import proofs.«01_k».proof.Proof.Gen.SumsIdeal.Frame
public import proofs.«01_k».proof.Proof.Gen.SumsRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumsVal

open Idealize.ShloMosaic Idealize.ShloMosaic.TcCoe Idealize.SL.Sem
open Idealize.ShloMosaic.Pipeline (Dat)
open Cert.SumsIdeal Cert.SumsIdeal.Gen

abbrev AC := FVec Ideal S8x3584x128 .bf16
abbrev AP := FVec Ideal S8x32x128 .f32

variable (m : (ℓ : Loc nD τ sig) → Buf (Elt Ideal) ℓ) (c : Dev nD)

abbrev C0 : AC := m ((c : Thread nD τ).loc main_arg0)
abbrev P0 : AP := m ((c : Thread nD τ).loc main_arg1)

/-- the coarse buffers' sum -/
def sumC (A : AC) : FVec Ideal S3584x128 .f32 := Host.reduceAdd (extf .f32 A Cert.SumsRefIdeal.Gen.bitsLt_bf16_f32) (constant S_ .f32 0x00000000#32) Cert.SumsRefIdeal.Gen.reducesTo_S8x3584x128_S3584x128_d0 Cert.SumsRefIdeal.Gen.h_S_
/-- the precise buffers' sum -/
def sumP (A : AP) : FVec Ideal S32x128 .f32 := Host.reduceAdd A (constant S_ .f32 0x00000000#32) Cert.SumsRefIdeal.Gen.reducesTo_S8x32x128_S32x128_d0 Cert.SumsRefIdeal.Gen.h_S_

theorem sumC_eq (A : AC) : k0_pay2 (F := Ideal) (View.ld A r0_0) (View.ld A r0_1) (View.ld A r0_2) (View.ld A r0_3) (View.ld A r0_4) (View.ld A r0_5) (View.ld A r0_6) (View.ld A r0_7) = sumC A := by
  funext y
  idx_vars y
  pointwise [k0_pay2, sumC, Fin.sum_univ_eight]

theorem sumP_eq (A : AP) : k0_pay1 (F := Ideal) (View.ld A r0_9) (View.ld A r0_10) (View.ld A r0_11) (View.ld A r0_12) (View.ld A r0_13) (View.ld A r0_14) (View.ld A r0_15) (View.ld A r0_16) = sumP A := by
  funext y
  idx_vars y
  pointwise [k0_pay1, sumP, Fin.sum_univ_eight]

theorem e0 (t : Fin cfg0.N) (j : S8x3584x128.Idx) : ((cfg0.win 0).blk t).view.emb j = j := by
  funext a; apply Fin.ext
  match a with
  | ⟨0, _⟩ => show 0 * 8 + 1 * (j 0).val = (j 0).val; omega
  | ⟨1, _⟩ => show 0 * 3584 + 1 * (j 1).val = (j 1).val; omega
  | ⟨2, _⟩ => show 0 * 128 + 1 * (j 2).val = (j 2).val; omega

theorem e1 (t : Fin cfg0.N) (j : S8x32x128.Idx) : ((cfg0.win 1).blk t).view.emb j = j := by
  funext a; apply Fin.ext
  match a with
  | ⟨0, _⟩ => show 0 * 8 + 1 * (j 0).val = (j 0).val; omega
  | ⟨1, _⟩ => show 0 * 32 + 1 * (j 1).val = (j 1).val; omega
  | ⟨2, _⟩ => show 0 * 128 + 1 * (j 2).val = (j 2).val; omega

theorem e2 (t : Fin cfg0.N) (j : S3584x128.Idx) : ((cfg0.win 2).blk t).view.emb j = j := by
  funext a; apply Fin.ext
  match a with
  | ⟨0, _⟩ => show 0 * 3584 + 1 * (j 0).val = (j 0).val; omega
  | ⟨1, _⟩ => show 0 * 128 + 1 * (j 1).val = (j 1).val; omega

theorem e3 (t : Fin cfg0.N) (j : S32x128.Idx) : ((cfg0.win 3).blk t).view.emb j = j := by
  funext a; apply Fin.ext
  match a with
  | ⟨0, _⟩ => show 0 * 32 + 1 * (j 0).val = (j 0).val; omega
  | ⟨1, _⟩ => show 0 * 128 + 1 * (j 1).val = (j 1).val; omega

theorem b0 (t : Fin cfg0.N) : iblk m c 0 t = C0 m c := by
  funext y
  exact congrArg (C0 m c) (e0 t y)

theorem b1 (t : Fin cfg0.N) : iblk m c 1 t = P0 m c := by
  funext y
  exact congrArg (P0 m c) (e1 t y)

theorem f2 : (dats m 0 c).arrAt 2 (cfgs 0).N = sumC (C0 m c) := by
  refine (dats m 0 c).arrAt_eq_of_covers 2 _ (by decide +kernel) fun t _ y => ?_
  blk_simp
  rw [after0_2]
  frame_out
  rw [b0, sumC_eq]
  exact congrArg (sumC (C0 m c)) (e2 t y).symm

theorem f3 : (dats m 0 c).arrAt 3 (cfgs 0).N = sumP (P0 m c) := by
  refine (dats m 0 c).arrAt_eq_of_covers 3 _ (by decide +kernel) fun t _ y => ?_
  blk_simp
  rw [after0_3]
  frame_out
  rw [b1, sumP_eq]
  exact congrArg (sumP (P0 m c)) (e3 t y).symm

end Cert.SumsVal

end
-- ==== Proof.SumsTailA.lean ====
/- The host lines after the sums, a first third of the results: each is the same slice of the sum. -/
module

public import proofs.«01_k».proof.Defs
public import proofs.«01_k».proof.Proof.SumsArr
public import proofs.«01_k».proof.Proof.Gen.SumsIdeal.Frame
public import proofs.«01_k».proof.Proof.Gen.SumsRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumsVal

open Idealize.ShloMosaic Idealize.ShloMosaic.TcCoe Idealize.SL.Sem
open Idealize.ShloMosaic.Pipeline (Dat)
open Cert.SumsIdeal Cert.SumsIdeal.Gen

variable (m : (ℓ : Loc nD τ sig) → Buf (Elt Ideal) ℓ) (c : Dev nD)

/-- result 0 -/
abbrev o67 (X : FVec Ideal S32x128 .f32) := shapeCast S_ (extractStridedSlice S1x1 ![0, 0] (extractStridedSlice S16x128 ![16, 0] X slices_S32x128_S16x128_16_0) slices_S16x128_S1x1_0_0) shapeCasts_S1x1_S_

theorem tail67 : Pipeline.afterTail₀ cfgs (dats m) 0 (V0 m) [hostOps1] c main_v67 = o67 ((dats m 0 c).arrAt 3 (cfgs 0).N) := by
  unfold Pipeline.afterTail₀
  simp only [hostOps1, List.flatten_cons, List.flatten_nil, List.append_nil]
  entry_read
  exact congrArg o67 (Pipeline.withArrays_arr spec0 winFacts0.arr_inj c (V0 m c) (fun w => (dats m 0 c).arrAt w (cfgs 0).N) 3)

theorem fin67 (A : AP) (h : A = P0 m c) : o67 (sumP A) = Pipeline.afterTail₀ cfgs (dats m) 0 (V0 m) [hostOps1] c main_v67 := by
  rw [h, tail67, f3]

/-- result 3 -/
abbrev o11 (X : FVec Ideal S3584x128 .f32) := shapeCast S2x24x64 (extractStridedSlice S3072 ![0] (shapeCast S4096 (extractStridedSlice S32x128 ![48, 0] X slices_S3584x128_S32x128_48_0) shapeCasts_S32x128_S4096) slices_S4096_S3072_0) shapeCasts_S3072_S2x24x64

theorem tail11 : Pipeline.afterTail₀ cfgs (dats m) 0 (V0 m) [hostOps1] c main_v11 = o11 ((dats m 0 c).arrAt 2 (cfgs 0).N) := by
  unfold Pipeline.afterTail₀
  simp only [hostOps1, List.flatten_cons, List.flatten_nil, List.append_nil]
  entry_read
  exact congrArg o11 (Pipeline.withArrays_arr spec0 winFacts0.arr_inj c (V0 m c) (fun w => (dats m 0 c).arrAt w (cfgs 0).N) 2)

theorem fin11 (A : AC) (h : A = C0 m c) : o11 (sumC A) = Pipeline.afterTail₀ cfgs (dats m) 0 (V0 m) [hostOps1] c main_v11 := by
  rw [h, tail11, f2]

/-- result 6 -/
abbrev o69 (X : FVec Ideal S3584x128 .f32) := transpose S2x24x64x16 [0, 1, 3, 2] (shapeCast S2x24x16x64 (shapeCast S49152 (extractStridedSlice S384x128 ![480, 0] X slices_S3584x128_S384x128_480_0) shapeCasts_S384x128_S49152) shapeCasts_S49152_S2x24x16x64) transposes_S2x24x16x64_S2x24x64x16_0_1_3_2

theorem tail69 : Pipeline.afterTail₀ cfgs (dats m) 0 (V0 m) [hostOps1] c main_v69 = o69 ((dats m 0 c).arrAt 2 (cfgs 0).N) := by
  unfold Pipeline.afterTail₀
  simp only [hostOps1, List.flatten_cons, List.flatten_nil, List.append_nil]
  entry_read
  exact congrArg o69 (Pipeline.withArrays_arr spec0 winFacts0.arr_inj c (V0 m c) (fun w => (dats m 0 c).arrAt w (cfgs 0).N) 2)

theorem fin69 (A : AC) (h : A = C0 m c) : o69 (sumC A) = Pipeline.afterTail₀ cfgs (dats m) 0 (V0 m) [hostOps1] c main_v69 := by
  rw [h, tail69, f2]

/-- result 9 -/
abbrev o31 (X : FVec Ideal S3584x128 .f32) := shapeCast S2x384 (extractStridedSlice S768 ![0] (shapeCast S2048 (extractStridedSlice S16x128 ![1632, 0] X slices_S3584x128_S16x128_1632_0) shapeCasts_S16x128_S2048) slices_S2048_S768_0) shapeCasts_S768_S2x384

theorem tail31 : Pipeline.afterTail₀ cfgs (dats m) 0 (V0 m) [hostOps1] c main_v31 = o31 ((dats m 0 c).arrAt 2 (cfgs 0).N) := by
  unfold Pipeline.afterTail₀
  simp only [hostOps1, List.flatten_cons, List.flatten_nil, List.append_nil]
  entry_read
  exact congrArg o31 (Pipeline.withArrays_arr spec0 winFacts0.arr_inj c (V0 m c) (fun w => (dats m 0 c).arrAt w (cfgs 0).N) 2)

theorem fin31 (A : AC) (h : A = C0 m c) : o31 (sumC A) = Pipeline.afterTail₀ cfgs (dats m) 0 (V0 m) [hostOps1] c main_v31 := by
  rw [h, tail31, f2]

/-- result 12 -/
abbrev o42 (X : FVec Ideal S3584x128 .f32) := shapeCast S2x256 (extractStridedSlice S512 ![0] (shapeCast S2048 (extractStridedSlice S16x128 ![1920, 0] X slices_S3584x128_S16x128_1920_0) shapeCasts_S16x128_S2048) slices_S2048_S512_0) shapeCasts_S512_S2x256

theorem tail42 : Pipeline.afterTail₀ cfgs (dats m) 0 (V0 m) [hostOps1] c main_v42 = o42 ((dats m 0 c).arrAt 2 (cfgs 0).N) := by
  unfold Pipeline.afterTail₀
  simp only [hostOps1, List.flatten_cons, List.flatten_nil, List.append_nil]
  entry_read
  exact congrArg o42 (Pipeline.withArrays_arr spec0 winFacts0.arr_inj c (V0 m c) (fun w => (dats m 0 c).arrAt w (cfgs 0).N) 2)

theorem fin42 (A : AC) (h : A = C0 m c) : o42 (sumC A) = Pipeline.afterTail₀ cfgs (dats m) 0 (V0 m) [hostOps1] c main_v42 := by
  rw [h, tail42, f2]

/-- result 15 -/
abbrev o53 (X : FVec Ideal S3584x128 .f32) := shapeCast S2x6x128x128 (shapeCast S196608 (extractStridedSlice S1536x128 ![1968, 0] X slices_S3584x128_S1536x128_1968_0) shapeCasts_S1536x128_S196608) shapeCasts_S196608_S2x6x128x128

theorem tail53 : Pipeline.afterTail₀ cfgs (dats m) 0 (V0 m) [hostOps1] c main_v53 = o53 ((dats m 0 c).arrAt 2 (cfgs 0).N) := by
  unfold Pipeline.afterTail₀
  simp only [hostOps1, List.flatten_cons, List.flatten_nil, List.append_nil]
  entry_read
  exact congrArg o53 (Pipeline.withArrays_arr spec0 winFacts0.arr_inj c (V0 m c) (fun w => (dats m 0 c).arrAt w (cfgs 0).N) 2)

theorem fin53 (A : AC) (h : A = C0 m c) : o53 (sumC A) = Pipeline.afterTail₀ cfgs (dats m) 0 (V0 m) [hostOps1] c main_v53 := by
  rw [h, tail53, f2]

/-- result 18 -/
abbrev o64 (X : FVec Ideal S32x128 .f32) := extractStridedSlice S1024 ![0] (shapeCast S2048 (extractStridedSlice S16x128 ![0, 0] X slices_S32x128_S16x128_0_0) shapeCasts_S16x128_S2048) slices_S2048_S1024_0

theorem tail64 : Pipeline.afterTail₀ cfgs (dats m) 0 (V0 m) [hostOps1] c main_v64 = o64 ((dats m 0 c).arrAt 3 (cfgs 0).N) := by
  unfold Pipeline.afterTail₀
  simp only [hostOps1, List.flatten_cons, List.flatten_nil, List.append_nil]
  entry_read
  exact congrArg o64 (Pipeline.withArrays_arr spec0 winFacts0.arr_inj c (V0 m c) (fun w => (dats m 0 c).arrAt w (cfgs 0).N) 3)

theorem fin64 (A : AP) (h : A = P0 m c) : o64 (sumP A) = Pipeline.afterTail₀ cfgs (dats m) 0 (V0 m) [hostOps1] c main_v64 := by
  rw [h, tail64, f3]

end Cert.SumsVal

end
-- ==== Proof.SumsTailB.lean ====
/- The host lines after the sums, a second third of the results: each is the same slice of the sum. -/
module

public import proofs.«01_k».proof.Defs
public import proofs.«01_k».proof.Proof.SumsArr
public import proofs.«01_k».proof.Proof.Gen.SumsIdeal.Frame
public import proofs.«01_k».proof.Proof.Gen.SumsRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumsVal

open Idealize.ShloMosaic Idealize.ShloMosaic.TcCoe Idealize.SL.Sem
open Idealize.ShloMosaic.Pipeline (Dat)
open Cert.SumsIdeal Cert.SumsIdeal.Gen

variable (m : (ℓ : Loc nD τ sig) → Buf (Elt Ideal) ℓ) (c : Dev nD)

/-- result 1 -/
abbrev o3 (X : FVec Ideal S3584x128 .f32) := shapeCast S2x1024 (shapeCast S2048 (extractStridedSlice S16x128 ![0, 0] X slices_S3584x128_S16x128_0_0) shapeCasts_S16x128_S2048) shapeCasts_S2048_S2x1024

theorem tail3 : Pipeline.afterTail₀ cfgs (dats m) 0 (V0 m) [hostOps1] c main_v3 = o3 ((dats m 0 c).arrAt 2 (cfgs 0).N) := by
  unfold Pipeline.afterTail₀
  simp only [hostOps1, List.flatten_cons, List.flatten_nil, List.append_nil]
  entry_read
  exact congrArg o3 (Pipeline.withArrays_arr spec0 winFacts0.arr_inj c (V0 m c) (fun w => (dats m 0 c).arrAt w (cfgs 0).N) 2)

theorem fin3 (A : AC) (h : A = C0 m c) : o3 (sumC A) = Pipeline.afterTail₀ cfgs (dats m) 0 (V0 m) [hostOps1] c main_v3 := by
  rw [h, tail3, f2]

/-- result 4 -/
abbrev o15 (X : FVec Ideal S3584x128 .f32) := shapeCast S2x24 (extractStridedSlice S48 ![0] (shapeCast S2048 (extractStridedSlice S16x128 ![80, 0] X slices_S3584x128_S16x128_80_0) shapeCasts_S16x128_S2048) slices_S2048_S48_0) shapeCasts_S48_S2x24

theorem tail15 : Pipeline.afterTail₀ cfgs (dats m) 0 (V0 m) [hostOps1] c main_v15 = o15 ((dats m 0 c).arrAt 2 (cfgs 0).N) := by
  unfold Pipeline.afterTail₀
  simp only [hostOps1, List.flatten_cons, List.flatten_nil, List.append_nil]
  entry_read
  exact congrArg o15 (Pipeline.withArrays_arr spec0 winFacts0.arr_inj c (V0 m c) (fun w => (dats m 0 c).arrAt w (cfgs 0).N) 2)

theorem fin15 (A : AC) (h : A = C0 m c) : o15 (sumC A) = Pipeline.afterTail₀ cfgs (dats m) 0 (V0 m) [hostOps1] c main_v15 := by
  rw [h, tail15, f2]

/-- result 7 -/
abbrev o24 (X : FVec Ideal S3584x128 .f32) := shapeCast S2x24x16x64 (shapeCast S49152 (extractStridedSlice S384x128 ![864, 0] X slices_S3584x128_S384x128_864_0) shapeCasts_S384x128_S49152) shapeCasts_S49152_S2x24x16x64

theorem tail24 : Pipeline.afterTail₀ cfgs (dats m) 0 (V0 m) [hostOps1] c main_v24 = o24 ((dats m 0 c).arrAt 2 (cfgs 0).N) := by
  unfold Pipeline.afterTail₀
  simp only [hostOps1, List.flatten_cons, List.flatten_nil, List.append_nil]
  entry_read
  exact congrArg o24 (Pipeline.withArrays_arr spec0 winFacts0.arr_inj c (V0 m c) (fun w => (dats m 0 c).arrAt w (cfgs 0).N) 2)

theorem fin24 (A : AC) (h : A = C0 m c) : o24 (sumC A) = Pipeline.afterTail₀ cfgs (dats m) 0 (V0 m) [hostOps1] c main_v24 := by
  rw [h, tail24, f2]

/-- result 10 -/
abbrev o35 (X : FVec Ideal S3584x128 .f32) := shapeCast S2x384 (extractStridedSlice S768 ![0] (shapeCast S2048 (extractStridedSlice S16x128 ![1648, 0] X slices_S3584x128_S16x128_1648_0) shapeCasts_S16x128_S2048) slices_S2048_S768_0) shapeCasts_S768_S2x384

theorem tail35 : Pipeline.afterTail₀ cfgs (dats m) 0 (V0 m) [hostOps1] c main_v35 = o35 ((dats m 0 c).arrAt 2 (cfgs 0).N) := by
  unfold Pipeline.afterTail₀
  simp only [hostOps1, List.flatten_cons, List.flatten_nil, List.append_nil]
  entry_read
  exact congrArg o35 (Pipeline.withArrays_arr spec0 winFacts0.arr_inj c (V0 m c) (fun w => (dats m 0 c).arrAt w (cfgs 0).N) 2)

theorem fin35 (A : AC) (h : A = C0 m c) : o35 (sumC A) = Pipeline.afterTail₀ cfgs (dats m) 0 (V0 m) [hostOps1] c main_v35 := by
  rw [h, tail35, f2]

/-- result 13 -/
abbrev o46 (X : FVec Ideal S3584x128 .f32) := shapeCast S2x384 (extractStridedSlice S768 ![0] (shapeCast S2048 (extractStridedSlice S16x128 ![1936, 0] X slices_S3584x128_S16x128_1936_0) shapeCasts_S16x128_S2048) slices_S2048_S768_0) shapeCasts_S768_S2x384

theorem tail46 : Pipeline.afterTail₀ cfgs (dats m) 0 (V0 m) [hostOps1] c main_v46 = o46 ((dats m 0 c).arrAt 2 (cfgs 0).N) := by
  unfold Pipeline.afterTail₀
  simp only [hostOps1, List.flatten_cons, List.flatten_nil, List.append_nil]
  entry_read
  exact congrArg o46 (Pipeline.withArrays_arr spec0 winFacts0.arr_inj c (V0 m c) (fun w => (dats m 0 c).arrAt w (cfgs 0).N) 2)

theorem fin46 (A : AC) (h : A = C0 m c) : o46 (sumC A) = Pipeline.afterTail₀ cfgs (dats m) 0 (V0 m) [hostOps1] c main_v46 := by
  rw [h, tail46, f2]

/-- result 16 -/
abbrev o70 (X : FVec Ideal S3584x128 .f32) := transpose S2x6x128 [1, 0, 2] (shapeCast S6x2x128 (extractStridedSlice S1536 ![0] (shapeCast S2048 (extractStridedSlice S16x128 ![3504, 0] X slices_S3584x128_S16x128_3504_0) shapeCasts_S16x128_S2048) slices_S2048_S1536_0) shapeCasts_S1536_S6x2x128) transposes_S6x2x128_S2x6x128_1_0_2

theorem tail70 : Pipeline.afterTail₀ cfgs (dats m) 0 (V0 m) [hostOps1] c main_v70 = o70 ((dats m 0 c).arrAt 2 (cfgs 0).N) := by
  unfold Pipeline.afterTail₀
  simp only [hostOps1, List.flatten_cons, List.flatten_nil, List.append_nil]
  entry_read
  exact congrArg o70 (Pipeline.withArrays_arr spec0 winFacts0.arr_inj c (V0 m c) (fun w => (dats m 0 c).arrAt w (cfgs 0).N) 2)

theorem fin70 (A : AC) (h : A = C0 m c) : o70 (sumC A) = Pipeline.afterTail₀ cfgs (dats m) 0 (V0 m) [hostOps1] c main_v70 := by
  rw [h, tail70, f2]

end Cert.SumsVal

end
-- ==== Proof.SumsTailC.lean ====
/- The host lines after the sums, a third third of the results: each is the same slice of the sum. -/
module

public import proofs.«01_k».proof.Defs
public import proofs.«01_k».proof.Proof.SumsArr
public import proofs.«01_k».proof.Proof.Gen.SumsIdeal.Frame
public import proofs.«01_k».proof.Proof.Gen.SumsRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumsVal

open Idealize.ShloMosaic Idealize.ShloMosaic.TcCoe Idealize.SL.Sem
open Idealize.ShloMosaic.Pipeline (Dat)
open Cert.SumsIdeal Cert.SumsIdeal.Gen

variable (m : (ℓ : Loc nD τ sig) → Buf (Elt Ideal) ℓ) (c : Dev nD)

/-- result 2 -/
abbrev o7 (X : FVec Ideal S3584x128 .f32) := shapeCast S2x24x64 (extractStridedSlice S3072 ![0] (shapeCast S4096 (extractStridedSlice S32x128 ![16, 0] X slices_S3584x128_S32x128_16_0) shapeCasts_S32x128_S4096) slices_S4096_S3072_0) shapeCasts_S3072_S2x24x64

theorem tail7 : Pipeline.afterTail₀ cfgs (dats m) 0 (V0 m) [hostOps1] c main_v7 = o7 ((dats m 0 c).arrAt 2 (cfgs 0).N) := by
  unfold Pipeline.afterTail₀
  simp only [hostOps1, List.flatten_cons, List.flatten_nil, List.append_nil]
  entry_read
  exact congrArg o7 (Pipeline.withArrays_arr spec0 winFacts0.arr_inj c (V0 m c) (fun w => (dats m 0 c).arrAt w (cfgs 0).N) 2)

theorem fin7 (A : AC) (h : A = C0 m c) : o7 (sumC A) = Pipeline.afterTail₀ cfgs (dats m) 0 (V0 m) [hostOps1] c main_v7 := by
  rw [h, tail7, f2]

/-- result 5 -/
abbrev o68 (X : FVec Ideal S3584x128 .f32) := transpose S2x24x64x16 [0, 1, 3, 2] (shapeCast S2x24x16x64 (shapeCast S49152 (extractStridedSlice S384x128 ![96, 0] X slices_S3584x128_S384x128_96_0) shapeCasts_S384x128_S49152) shapeCasts_S49152_S2x24x16x64) transposes_S2x24x16x64_S2x24x64x16_0_1_3_2

theorem tail68 : Pipeline.afterTail₀ cfgs (dats m) 0 (V0 m) [hostOps1] c main_v68 = o68 ((dats m 0 c).arrAt 2 (cfgs 0).N) := by
  unfold Pipeline.afterTail₀
  simp only [hostOps1, List.flatten_cons, List.flatten_nil, List.append_nil]
  entry_read
  exact congrArg o68 (Pipeline.withArrays_arr spec0 winFacts0.arr_inj c (V0 m c) (fun w => (dats m 0 c).arrAt w (cfgs 0).N) 2)

theorem fin68 (A : AC) (h : A = C0 m c) : o68 (sumC A) = Pipeline.afterTail₀ cfgs (dats m) 0 (V0 m) [hostOps1] c main_v68 := by
  rw [h, tail68, f2]

/-- result 8 -/
abbrev o27 (X : FVec Ideal S3584x128 .f32) := shapeCast S2x24x16x64 (shapeCast S49152 (extractStridedSlice S384x128 ![1248, 0] X slices_S3584x128_S384x128_1248_0) shapeCasts_S384x128_S49152) shapeCasts_S49152_S2x24x16x64

theorem tail27 : Pipeline.afterTail₀ cfgs (dats m) 0 (V0 m) [hostOps1] c main_v27 = o27 ((dats m 0 c).arrAt 2 (cfgs 0).N) := by
  unfold Pipeline.afterTail₀
  simp only [hostOps1, List.flatten_cons, List.flatten_nil, List.append_nil]
  entry_read
  exact congrArg o27 (Pipeline.withArrays_arr spec0 winFacts0.arr_inj c (V0 m c) (fun w => (dats m 0 c).arrAt w (cfgs 0).N) 2)

theorem fin27 (A : AC) (h : A = C0 m c) : o27 (sumC A) = Pipeline.afterTail₀ cfgs (dats m) 0 (V0 m) [hostOps1] c main_v27 := by
  rw [h, tail27, f2]

/-- result 11 -/
abbrev o38 (X : FVec Ideal S3584x128 .f32) := shapeCast S2x4x64x64 (shapeCast S32768 (extractStridedSlice S256x128 ![1664, 0] X slices_S3584x128_S256x128_1664_0) shapeCasts_S256x128_S32768) shapeCasts_S32768_S2x4x64x64

theorem tail38 : Pipeline.afterTail₀ cfgs (dats m) 0 (V0 m) [hostOps1] c main_v38 = o38 ((dats m 0 c).arrAt 2 (cfgs 0).N) := by
  unfold Pipeline.afterTail₀
  simp only [hostOps1, List.flatten_cons, List.flatten_nil, List.append_nil]
  entry_read
  exact congrArg o38 (Pipeline.withArrays_arr spec0 winFacts0.arr_inj c (V0 m c) (fun w => (dats m 0 c).arrAt w (cfgs 0).N) 2)

theorem fin38 (A : AC) (h : A = C0 m c) : o38 (sumC A) = Pipeline.afterTail₀ cfgs (dats m) 0 (V0 m) [hostOps1] c main_v38 := by
  rw [h, tail38, f2]

/-- result 14 -/
abbrev o50 (X : FVec Ideal S3584x128 .f32) := shapeCast S2x384 (extractStridedSlice S768 ![0] (shapeCast S2048 (extractStridedSlice S16x128 ![1952, 0] X slices_S3584x128_S16x128_1952_0) shapeCasts_S16x128_S2048) slices_S2048_S768_0) shapeCasts_S768_S2x384

theorem tail50 : Pipeline.afterTail₀ cfgs (dats m) 0 (V0 m) [hostOps1] c main_v50 = o50 ((dats m 0 c).arrAt 2 (cfgs 0).N) := by
  unfold Pipeline.afterTail₀
  simp only [hostOps1, List.flatten_cons, List.flatten_nil, List.append_nil]
  entry_read
  exact congrArg o50 (Pipeline.withArrays_arr spec0 winFacts0.arr_inj c (V0 m c) (fun w => (dats m 0 c).arrAt w (cfgs 0).N) 2)

theorem fin50 (A : AC) (h : A = C0 m c) : o50 (sumC A) = Pipeline.afterTail₀ cfgs (dats m) 0 (V0 m) [hostOps1] c main_v50 := by
  rw [h, tail50, f2]

/-- result 17 -/
abbrev o60 (X : FVec Ideal S3584x128 .f32) := shapeCast S2x1024 (shapeCast S2048 (extractStridedSlice S16x128 ![3520, 0] X slices_S3584x128_S16x128_3520_0) shapeCasts_S16x128_S2048) shapeCasts_S2048_S2x1024

theorem tail60 : Pipeline.afterTail₀ cfgs (dats m) 0 (V0 m) [hostOps1] c main_v60 = o60 ((dats m 0 c).arrAt 2 (cfgs 0).N) := by
  unfold Pipeline.afterTail₀
  simp only [hostOps1, List.flatten_cons, List.flatten_nil, List.append_nil]
  entry_read
  exact congrArg o60 (Pipeline.withArrays_arr spec0 winFacts0.arr_inj c (V0 m c) (fun w => (dats m 0 c).arrAt w (cfgs 0).N) 2)

theorem fin60 (A : AC) (h : A = C0 m c) : o60 (sumC A) = Pipeline.afterTail₀ cfgs (dats m) 0 (V0 m) [hostOps1] c main_v60 := by
  rw [h, tail60, f2]

end Cert.SumsVal

end
-- ==== Proof.SumsVal.lean ====
/- The sums over the devices of the small gradients and of the loss, unpacked: each array is the reference's sum over the first axis, and the host lines after the call are the reference's: the value claim. -/
module

public import proofs.«01_k».proof.Defs
public import proofs.«01_k».proof.Proof.SumsTailA
public import proofs.«01_k».proof.Proof.SumsTailB
public import proofs.«01_k».proof.Proof.SumsTailC
public import proofs.«01_k».proof.Proof.Gen.SumsIdeal.Frame
public import proofs.«01_k».proof.Proof.Gen.SumsRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumsVal

open Idealize.ShloMosaic Idealize.ShloMosaic.TcCoe Idealize.SL.Sem
open Idealize.ShloMosaic.Pipeline (Dat)
open Cert.SumsIdeal Cert.SumsIdeal.Gen

theorem algebraic : Cert.algebraic_SumsIdeal_SumsRefIdeal := by
  pair_intro
  · run_from Cert.SumsIdeal.Gen.unchanged m g & Cert.SumsIdeal.Gen.run_main m g
  · refine Idealize.ShloMosaic.θ_run_mono (Cert.SumsRefIdeal.Value.run m' g') ?_
    intro r hr c
    obtain ⟨h67, h3, h7, h11, h15, h68, h69, h24, h27, h31, h35, h38, h42, h46, h50, h53, h70, h60, h64, ha, hb⟩ := hr c
    exact ⟨h67.trans (fin67 m c _ (hagree c).2),
      h3.trans (fin3 m c _ (hagree c).1),
      h7.trans (fin7 m c _ (hagree c).1),
      h11.trans (fin11 m c _ (hagree c).1),
      h15.trans (fin15 m c _ (hagree c).1),
      h68.trans (fin68 m c _ (hagree c).1),
      h69.trans (fin69 m c _ (hagree c).1),
      h24.trans (fin24 m c _ (hagree c).1),
      h27.trans (fin27 m c _ (hagree c).1),
      h31.trans (fin31 m c _ (hagree c).1),
      h35.trans (fin35 m c _ (hagree c).1),
      h38.trans (fin38 m c _ (hagree c).1),
      h42.trans (fin42 m c _ (hagree c).1),
      h46.trans (fin46 m c _ (hagree c).1),
      h50.trans (fin50 m c _ (hagree c).1),
      h53.trans (fin53 m c _ (hagree c).1),
      h70.trans (fin70 m c _ (hagree c).1),
      h60.trans (fin60 m c _ (hagree c).1),
      h64.trans (fin64 m c _ (hagree c).2), ha, hb⟩

end Cert.SumsVal

end
-- ==== Proof.HalvesMixPre.lean ====
/- The half the device keeps is one of two: the table's first word is 0 or 1, so every block is inside its array. -/
module

public import proofs.«01_k».proof.Defs
public import proofs.«01_k».proof.Proof.Gen.HalvesMix.Frame
public import proofs.«01_k».proof.Proof.Gen.HalvesMixIdeal.Frame
public import proofs.«01_k».proof.Proof.Gen.Pre_halves_of_pair
public import Idealize.ShloMosaic.Lib.Pointwise
public import Idealize.ShloMosaic.Lib.StableHlo.Predicate

@[expose] public section

noncomputable section

namespace Cert.HalvesMixPre

open Idealize.ShloMosaic Idealize.ShloMosaic.TcCoe

theorem word {a : BitVec 32} (h : IntOp.andi (IntOp.cmpi .sge a 0#32) (IntOp.cmpi .sle a 1#32) = 1#1) : a = 0#32 ∨ a = 1#32 := by
  have e (p : Bool) : (BitVec.ofBool p = 1#1) ↔ p = true := by cases p <;> decide
  have andi_one (a b : BitVec 1) : IntOp.andi a b = 1#1 ↔ a = 1#1 ∧ b = 1#1 := by revert a b; decide
  rw [andi_one] at h
  simp only [e, IntOp.cmpi, BitVec.sle, decide_eq_true_eq, BitVec.toInt, BitVec.toNat_ofNat] at h
  have : a.toNat = 0 ∨ a.toNat = 1 := by
    have := a.isLt
    split at h <;> simp at h <;> omega
  rcases this with h | h
  · exact .inl (BitVec.eq_of_toNat_eq h)
  · exact .inr (BitVec.eq_of_toNat_eq h)

theorem first {F : FTy → Type} [FloatOps F] (sel : IVec Cert.Pre_halves_of_pair.S2 32) {a1 a2 a3 a4}
    (h : Cert.Pre_halves_of_pair.fn (F := F) sel a1 a2 a3 a4 = fun _ => 1#1) (w : Cert.Pre_halves_of_pair.S2.Idx) (hw : (w 0).val = 0) :
    sel w = 0#32 ∨ sel w = 1#32 := by
  have pre := congrFun h (fun a => ⟨0, by obtain rfl : a = 0 := Subsingleton.elim _ _; decide⟩)
  simp only [Cert.Pre_halves_of_pair.fn, constantI, broadcastInDim, cmpi, andi, extractStridedSlice] at pre
  have at_w (I : Cert.Pre_halves_of_pair.S2.Idx) (hI : (I 0).val = 0) : I = w := by
    funext a
    obtain rfl : a = 0 := Subsingleton.elim _ _
    exact Fin.ext (hI.trans hw.symm)
  rcases word pre with e | e
  · exact .inl ((congrArg sel (at_w _ (by rfl))).symm.trans e)
  · exact .inr ((congrArg sel (at_w _ (by rfl))).symm.trans e)

section
open Cert.HalvesMix Cert.HalvesMix.Gen

theorem ok (m : (ℓ : Loc nD τ sig) → Buf (Elt Bits) ℓ) (h : Cert.Pre_HalvesMix m) : Ok (F := Bits) m := by
  have h0 : ∀ x : BitVec 32, x = 0#32 ∨ x = 1#32 → x.toNat < 2 := by rintro x (rfl | rfl) <;> decide
  have hs := h0 ((tbl m).at 0 (Rect.unit (s := S2) ![0] S1.size inb_S2_S1_0) numel1_S1) (first (F := Bits) _ (h 0) _ rfl)
  have hi (i : grid0.Coords) : (BitVec.ofNat 32 (i 0).val).toNat < 4 := by
    have h4 : (i 0).val < 4 := (i 0).isLt
    rw [BitVec.toNat_ofNat, Nat.mod_eq_of_lt (by omega)]
    exact h4
  refine ⟨fun i => ⟨fun a => ?_, .inl rfl⟩, fun i => ⟨fun a => ?_, .inl rfl⟩⟩
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 176 ≤ 176; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 48 ≤ 48; omega
    | ⟨3, _⟩ => show (0 + 1) * 384 ≤ 384; omega

end

section
open Cert.HalvesMixIdeal Cert.HalvesMixIdeal.Gen

theorem okI (m : (ℓ : Loc nD τ sig) → Buf (Elt Ideal) ℓ) (h : Cert.Pre_HalvesMixIdeal m) : Ok (F := Ideal) m := by
  have h0 : ∀ x : BitVec 32, x = 0#32 ∨ x = 1#32 → x.toNat < 2 := by rintro x (rfl | rfl) <;> decide
  have hs := h0 ((tbl m).at 0 (Rect.unit (s := S2) ![0] S1.size inb_S2_S1_0) numel1_S1) (first (F := Ideal) _ (h 0) _ rfl)
  have hi (i : grid0.Coords) : (BitVec.ofNat 32 (i 0).val).toNat < 4 := by
    have h4 : (i 0).val < 4 := (i 0).isLt
    rw [BitVec.toNat_ofNat, Nat.mod_eq_of_lt (by omega)]
    exact h4
  refine ⟨fun i => ⟨fun a => ?_, .inl rfl⟩, fun i => ⟨fun a => ?_, .inl rfl⟩⟩
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 176 ≤ 176; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 48 ≤ 48; omega
    | ⟨3, _⟩ => show (0 + 1) * 384 ≤ 384; omega

end

end Cert.HalvesMixPre

end
-- ==== Proof.HalvesMixVal.lean ====
/- The device's half of the partial gradients and its sibling's, added: one chip's rows at each point. -/
module

public import proofs.«01_k».proof.Defs
public import proofs.«01_k».proof.Proof.Gen.HalvesMixIdeal.Frame
public import proofs.«01_k».proof.Proof.Gen.HalvesMixRefIdeal.Run
public import proofs.«01_k».proof.Proof.Gen.HalvesMixRefIdeal.Read
public import proofs.«01_k».proof.Proof.HalvesMixPre
public import Idealize.ShloMosaic.Lib.Pipeline.ValueKit
public import Idealize.ShloMosaic.Lib.Pointwise
public import Idealize.ShloMosaic.Lib.Claim

@[expose] public section

set_option maxRecDepth 16384

noncomputable section

namespace Cert.HalvesMixVal

open Idealize.ShloMosaic Idealize.ShloMosaic.TcCoe Idealize.SL.Sem
open Idealize.ShloMosaic.Pipeline (Dat)
open Cert.HalvesMixIdeal Cert.HalvesMixIdeal.Gen

/-- the kept half of one array and the other array, added -/
def add {r w : ℕ} (s : Fin 2) (G : (⟨4, ![4, 2, r, w]⟩ : Shape).Idx → EReal) (R : (⟨3, ![4, r, w]⟩ : Shape).Idx → EReal) :
    (⟨3, ![4, r, w]⟩ : Shape).Idx → EReal :=
  fun j => G (ix4 (j 0) s (j 1) (j 2)) + R j

/-- the block of one chip -/
def blk4 {r w : ℕ} (s : Fin 2) (G : (⟨4, ![4, 2, r, w]⟩ : Shape).Idx → EReal) (k : Fin 4) : (⟨4, ![1, 1, r, w]⟩ : Shape).Idx → EReal :=
  fun y => G (ix4 k s (y 2) (y 3))

def blk3 {r w : ℕ} (R : (⟨3, ![4, r, w]⟩ : Shape).Idx → EReal) (k : Fin 4) : (⟨3, ![1, r, w]⟩ : Shape).Idx → EReal :=
  fun y => R (ix3 k (y 1) (y 2))

theorem p1 (s : Fin 2) (G : S4x2x176x1024.Idx → EReal) (R : S4x176x1024.Idx → EReal) (k : Fin 4) (y : S1x176x1024.Idx) :
    k0_pay1 (F := Ideal) (blk4 s G k) (blk3 R k) y = add s G R (ix3 k (y 1) (y 2)) := by
  idx_vars y
  obtain rfl : y0 = 0 := Subsingleton.elim _ _
  pointwise [k0_pay1, blk4, blk3, add]

theorem p2 (s : Fin 2) (G : S4x2x48x384.Idx → EReal) (R : S4x48x384.Idx → EReal) (k : Fin 4) (y : S1x48x384.Idx) :
    k0_pay2 (F := Ideal) (blk4 s G k) (blk3 R k) y = add s G R (ix3 k (y 1) (y 2)) := by
  idx_vars y
  obtain rfl : y0 = 0 := Subsingleton.elim _ _
  pointwise [k0_pay2, blk4, blk3, add]

variable (m : (ℓ : Loc nD τ sig) → Buf (Elt Ideal) ℓ) (hO : Ok m) (c : Dev nD)

abbrev G1 : S4x2x176x1024.Idx → EReal := m ((c : Thread nD τ).loc main_arg1)
abbrev G2 : S4x2x48x384.Idx → EReal := m ((c : Thread nD τ).loc main_arg2)
abbrev R1 : S4x176x1024.Idx → EReal := m ((c : Thread nD τ).loc main_arg3)
abbrev R2 : S4x48x384.Idx → EReal := m ((c : Thread nD τ).loc main_arg4)

/-- the chip of a point -/
def chip (t : Fin (cfgM m hO).N) : Fin 4 := ⟨(grid0.coords t 0).val, (grid0.coords t 0).isLt⟩

theorem chip_nat (t : Fin (cfgM m hO).N) : (BitVec.ofNat 32 (grid0.coords t 0).val).toNat = (grid0.coords t 0).val := by
  have h4 : (grid0.coords t 0).val < 4 := (grid0.coords t 0).isLt
  rw [BitVec.toNat_ofNat, Nat.mod_eq_of_lt (by omega)]

theorem coord : ∀ t : Fin grid0.N, (grid0.coords t 0).val = t.val := by decide

theorem b0 (s : Fin 2) (hs : ((tbl m).at 0 (Rect.unit (s := S2) ![0] S1.size inb_S2_S1_0) numel1_S1).toNat = s.val) (t : Fin (cfgM m hO).N) :
    iblk m hO c 0 t = blk4 s (G1 m c) (chip m hO t) := by
  refine funext fun (y : S1x1x176x1024.Idx) => ?_
  have e : ((((cfgM m hO).win 0).blk t).view.emb y : S4x2x176x1024.Idx) = ix4 (chip m hO t) s (y 2) (y 3) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show ((tbl m).at 0 (Rect.unit (s := S2) ![0] S1.size inb_S2_S1_0) numel1_S1).toNat * 1 + 1 * (y 1).val = s.val
                have h0 : (y 1).val < 1 := (y 1).isLt
                omega
    | ⟨2, _⟩ => show 0 * 176 + 1 * (y 2).val = (y 2).val; omega
    | ⟨3, _⟩ => show 0 * 1024 + 1 * (y 3).val = (y 3).val; omega
  exact congrArg (G1 m c) e

theorem b2 (t : Fin (cfgM m hO).N) : iblk m hO c 2 t = blk3 (R1 m c) (chip m hO t) := by
  refine funext fun (y : S1x176x1024.Idx) => ?_
  have e : ((((cfgM m hO).win 2).blk t).view.emb y : S4x176x1024.Idx) = ix3 (chip m hO t) (y 1) (y 2) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show 0 * 176 + 1 * (y 1).val = (y 1).val; omega
    | ⟨2, _⟩ => show 0 * 1024 + 1 * (y 2).val = (y 2).val; omega
  exact congrArg (R1 m c) e

theorem e4 (t : Fin (cfgM m hO).N) (y : S1x176x1024.Idx) : ((((cfgM m hO).win 4).blk t).view.emb y : S4x176x1024.Idx) = ix3 (chip m hO t) (y 1) (y 2) := by
  funext a; apply Fin.ext
  match a with
  | ⟨0, _⟩ => show (BitVec.ofNat 32 (grid0.coords t 0).val).toNat * 1 + 1 * (y 0).val = (grid0.coords t 0).val
              have h0 : (y 0).val < 1 := (y 0).isLt
              rw [chip_nat]; omega
  | ⟨1, _⟩ => show 0 * 176 + 1 * (y 1).val = (y 1).val; omega
  | ⟨2, _⟩ => show 0 * 1024 + 1 * (y 2).val = (y 2).val; omega

theorem nblk4 : ∀ a : Fin 3, 0 < ((cfgM m hO).win 4).size a ∧ ((cfgM m hO).win 4).nblk a = ![4, 1, 1] a := by
  intro a
  match a with
  | 0 => exact ⟨Nat.zero_lt_succ _, show (4 + 1 - 1) / 1 = 4 by decide⟩
  | 1 => exact ⟨Nat.zero_lt_succ _, show (176 + 176 - 1) / 176 = 1 by decide⟩
  | 2 => exact ⟨Nat.zero_lt_succ _, show (1024 + 1024 - 1) / 1024 = 1 by decide⟩

theorem cov4 : ((cfgM m hO).win 4).Covers := by
  refine ⟨fun a => (nblk4 m hO a).1, fun (β : (a : Fin 3) → Fin (((cfgM m hO).win 4).nblk a)) => ?_⟩
  have h0 : (β (0 : Fin 3)).val < 4 := lt_of_lt_of_eq (β (0 : Fin 3)).isLt (nblk4 m hO 0).2
  have h1 : (β (1 : Fin 3)).val < 1 := lt_of_lt_of_eq (β (1 : Fin 3)).isLt (nblk4 m hO 1).2
  have h2 : (β (2 : Fin 3)).val < 1 := lt_of_lt_of_eq (β (2 : Fin 3)).isLt (nblk4 m hO 2).2
  refine ⟨⟨(β (0 : Fin 3)).val, h0⟩, flush0_4 _ _, fun (a : Fin 3) => ⟨?_, .inl rfl⟩⟩
  match a with
  | 0 => show (BitVec.ofNat 32 (grid0.coords ⟨(β (0 : Fin 3)).val, h0⟩ 0).val).toNat = (β (0 : Fin 3)).val
         rw [coord, BitVec.toNat_ofNat]
         exact Nat.mod_eq_of_lt (lt_trans h0 (by decide))
  | 1 => show 0 = (β (1 : Fin 3)).val; omega
  | 2 => show 0 = (β (2 : Fin 3)).val; omega

theorem f4 (s : Fin 2) (hs : ((tbl m).at 0 (Rect.unit (s := S2) ![0] S1.size inb_S2_S1_0) numel1_S1).toNat = s.val) :
    (dats m hO 0 c).arrAt 4 (cfgM m hO).N = add s (G1 m c) (R1 m c) := by
  refine (dats m hO 0 c).arrAt_eq_of_covers 4 _ (cov4 m hO) fun t _ y => ?_
  blk_simp
  rw [after0_4]
  unfold outsAt0
  frame_out
  refine (congrFun (congrArg₂ k0_pay1 (Memref.IsWhole.read_unread _ _) (Memref.IsWhole.read_unread _ _)) y).trans ?_
  rw [b0 m hO c s hs, b2]
  refine (p1 s (G1 m c) (R1 m c) (chip m hO t) y).trans ?_
  exact congrArg (add s (G1 m c) (R1 m c)) (e4 m hO t y).symm

theorem b1 (s : Fin 2) (hs : ((tbl m).at 0 (Rect.unit (s := S2) ![0] S1.size inb_S2_S1_0) numel1_S1).toNat = s.val) (t : Fin (cfgM m hO).N) :
    iblk m hO c 1 t = blk4 s (G2 m c) (chip m hO t) := by
  refine funext fun (y : S1x1x48x384.Idx) => ?_
  have e : ((((cfgM m hO).win 1).blk t).view.emb y : S4x2x48x384.Idx) = ix4 (chip m hO t) s (y 2) (y 3) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show ((tbl m).at 0 (Rect.unit (s := S2) ![0] S1.size inb_S2_S1_0) numel1_S1).toNat * 1 + 1 * (y 1).val = s.val
                have h0 : (y 1).val < 1 := (y 1).isLt
                omega
    | ⟨2, _⟩ => show 0 * 48 + 1 * (y 2).val = (y 2).val; omega
    | ⟨3, _⟩ => show 0 * 384 + 1 * (y 3).val = (y 3).val; omega
  exact congrArg (G2 m c) e

theorem b3 (t : Fin (cfgM m hO).N) : iblk m hO c 3 t = blk3 (R2 m c) (chip m hO t) := by
  refine funext fun (y : S1x48x384.Idx) => ?_
  have e : ((((cfgM m hO).win 3).blk t).view.emb y : S4x48x384.Idx) = ix3 (chip m hO t) (y 1) (y 2) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show 0 * 48 + 1 * (y 1).val = (y 1).val; omega
    | ⟨2, _⟩ => show 0 * 384 + 1 * (y 2).val = (y 2).val; omega
  exact congrArg (R2 m c) e

theorem e5 (t : Fin (cfgM m hO).N) (y : S1x48x384.Idx) : ((((cfgM m hO).win 5).blk t).view.emb y : S4x48x384.Idx) = ix3 (chip m hO t) (y 1) (y 2) := by
  funext a; apply Fin.ext
  match a with
  | ⟨0, _⟩ => show (BitVec.ofNat 32 (grid0.coords t 0).val).toNat * 1 + 1 * (y 0).val = (grid0.coords t 0).val
              have h0 : (y 0).val < 1 := (y 0).isLt
              rw [chip_nat]; omega
  | ⟨1, _⟩ => show 0 * 48 + 1 * (y 1).val = (y 1).val; omega
  | ⟨2, _⟩ => show 0 * 384 + 1 * (y 2).val = (y 2).val; omega

theorem nblk5 : ∀ a : Fin 3, 0 < ((cfgM m hO).win 5).size a ∧ ((cfgM m hO).win 5).nblk a = ![4, 1, 1] a := by
  intro a
  match a with
  | 0 => exact ⟨Nat.zero_lt_succ _, show (4 + 1 - 1) / 1 = 4 by decide⟩
  | 1 => exact ⟨Nat.zero_lt_succ _, show (48 + 48 - 1) / 48 = 1 by decide⟩
  | 2 => exact ⟨Nat.zero_lt_succ _, show (384 + 384 - 1) / 384 = 1 by decide⟩

theorem cov5 : ((cfgM m hO).win 5).Covers := by
  refine ⟨fun a => (nblk5 m hO a).1, fun (β : (a : Fin 3) → Fin (((cfgM m hO).win 5).nblk a)) => ?_⟩
  have h0 : (β (0 : Fin 3)).val < 4 := lt_of_lt_of_eq (β (0 : Fin 3)).isLt (nblk5 m hO 0).2
  have h1 : (β (1 : Fin 3)).val < 1 := lt_of_lt_of_eq (β (1 : Fin 3)).isLt (nblk5 m hO 1).2
  have h2 : (β (2 : Fin 3)).val < 1 := lt_of_lt_of_eq (β (2 : Fin 3)).isLt (nblk5 m hO 2).2
  refine ⟨⟨(β (0 : Fin 3)).val, h0⟩, flush0_5 _ _, fun (a : Fin 3) => ⟨?_, .inl rfl⟩⟩
  match a with
  | 0 => show (BitVec.ofNat 32 (grid0.coords ⟨(β (0 : Fin 3)).val, h0⟩ 0).val).toNat = (β (0 : Fin 3)).val
         rw [coord, BitVec.toNat_ofNat]
         exact Nat.mod_eq_of_lt (lt_trans h0 (by decide))
  | 1 => show 0 = (β (1 : Fin 3)).val; omega
  | 2 => show 0 = (β (2 : Fin 3)).val; omega

theorem f5 (s : Fin 2) (hs : ((tbl m).at 0 (Rect.unit (s := S2) ![0] S1.size inb_S2_S1_0) numel1_S1).toNat = s.val) :
    (dats m hO 0 c).arrAt 5 (cfgM m hO).N = add s (G2 m c) (R2 m c) := by
  refine (dats m hO 0 c).arrAt_eq_of_covers 5 _ (cov5 m hO) fun t _ y => ?_
  blk_simp
  rw [after0_5]
  unfold outsAt0
  frame_out
  refine (congrFun (congrArg₂ k0_pay2 (Memref.IsWhole.read_unread _ _) (Memref.IsWhole.read_unread _ _)) y).trans ?_
  rw [b1 m hO c s hs, b3]
  refine (p2 s (G2 m c) (R2 m c) (chip m hO t) y).trans ?_
  exact congrArg (add s (G2 m c) (R2 m c)) (e5 m hO t y).symm

open Cert.HalvesMixRefIdeal.Read in
theorem r1 (s : Fin 2) (sel : S2.Idx → BitVec 32) (hs : ∀ w : S2.Idx, (w 0).val = 0 → sel w = BitVec.ofNat 32 s.val) (G : S4x2x176x1024.Idx → EReal) (R : S4x176x1024.Idx → EReal) :
    val_main_v9 (F := Ideal) sel G R = add s G R := by
  have hc : ∀ i, val_main_v2 (F := Ideal) sel i = IntOp.cmpi .eq (BitVec.ofNat 32 s.val) 0#32 := by
    intro i
    rw [val_main_v2_apply, val_main_c_apply]
    exact congrArg (IntOp.cmpi .eq · 0#32) ((val_main_v0_apply (F := Ideal) sel _).trans (hs _ (Nat.lt_one_iff.mp (Shape.reshapeEquiv Cert.HalvesMixRefIdeal.Gen.shapeCasts_S1_S_ i 0).isLt)))
  funext j
  rw [val_main_v9_apply, val_main_v8_apply]
  have e : val_main_v7 (F := Ideal) sel G j = G (ix4 (j 0) s (j 1) (j 2)) := by
    show (if val_main_v2 (F := Ideal) sel _ = 1#1 then val_main_v4 (F := Ideal) G j else val_main_v6 (F := Ideal) G j) = _
    rw [hc]
    match s with
    | 0 => have e0 : idx_main_v3 (idx_main_v4 j) = ix4 (j 0) 0 (j 1) (j 2) := by
             funext a; apply Fin.ext
             have h0 : (j 0).val < 4 := (j 0).isLt
             have h1 : (j 1).val < 176 := (j 1).isLt
             have h2 : (j 2).val < 1024 := (j 2).isLt
             match a with
             | ⟨0, _⟩ => show (((j 0).val * 176 + (j 1).val) * 1024 + (j 2).val) / 180224 = (j 0).val; omega
             | ⟨1, _⟩ => rfl
             | ⟨2, _⟩ => show (((j 0).val * 176 + (j 1).val) * 1024 + (j 2).val) / 1024 % 176 = (j 1).val; omega
             | ⟨3, _⟩ => show (((j 0).val * 176 + (j 1).val) * 1024 + (j 2).val) % 1024 = (j 2).val; omega
           exact ((val_main_v4_apply (F := Ideal) G j).trans (val_main_v3_apply (F := Ideal) G _)).trans (congrArg G e0)
    | 1 => have e1 : idx_main_v5 (idx_main_v6 j) = ix4 (j 0) 1 (j 1) (j 2) := by
             funext a; apply Fin.ext
             have h0 : (j 0).val < 4 := (j 0).isLt
             have h1 : (j 1).val < 176 := (j 1).isLt
             have h2 : (j 2).val < 1024 := (j 2).isLt
             match a with
             | ⟨0, _⟩ => show (((j 0).val * 176 + (j 1).val) * 1024 + (j 2).val) / 180224 = (j 0).val; omega
             | ⟨1, _⟩ => rfl
             | ⟨2, _⟩ => show (((j 0).val * 176 + (j 1).val) * 1024 + (j 2).val) / 1024 % 176 = (j 1).val; omega
             | ⟨3, _⟩ => show (((j 0).val * 176 + (j 1).val) * 1024 + (j 2).val) % 1024 = (j 2).val; omega
           exact ((val_main_v6_apply (F := Ideal) G j).trans (val_main_v5_apply (F := Ideal) G _)).trans (congrArg G e1)
  exact congrArg (· + R j) e

open Cert.HalvesMixRefIdeal.Read in
theorem r2 (s : Fin 2) (sel : S2.Idx → BitVec 32) (hs : ∀ w : S2.Idx, (w 0).val = 0 → sel w = BitVec.ofNat 32 s.val) (G : S4x2x48x384.Idx → EReal) (R : S4x48x384.Idx → EReal) :
    val_main_v19 (F := Ideal) sel G R = add s G R := by
  have hc : ∀ i, val_main_v12 (F := Ideal) sel i = IntOp.cmpi .eq (BitVec.ofNat 32 s.val) 0#32 := by
    intro i
    rw [val_main_v12_apply, val_main_c_0_apply]
    exact congrArg (IntOp.cmpi .eq · 0#32) ((val_main_v10_apply (F := Ideal) sel _).trans (hs _ (Nat.lt_one_iff.mp (Shape.reshapeEquiv Cert.HalvesMixRefIdeal.Gen.shapeCasts_S1_S_ i 0).isLt)))
  funext j
  rw [val_main_v19_apply, val_main_v18_apply]
  have e : val_main_v17 (F := Ideal) sel G j = G (ix4 (j 0) s (j 1) (j 2)) := by
    show (if val_main_v12 (F := Ideal) sel _ = 1#1 then val_main_v14 (F := Ideal) G j else val_main_v16 (F := Ideal) G j) = _
    rw [hc]
    match s with
    | 0 => have e0 : idx_main_v13 (idx_main_v14 j) = ix4 (j 0) 0 (j 1) (j 2) := by
             funext a; apply Fin.ext
             have h0 : (j 0).val < 4 := (j 0).isLt
             have h1 : (j 1).val < 48 := (j 1).isLt
             have h2 : (j 2).val < 384 := (j 2).isLt
             match a with
             | ⟨0, _⟩ => show (((j 0).val * 48 + (j 1).val) * 384 + (j 2).val) / 18432 = (j 0).val; omega
             | ⟨1, _⟩ => rfl
             | ⟨2, _⟩ => show (((j 0).val * 48 + (j 1).val) * 384 + (j 2).val) / 384 % 48 = (j 1).val; omega
             | ⟨3, _⟩ => show (((j 0).val * 48 + (j 1).val) * 384 + (j 2).val) % 384 = (j 2).val; omega
           exact ((val_main_v14_apply (F := Ideal) G j).trans (val_main_v13_apply (F := Ideal) G _)).trans (congrArg G e0)
    | 1 => have e1 : idx_main_v15 (idx_main_v16 j) = ix4 (j 0) 1 (j 1) (j 2) := by
             funext a; apply Fin.ext
             have h0 : (j 0).val < 4 := (j 0).isLt
             have h1 : (j 1).val < 48 := (j 1).isLt
             have h2 : (j 2).val < 384 := (j 2).isLt
             match a with
             | ⟨0, _⟩ => show (((j 0).val * 48 + (j 1).val) * 384 + (j 2).val) / 18432 = (j 0).val; omega
             | ⟨1, _⟩ => rfl
             | ⟨2, _⟩ => show (((j 0).val * 48 + (j 1).val) * 384 + (j 2).val) / 384 % 48 = (j 1).val; omega
             | ⟨3, _⟩ => show (((j 0).val * 48 + (j 1).val) * 384 + (j 2).val) % 384 = (j 2).val; omega
           exact ((val_main_v16_apply (F := Ideal) G j).trans (val_main_v15_apply (F := Ideal) G _)).trans (congrArg G e1)
  exact congrArg (· + R j) e

theorem half (hpre : Cert.Pre_HalvesMixIdeal m) : ∃ s : Fin 2, ∀ w : S2.Idx, (w 0).val = 0 → (m ((0 : Dev nD).tc.loc main_arg0) : S2.Idx → BitVec 32) w = BitVec.ofNat 32 s.val := by
  have one (v w : S2.Idx) (hv : (v 0).val = 0) (hw : (w 0).val = 0) : v = w := by
    funext a
    obtain rfl : a = 0 := Subsingleton.elim _ _
    exact Fin.ext (hv.trans hw.symm)
  let v : S2.Idx := fun a => ⟨0, by obtain rfl : a = 0 := Subsingleton.elim _ _; decide⟩
  rcases Cert.HalvesMixPre.first (F := Ideal) _ (hpre 0) v rfl with e | e
  · exact ⟨0, fun w hw => one v w rfl hw ▸ e⟩
  · exact ⟨1, fun w hw => one v w rfl hw ▸ e⟩

set_option maxHeartbeats 1600000 in
theorem algebraic : Cert.algebraic_HalvesMixIdeal_HalvesMixRefIdeal := by
  pair_intro
  · run_from Cert.HalvesMixIdeal.Gen.unchanged m g (Cert.HalvesMixPre.okI m hpre) & Cert.HalvesMixIdeal.Gen.run_main m g (Cert.HalvesMixPre.okI m hpre)
    · exact rfl
    · exact rfl
  · have hO := Cert.HalvesMixPre.okI m hpre
    obtain ⟨s, hs⟩ := half m hpre
    have hb : ((tbl m).at 0 (Rect.unit (s := S2) ![0] S1.size inb_S2_S1_0) numel1_S1).toNat = s.val := by
      refine (congrArg BitVec.toNat (hs _ rfl)).trans ?_
      match s with
      | 0 => rfl
      | 1 => rfl
    refine Idealize.ShloMosaic.θ_run_mono (Cert.HalvesMixRefIdeal.Value.run m' g') ?_
    intro r hr c
    obtain ⟨h9, h19, ha⟩ := hr c
    obtain ⟨a0, a1, a2, a3, a4⟩ := hagree c
    have hsel : ∀ w : S2.Idx, (w 0).val = 0 → (m' (c.tc.loc Cert.HalvesMixRefIdeal.main_arg0) : S2.Idx → BitVec 32) w = BitVec.ofNat 32 s.val := by
      intro w hw
      rw [a0]
      obtain rfl : c = 0 := Subsingleton.elim _ _
      exact hs w hw
    refine ⟨h9.trans ?_, h19.trans ?_, ha⟩
    · refine (r1 s _ hsel _ _).trans ?_
      rw [a1, a3]
      exact (f4 m (Cert.HalvesMixPre.okI m hpre) c s hb).symm
    · refine (r2 s _ hsel _ _).trans ?_
      rw [a2, a4]
      exact (f5 m (Cert.HalvesMixPre.okI m hpre) c s hb).symm

end Cert.HalvesMixVal

end
-- ==== Proof.HalvesFfnPre.lean ====
/- The half the device keeps is one of two: the table's first word is 0 or 1, so every block is inside its array. -/
module

public import proofs.«01_k».proof.Defs
public import proofs.«01_k».proof.Proof.Gen.HalvesFfn.Frame
public import proofs.«01_k».proof.Proof.Gen.HalvesFfnIdeal.Frame
public import proofs.«01_k».proof.Proof.Gen.Pre_halves_of_pair_ffn
public import Idealize.ShloMosaic.Lib.Pointwise
public import Idealize.ShloMosaic.Lib.StableHlo.Predicate

@[expose] public section

noncomputable section

namespace Cert.HalvesFfnPre

open Idealize.ShloMosaic Idealize.ShloMosaic.TcCoe

theorem word {a : BitVec 32} (h : IntOp.andi (IntOp.cmpi .sge a 0#32) (IntOp.cmpi .sle a 1#32) = 1#1) : a = 0#32 ∨ a = 1#32 := by
  have e (p : Bool) : (BitVec.ofBool p = 1#1) ↔ p = true := by cases p <;> decide
  have andi_one (a b : BitVec 1) : IntOp.andi a b = 1#1 ↔ a = 1#1 ∧ b = 1#1 := by revert a b; decide
  rw [andi_one] at h
  simp only [e, IntOp.cmpi, BitVec.sle, decide_eq_true_eq, BitVec.toInt, BitVec.toNat_ofNat] at h
  have : a.toNat = 0 ∨ a.toNat = 1 := by
    have := a.isLt
    split at h <;> simp at h <;> omega
  rcases this with h | h
  · exact .inl (BitVec.eq_of_toNat_eq h)
  · exact .inr (BitVec.eq_of_toNat_eq h)

theorem first {F : FTy → Type} [FloatOps F] (sel : IVec Cert.Pre_halves_of_pair_ffn.S2 32) {a1 a2 a3 a4 a5 a6 a7 a8}
    (h : Cert.Pre_halves_of_pair_ffn.fn (F := F) sel a1 a2 a3 a4 a5 a6 a7 a8 = fun _ => 1#1) (w : Cert.Pre_halves_of_pair_ffn.S2.Idx) (hw : (w 0).val = 0) :
    sel w = 0#32 ∨ sel w = 1#32 := by
  have pre := congrFun h (fun a => ⟨0, by obtain rfl : a = 0 := Subsingleton.elim _ _; decide⟩)
  simp only [Cert.Pre_halves_of_pair_ffn.fn, constantI, broadcastInDim, cmpi, andi, extractStridedSlice] at pre
  have at_w (I : Cert.Pre_halves_of_pair_ffn.S2.Idx) (hI : (I 0).val = 0) : I = w := by
    funext a
    obtain rfl : a = 0 := Subsingleton.elim _ _
    exact Fin.ext (hI.trans hw.symm)
  rcases word pre with e | e
  · exact .inl ((congrArg sel (at_w _ (by rfl))).symm.trans e)
  · exact .inr ((congrArg sel (at_w _ (by rfl))).symm.trans e)

section
open Cert.HalvesFfn Cert.HalvesFfn.Gen

theorem ok (m : (ℓ : Loc nD τ sig) → Buf (Elt Bits) ℓ) (h : Cert.Pre_HalvesFfn m) : Ok (F := Bits) m := by
  have h0 : ∀ x : BitVec 32, x = 0#32 ∨ x = 1#32 → x.toNat < 2 := by rintro x (rfl | rfl) <;> decide
  have hs := h0 ((tbl m).at 0 (Rect.unit (s := S2) ![0] S1.size inb_S2_S1_0) numel1_S1) (first (F := Bits) _ (h 0) _ rfl)
  have hi (i : grid0.Coords) : (BitVec.ofNat 32 (i 0).val).toNat < 4 := by
    have h4 : (i 0).val < 4 := (i 0).isLt
    rw [BitVec.toNat_ofNat, Nat.mod_eq_of_lt (by omega)]
    exact h4
  refine ⟨fun i => ⟨fun a => ?_, .inl rfl⟩, fun i => ⟨fun a => ?_, .inl rfl⟩, fun i => ⟨fun a => ?_, .inl rfl⟩, fun i => ⟨fun a => ?_, .inl rfl⟩⟩
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 352 ≤ 352; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 352 ≤ 352; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 352 ≤ 352; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 128 ≤ 128; omega
    | ⟨3, _⟩ => show (0 + 1) * 1024 ≤ 1024; omega

end

section
open Cert.HalvesFfnIdeal Cert.HalvesFfnIdeal.Gen

theorem okI (m : (ℓ : Loc nD τ sig) → Buf (Elt Ideal) ℓ) (h : Cert.Pre_HalvesFfnIdeal m) : Ok (F := Ideal) m := by
  have h0 : ∀ x : BitVec 32, x = 0#32 ∨ x = 1#32 → x.toNat < 2 := by rintro x (rfl | rfl) <;> decide
  have hs := h0 ((tbl m).at 0 (Rect.unit (s := S2) ![0] S1.size inb_S2_S1_0) numel1_S1) (first (F := Ideal) _ (h 0) _ rfl)
  have hi (i : grid0.Coords) : (BitVec.ofNat 32 (i 0).val).toNat < 4 := by
    have h4 : (i 0).val < 4 := (i 0).isLt
    rw [BitVec.toNat_ofNat, Nat.mod_eq_of_lt (by omega)]
    exact h4
  refine ⟨fun i => ⟨fun a => ?_, .inl rfl⟩, fun i => ⟨fun a => ?_, .inl rfl⟩, fun i => ⟨fun a => ?_, .inl rfl⟩, fun i => ⟨fun a => ?_, .inl rfl⟩⟩
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 352 ≤ 352; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 352 ≤ 352; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 352 ≤ 352; omega
    | ⟨3, _⟩ => show (0 + 1) * 1024 ≤ 1024; omega
  · have := hi i
    match a with
    | ⟨0, _⟩ => show ((BitVec.ofNat 32 (i 0).val).toNat + 1) * 1 ≤ 4; omega
    | ⟨1, _⟩ => show (((tbl m).at 0 (Rect.unit (s := S2) ![0] S1.size inb_S2_S1_0) numel1_S1).toNat + 1) * 1 ≤ 2; omega
    | ⟨2, _⟩ => show (0 + 1) * 128 ≤ 128; omega
    | ⟨3, _⟩ => show (0 + 1) * 1024 ≤ 1024; omega

end

end Cert.HalvesFfnPre

end
-- ==== Proof.HalvesFfnVal.lean ====
/- The device's half of the partial gradients and its sibling's, added: one chip's rows at each point. -/
module

public import proofs.«01_k».proof.Defs
public import proofs.«01_k».proof.Proof.Gen.HalvesFfnIdeal.Frame
public import proofs.«01_k».proof.Proof.Gen.HalvesFfnRefIdeal.Run
public import proofs.«01_k».proof.Proof.Gen.HalvesFfnRefIdeal.Read
public import proofs.«01_k».proof.Proof.HalvesFfnPre
public import Idealize.ShloMosaic.Lib.Pipeline.ValueKit
public import Idealize.ShloMosaic.Lib.Pointwise
public import Idealize.ShloMosaic.Lib.Claim

@[expose] public section

set_option maxRecDepth 16384

noncomputable section

namespace Cert.HalvesFfnVal

open Idealize.ShloMosaic Idealize.ShloMosaic.TcCoe Idealize.SL.Sem
open Idealize.ShloMosaic.Pipeline (Dat)
open Cert.HalvesFfnIdeal Cert.HalvesFfnIdeal.Gen

/-- the kept half of one array and the other array, added -/
def add {r w : ℕ} (s : Fin 2) (G : (⟨4, ![4, 2, r, w]⟩ : Shape).Idx → EReal) (R : (⟨3, ![4, r, w]⟩ : Shape).Idx → EReal) :
    (⟨3, ![4, r, w]⟩ : Shape).Idx → EReal :=
  fun j => G (ix4 (j 0) s (j 1) (j 2)) + R j

/-- the block of one chip -/
def blk4 {r w : ℕ} (s : Fin 2) (G : (⟨4, ![4, 2, r, w]⟩ : Shape).Idx → EReal) (k : Fin 4) : (⟨4, ![1, 1, r, w]⟩ : Shape).Idx → EReal :=
  fun y => G (ix4 k s (y 2) (y 3))

def blk3 {r w : ℕ} (R : (⟨3, ![4, r, w]⟩ : Shape).Idx → EReal) (k : Fin 4) : (⟨3, ![1, r, w]⟩ : Shape).Idx → EReal :=
  fun y => R (ix3 k (y 1) (y 2))

theorem p1 (s : Fin 2) (G : S4x2x352x1024.Idx → EReal) (R : S4x352x1024.Idx → EReal) (k : Fin 4) (y : S1x352x1024.Idx) :
    k0_pay2 (F := Ideal) (blk4 s G k) (blk3 R k) y = add s G R (ix3 k (y 1) (y 2)) := by
  idx_vars y
  obtain rfl : y0 = 0 := Subsingleton.elim _ _
  pointwise [k0_pay2, blk4, blk3, add]

theorem p2 (s : Fin 2) (G : S4x2x352x1024.Idx → EReal) (R : S4x352x1024.Idx → EReal) (k : Fin 4) (y : S1x352x1024.Idx) :
    k0_pay3 (F := Ideal) (blk4 s G k) (blk3 R k) y = add s G R (ix3 k (y 1) (y 2)) := by
  idx_vars y
  obtain rfl : y0 = 0 := Subsingleton.elim _ _
  pointwise [k0_pay3, blk4, blk3, add]

theorem p3 (s : Fin 2) (G : S4x2x352x1024.Idx → EReal) (R : S4x352x1024.Idx → EReal) (k : Fin 4) (y : S1x352x1024.Idx) :
    k0_pay4 (F := Ideal) (blk4 s G k) (blk3 R k) y = add s G R (ix3 k (y 1) (y 2)) := by
  idx_vars y
  obtain rfl : y0 = 0 := Subsingleton.elim _ _
  pointwise [k0_pay4, blk4, blk3, add]

theorem p4 (s : Fin 2) (G : S4x2x128x1024.Idx → EReal) (R : S4x128x1024.Idx → EReal) (k : Fin 4) (y : S1x128x1024.Idx) :
    k0_pay1 (F := Ideal) (blk4 s G k) (blk3 R k) y = add s G R (ix3 k (y 1) (y 2)) := by
  idx_vars y
  obtain rfl : y0 = 0 := Subsingleton.elim _ _
  pointwise [k0_pay1, blk4, blk3, add]

variable (m : (ℓ : Loc nD τ sig) → Buf (Elt Ideal) ℓ) (hO : Ok m) (c : Dev nD)

abbrev G1 : S4x2x352x1024.Idx → EReal := m ((c : Thread nD τ).loc main_arg1)
abbrev G2 : S4x2x352x1024.Idx → EReal := m ((c : Thread nD τ).loc main_arg2)
abbrev G3 : S4x2x352x1024.Idx → EReal := m ((c : Thread nD τ).loc main_arg3)
abbrev G4 : S4x2x128x1024.Idx → EReal := m ((c : Thread nD τ).loc main_arg4)
abbrev R1 : S4x352x1024.Idx → EReal := m ((c : Thread nD τ).loc main_arg5)
abbrev R2 : S4x352x1024.Idx → EReal := m ((c : Thread nD τ).loc main_arg6)
abbrev R3 : S4x352x1024.Idx → EReal := m ((c : Thread nD τ).loc main_arg7)
abbrev R4 : S4x128x1024.Idx → EReal := m ((c : Thread nD τ).loc main_arg8)

/-- the chip of a point -/
def chip (t : Fin (cfgM m hO).N) : Fin 4 := ⟨(grid0.coords t 0).val, (grid0.coords t 0).isLt⟩

theorem chip_nat (t : Fin (cfgM m hO).N) : (BitVec.ofNat 32 (grid0.coords t 0).val).toNat = (grid0.coords t 0).val := by
  have h4 : (grid0.coords t 0).val < 4 := (grid0.coords t 0).isLt
  rw [BitVec.toNat_ofNat, Nat.mod_eq_of_lt (by omega)]

theorem coord : ∀ t : Fin grid0.N, (grid0.coords t 0).val = t.val := by decide

theorem b0 (s : Fin 2) (hs : ((tbl m).at 0 (Rect.unit (s := S2) ![0] S1.size inb_S2_S1_0) numel1_S1).toNat = s.val) (t : Fin (cfgM m hO).N) :
    iblk m hO c 0 t = blk4 s (G1 m c) (chip m hO t) := by
  refine funext fun (y : S1x1x352x1024.Idx) => ?_
  have e : ((((cfgM m hO).win 0).blk t).view.emb y : S4x2x352x1024.Idx) = ix4 (chip m hO t) s (y 2) (y 3) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show ((tbl m).at 0 (Rect.unit (s := S2) ![0] S1.size inb_S2_S1_0) numel1_S1).toNat * 1 + 1 * (y 1).val = s.val
                have h0 : (y 1).val < 1 := (y 1).isLt
                omega
    | ⟨2, _⟩ => show 0 * 352 + 1 * (y 2).val = (y 2).val; omega
    | ⟨3, _⟩ => show 0 * 1024 + 1 * (y 3).val = (y 3).val; omega
  exact congrArg (G1 m c) e

theorem b4 (t : Fin (cfgM m hO).N) : iblk m hO c 4 t = blk3 (R1 m c) (chip m hO t) := by
  refine funext fun (y : S1x352x1024.Idx) => ?_
  have e : ((((cfgM m hO).win 4).blk t).view.emb y : S4x352x1024.Idx) = ix3 (chip m hO t) (y 1) (y 2) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show 0 * 352 + 1 * (y 1).val = (y 1).val; omega
    | ⟨2, _⟩ => show 0 * 1024 + 1 * (y 2).val = (y 2).val; omega
  exact congrArg (R1 m c) e

theorem e8 (t : Fin (cfgM m hO).N) (y : S1x352x1024.Idx) : ((((cfgM m hO).win 8).blk t).view.emb y : S4x352x1024.Idx) = ix3 (chip m hO t) (y 1) (y 2) := by
  funext a; apply Fin.ext
  match a with
  | ⟨0, _⟩ => show (BitVec.ofNat 32 (grid0.coords t 0).val).toNat * 1 + 1 * (y 0).val = (grid0.coords t 0).val
              have h0 : (y 0).val < 1 := (y 0).isLt
              rw [chip_nat]; omega
  | ⟨1, _⟩ => show 0 * 352 + 1 * (y 1).val = (y 1).val; omega
  | ⟨2, _⟩ => show 0 * 1024 + 1 * (y 2).val = (y 2).val; omega

theorem nblk8 : ∀ a : Fin 3, 0 < ((cfgM m hO).win 8).size a ∧ ((cfgM m hO).win 8).nblk a = ![4, 1, 1] a := by
  intro a
  match a with
  | 0 => exact ⟨Nat.zero_lt_succ _, show (4 + 1 - 1) / 1 = 4 by decide⟩
  | 1 => exact ⟨Nat.zero_lt_succ _, show (352 + 352 - 1) / 352 = 1 by decide⟩
  | 2 => exact ⟨Nat.zero_lt_succ _, show (1024 + 1024 - 1) / 1024 = 1 by decide⟩

theorem cov8 : ((cfgM m hO).win 8).Covers := by
  refine ⟨fun a => (nblk8 m hO a).1, fun (β : (a : Fin 3) → Fin (((cfgM m hO).win 8).nblk a)) => ?_⟩
  have h0 : (β (0 : Fin 3)).val < 4 := lt_of_lt_of_eq (β (0 : Fin 3)).isLt (nblk8 m hO 0).2
  have h1 : (β (1 : Fin 3)).val < 1 := lt_of_lt_of_eq (β (1 : Fin 3)).isLt (nblk8 m hO 1).2
  have h2 : (β (2 : Fin 3)).val < 1 := lt_of_lt_of_eq (β (2 : Fin 3)).isLt (nblk8 m hO 2).2
  refine ⟨⟨(β (0 : Fin 3)).val, h0⟩, flush0_8 _ _, fun (a : Fin 3) => ⟨?_, .inl rfl⟩⟩
  match a with
  | 0 => show (BitVec.ofNat 32 (grid0.coords ⟨(β (0 : Fin 3)).val, h0⟩ 0).val).toNat = (β (0 : Fin 3)).val
         rw [coord, BitVec.toNat_ofNat]
         exact Nat.mod_eq_of_lt (lt_trans h0 (by decide))
  | 1 => show 0 = (β (1 : Fin 3)).val; omega
  | 2 => show 0 = (β (2 : Fin 3)).val; omega

theorem f8 (s : Fin 2) (hs : ((tbl m).at 0 (Rect.unit (s := S2) ![0] S1.size inb_S2_S1_0) numel1_S1).toNat = s.val) :
    (dats m hO 0 c).arrAt 8 (cfgM m hO).N = add s (G1 m c) (R1 m c) := by
  refine (dats m hO 0 c).arrAt_eq_of_covers 8 _ (cov8 m hO) fun t _ y => ?_
  blk_simp
  rw [after0_8]
  unfold outsAt0
  frame_out
  refine (congrFun (congrArg₂ k0_pay2 (Memref.IsWhole.read_unread _ _) (Memref.IsWhole.read_unread _ _)) y).trans ?_
  rw [b0 m hO c s hs, b4]
  refine (p1 s (G1 m c) (R1 m c) (chip m hO t) y).trans ?_
  exact congrArg (add s (G1 m c) (R1 m c)) (e8 m hO t y).symm

theorem b1 (s : Fin 2) (hs : ((tbl m).at 0 (Rect.unit (s := S2) ![0] S1.size inb_S2_S1_0) numel1_S1).toNat = s.val) (t : Fin (cfgM m hO).N) :
    iblk m hO c 1 t = blk4 s (G2 m c) (chip m hO t) := by
  refine funext fun (y : S1x1x352x1024.Idx) => ?_
  have e : ((((cfgM m hO).win 1).blk t).view.emb y : S4x2x352x1024.Idx) = ix4 (chip m hO t) s (y 2) (y 3) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show ((tbl m).at 0 (Rect.unit (s := S2) ![0] S1.size inb_S2_S1_0) numel1_S1).toNat * 1 + 1 * (y 1).val = s.val
                have h0 : (y 1).val < 1 := (y 1).isLt
                omega
    | ⟨2, _⟩ => show 0 * 352 + 1 * (y 2).val = (y 2).val; omega
    | ⟨3, _⟩ => show 0 * 1024 + 1 * (y 3).val = (y 3).val; omega
  exact congrArg (G2 m c) e

theorem b5 (t : Fin (cfgM m hO).N) : iblk m hO c 5 t = blk3 (R2 m c) (chip m hO t) := by
  refine funext fun (y : S1x352x1024.Idx) => ?_
  have e : ((((cfgM m hO).win 5).blk t).view.emb y : S4x352x1024.Idx) = ix3 (chip m hO t) (y 1) (y 2) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show 0 * 352 + 1 * (y 1).val = (y 1).val; omega
    | ⟨2, _⟩ => show 0 * 1024 + 1 * (y 2).val = (y 2).val; omega
  exact congrArg (R2 m c) e

theorem e9 (t : Fin (cfgM m hO).N) (y : S1x352x1024.Idx) : ((((cfgM m hO).win 9).blk t).view.emb y : S4x352x1024.Idx) = ix3 (chip m hO t) (y 1) (y 2) := by
  funext a; apply Fin.ext
  match a with
  | ⟨0, _⟩ => show (BitVec.ofNat 32 (grid0.coords t 0).val).toNat * 1 + 1 * (y 0).val = (grid0.coords t 0).val
              have h0 : (y 0).val < 1 := (y 0).isLt
              rw [chip_nat]; omega
  | ⟨1, _⟩ => show 0 * 352 + 1 * (y 1).val = (y 1).val; omega
  | ⟨2, _⟩ => show 0 * 1024 + 1 * (y 2).val = (y 2).val; omega

theorem nblk9 : ∀ a : Fin 3, 0 < ((cfgM m hO).win 9).size a ∧ ((cfgM m hO).win 9).nblk a = ![4, 1, 1] a := by
  intro a
  match a with
  | 0 => exact ⟨Nat.zero_lt_succ _, show (4 + 1 - 1) / 1 = 4 by decide⟩
  | 1 => exact ⟨Nat.zero_lt_succ _, show (352 + 352 - 1) / 352 = 1 by decide⟩
  | 2 => exact ⟨Nat.zero_lt_succ _, show (1024 + 1024 - 1) / 1024 = 1 by decide⟩

theorem cov9 : ((cfgM m hO).win 9).Covers := by
  refine ⟨fun a => (nblk9 m hO a).1, fun (β : (a : Fin 3) → Fin (((cfgM m hO).win 9).nblk a)) => ?_⟩
  have h0 : (β (0 : Fin 3)).val < 4 := lt_of_lt_of_eq (β (0 : Fin 3)).isLt (nblk9 m hO 0).2
  have h1 : (β (1 : Fin 3)).val < 1 := lt_of_lt_of_eq (β (1 : Fin 3)).isLt (nblk9 m hO 1).2
  have h2 : (β (2 : Fin 3)).val < 1 := lt_of_lt_of_eq (β (2 : Fin 3)).isLt (nblk9 m hO 2).2
  refine ⟨⟨(β (0 : Fin 3)).val, h0⟩, flush0_9 _ _, fun (a : Fin 3) => ⟨?_, .inl rfl⟩⟩
  match a with
  | 0 => show (BitVec.ofNat 32 (grid0.coords ⟨(β (0 : Fin 3)).val, h0⟩ 0).val).toNat = (β (0 : Fin 3)).val
         rw [coord, BitVec.toNat_ofNat]
         exact Nat.mod_eq_of_lt (lt_trans h0 (by decide))
  | 1 => show 0 = (β (1 : Fin 3)).val; omega
  | 2 => show 0 = (β (2 : Fin 3)).val; omega

theorem f9 (s : Fin 2) (hs : ((tbl m).at 0 (Rect.unit (s := S2) ![0] S1.size inb_S2_S1_0) numel1_S1).toNat = s.val) :
    (dats m hO 0 c).arrAt 9 (cfgM m hO).N = add s (G2 m c) (R2 m c) := by
  refine (dats m hO 0 c).arrAt_eq_of_covers 9 _ (cov9 m hO) fun t _ y => ?_
  blk_simp
  rw [after0_9]
  unfold outsAt0
  frame_out
  refine (congrFun (congrArg₂ k0_pay3 (Memref.IsWhole.read_unread _ _) (Memref.IsWhole.read_unread _ _)) y).trans ?_
  rw [b1 m hO c s hs, b5]
  refine (p2 s (G2 m c) (R2 m c) (chip m hO t) y).trans ?_
  exact congrArg (add s (G2 m c) (R2 m c)) (e9 m hO t y).symm

theorem b2 (s : Fin 2) (hs : ((tbl m).at 0 (Rect.unit (s := S2) ![0] S1.size inb_S2_S1_0) numel1_S1).toNat = s.val) (t : Fin (cfgM m hO).N) :
    iblk m hO c 2 t = blk4 s (G3 m c) (chip m hO t) := by
  refine funext fun (y : S1x1x352x1024.Idx) => ?_
  have e : ((((cfgM m hO).win 2).blk t).view.emb y : S4x2x352x1024.Idx) = ix4 (chip m hO t) s (y 2) (y 3) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show ((tbl m).at 0 (Rect.unit (s := S2) ![0] S1.size inb_S2_S1_0) numel1_S1).toNat * 1 + 1 * (y 1).val = s.val
                have h0 : (y 1).val < 1 := (y 1).isLt
                omega
    | ⟨2, _⟩ => show 0 * 352 + 1 * (y 2).val = (y 2).val; omega
    | ⟨3, _⟩ => show 0 * 1024 + 1 * (y 3).val = (y 3).val; omega
  exact congrArg (G3 m c) e

theorem b6 (t : Fin (cfgM m hO).N) : iblk m hO c 6 t = blk3 (R3 m c) (chip m hO t) := by
  refine funext fun (y : S1x352x1024.Idx) => ?_
  have e : ((((cfgM m hO).win 6).blk t).view.emb y : S4x352x1024.Idx) = ix3 (chip m hO t) (y 1) (y 2) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show 0 * 352 + 1 * (y 1).val = (y 1).val; omega
    | ⟨2, _⟩ => show 0 * 1024 + 1 * (y 2).val = (y 2).val; omega
  exact congrArg (R3 m c) e

theorem e10 (t : Fin (cfgM m hO).N) (y : S1x352x1024.Idx) : ((((cfgM m hO).win 10).blk t).view.emb y : S4x352x1024.Idx) = ix3 (chip m hO t) (y 1) (y 2) := by
  funext a; apply Fin.ext
  match a with
  | ⟨0, _⟩ => show (BitVec.ofNat 32 (grid0.coords t 0).val).toNat * 1 + 1 * (y 0).val = (grid0.coords t 0).val
              have h0 : (y 0).val < 1 := (y 0).isLt
              rw [chip_nat]; omega
  | ⟨1, _⟩ => show 0 * 352 + 1 * (y 1).val = (y 1).val; omega
  | ⟨2, _⟩ => show 0 * 1024 + 1 * (y 2).val = (y 2).val; omega

theorem nblk10 : ∀ a : Fin 3, 0 < ((cfgM m hO).win 10).size a ∧ ((cfgM m hO).win 10).nblk a = ![4, 1, 1] a := by
  intro a
  match a with
  | 0 => exact ⟨Nat.zero_lt_succ _, show (4 + 1 - 1) / 1 = 4 by decide⟩
  | 1 => exact ⟨Nat.zero_lt_succ _, show (352 + 352 - 1) / 352 = 1 by decide⟩
  | 2 => exact ⟨Nat.zero_lt_succ _, show (1024 + 1024 - 1) / 1024 = 1 by decide⟩

theorem cov10 : ((cfgM m hO).win 10).Covers := by
  refine ⟨fun a => (nblk10 m hO a).1, fun (β : (a : Fin 3) → Fin (((cfgM m hO).win 10).nblk a)) => ?_⟩
  have h0 : (β (0 : Fin 3)).val < 4 := lt_of_lt_of_eq (β (0 : Fin 3)).isLt (nblk10 m hO 0).2
  have h1 : (β (1 : Fin 3)).val < 1 := lt_of_lt_of_eq (β (1 : Fin 3)).isLt (nblk10 m hO 1).2
  have h2 : (β (2 : Fin 3)).val < 1 := lt_of_lt_of_eq (β (2 : Fin 3)).isLt (nblk10 m hO 2).2
  refine ⟨⟨(β (0 : Fin 3)).val, h0⟩, flush0_10 _ _, fun (a : Fin 3) => ⟨?_, .inl rfl⟩⟩
  match a with
  | 0 => show (BitVec.ofNat 32 (grid0.coords ⟨(β (0 : Fin 3)).val, h0⟩ 0).val).toNat = (β (0 : Fin 3)).val
         rw [coord, BitVec.toNat_ofNat]
         exact Nat.mod_eq_of_lt (lt_trans h0 (by decide))
  | 1 => show 0 = (β (1 : Fin 3)).val; omega
  | 2 => show 0 = (β (2 : Fin 3)).val; omega

theorem f10 (s : Fin 2) (hs : ((tbl m).at 0 (Rect.unit (s := S2) ![0] S1.size inb_S2_S1_0) numel1_S1).toNat = s.val) :
    (dats m hO 0 c).arrAt 10 (cfgM m hO).N = add s (G3 m c) (R3 m c) := by
  refine (dats m hO 0 c).arrAt_eq_of_covers 10 _ (cov10 m hO) fun t _ y => ?_
  blk_simp
  rw [after0_10]
  unfold outsAt0
  frame_out
  refine (congrFun (congrArg₂ k0_pay4 (Memref.IsWhole.read_unread _ _) (Memref.IsWhole.read_unread _ _)) y).trans ?_
  rw [b2 m hO c s hs, b6]
  refine (p3 s (G3 m c) (R3 m c) (chip m hO t) y).trans ?_
  exact congrArg (add s (G3 m c) (R3 m c)) (e10 m hO t y).symm

theorem b3 (s : Fin 2) (hs : ((tbl m).at 0 (Rect.unit (s := S2) ![0] S1.size inb_S2_S1_0) numel1_S1).toNat = s.val) (t : Fin (cfgM m hO).N) :
    iblk m hO c 3 t = blk4 s (G4 m c) (chip m hO t) := by
  refine funext fun (y : S1x1x128x1024.Idx) => ?_
  have e : ((((cfgM m hO).win 3).blk t).view.emb y : S4x2x128x1024.Idx) = ix4 (chip m hO t) s (y 2) (y 3) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show ((tbl m).at 0 (Rect.unit (s := S2) ![0] S1.size inb_S2_S1_0) numel1_S1).toNat * 1 + 1 * (y 1).val = s.val
                have h0 : (y 1).val < 1 := (y 1).isLt
                omega
    | ⟨2, _⟩ => show 0 * 128 + 1 * (y 2).val = (y 2).val; omega
    | ⟨3, _⟩ => show 0 * 1024 + 1 * (y 3).val = (y 3).val; omega
  exact congrArg (G4 m c) e

theorem b7 (t : Fin (cfgM m hO).N) : iblk m hO c 7 t = blk3 (R4 m c) (chip m hO t) := by
  refine funext fun (y : S1x128x1024.Idx) => ?_
  have e : ((((cfgM m hO).win 7).blk t).view.emb y : S4x128x1024.Idx) = ix3 (chip m hO t) (y 1) (y 2) := by
    funext a; apply Fin.ext
    match a with
    | ⟨0, _⟩ => show (BitVec.ofNat 32 (grid0.coords t 0).val).toNat * 1 + 1 * (y 0).val = (grid0.coords t 0).val
                have h0 : (y 0).val < 1 := (y 0).isLt
                rw [chip_nat]; omega
    | ⟨1, _⟩ => show 0 * 128 + 1 * (y 1).val = (y 1).val; omega
    | ⟨2, _⟩ => show 0 * 1024 + 1 * (y 2).val = (y 2).val; omega
  exact congrArg (R4 m c) e

theorem e11 (t : Fin (cfgM m hO).N) (y : S1x128x1024.Idx) : ((((cfgM m hO).win 11).blk t).view.emb y : S4x128x1024.Idx) = ix3 (chip m hO t) (y 1) (y 2) := by
  funext a; apply Fin.ext
  match a with
  | ⟨0, _⟩ => show (BitVec.ofNat 32 (grid0.coords t 0).val).toNat * 1 + 1 * (y 0).val = (grid0.coords t 0).val
              have h0 : (y 0).val < 1 := (y 0).isLt
              rw [chip_nat]; omega
  | ⟨1, _⟩ => show 0 * 128 + 1 * (y 1).val = (y 1).val; omega
  | ⟨2, _⟩ => show 0 * 1024 + 1 * (y 2).val = (y 2).val; omega

theorem nblk11 : ∀ a : Fin 3, 0 < ((cfgM m hO).win 11).size a ∧ ((cfgM m hO).win 11).nblk a = ![4, 1, 1] a := by
  intro a
  match a with
  | 0 => exact ⟨Nat.zero_lt_succ _, show (4 + 1 - 1) / 1 = 4 by decide⟩
  | 1 => exact ⟨Nat.zero_lt_succ _, show (128 + 128 - 1) / 128 = 1 by decide⟩
  | 2 => exact ⟨Nat.zero_lt_succ _, show (1024 + 1024 - 1) / 1024 = 1 by decide⟩

theorem cov11 : ((cfgM m hO).win 11).Covers := by
  refine ⟨fun a => (nblk11 m hO a).1, fun (β : (a : Fin 3) → Fin (((cfgM m hO).win 11).nblk a)) => ?_⟩
  have h0 : (β (0 : Fin 3)).val < 4 := lt_of_lt_of_eq (β (0 : Fin 3)).isLt (nblk11 m hO 0).2
  have h1 : (β (1 : Fin 3)).val < 1 := lt_of_lt_of_eq (β (1 : Fin 3)).isLt (nblk11 m hO 1).2
  have h2 : (β (2 : Fin 3)).val < 1 := lt_of_lt_of_eq (β (2 : Fin 3)).isLt (nblk11 m hO 2).2
  refine ⟨⟨(β (0 : Fin 3)).val, h0⟩, flush0_11 _ _, fun (a : Fin 3) => ⟨?_, .inl rfl⟩⟩
  match a with
  | 0 => show (BitVec.ofNat 32 (grid0.coords ⟨(β (0 : Fin 3)).val, h0⟩ 0).val).toNat = (β (0 : Fin 3)).val
         rw [coord, BitVec.toNat_ofNat]
         exact Nat.mod_eq_of_lt (lt_trans h0 (by decide))
  | 1 => show 0 = (β (1 : Fin 3)).val; omega
  | 2 => show 0 = (β (2 : Fin 3)).val; omega

theorem f11 (s : Fin 2) (hs : ((tbl m).at 0 (Rect.unit (s := S2) ![0] S1.size inb_S2_S1_0) numel1_S1).toNat = s.val) :
    (dats m hO 0 c).arrAt 11 (cfgM m hO).N = add s (G4 m c) (R4 m c) := by
  refine (dats m hO 0 c).arrAt_eq_of_covers 11 _ (cov11 m hO) fun t _ y => ?_
  blk_simp
  rw [after0_11]
  unfold outsAt0
  frame_out
  refine (congrFun (congrArg₂ k0_pay1 (Memref.IsWhole.read_unread _ _) (Memref.IsWhole.read_unread _ _)) y).trans ?_
  rw [b3 m hO c s hs, b7]
  refine (p4 s (G4 m c) (R4 m c) (chip m hO t) y).trans ?_
  exact congrArg (add s (G4 m c) (R4 m c)) (e11 m hO t y).symm

open Cert.HalvesFfnRefIdeal.Read in
theorem r1 (s : Fin 2) (sel : S2.Idx → BitVec 32) (hs : ∀ w : S2.Idx, (w 0).val = 0 → sel w = BitVec.ofNat 32 s.val) (G : S4x2x352x1024.Idx → EReal) (R : S4x352x1024.Idx → EReal) :
    val_main_v9 (F := Ideal) sel G R = add s G R := by
  have hc : ∀ i, val_main_v2 (F := Ideal) sel i = IntOp.cmpi .eq (BitVec.ofNat 32 s.val) 0#32 := by
    intro i
    rw [val_main_v2_apply, val_main_c_apply]
    exact congrArg (IntOp.cmpi .eq · 0#32) ((val_main_v0_apply (F := Ideal) sel _).trans (hs _ (Nat.lt_one_iff.mp (Shape.reshapeEquiv Cert.HalvesFfnRefIdeal.Gen.shapeCasts_S1_S_ i 0).isLt)))
  funext j
  rw [val_main_v9_apply, val_main_v8_apply]
  have e : val_main_v7 (F := Ideal) sel G j = G (ix4 (j 0) s (j 1) (j 2)) := by
    show (if val_main_v2 (F := Ideal) sel _ = 1#1 then val_main_v4 (F := Ideal) G j else val_main_v6 (F := Ideal) G j) = _
    rw [hc]
    match s with
    | 0 => have e0 : idx_main_v3 (idx_main_v4 j) = ix4 (j 0) 0 (j 1) (j 2) := by
             funext a; apply Fin.ext
             have h0 : (j 0).val < 4 := (j 0).isLt
             have h1 : (j 1).val < 352 := (j 1).isLt
             have h2 : (j 2).val < 1024 := (j 2).isLt
             match a with
             | ⟨0, _⟩ => show (((j 0).val * 352 + (j 1).val) * 1024 + (j 2).val) / 360448 = (j 0).val; omega
             | ⟨1, _⟩ => rfl
             | ⟨2, _⟩ => show (((j 0).val * 352 + (j 1).val) * 1024 + (j 2).val) / 1024 % 352 = (j 1).val; omega
             | ⟨3, _⟩ => show (((j 0).val * 352 + (j 1).val) * 1024 + (j 2).val) % 1024 = (j 2).val; omega
           exact ((val_main_v4_apply (F := Ideal) G j).trans (val_main_v3_apply (F := Ideal) G _)).trans (congrArg G e0)
    | 1 => have e1 : idx_main_v5 (idx_main_v6 j) = ix4 (j 0) 1 (j 1) (j 2) := by
             funext a; apply Fin.ext
             have h0 : (j 0).val < 4 := (j 0).isLt
             have h1 : (j 1).val < 352 := (j 1).isLt
             have h2 : (j 2).val < 1024 := (j 2).isLt
             match a with
             | ⟨0, _⟩ => show (((j 0).val * 352 + (j 1).val) * 1024 + (j 2).val) / 360448 = (j 0).val; omega
             | ⟨1, _⟩ => rfl
             | ⟨2, _⟩ => show (((j 0).val * 352 + (j 1).val) * 1024 + (j 2).val) / 1024 % 352 = (j 1).val; omega
             | ⟨3, _⟩ => show (((j 0).val * 352 + (j 1).val) * 1024 + (j 2).val) % 1024 = (j 2).val; omega
           exact ((val_main_v6_apply (F := Ideal) G j).trans (val_main_v5_apply (F := Ideal) G _)).trans (congrArg G e1)
  exact congrArg (· + R j) e

open Cert.HalvesFfnRefIdeal.Read in
theorem r2 (s : Fin 2) (sel : S2.Idx → BitVec 32) (hs : ∀ w : S2.Idx, (w 0).val = 0 → sel w = BitVec.ofNat 32 s.val) (G : S4x2x352x1024.Idx → EReal) (R : S4x352x1024.Idx → EReal) :
    val_main_v19 (F := Ideal) sel G R = add s G R := by
  have hc : ∀ i, val_main_v12 (F := Ideal) sel i = IntOp.cmpi .eq (BitVec.ofNat 32 s.val) 0#32 := by
    intro i
    rw [val_main_v12_apply, val_main_c_0_apply]
    exact congrArg (IntOp.cmpi .eq · 0#32) ((val_main_v10_apply (F := Ideal) sel _).trans (hs _ (Nat.lt_one_iff.mp (Shape.reshapeEquiv Cert.HalvesFfnRefIdeal.Gen.shapeCasts_S1_S_ i 0).isLt)))
  funext j
  rw [val_main_v19_apply, val_main_v18_apply]
  have e : val_main_v17 (F := Ideal) sel G j = G (ix4 (j 0) s (j 1) (j 2)) := by
    show (if val_main_v12 (F := Ideal) sel _ = 1#1 then val_main_v14 (F := Ideal) G j else val_main_v16 (F := Ideal) G j) = _
    rw [hc]
    match s with
    | 0 => have e0 : idx_main_v13 (idx_main_v14 j) = ix4 (j 0) 0 (j 1) (j 2) := by
             funext a; apply Fin.ext
             have h0 : (j 0).val < 4 := (j 0).isLt
             have h1 : (j 1).val < 352 := (j 1).isLt
             have h2 : (j 2).val < 1024 := (j 2).isLt
             match a with
             | ⟨0, _⟩ => show (((j 0).val * 352 + (j 1).val) * 1024 + (j 2).val) / 360448 = (j 0).val; omega
             | ⟨1, _⟩ => rfl
             | ⟨2, _⟩ => show (((j 0).val * 352 + (j 1).val) * 1024 + (j 2).val) / 1024 % 352 = (j 1).val; omega
             | ⟨3, _⟩ => show (((j 0).val * 352 + (j 1).val) * 1024 + (j 2).val) % 1024 = (j 2).val; omega
           exact ((val_main_v14_apply (F := Ideal) G j).trans (val_main_v13_apply (F := Ideal) G _)).trans (congrArg G e0)
    | 1 => have e1 : idx_main_v15 (idx_main_v16 j) = ix4 (j 0) 1 (j 1) (j 2) := by
             funext a; apply Fin.ext
             have h0 : (j 0).val < 4 := (j 0).isLt
             have h1 : (j 1).val < 352 := (j 1).isLt
             have h2 : (j 2).val < 1024 := (j 2).isLt
             match a with
             | ⟨0, _⟩ => show (((j 0).val * 352 + (j 1).val) * 1024 + (j 2).val) / 360448 = (j 0).val; omega
             | ⟨1, _⟩ => rfl
             | ⟨2, _⟩ => show (((j 0).val * 352 + (j 1).val) * 1024 + (j 2).val) / 1024 % 352 = (j 1).val; omega
             | ⟨3, _⟩ => show (((j 0).val * 352 + (j 1).val) * 1024 + (j 2).val) % 1024 = (j 2).val; omega
           exact ((val_main_v16_apply (F := Ideal) G j).trans (val_main_v15_apply (F := Ideal) G _)).trans (congrArg G e1)
  exact congrArg (· + R j) e

open Cert.HalvesFfnRefIdeal.Read in
theorem r3 (s : Fin 2) (sel : S2.Idx → BitVec 32) (hs : ∀ w : S2.Idx, (w 0).val = 0 → sel w = BitVec.ofNat 32 s.val) (G : S4x2x352x1024.Idx → EReal) (R : S4x352x1024.Idx → EReal) :
    val_main_v29 (F := Ideal) sel G R = add s G R := by
  have hc : ∀ i, val_main_v22 (F := Ideal) sel i = IntOp.cmpi .eq (BitVec.ofNat 32 s.val) 0#32 := by
    intro i
    rw [val_main_v22_apply, val_main_c_1_apply]
    exact congrArg (IntOp.cmpi .eq · 0#32) ((val_main_v20_apply (F := Ideal) sel _).trans (hs _ (Nat.lt_one_iff.mp (Shape.reshapeEquiv Cert.HalvesFfnRefIdeal.Gen.shapeCasts_S1_S_ i 0).isLt)))
  funext j
  rw [val_main_v29_apply, val_main_v28_apply]
  have e : val_main_v27 (F := Ideal) sel G j = G (ix4 (j 0) s (j 1) (j 2)) := by
    show (if val_main_v22 (F := Ideal) sel _ = 1#1 then val_main_v24 (F := Ideal) G j else val_main_v26 (F := Ideal) G j) = _
    rw [hc]
    match s with
    | 0 => have e0 : idx_main_v23 (idx_main_v24 j) = ix4 (j 0) 0 (j 1) (j 2) := by
             funext a; apply Fin.ext
             have h0 : (j 0).val < 4 := (j 0).isLt
             have h1 : (j 1).val < 352 := (j 1).isLt
             have h2 : (j 2).val < 1024 := (j 2).isLt
             match a with
             | ⟨0, _⟩ => show (((j 0).val * 352 + (j 1).val) * 1024 + (j 2).val) / 360448 = (j 0).val; omega
             | ⟨1, _⟩ => rfl
             | ⟨2, _⟩ => show (((j 0).val * 352 + (j 1).val) * 1024 + (j 2).val) / 1024 % 352 = (j 1).val; omega
             | ⟨3, _⟩ => show (((j 0).val * 352 + (j 1).val) * 1024 + (j 2).val) % 1024 = (j 2).val; omega
           exact ((val_main_v24_apply (F := Ideal) G j).trans (val_main_v23_apply (F := Ideal) G _)).trans (congrArg G e0)
    | 1 => have e1 : idx_main_v25 (idx_main_v26 j) = ix4 (j 0) 1 (j 1) (j 2) := by
             funext a; apply Fin.ext
             have h0 : (j 0).val < 4 := (j 0).isLt
             have h1 : (j 1).val < 352 := (j 1).isLt
             have h2 : (j 2).val < 1024 := (j 2).isLt
             match a with
             | ⟨0, _⟩ => show (((j 0).val * 352 + (j 1).val) * 1024 + (j 2).val) / 360448 = (j 0).val; omega
             | ⟨1, _⟩ => rfl
             | ⟨2, _⟩ => show (((j 0).val * 352 + (j 1).val) * 1024 + (j 2).val) / 1024 % 352 = (j 1).val; omega
             | ⟨3, _⟩ => show (((j 0).val * 352 + (j 1).val) * 1024 + (j 2).val) % 1024 = (j 2).val; omega
           exact ((val_main_v26_apply (F := Ideal) G j).trans (val_main_v25_apply (F := Ideal) G _)).trans (congrArg G e1)
  exact congrArg (· + R j) e

open Cert.HalvesFfnRefIdeal.Read in
theorem r4 (s : Fin 2) (sel : S2.Idx → BitVec 32) (hs : ∀ w : S2.Idx, (w 0).val = 0 → sel w = BitVec.ofNat 32 s.val) (G : S4x2x128x1024.Idx → EReal) (R : S4x128x1024.Idx → EReal) :
    val_main_v39 (F := Ideal) sel G R = add s G R := by
  have hc : ∀ i, val_main_v32 (F := Ideal) sel i = IntOp.cmpi .eq (BitVec.ofNat 32 s.val) 0#32 := by
    intro i
    rw [val_main_v32_apply, val_main_c_2_apply]
    exact congrArg (IntOp.cmpi .eq · 0#32) ((val_main_v30_apply (F := Ideal) sel _).trans (hs _ (Nat.lt_one_iff.mp (Shape.reshapeEquiv Cert.HalvesFfnRefIdeal.Gen.shapeCasts_S1_S_ i 0).isLt)))
  funext j
  rw [val_main_v39_apply, val_main_v38_apply]
  have e : val_main_v37 (F := Ideal) sel G j = G (ix4 (j 0) s (j 1) (j 2)) := by
    show (if val_main_v32 (F := Ideal) sel _ = 1#1 then val_main_v34 (F := Ideal) G j else val_main_v36 (F := Ideal) G j) = _
    rw [hc]
    match s with
    | 0 => have e0 : idx_main_v33 (idx_main_v34 j) = ix4 (j 0) 0 (j 1) (j 2) := by
             funext a; apply Fin.ext
             have h0 : (j 0).val < 4 := (j 0).isLt
             have h1 : (j 1).val < 128 := (j 1).isLt
             have h2 : (j 2).val < 1024 := (j 2).isLt
             match a with
             | ⟨0, _⟩ => show (((j 0).val * 128 + (j 1).val) * 1024 + (j 2).val) / 131072 = (j 0).val; omega
             | ⟨1, _⟩ => rfl
             | ⟨2, _⟩ => show (((j 0).val * 128 + (j 1).val) * 1024 + (j 2).val) / 1024 % 128 = (j 1).val; omega
             | ⟨3, _⟩ => show (((j 0).val * 128 + (j 1).val) * 1024 + (j 2).val) % 1024 = (j 2).val; omega
           exact ((val_main_v34_apply (F := Ideal) G j).trans (val_main_v33_apply (F := Ideal) G _)).trans (congrArg G e0)
    | 1 => have e1 : idx_main_v35 (idx_main_v36 j) = ix4 (j 0) 1 (j 1) (j 2) := by
             funext a; apply Fin.ext
             have h0 : (j 0).val < 4 := (j 0).isLt
             have h1 : (j 1).val < 128 := (j 1).isLt
             have h2 : (j 2).val < 1024 := (j 2).isLt
             match a with
             | ⟨0, _⟩ => show (((j 0).val * 128 + (j 1).val) * 1024 + (j 2).val) / 131072 = (j 0).val; omega
             | ⟨1, _⟩ => rfl
             | ⟨2, _⟩ => show (((j 0).val * 128 + (j 1).val) * 1024 + (j 2).val) / 1024 % 128 = (j 1).val; omega
             | ⟨3, _⟩ => show (((j 0).val * 128 + (j 1).val) * 1024 + (j 2).val) % 1024 = (j 2).val; omega
           exact ((val_main_v36_apply (F := Ideal) G j).trans (val_main_v35_apply (F := Ideal) G _)).trans (congrArg G e1)
  exact congrArg (· + R j) e

theorem half (hpre : Cert.Pre_HalvesFfnIdeal m) : ∃ s : Fin 2, ∀ w : S2.Idx, (w 0).val = 0 → (m ((0 : Dev nD).tc.loc main_arg0) : S2.Idx → BitVec 32) w = BitVec.ofNat 32 s.val := by
  have one (v w : S2.Idx) (hv : (v 0).val = 0) (hw : (w 0).val = 0) : v = w := by
    funext a
    obtain rfl : a = 0 := Subsingleton.elim _ _
    exact Fin.ext (hv.trans hw.symm)
  let v : S2.Idx := fun a => ⟨0, by obtain rfl : a = 0 := Subsingleton.elim _ _; decide⟩
  rcases Cert.HalvesFfnPre.first (F := Ideal) _ (hpre 0) v rfl with e | e
  · exact ⟨0, fun w hw => one v w rfl hw ▸ e⟩
  · exact ⟨1, fun w hw => one v w rfl hw ▸ e⟩

set_option maxHeartbeats 1600000 in
theorem algebraic : Cert.algebraic_HalvesFfnIdeal_HalvesFfnRefIdeal := by
  pair_intro
  · run_from Cert.HalvesFfnIdeal.Gen.unchanged m g (Cert.HalvesFfnPre.okI m hpre) & Cert.HalvesFfnIdeal.Gen.run_main m g (Cert.HalvesFfnPre.okI m hpre)
    · exact rfl
    · exact rfl
    · exact rfl
    · exact rfl
  · have hO := Cert.HalvesFfnPre.okI m hpre
    obtain ⟨s, hs⟩ := half m hpre
    have hb : ((tbl m).at 0 (Rect.unit (s := S2) ![0] S1.size inb_S2_S1_0) numel1_S1).toNat = s.val := by
      refine (congrArg BitVec.toNat (hs _ rfl)).trans ?_
      match s with
      | 0 => rfl
      | 1 => rfl
    refine Idealize.ShloMosaic.θ_run_mono (Cert.HalvesFfnRefIdeal.Value.run m' g') ?_
    intro r hr c
    obtain ⟨h9, h19, h29, h39, ha⟩ := hr c
    obtain ⟨a0, a1, a2, a3, a4, a5, a6, a7, a8⟩ := hagree c
    have hsel : ∀ w : S2.Idx, (w 0).val = 0 → (m' (c.tc.loc Cert.HalvesFfnRefIdeal.main_arg0) : S2.Idx → BitVec 32) w = BitVec.ofNat 32 s.val := by
      intro w hw
      rw [a0]
      obtain rfl : c = 0 := Subsingleton.elim _ _
      exact hs w hw
    refine ⟨h9.trans ?_, h19.trans ?_, h29.trans ?_, h39.trans ?_, ha⟩
    · refine (r1 s _ hsel _ _).trans ?_
      rw [a1, a5]
      exact (f8 m (Cert.HalvesFfnPre.okI m hpre) c s hb).symm
    · refine (r2 s _ hsel _ _).trans ?_
      rw [a2, a6]
      exact (f9 m (Cert.HalvesFfnPre.okI m hpre) c s hb).symm
    · refine (r3 s _ hsel _ _).trans ?_
      rw [a3, a7]
      exact (f10 m (Cert.HalvesFfnPre.okI m hpre) c s hb).symm
    · refine (r4 s _ hsel _ _).trans ?_
      rw [a4, a8]
      exact (f11 m (Cert.HalvesFfnPre.okI m hpre) c s hb).symm

end Cert.HalvesFfnVal

end
-- ==== Proof.lean ====
/- The certificate: each program's frame, each idealization's, each reference's, and the value claims. -/
module

public import proofs.«01_k».proof.Defs
public import proofs.«01_k».proof.Proof.Gen.Blk
public import proofs.«01_k».proof.Proof.Gen.Blk.Frame
public import proofs.«01_k».proof.Proof.Gen.BlkIdeal
public import proofs.«01_k».proof.Proof.Gen.BlkIdeal.Frame
public import proofs.«01_k».proof.Proof.Gen.BlkRefIdeal
public import proofs.«01_k».proof.Proof.Gen.BlkRefIdeal.Run
public import proofs.«01_k».proof.Proof.Gen.BlkRefIdeal.Read
public import proofs.«01_k».proof.Proof.BlkAlg
public import proofs.«01_k».proof.Proof.Gen.Wd
public import proofs.«01_k».proof.Proof.Gen.Wd.Frame
public import proofs.«01_k».proof.Proof.Gen.WdIdeal
public import proofs.«01_k».proof.Proof.Gen.WdIdeal.Frame
public import proofs.«01_k».proof.Proof.Gen.WdRefIdeal
public import proofs.«01_k».proof.Proof.Gen.WdRefIdeal.Run
public import proofs.«01_k».proof.Proof.Gen.WdRefIdeal.Read
public import proofs.«01_k».proof.Proof.WdVal
public import proofs.«01_k».proof.Proof.Gen.Wg
public import proofs.«01_k».proof.Proof.Gen.Wg.Frame
public import proofs.«01_k».proof.Proof.Gen.WgIdeal
public import proofs.«01_k».proof.Proof.Gen.WgIdeal.Frame
public import proofs.«01_k».proof.Proof.Gen.WgRefIdeal
public import proofs.«01_k».proof.Proof.Gen.WgRefIdeal.Run
public import proofs.«01_k».proof.Proof.Gen.WgRefIdeal.Read
public import proofs.«01_k».proof.Proof.WgVal
public import proofs.«01_k».proof.Proof.Gen.Wo
public import proofs.«01_k».proof.Proof.Gen.Wo.Frame
public import proofs.«01_k».proof.Proof.Gen.WoIdeal
public import proofs.«01_k».proof.Proof.Gen.WoIdeal.Frame
public import proofs.«01_k».proof.Proof.Gen.WoRefIdeal
public import proofs.«01_k».proof.Proof.Gen.WoRefIdeal.Run
public import proofs.«01_k».proof.Proof.Gen.WoRefIdeal.Read
public import proofs.«01_k».proof.Proof.WoVal
public import proofs.«01_k».proof.Proof.Gen.Wi
public import proofs.«01_k».proof.Proof.Gen.Wi.Frame
public import proofs.«01_k».proof.Proof.Gen.WiIdeal
public import proofs.«01_k».proof.Proof.Gen.WiIdeal.Frame
public import proofs.«01_k».proof.Proof.Gen.WiRefIdeal
public import proofs.«01_k».proof.Proof.Gen.WiRefIdeal.Run
public import proofs.«01_k».proof.Proof.Gen.WiRefIdeal.Read
public import proofs.«01_k».proof.Proof.WiVal
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdRefIdeal
public import proofs.«01_k».proof.Proof.Gen.FwdRefIdeal.Run
public import proofs.«01_k».proof.Proof.Gen.FwdRefIdeal.Read
public import proofs.«01_k».proof.Proof.FwdVal
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.HeadRefIdeal.Run
public import proofs.«01_k».proof.Proof.Gen.HeadRefIdeal.Read
public import proofs.«01_k».proof.Proof.HeadVal
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Frame
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.AdamFfnVal
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamInVal
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamOutVal
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Frame
public import proofs.«01_k».proof.Proof.Gen.AdamGluRefIdeal
public import proofs.«01_k».proof.Proof.Gen.AdamGluRefIdeal.Run
public import proofs.«01_k».proof.Proof.Gen.AdamGluRefIdeal.Read
public import proofs.«01_k».proof.Proof.AdamGluVal
public import proofs.«01_k».proof.Proof.Gen.Sums
public import proofs.«01_k».proof.Proof.Gen.Sums.Frame
public import proofs.«01_k».proof.Proof.Gen.SumsIdeal
public import proofs.«01_k».proof.Proof.Gen.SumsIdeal.Frame
public import proofs.«01_k».proof.Proof.Gen.SumsRefIdeal
public import proofs.«01_k».proof.Proof.Gen.SumsRefIdeal.Run
public import proofs.«01_k».proof.Proof.Gen.SumsRefIdeal.Read
public import proofs.«01_k».proof.Proof.SumsVal
public import proofs.«01_k».proof.Proof.Gen.HalvesMix
public import proofs.«01_k».proof.Proof.Gen.HalvesMix.Frame
public import proofs.«01_k».proof.Proof.Gen.HalvesMixIdeal
public import proofs.«01_k».proof.Proof.Gen.HalvesMixIdeal.Frame
public import proofs.«01_k».proof.Proof.Gen.HalvesMixRefIdeal
public import proofs.«01_k».proof.Proof.Gen.HalvesMixRefIdeal.Run
public import proofs.«01_k».proof.Proof.Gen.HalvesMixRefIdeal.Read
public import proofs.«01_k».proof.Proof.HalvesMixVal
public import proofs.«01_k».proof.Proof.Gen.HalvesFfn
public import proofs.«01_k».proof.Proof.Gen.HalvesFfn.Frame
public import proofs.«01_k».proof.Proof.Gen.HalvesFfnIdeal
public import proofs.«01_k».proof.Proof.Gen.HalvesFfnIdeal.Frame
public import proofs.«01_k».proof.Proof.Gen.HalvesFfnRefIdeal
public import proofs.«01_k».proof.Proof.Gen.HalvesFfnRefIdeal.Run
public import proofs.«01_k».proof.Proof.Gen.HalvesFfnRefIdeal.Read
public import proofs.«01_k».proof.Proof.HalvesFfnVal
public import proofs.«01_k».proof.Proof.Gen.Pre_blk_finite
public import proofs.«01_k».proof.Proof.Gen.Pre_head_finite
public import proofs.«01_k».proof.Proof.Gen.Pre_halves_of_pair
public import proofs.«01_k».proof.Proof.Gen.Pre_halves_of_pair_ffn
public import Idealize.ShloMosaic.Lib.Quiescent
public import Idealize.ShloMosaic.Adequacy
public import Idealize.ShloMosaic.Init

@[expose] public section

noncomputable section

namespace Cert.Proof

open Idealize.ShloMosaic Idealize.SL.Sem

theorem frame_Blk : Cert.quiescent_Blk := fun m ρ _ => Cert.Blk.Gen.frame m ρ

theorem frame_BlkIdeal : Cert.quiescent_BlkIdeal := fun m ρ _ => Cert.BlkIdeal.Gen.frame m ρ

theorem frame_BlkRefIdeal : Cert.quiescent_BlkRefIdeal := fun m g _ =>
  (θ_run Cert.BlkRefIdeal.defs _ _).mono
    (fun r h => ⟨fun c => (h c).2.2.2.2.2.2.2.2, sem_eq_zero_of_no_sems (by decide) r.2⟩) (Cert.BlkRefIdeal.Value.run m g)

theorem frame_Wd : Cert.quiescent_Wd := fun m ρ _ => Cert.Wd.Gen.frame m ρ

theorem frame_WdIdeal : Cert.quiescent_WdIdeal := fun m ρ _ => Cert.WdIdeal.Gen.frame m ρ

theorem frame_WdRefIdeal : Cert.quiescent_WdRefIdeal := fun m g _ =>
  (θ_run Cert.WdRefIdeal.defs _ _).mono
    (fun r h => ⟨fun c => (h c).2, sem_eq_zero_of_no_sems (by decide) r.2⟩) (Cert.WdRefIdeal.Value.run m g)

theorem frame_Wg : Cert.quiescent_Wg := fun m ρ _ => Cert.Wg.Gen.frame m ρ

theorem frame_WgIdeal : Cert.quiescent_WgIdeal := fun m ρ _ => Cert.WgIdeal.Gen.frame m ρ

theorem frame_WgRefIdeal : Cert.quiescent_WgRefIdeal := fun m g _ =>
  (θ_run Cert.WgRefIdeal.defs _ _).mono
    (fun r h => ⟨fun c => (h c).2, sem_eq_zero_of_no_sems (by decide) r.2⟩) (Cert.WgRefIdeal.Value.run m g)

theorem frame_Wo : Cert.quiescent_Wo := fun m ρ _ => Cert.Wo.Gen.frame m ρ

theorem frame_WoIdeal : Cert.quiescent_WoIdeal := fun m ρ _ => Cert.WoIdeal.Gen.frame m ρ

theorem frame_WoRefIdeal : Cert.quiescent_WoRefIdeal := fun m g _ =>
  (θ_run Cert.WoRefIdeal.defs _ _).mono
    (fun r h => ⟨fun c => (h c).2, sem_eq_zero_of_no_sems (by decide) r.2⟩) (Cert.WoRefIdeal.Value.run m g)

theorem frame_Wi : Cert.quiescent_Wi := fun m ρ _ => Cert.Wi.Gen.frame m ρ

theorem frame_WiIdeal : Cert.quiescent_WiIdeal := fun m ρ _ => Cert.WiIdeal.Gen.frame m ρ

theorem frame_WiRefIdeal : Cert.quiescent_WiRefIdeal := fun m g _ =>
  (θ_run Cert.WiRefIdeal.defs _ _).mono
    (fun r h => ⟨fun c => (h c).2, sem_eq_zero_of_no_sems (by decide) r.2⟩) (Cert.WiRefIdeal.Value.run m g)

theorem frame_Fwd : Cert.quiescent_Fwd := fun m ρ _ => Cert.Fwd.Gen.frame m ρ

theorem frame_FwdIdeal : Cert.quiescent_FwdIdeal := fun m ρ _ => Cert.FwdIdeal.Gen.frame m ρ

theorem frame_FwdRefIdeal : Cert.quiescent_FwdRefIdeal := fun m g _ =>
  (θ_run Cert.FwdRefIdeal.defs _ _).mono
    (fun r h => ⟨fun c => (h c).2.2.2.2.2.2, sem_eq_zero_of_no_sems (by decide) r.2⟩) (Cert.FwdRefIdeal.Value.run m g)

theorem frame_Head : Cert.quiescent_Head := fun m ρ _ => Cert.Head.Gen.frame m ρ

theorem frame_HeadIdeal : Cert.quiescent_HeadIdeal := fun m ρ _ => Cert.HeadIdeal.Gen.frame m ρ

theorem frame_HeadRefIdeal : Cert.quiescent_HeadRefIdeal := fun m g _ =>
  (θ_run Cert.HeadRefIdeal.defs _ _).mono
    (fun r h => ⟨fun c => (h c).2.2.2.2.2.2.2.2, sem_eq_zero_of_no_sems (by decide) r.2⟩) (Cert.HeadRefIdeal.Value.run m g)

theorem frame_AdamFfn : Cert.quiescent_AdamFfn := fun m ρ _ => Cert.AdamFfn.Gen.frame m ρ

theorem frame_AdamFfnIdeal : Cert.quiescent_AdamFfnIdeal := fun m ρ _ => Cert.AdamFfnIdeal.Gen.frame m ρ

theorem frame_AdamFfnRefIdeal : Cert.quiescent_AdamFfnRefIdeal := fun m g _ =>
  (θ_run Cert.AdamFfnRefIdeal.defs _ _).mono
    (fun r h => ⟨fun c => (h c).2.2.2, sem_eq_zero_of_no_sems (by decide) r.2⟩) (Cert.AdamFfnRefIdeal.Value.run m g)

theorem frame_AdamIn : Cert.quiescent_AdamIn := fun m ρ _ => Cert.AdamIn.Gen.frame m ρ

theorem frame_AdamInIdeal : Cert.quiescent_AdamInIdeal := fun m ρ _ => Cert.AdamInIdeal.Gen.frame m ρ

theorem frame_AdamInRefIdeal : Cert.quiescent_AdamInRefIdeal := fun m g _ =>
  (θ_run Cert.AdamInRefIdeal.defs _ _).mono
    (fun r h => ⟨fun c => (h c).2.2.2, sem_eq_zero_of_no_sems (by decide) r.2⟩) (Cert.AdamInRefIdeal.Value.run m g)

theorem frame_AdamOut : Cert.quiescent_AdamOut := fun m ρ _ => Cert.AdamOut.Gen.frame m ρ

theorem frame_AdamOutIdeal : Cert.quiescent_AdamOutIdeal := fun m ρ _ => Cert.AdamOutIdeal.Gen.frame m ρ

theorem frame_AdamOutRefIdeal : Cert.quiescent_AdamOutRefIdeal := fun m g _ =>
  (θ_run Cert.AdamOutRefIdeal.defs _ _).mono
    (fun r h => ⟨fun c => (h c).2.2.2, sem_eq_zero_of_no_sems (by decide) r.2⟩) (Cert.AdamOutRefIdeal.Value.run m g)

theorem frame_AdamGlu : Cert.quiescent_AdamGlu := fun m ρ _ => Cert.AdamGlu.Gen.frame m ρ

theorem frame_AdamGluIdeal : Cert.quiescent_AdamGluIdeal := fun m ρ _ => Cert.AdamGluIdeal.Gen.frame m ρ

theorem frame_AdamGluRefIdeal : Cert.quiescent_AdamGluRefIdeal := fun m g _ =>
  (θ_run Cert.AdamGluRefIdeal.defs _ _).mono
    (fun r h => ⟨fun c => (h c).2.2.2, sem_eq_zero_of_no_sems (by decide) r.2⟩) (Cert.AdamGluRefIdeal.Value.run m g)

theorem frame_Sums : Cert.quiescent_Sums := fun m ρ _ => Cert.Sums.Gen.frame m ρ

theorem frame_SumsIdeal : Cert.quiescent_SumsIdeal := fun m ρ _ => Cert.SumsIdeal.Gen.frame m ρ

theorem frame_SumsRefIdeal : Cert.quiescent_SumsRefIdeal := fun m g _ =>
  (θ_run Cert.SumsRefIdeal.defs _ _).mono
    (fun r h => ⟨fun c => (h c).2.2.2.2.2.2.2.2.2.2.2.2.2.2.2.2.2.2.2, sem_eq_zero_of_no_sems (by decide) r.2⟩) (Cert.SumsRefIdeal.Value.run m g)

theorem frame_HalvesMix : Cert.quiescent_HalvesMix := fun m ρ h => Cert.HalvesMix.Gen.frame m ρ (Cert.HalvesMixPre.ok m h)

theorem frame_HalvesMixIdeal : Cert.quiescent_HalvesMixIdeal := fun m ρ h => Cert.HalvesMixIdeal.Gen.frame m ρ (Cert.HalvesMixPre.okI m h)

theorem frame_HalvesMixRefIdeal : Cert.quiescent_HalvesMixRefIdeal := fun m g _ =>
  (θ_run Cert.HalvesMixRefIdeal.defs _ _).mono
    (fun r h => ⟨fun c => (h c).2.2, sem_eq_zero_of_no_sems (by decide) r.2⟩) (Cert.HalvesMixRefIdeal.Value.run m g)

theorem frame_HalvesFfn : Cert.quiescent_HalvesFfn := fun m ρ h => Cert.HalvesFfn.Gen.frame m ρ (Cert.HalvesFfnPre.ok m h)

theorem frame_HalvesFfnIdeal : Cert.quiescent_HalvesFfnIdeal := fun m ρ h => Cert.HalvesFfnIdeal.Gen.frame m ρ (Cert.HalvesFfnPre.okI m h)

theorem frame_HalvesFfnRefIdeal : Cert.quiescent_HalvesFfnRefIdeal := fun m g _ =>
  (θ_run Cert.HalvesFfnRefIdeal.defs _ _).mono
    (fun r h => ⟨fun c => (h c).2.2.2.2, sem_eq_zero_of_no_sems (by decide) r.2⟩) (Cert.HalvesFfnRefIdeal.Value.run m g)

theorem claim : Cert.Claim :=
  ⟨Cert.Blk.Gen.facts, Cert.BlkIdeal.Gen.facts, Cert.BlkRefIdeal.Gen.facts, Cert.Wd.Gen.facts, Cert.WdIdeal.Gen.facts, Cert.WdRefIdeal.Gen.facts, Cert.Wg.Gen.facts, Cert.WgIdeal.Gen.facts, Cert.WgRefIdeal.Gen.facts, Cert.Wo.Gen.facts, Cert.WoIdeal.Gen.facts, Cert.WoRefIdeal.Gen.facts, Cert.Wi.Gen.facts, Cert.WiIdeal.Gen.facts, Cert.WiRefIdeal.Gen.facts, Cert.Fwd.Gen.facts, Cert.FwdIdeal.Gen.facts, Cert.FwdRefIdeal.Gen.facts, Cert.Head.Gen.facts, Cert.HeadIdeal.Gen.facts, Cert.HeadRefIdeal.Gen.facts, Cert.AdamFfn.Gen.facts, Cert.AdamFfnIdeal.Gen.facts, Cert.AdamFfnRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamGlu.Gen.facts, Cert.AdamGluIdeal.Gen.facts, Cert.AdamGluRefIdeal.Gen.facts, Cert.Sums.Gen.facts, Cert.SumsIdeal.Gen.facts, Cert.SumsRefIdeal.Gen.facts, Cert.HalvesMix.Gen.facts, Cert.HalvesMixIdeal.Gen.facts, Cert.HalvesMixRefIdeal.Gen.facts, Cert.HalvesFfn.Gen.facts, Cert.HalvesFfnIdeal.Gen.facts, Cert.HalvesFfnRefIdeal.Gen.facts, Cert.Pre_blk_finite.Gen.facts, Cert.Pre_head_finite.Gen.facts, Cert.Pre_halves_of_pair.Gen.facts, Cert.Pre_halves_of_pair_ffn.Gen.facts,
    frame_Blk,
    frame_BlkIdeal,
    fun m g _ => frame_BlkIdeal m g trivial,
    frame_BlkRefIdeal,
    fun m g _ => frame_BlkRefIdeal m g trivial,
    frame_Wd,
    frame_WdIdeal,
    frame_WdRefIdeal,
    frame_Wg,
    frame_WgIdeal,
    frame_WgRefIdeal,
    frame_Wo,
    frame_WoIdeal,
    frame_WoRefIdeal,
    frame_Wi,
    frame_WiIdeal,
    frame_WiRefIdeal,
    frame_Fwd,
    frame_FwdIdeal,
    frame_FwdRefIdeal,
    frame_Head,
    frame_HeadIdeal,
    fun m g _ => frame_HeadIdeal m g trivial,
    frame_HeadRefIdeal,
    fun m g _ => frame_HeadRefIdeal m g trivial,
    frame_AdamFfn,
    frame_AdamFfnIdeal,
    frame_AdamFfnRefIdeal,
    frame_AdamIn,
    frame_AdamInIdeal,
    frame_AdamInRefIdeal,
    frame_AdamOut,
    frame_AdamOutIdeal,
    frame_AdamOutRefIdeal,
    frame_AdamGlu,
    frame_AdamGluIdeal,
    frame_AdamGluRefIdeal,
    frame_Sums,
    frame_SumsIdeal,
    frame_SumsRefIdeal,
    frame_HalvesMix,
    frame_HalvesMixIdeal,
    frame_HalvesMixRefIdeal,
    fun m g _ => frame_HalvesMixRefIdeal m g trivial,
    frame_HalvesFfn,
    frame_HalvesFfnIdeal,
    frame_HalvesFfnRefIdeal,
    fun m g _ => frame_HalvesFfnRefIdeal m g trivial,
    trivial,
    Cert.BlkClaim.algebraic,
    trivial,
    Cert.WdVal.algebraic,
    trivial,
    Cert.WgVal.algebraic,
    trivial,
    Cert.WoVal.algebraic,
    trivial,
    Cert.WiVal.algebraic,
    trivial,
    Cert.FwdVal.algebraic,
    trivial,
    Cert.HeadVal.algebraic,
    trivial,
    Cert.AdamFfnVal.algebraic,
    trivial,
    Cert.AdamInVal.algebraic,
    trivial,
    Cert.AdamOutVal.algebraic,
    trivial,
    Cert.AdamGluVal.algebraic,
    trivial,
    Cert.SumsVal.algebraic,
    trivial,
    Cert.HalvesMixVal.algebraic,
    trivial,
    Cert.HalvesFfnVal.algebraic⟩

end Cert.Proof

end
